-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v19_0)) (v2 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v19_0) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S64x32x50 : Shape := ⟨3, ![64, 32, 50]⟩
abbrev S400000x50 : Shape := ⟨2, ![400000, 50]⟩
abbrev S50x50 : Shape := ⟨2, ![50, 50]⟩
abbrev S50 : Shape := ⟨1, ![50]⟩
abbrev S50x5 : Shape := ⟨2, ![50, 5]⟩
abbrev S5 : Shape := ⟨1, ![5]⟩
abbrev S_ : Shape := ⟨0, ![]⟩

class Facts : Prop where
  bcast_S_S64x32x50 : S_.BroadcastsInDim S64x32x50 (![] : Fin 0 → Fin S64x32x50.rank)
  reducesTo_S64x32x50_S_d0_1_2 : S64x32x50.ReducesTo [0, 1, 2] S_
  h_S_ : 0 < S_.numel

variable [Facts]

def fn {F : FTy → Type} [FloatOps F] (main_arg0 : IVec S64x32x50 32) (main_arg1 : FVec F S400000x50 .f32) (main_arg2 : FVec F S50x50 .f32) (main_arg3 : FVec F S50 .f32) (main_arg4 : FVec F S50 .f32) (main_arg5 : FVec F S50x50 .f32) (main_arg6 : FVec F S50 .f32) (main_arg7 : FVec F S50 .f32) (main_arg8 : FVec F S50x5 .f32) (main_arg9 : FVec F S5 .f32) : IVec S_ 1 :=
  let main_c : IVec S_ 32 := constantI S_ 32 0#32
  let main_v0 : IVec S64x32x50 32 := broadcastInDim S64x32x50 ![] bcast_S_S64x32x50 main_c
  let main_v1 : IVec S64x32x50 1 := cmpi .sge main_arg0 main_v0
  let main_c_0 : IVec S_ 1 := constantI S_ 1 1#1
  let main_v2 : IVec S_ 1 := (fun x v => Host.reduce IntOp.andi x v reducesTo_S64x32x50_S_d0_1_2 h_S_) main_v1 main_c_0
  let main_c_1 : IVec S_ 32 := constantI S_ 32 400000#32
  let main_v3 : IVec S64x32x50 32 := broadcastInDim S64x32x50 ![] bcast_S_S64x32x50 main_c_1
  let main_v4 : IVec S64x32x50 1 := cmpi .slt main_arg0 main_v3
  let main_c_2 : IVec S_ 1 := constantI S_ 1 1#1
  let main_v5 : IVec S_ 1 := (fun x v => Host.reduce IntOp.andi x v reducesTo_S64x32x50_S_d0_1_2 h_S_) main_v4 main_c_2
  let main_v6 : IVec S_ 1 := andi main_v2 main_v5
  main_v6
-- ==== Kernel.lean ====
abbrev S64x32x50 : Shape := ⟨3, ![64, 32, 50]⟩
abbrev S400000x50 : Shape := ⟨2, ![400000, 50]⟩
abbrev S50x50 : Shape := ⟨2, ![50, 50]⟩
abbrev S50 : Shape := ⟨1, ![50]⟩
abbrev S50x5 : Shape := ⟨2, ![50, 5]⟩
abbrev S5 : Shape := ⟨1, ![5]⟩
abbrev S32 : Shape := ⟨1, ![32]⟩
abbrev S64x50x32 : Shape := ⟨3, ![64, 50, 32]⟩
abbrev S_ : Shape := ⟨0, ![]⟩
abbrev S32x1 : Shape := ⟨2, ![32, 1]⟩
abbrev S102400 : Shape := ⟨1, ![102400]⟩
abbrev S1250000x16 : Shape := ⟨2, ![1250000, 16]⟩
abbrev S51200x128 : Shape := ⟨2, ![51200, 128]⟩
abbrev S3200 : Shape := ⟨1, ![3200]⟩
abbrev S1024 : Shape := ⟨1, ![1024]⟩
abbrev S1024x16 : Shape := ⟨2, ![1024, 16]⟩
abbrev S128x128 : Shape := ⟨2, ![128, 128]⟩
abbrev S16 : Shape := ⟨1, ![16]⟩
abbrev S128x16 : Shape := ⟨2, ![128, 16]⟩
abbrev S128 : Shape := ⟨1, ![128]⟩
abbrev S64x128 : Shape := ⟨2, ![64, 128]⟩
abbrev S512x16 : Shape := ⟨2, ![512, 16]⟩
abbrev S1x50 : Shape := ⟨2, ![1, 50]⟩
abbrev S51200x2 : Shape := ⟨2, ![51200, 2]⟩
abbrev S3200x128 : Shape := ⟨2, ![3200, 128]⟩
abbrev S3200x2 : Shape := ⟨2, ![3200, 2]⟩
abbrev S3200x50 : Shape := ⟨2, ![3200, 50]⟩
abbrev S3200x1 : Shape := ⟨2, ![3200, 1]⟩
abbrev S64x50x16x2 : Shape := ⟨4, ![64, 50, 16, 2]⟩
abbrev S64x2x16x50 : Shape := ⟨4, ![64, 2, 16, 50]⟩
abbrev S64x800x128 : Shape := ⟨3, ![64, 800, 128]⟩
abbrev S1x5 : Shape := ⟨2, ![1, 5]⟩
abbrev S64x32x1 : Shape := ⟨3, ![64, 32, 1]⟩
abbrev S64x1x5 : Shape := ⟨3, ![64, 1, 5]⟩
abbrev S1x800x128 : Shape := ⟨3, ![1, 800, 128]⟩
abbrev S1x32x50 : Shape := ⟨3, ![1, 32, 50]⟩
abbrev S1x32x1 : Shape := ⟨3, ![1, 32, 1]⟩
abbrev S1x1x5 : Shape := ⟨3, ![1, 1, 5]⟩
abbrev S32x50 : Shape := ⟨2, ![32, 50]⟩
abbrev S800x128 : Shape := ⟨2, ![800, 128]⟩
abbrev S16x50 : Shape := ⟨2, ![16, 50]⟩
abbrev S16x128 : Shape := ⟨2, ![16, 128]⟩
abbrev S16x1 : Shape := ⟨2, ![16, 1]⟩
abbrev S1 : Shape := ⟨1, ![1]⟩
abbrev S1x1x1 : Shape := ⟨3, ![1, 1, 1]⟩
abbrev S64x5 : Shape := ⟨2, ![64, 5]⟩
abbrev S64x32 : Shape := ⟨2, ![64, 32]⟩

abbrev nBuf : Table → Nat
  | .hbm => 37
  | .local .tc .vmem => 22
  | .local .scVector .vmem => 4
  | _ => 0

abbrev bufTy : (tb : Table) → Fin (nBuf tb) → BufTy
  | .hbm, ⟨0, _⟩ => ⟨S64x32x50, .i32⟩
  | .hbm, ⟨1, _⟩ => ⟨S400000x50, .f32⟩
  | .hbm, ⟨2, _⟩ => ⟨S50x50, .f32⟩
  | .hbm, ⟨3, _⟩ => ⟨S50, .f32⟩
  | .hbm, ⟨4, _⟩ => ⟨S50, .f32⟩
  | .hbm, ⟨5, _⟩ => ⟨S50x50, .f32⟩
  | .hbm, ⟨6, _⟩ => ⟨S50, .f32⟩
  | .hbm, ⟨7, _⟩ => ⟨S50, .f32⟩
  | .hbm, ⟨8, _⟩ => ⟨S50x5, .f32⟩
  | .hbm, ⟨9, _⟩ => ⟨S5, .f32⟩
  | .hbm, ⟨10, _⟩ => ⟨S32, .i32⟩
  | .hbm, ⟨11, _⟩ => ⟨S32, .i1⟩
  | .hbm, ⟨12, _⟩ => ⟨S64x50x32, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S32x1, .i32⟩
  | .hbm, ⟨18, _⟩ => ⟨S64x50x32, .i32⟩
  | .hbm, ⟨19, _⟩ => ⟨S102400, .i32⟩
  | .hbm, ⟨20, _⟩ => ⟨S1250000x16, .f32⟩
  | .hbm, ⟨21, _⟩ => ⟨S51200x128, .f32⟩
  | .hbm, ⟨22, _⟩ => ⟨S1x50, .f32⟩
  | .hbm, ⟨23, _⟩ => ⟨S1x50, .f32⟩
  | .hbm, ⟨24, _⟩ => ⟨S51200x2, .f32⟩
  | .hbm, ⟨25, _⟩ => ⟨S64x50x16x2, .f32⟩
  | .hbm, ⟨26, _⟩ => ⟨S64x2x16x50, .f32⟩
  | .hbm, ⟨27, _⟩ => ⟨S64x32x50, .f32⟩
  | .hbm, ⟨28, _⟩ => ⟨S64x800x128, .f32⟩
  | .hbm, ⟨29, _⟩ => ⟨S1x50, .f32⟩
  | .hbm, ⟨30, _⟩ => ⟨S1x50, .f32⟩
  | .hbm, ⟨31, _⟩ => ⟨S1x5, .f32⟩
  | .hbm, ⟨32, _⟩ => ⟨S64x32x50, .f32⟩
  | .hbm, ⟨33, _⟩ => ⟨S64x32x1, .f32⟩
  | .hbm, ⟨34, _⟩ => ⟨S64x1x5, .f32⟩
  | .hbm, ⟨35, _⟩ => ⟨S64x5, .f32⟩
  | .hbm, ⟨36, _⟩ => ⟨S64x32, .f32⟩
  | .local .tc .vmem, ⟨0, _⟩ => ⟨S3200x128, .f32⟩
  | .local .tc .vmem, ⟨1, _⟩ => ⟨S3200x128, .f32⟩
  | .local .tc .vmem, ⟨2, _⟩ => ⟨S50x50, .f32⟩
  | .local .tc .vmem, ⟨3, _⟩ => ⟨S1x50, .f32⟩
  | .local .tc .vmem, ⟨4, _⟩ => ⟨S1x50, .f32⟩
  | .local .tc .vmem, ⟨5, _⟩ => ⟨S3200x2, .f32⟩
  | .local .tc .vmem, ⟨6, _⟩ => ⟨S3200x2, .f32⟩
  | .local .tc .vmem, ⟨7, _⟩ => ⟨S1x800x128, .f32⟩
  | .local .tc .vmem, ⟨8, _⟩ => ⟨S1x800x128, .f32⟩
  | .local .tc .vmem, ⟨9, _⟩ => ⟨S1x32x50, .f32⟩
  | .local .tc .vmem, ⟨10, _⟩ => ⟨S1x32x50, .f32⟩
  | .local .tc .vmem, ⟨11, _⟩ => ⟨S50x50, .f32⟩
  | .local .tc .vmem, ⟨12, _⟩ => ⟨S1x50, .f32⟩
  | .local .tc .vmem, ⟨13, _⟩ => ⟨S1x50, .f32⟩
  | .local .tc .vmem, ⟨14, _⟩ => ⟨S50x5, .f32⟩
  | .local .tc .vmem, ⟨15, _⟩ => ⟨S1x5, .f32⟩
  | .local .tc .vmem, ⟨16, _⟩ => ⟨S1x32x50, .f32⟩
  | .local .tc .vmem, ⟨17, _⟩ => ⟨S1x32x50, .f32⟩
  | .local .tc .vmem, ⟨18, _⟩ => ⟨S1x32x1, .f32⟩
  | .local .tc .vmem, ⟨19, _⟩ => ⟨S1x32x1, .f32⟩
  | .local .tc .vmem, ⟨20, _⟩ => ⟨S1x1x5, .f32⟩
  | .local .tc .vmem, ⟨21, _⟩ => ⟨S1x1x5, .f32⟩
  | .local .scVector .vmem, ⟨0, _⟩ => ⟨S3200, .i32⟩
  | .local .scVector .vmem, ⟨1, _⟩ => ⟨S1024, .i32⟩
  | .local .scVector .vmem, ⟨2, _⟩ => ⟨S1024x16, .f32⟩
  | .local .scVector .vmem, ⟨3, _⟩ => ⟨S128x128, .f32⟩
  | _, _ => ⟨S64x32x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 33 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTables nBuf rfl bufTy 4 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_v0 : Ref sig .tc := ⟨.hbm, 12, rfl⟩
abbrev main_c_1 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev main_v19_2 : Ref sig .tc := ⟨.hbm, 34, rfl⟩
abbrev main_v20 : Ref sig .tc := ⟨.hbm, 35, rfl⟩
abbrev main_v21 : Ref sig .tc := ⟨.hbm, 36, rfl⟩
abbrev main_v6_scv : Ref sig .scVector := ⟨.hbm, 19, rfl⟩
abbrev main_v7_scv : Ref sig .scVector := ⟨.hbm, 20, rfl⟩
abbrev main_v8_scv : Ref sig .scVector := ⟨.hbm, 21, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg4_1 : Ref sig .tc := ⟨.vmem, 6, rfl⟩
abbrev cc2_stg0_0 : Ref sig .tc := ⟨.vmem, 7, rfl⟩
abbrev cc2_stg0_1 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg5_0 : Ref sig .tc := ⟨.vmem, 14, rfl⟩
abbrev cc2_stg6_0 : Ref sig .tc := ⟨.vmem, 15, rfl⟩
abbrev cc2_stg7_0 : Ref sig .tc := ⟨.vmem, 16, rfl⟩
abbrev cc2_stg7_1 : Ref sig .tc := ⟨.vmem, 17, rfl⟩
abbrev cc2_stg8_0 : Ref sig .tc := ⟨.vmem, 18, rfl⟩
abbrev cc2_stg8_1 : Ref sig .tc := ⟨.vmem, 19, rfl⟩
abbrev cc2_stg9_0 : Ref sig .tc := ⟨.vmem, 20, rfl⟩
abbrev cc2_stg9_1 : Ref sig .tc := ⟨.vmem, 21, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28
abbrev cc2_sem8_0 : DmaSem sig := 29
abbrev cc2_sem8_1 : DmaSem sig := 30
abbrev cc2_sem9_0 : DmaSem sig := 31
abbrev cc2_sem9_1 : DmaSem sig := 32
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  ![v2.toNat]
@[reducible] def k0_t1_loop : Scf.Loop 32 :=
  let c0_i32_70 : BitVec 32 := 0#32
  let c12_i32 : BitVec 32 := 12#32
  let v156 : BitVec 32 := Scalar.addi c0_i32_70 c12_i32
  let c1_i32_71 : BitVec 32 := 1#32
  ⟨c0_i32_70, v156, c1_i32_71⟩
def k0_off2 (k0_t1 : Fin k0_t1_loop.trips) (c0_i32_201 : BitVec 32) : Fin 1 → Nat :=
  let c2_i32_198 : BitVec 32 := 2#32
  let c0_i32_70 : BitVec 32 := 0#32
  let c1_i32_71 : BitVec 32 := 1#32
  let arg19 : BitVec 32 := Scf.iv c0_i32_70 c1_i32_71 k0_t1
  let v299 : BitVec 32 := Scalar.muli c2_i32_198 arg19
  let c1_i32_199 : BitVec 32 := 1#32
  let v300 : BitVec 32 := Scalar.addi v299 c1_i32_199
  let c128_i32_200 : BitVec 32 := 128#32
  let v301 : BitVec 32 := Scalar.muli v300 c128_i32_200
  let v302 : BitVec 32 := Scalar.addi v301 c0_i32_201
  let v303 : Index := Scalar.indexCast v302
  ![v303.toNat]
def k0_off3 (k0_t1 : Fin k0_t1_loop.trips) : Fin 1 → Nat :=
  let c2_i32_280 : BitVec 32 := 2#32
  let c0_i32_70 : BitVec 32 := 0#32
  let c1_i32_71 : BitVec 32 := 1#32
  let arg19 : BitVec 32 := Scf.iv c0_i32_70 c1_i32_71 k0_t1
  let v473 : BitVec 32 := Scalar.muli c2_i32_280 arg19
  let c128_i32_303 : BitVec 32 := 128#32
  let v489 : BitVec 32 := Scalar.muli v473 c128_i32_303
  let c0_i32_304 : BitVec 32 := 0#32
  let v490 : BitVec 32 := Scalar.addi v489 c0_i32_304
  let v491 : Index := Scalar.indexCast v490
  ![v491.toNat]
@[reducible] def k0_t2_loop : Scf.Loop 32 :=
  let c0_i32_311 : BitVec 32 := 0#32
  let c10_i32_312 : BitVec 32 := 10#32
  let v503 : BitVec 32 := Scalar.addi c0_i32_311 c10_i32_312
  let c1_i32_313 : BitVec 32 := 1#32
  ⟨c0_i32_311, v503, c1_i32_313⟩

def k0_chk1 (v974 : IVec S16 32) (v976 : IVec S16 32) : Prop :=
  (∀ a x, ((![v974, v976] : Fin 2 → IVec S16 32) a x).toNat < S512x16.size a)
theorem k0_idx1_inb : ∀ (v974 : IVec S16 32) (v976 : IVec S16 32) (k0_hw1 : k0_chk1 v974 v976), ∀ a x, ((![v974, v976] : Fin 2 → IVec S16 32) a x).toNat < S512x16.size a := fun v974 v976 k0_hw1 => k0_hw1

def k0_chk2 (v500 : IVec S16 32) (v980 : IVec S16 32) : Prop :=
  (∀ a x, ((![v500, v980] : Fin 2 → IVec S16 32) a x).toNat < S64x128.size a)
theorem k0_idx2_inb : ∀ (v500 : IVec S16 32) (v980 : IVec S16 32) (k0_hw2 : k0_chk2 v500 v980), ∀ a x, ((![v500, v980] : Fin 2 → IVec S16 32) a x).toNat < S64x128.size a := fun v500 v980 k0_hw2 => k0_hw2

def k0_chk3 (v990 : IVec S16 32) (v992 : IVec S16 32) : Prop :=
  (∀ a x, ((![v990, v992] : Fin 2 → IVec S16 32) a x).toNat < S512x16.size a)
theorem k0_idx3_inb : ∀ (v990 : IVec S16 32) (v992 : IVec S16 32) (k0_hw3 : k0_chk3 v990 v992), ∀ a x, ((![v990, v992] : Fin 2 → IVec S16 32) a x).toNat < S512x16.size a := fun v990 v992 k0_hw3 => k0_hw3

def k0_chk4 (v500 : IVec S16 32) (v996 : IVec S16 32) : Prop :=
  (∀ a x, ((![v500, v996] : Fin 2 → IVec S16 32) a x).toNat < S64x128.size a)
theorem k0_idx4_inb : ∀ (v500 : IVec S16 32) (v996 : IVec S16 32) (k0_hw4 : k0_chk4 v500 v996), ∀ a x, ((![v500, v996] : Fin 2 → IVec S16 32) a x).toNat < S64x128.size a := fun v500 v996 k0_hw4 => k0_hw4

def k0_chk5 (v1006 : IVec S16 32) (v1008 : IVec S16 32) : Prop :=
  (∀ a x, ((![v1006, v1008] : Fin 2 → IVec S16 32) a x).toNat < S512x16.size a)
theorem k0_idx5_inb : ∀ (v1006 : IVec S16 32) (v1008 : IVec S16 32) (k0_hw5 : k0_chk5 v1006 v1008), ∀ a x, ((![v1006, v1008] : Fin 2 → IVec S16 32) a x).toNat < S512x16.size a := fun v1006 v1008 k0_hw5 => k0_hw5

def k0_chk6 (v500 : IVec S16 32) (v1012 : IVec S16 32) : Prop :=
  (∀ a x, ((![v500, v1012] : Fin 2 → IVec S16 32) a x).toNat < S64x128.size a)
theorem k0_idx6_inb : ∀ (v500 : IVec S16 32) (v1012 : IVec S16 32) (k0_hw6 : k0_chk6 v500 v1012), ∀ a x, ((![v500, v1012] : Fin 2 → IVec S16 32) a x).toNat < S64x128.size a := fun v500 v1012 k0_hw6 => k0_hw6

def k0_chk7 (v1022 : IVec S16 32) (v1024 : IVec S16 32) : Prop :=
  (∀ a x, ((![v1022, v1024] : Fin 2 → IVec S16 32) a x).toNat < S512x16.size a)
theorem k0_idx7_inb : ∀ (v1022 : IVec S16 32) (v1024 : IVec S16 32) (k0_hw7 : k0_chk7 v1022 v1024), ∀ a x, ((![v1022, v1024] : Fin 2 → IVec S16 32) a x).toNat < S512x16.size a := fun v1022 v1024 k0_hw7 => k0_hw7

def k0_chk8 (v500 : IVec S16 32) (v1028 : IVec S16 32) : Prop :=
  (∀ a x, ((![v500, v1028] : Fin 2 → IVec S16 32) a x).toNat < S64x128.size a)
theorem k0_idx8_inb : ∀ (v500 : IVec S16 32) (v1028 : IVec S16 32) (k0_hw8 : k0_chk8 v500 v1028), ∀ a x, ((![v500, v1028] : Fin 2 → IVec S16 32) a x).toNat < S64x128.size a := fun v500 v1028 k0_hw8 => k0_hw8

def k0_chk9 (v1038 : IVec S16 32) (v1040 : IVec S16 32) : Prop :=
  (∀ a x, ((![v1038, v1040] : Fin 2 → IVec S16 32) a x).toNat < S512x16.size a)
theorem k0_idx9_inb : ∀ (v1038 : IVec S16 32) (v1040 : IVec S16 32) (k0_hw9 : k0_chk9 v1038 v1040), ∀ a x, ((![v1038, v1040] : Fin 2 → IVec S16 32) a x).toNat < S512x16.size a := fun v1038 v1040 k0_hw9 => k0_hw9

def k0_chk10 (v500 : IVec S16 32) (v1044 : IVec S16 32) : Prop :=
  (∀ a x, ((![v500, v1044] : Fin 2 → IVec S16 32) a x).toNat < S64x128.size a)
theorem k0_idx10_inb : ∀ (v500 : IVec S16 32) (v1044 : IVec S16 32) (k0_hw10 : k0_chk10 v500 v1044), ∀ a x, ((![v500, v1044] : Fin 2 → IVec S16 32) a x).toNat < S64x128.size a := fun v500 v1044 k0_hw10 => k0_hw10
def k0_off4 (k0_t1 : Fin k0_t1_loop.trips) : Fin 1 → Nat :=
  let c2_i32_280 : BitVec 32 := 2#32
  let c0_i32_70 : BitVec 32 := 0#32
  let c1_i32_71 : BitVec 32 := 1#32
  let arg19 : BitVec 32 := Scf.iv c0_i32_70 c1_i32_71 k0_t1
  let v473 : BitVec 32 := Scalar.muli c2_i32_280 arg19
  let c128_i32_315 : BitVec 32 := 128#32
  let v504 : BitVec 32 := Scalar.muli v473 c128_i32_315
  let c16_i32_316 : BitVec 32 := 16#32
  let v505 : BitVec 32 := Scalar.addi v504 c16_i32_316
  let v506 : Index := Scalar.indexCast v505
  ![v506.toNat]
@[reducible] def k0_t3_loop : Scf.Loop 32 :=
  let c0_i32_323 : BitVec 32 := 0#32
  let c10_i32_324 : BitVec 32 := 10#32
  let v518 : BitVec 32 := Scalar.addi c0_i32_323 c10_i32_324
  let c1_i32_325 : BitVec 32 := 1#32
  ⟨c0_i32_323, v518, c1_i32_325⟩

def k0_chk11 (v974 : IVec S16 32) (v976 : IVec S16 32) : Prop :=
  (∀ a x, ((![v974, v976] : Fin 2 → IVec S16 32) a x).toNat < S512x16.size a)
theorem k0_idx11_inb : ∀ (v974 : IVec S16 32) (v976 : IVec S16 32) (k0_hw11 : k0_chk11 v974 v976), ∀ a x, ((![v974, v976] : Fin 2 → IVec S16 32) a x).toNat < S512x16.size a := fun v974 v976 k0_hw11 => k0_hw11

def k0_chk12 (v515 : IVec S16 32) (v980 : IVec S16 32) : Prop :=
  (∀ a x, ((![v515, v980] : Fin 2 → IVec S16 32) a x).toNat < S64x128.size a)
theorem k0_idx12_inb : ∀ (v515 : IVec S16 32) (v980 : IVec S16 32) (k0_hw12 : k0_chk12 v515 v980), ∀ a x, ((![v515, v980] : Fin 2 → IVec S16 32) a x).toNat < S64x128.size a := fun v515 v980 k0_hw12 => k0_hw12

def k0_chk13 (v990 : IVec S16 32) (v992 : IVec S16 32) : Prop :=
  (∀ a x, ((![v990, v992] : Fin 2 → IVec S16 32) a x).toNat < S512x16.size a)
theorem k0_idx13_inb : ∀ (v990 : IVec S16 32) (v992 : IVec S16 32) (k0_hw13 : k0_chk13 v990 v992), ∀ a x, ((![v990, v992] : Fin 2 → IVec S16 32) a x).toNat < S512x16.size a := fun v990 v992 k0_hw13 => k0_hw13

def k0_chk14 (v515 : IVec S16 32) (v996 : IVec S16 32) : Prop :=
  (∀ a x, ((![v515, v996] : Fin 2 → IVec S16 32) a x).toNat < S64x128.size a)
theorem k0_idx14_inb : ∀ (v515 : IVec S16 32) (v996 : IVec S16 32) (k0_hw14 : k0_chk14 v515 v996), ∀ a x, ((![v515, v996] : Fin 2 → IVec S16 32) a x).toNat < S64x128.size a := fun v515 v996 k0_hw14 => k0_hw14

def k0_chk15 (v1006 : IVec S16 32) (v1008 : IVec S16 32) : Prop :=
  (∀ a x, ((![v1006, v1008] : Fin 2 → IVec S16 32) a x).toNat < S512x16.size a)
theorem k0_idx15_inb : ∀ (v1006 : IVec S16 32) (v1008 : IVec S16 32) (k0_hw15 : k0_chk15 v1006 v1008), ∀ a x, ((![v1006, v1008] : Fin 2 → IVec S16 32) a x).toNat < S512x16.size a := fun v1006 v1008 k0_hw15 => k0_hw15

def k0_chk16 (v515 : IVec S16 32) (v1012 : IVec S16 32) : Prop :=
  (∀ a x, ((![v515, v1012] : Fin 2 → IVec S16 32) a x).toNat < S64x128.size a)
theorem k0_idx16_inb : ∀ (v515 : IVec S16 32) (v1012 : IVec S16 32) (k0_hw16 : k0_chk16 v515 v1012), ∀ a x, ((![v515, v1012] : Fin 2 → IVec S16 32) a x).toNat < S64x128.size a := fun v515 v1012 k0_hw16 => k0_hw16

def k0_chk17 (v1022 : IVec S16 32) (v1024 : IVec S16 32) : Prop :=
  (∀ a x, ((![v1022, v1024] : Fin 2 → IVec S16 32) a x).toNat < S512x16.size a)
theorem k0_idx17_inb : ∀ (v1022 : IVec S16 32) (v1024 : IVec S16 32) (k0_hw17 : k0_chk17 v1022 v1024), ∀ a x, ((![v1022, v1024] : Fin 2 → IVec S16 32) a x).toNat < S512x16.size a := fun v1022 v1024 k0_hw17 => k0_hw17

def k0_chk18 (v515 : IVec S16 32) (v1028 : IVec S16 32) : Prop :=
  (∀ a x, ((![v515, v1028] : Fin 2 → IVec S16 32) a x).toNat < S64x128.size a)
theorem k0_idx18_inb : ∀ (v515 : IVec S16 32) (v1028 : IVec S16 32) (k0_hw18 : k0_chk18 v515 v1028), ∀ a x, ((![v515, v1028] : Fin 2 → IVec S16 32) a x).toNat < S64x128.size a := fun v515 v1028 k0_hw18 => k0_hw18

def k0_chk19 (v1038 : IVec S16 32) (v1040 : IVec S16 32) : Prop :=
  (∀ a x, ((![v1038, v1040] : Fin 2 → IVec S16 32) a x).toNat < S512x16.size a)
theorem k0_idx19_inb : ∀ (v1038 : IVec S16 32) (v1040 : IVec S16 32) (k0_hw19 : k0_chk19 v1038 v1040), ∀ a x, ((![v1038, v1040] : Fin 2 → IVec S16 32) a x).toNat < S512x16.size a := fun v1038 v1040 k0_hw19 => k0_hw19

def k0_chk20 (v515 : IVec S16 32) (v1044 : IVec S16 32) : Prop :=
  (∀ a x, ((![v515, v1044] : Fin 2 → IVec S16 32) a x).toNat < S64x128.size a)
theorem k0_idx20_inb : ∀ (v515 : IVec S16 32) (v1044 : IVec S16 32) (k0_hw20 : k0_chk20 v515 v1044), ∀ a x, ((![v515, v1044] : Fin 2 → IVec S16 32) a x).toNat < S64x128.size a := fun v515 v1044 k0_hw20 => k0_hw20
def k0_off5 (k0_t1 : Fin k0_t1_loop.trips) : Fin 1 → Nat :=
  let c2_i32_280 : BitVec 32 := 2#32
  let c0_i32_70 : BitVec 32 := 0#32
  let c1_i32_71 : BitVec 32 := 1#32
  let arg19 : BitVec 32 := Scf.iv c0_i32_70 c1_i32_71 k0_t1
  let v473 : BitVec 32 := Scalar.muli c2_i32_280 arg19
  let c128_i32_327 : BitVec 32 := 128#32
  let v519 : BitVec 32 := Scalar.muli v473 c128_i32_327
  let c32_i32_328 : BitVec 32 := 32#32
  let v520 : BitVec 32 := Scalar.addi v519 c32_i32_328
  let v521 : Index := Scalar.indexCast v520
  ![v521.toNat]
@[reducible] def k0_t4_loop : Scf.Loop 32 :=
  let c0_i32_335 : BitVec 32 := 0#32
  let c10_i32_336 : BitVec 32 := 10#32
  let v533 : BitVec 32 := Scalar.addi c0_i32_335 c10_i32_336
  let c1_i32_337 : BitVec 32 := 1#32
  ⟨c0_i32_335, v533, c1_i32_337⟩

def k0_chk21 (v974 : IVec S16 32) (v976 : IVec S16 32) : Prop :=
  (∀ a x, ((![v974, v976] : Fin 2 → IVec S16 32) a x).toNat < S512x16.size a)
theorem k0_idx21_inb : ∀ (v974 : IVec S16 32) (v976 : IVec S16 32) (k0_hw21 : k0_chk21 v974 v976), ∀ a x, ((![v974, v976] : Fin 2 → IVec S16 32) a x).toNat < S512x16.size a := fun v974 v976 k0_hw21 => k0_hw21

def k0_chk22 (v530 : IVec S16 32) (v980 : IVec S16 32) : Prop :=
  (∀ a x, ((![v530, v980] : Fin 2 → IVec S16 32) a x).toNat < S64x128.size a)
theorem k0_idx22_inb : ∀ (v530 : IVec S16 32) (v980 : IVec S16 32) (k0_hw22 : k0_chk22 v530 v980), ∀ a x, ((![v530, v980] : Fin 2 → IVec S16 32) a x).toNat < S64x128.size a := fun v530 v980 k0_hw22 => k0_hw22

def k0_chk23 (v990 : IVec S16 32) (v992 : IVec S16 32) : Prop :=
  (∀ a x, ((![v990, v992] : Fin 2 → IVec S16 32) a x).toNat < S512x16.size a)
theorem k0_idx23_inb : ∀ (v990 : IVec S16 32) (v992 : IVec S16 32) (k0_hw23 : k0_chk23 v990 v992), ∀ a x, ((![v990, v992] : Fin 2 → IVec S16 32) a x).toNat < S512x16.size a := fun v990 v992 k0_hw23 => k0_hw23

def k0_chk24 (v530 : IVec S16 32) (v996 : IVec S16 32) : Prop :=
  (∀ a x, ((![v530, v996] : Fin 2 → IVec S16 32) a x).toNat < S64x128.size a)
theorem k0_idx24_inb : ∀ (v530 : IVec S16 32) (v996 : IVec S16 32) (k0_hw24 : k0_chk24 v530 v996), ∀ a x, ((![v530, v996] : Fin 2 → IVec S16 32) a x).toNat < S64x128.size a := fun v530 v996 k0_hw24 => k0_hw24

def k0_chk25 (v1006 : IVec S16 32) (v1008 : IVec S16 32) : Prop :=
  (∀ a x, ((![v1006, v1008] : Fin 2 → IVec S16 32) a x).toNat < S512x16.size a)
theorem k0_idx25_inb : ∀ (v1006 : IVec S16 32) (v1008 : IVec S16 32) (k0_hw25 : k0_chk25 v1006 v1008), ∀ a x, ((![v1006, v1008] : Fin 2 → IVec S16 32) a x).toNat < S512x16.size a := fun v1006 v1008 k0_hw25 => k0_hw25

def k0_chk26 (v530 : IVec S16 32) (v1012 : IVec S16 32) : Prop :=
  (∀ a x, ((![v530, v1012] : Fin 2 → IVec S16 32) a x).toNat < S64x128.size a)
theorem k0_idx26_inb : ∀ (v530 : IVec S16 32) (v1012 : IVec S16 32) (k0_hw26 : k0_chk26 v530 v1012), ∀ a x, ((![v530, v1012] : Fin 2 → IVec S16 32) a x).toNat < S64x128.size a := fun v530 v1012 k0_hw26 => k0_hw26

def k0_chk27 (v1022 : IVec S16 32) (v1024 : IVec S16 32) : Prop :=
  (∀ a x, ((![v1022, v1024] : Fin 2 → IVec S16 32) a x).toNat < S512x16.size a)
theorem k0_idx27_inb : ∀ (v1022 : IVec S16 32) (v1024 : IVec S16 32) (k0_hw27 : k0_chk27 v1022 v1024), ∀ a x, ((![v1022, v1024] : Fin 2 → IVec S16 32) a x).toNat < S512x16.size a := fun v1022 v1024 k0_hw27 => k0_hw27

def k0_chk28 (v530 : IVec S16 32) (v1028 : IVec S16 32) : Prop :=
  (∀ a x, ((![v530, v1028] : Fin 2 → IVec S16 32) a x).toNat < S64x128.size a)
theorem k0_idx28_inb : ∀ (v530 : IVec S16 32) (v1028 : IVec S16 32) (k0_hw28 : k0_chk28 v530 v1028), ∀ a x, ((![v530, v1028] : Fin 2 → IVec S16 32) a x).toNat < S64x128.size a := fun v530 v1028 k0_hw28 => k0_hw28

def k0_chk29 (v1038 : IVec S16 32) (v1040 : IVec S16 32) : Prop :=
  (∀ a x, ((![v1038, v1040] : Fin 2 → IVec S16 32) a x).toNat < S512x16.size a)
theorem k0_idx29_inb : ∀ (v1038 : IVec S16 32) (v1040 : IVec S16 32) (k0_hw29 : k0_chk29 v1038 v1040), ∀ a x, ((![v1038, v1040] : Fin 2 → IVec S16 32) a x).toNat < S512x16.size a := fun v1038 v1040 k0_hw29 => k0_hw29

def k0_chk30 (v530 : IVec S16 32) (v1044 : IVec S16 32) : Prop :=
  (∀ a x, ((![v530, v1044] : Fin 2 → IVec S16 32) a x).toNat < S64x128.size a)
theorem k0_idx30_inb : ∀ (v530 : IVec S16 32) (v1044 : IVec S16 32) (k0_hw30 : k0_chk30 v530 v1044), ∀ a x, ((![v530, v1044] : Fin 2 → IVec S16 32) a x).toNat < S64x128.size a := fun v530 v1044 k0_hw30 => k0_hw30
def k0_off6 (k0_t1 : Fin k0_t1_loop.trips) : Fin 1 → Nat :=
  let c2_i32_280 : BitVec 32 := 2#32
  let c0_i32_70 : BitVec 32 := 0#32
  let c1_i32_71 : BitVec 32 := 1#32
  let arg19 : BitVec 32 := Scf.iv c0_i32_70 c1_i32_71 k0_t1
  let v473 : BitVec 32 := Scalar.muli c2_i32_280 arg19
  let c128_i32_339 : BitVec 32 := 128#32
  let v534 : BitVec 32 := Scalar.muli v473 c128_i32_339
  let c48_i32_340 : BitVec 32 := 48#32
  let v535 : BitVec 32 := Scalar.addi v534 c48_i32_340
  let v536 : Index := Scalar.indexCast v535
  ![v536.toNat]
@[reducible] def k0_t5_loop : Scf.Loop 32 :=
  let c0_i32_347 : BitVec 32 := 0#32
  let c10_i32_348 : BitVec 32 := 10#32
  let v548 : BitVec 32 := Scalar.addi c0_i32_347 c10_i32_348
  let c1_i32_349 : BitVec 32 := 1#32
  ⟨c0_i32_347, v548, c1_i32_349⟩

def k0_chk31 (v974 : IVec S16 32) (v976 : IVec S16 32) : Prop :=
  (∀ a x, ((![v974, v976] : Fin 2 → IVec S16 32) a x).toNat < S512x16.size a)
theorem k0_idx31_inb : ∀ (v974 : IVec S16 32) (v976 : IVec S16 32) (k0_hw31 : k0_chk31 v974 v976), ∀ a x, ((![v974, v976] : Fin 2 → IVec S16 32) a x).toNat < S512x16.size a := fun v974 v976 k0_hw31 => k0_hw31

def k0_chk32 (v545 : IVec S16 32) (v980 : IVec S16 32) : Prop :=
  (∀ a x, ((![v545, v980] : Fin 2 → IVec S16 32) a x).toNat < S64x128.size a)
theorem k0_idx32_inb : ∀ (v545 : IVec S16 32) (v980 : IVec S16 32) (k0_hw32 : k0_chk32 v545 v980), ∀ a x, ((![v545, v980] : Fin 2 → IVec S16 32) a x).toNat < S64x128.size a := fun v545 v980 k0_hw32 => k0_hw32

def k0_chk33 (v990 : IVec S16 32) (v992 : IVec S16 32) : Prop :=
  (∀ a x, ((![v990, v992] : Fin 2 → IVec S16 32) a x).toNat < S512x16.size a)
theorem k0_idx33_inb : ∀ (v990 : IVec S16 32) (v992 : IVec S16 32) (k0_hw33 : k0_chk33 v990 v992), ∀ a x, ((![v990, v992] : Fin 2 → IVec S16 32) a x).toNat < S512x16.size a := fun v990 v992 k0_hw33 => k0_hw33

def k0_chk34 (v545 : IVec S16 32) (v996 : IVec S16 32) : Prop :=
  (∀ a x, ((![v545, v996] : Fin 2 → IVec S16 32) a x).toNat < S64x128.size a)
theorem k0_idx34_inb : ∀ (v545 : IVec S16 32) (v996 : IVec S16 32) (k0_hw34 : k0_chk34 v545 v996), ∀ a x, ((![v545, v996] : Fin 2 → IVec S16 32) a x).toNat < S64x128.size a := fun v545 v996 k0_hw34 => k0_hw34

def k0_chk35 (v1006 : IVec S16 32) (v1008 : IVec S16 32) : Prop :=
  (∀ a x, ((![v1006, v1008] : Fin 2 → IVec S16 32) a x).toNat < S512x16.size a)
theorem k0_idx35_inb : ∀ (v1006 : IVec S16 32) (v1008 : IVec S16 32) (k0_hw35 : k0_chk35 v1006 v1008), ∀ a x, ((![v1006, v1008] : Fin 2 → IVec S16 32) a x).toNat < S512x16.size a := fun v1006 v1008 k0_hw35 => k0_hw35

def k0_chk36 (v545 : IVec S16 32) (v1012 : IVec S16 32) : Prop :=
  (∀ a x, ((![v545, v1012] : Fin 2 → IVec S16 32) a x).toNat < S64x128.size a)
theorem k0_idx36_inb : ∀ (v545 : IVec S16 32) (v1012 : IVec S16 32) (k0_hw36 : k0_chk36 v545 v1012), ∀ a x, ((![v545, v1012] : Fin 2 → IVec S16 32) a x).toNat < S64x128.size a := fun v545 v1012 k0_hw36 => k0_hw36

def k0_chk37 (v1022 : IVec S16 32) (v1024 : IVec S16 32) : Prop :=
  (∀ a x, ((![v1022, v1024] : Fin 2 → IVec S16 32) a x).toNat < S512x16.size a)
theorem k0_idx37_inb : ∀ (v1022 : IVec S16 32) (v1024 : IVec S16 32) (k0_hw37 : k0_chk37 v1022 v1024), ∀ a x, ((![v1022, v1024] : Fin 2 → IVec S16 32) a x).toNat < S512x16.size a := fun v1022 v1024 k0_hw37 => k0_hw37

def k0_chk38 (v545 : IVec S16 32) (v1028 : IVec S16 32) : Prop :=
  (∀ a x, ((![v545, v1028] : Fin 2 → IVec S16 32) a x).toNat < S64x128.size a)
theorem k0_idx38_inb : ∀ (v545 : IVec S16 32) (v1028 : IVec S16 32) (k0_hw38 : k0_chk38 v545 v1028), ∀ a x, ((![v545, v1028] : Fin 2 → IVec S16 32) a x).toNat < S64x128.size a := fun v545 v1028 k0_hw38 => k0_hw38

def k0_chk39 (v1038 : IVec S16 32) (v1040 : IVec S16 32) : Prop :=
  (∀ a x, ((![v1038, v1040] : Fin 2 → IVec S16 32) a x).toNat < S512x16.size a)
theorem k0_idx39_inb : ∀ (v1038 : IVec S16 32) (v1040 : IVec S16 32) (k0_hw39 : k0_chk39 v1038 v1040), ∀ a x, ((![v1038, v1040] : Fin 2 → IVec S16 32) a x).toNat < S512x16.size a := fun v1038 v1040 k0_hw39 => k0_hw39

def k0_chk40 (v545 : IVec S16 32) (v1044 : IVec S16 32) : Prop :=
  (∀ a x, ((![v545, v1044] : Fin 2 → IVec S16 32) a x).toNat < S64x128.size a)
theorem k0_idx40_inb : ∀ (v545 : IVec S16 32) (v1044 : IVec S16 32) (k0_hw40 : k0_chk40 v545 v1044), ∀ a x, ((![v545, v1044] : Fin 2 → IVec S16 32) a x).toNat < S64x128.size a := fun v545 v1044 k0_hw40 => k0_hw40
def k0_off7 (k0_t1 : Fin k0_t1_loop.trips) : Fin 1 → Nat :=
  let c2_i32_280 : BitVec 32 := 2#32
  let c0_i32_70 : BitVec 32 := 0#32
  let c1_i32_71 : BitVec 32 := 1#32
  let arg19 : BitVec 32 := Scf.iv c0_i32_70 c1_i32_71 k0_t1
  let v473 : BitVec 32 := Scalar.muli c2_i32_280 arg19
  let c128_i32_351 : BitVec 32 := 128#32
  let v549 : BitVec 32 := Scalar.muli v473 c128_i32_351
  let c64_i32_352 : BitVec 32 := 64#32
  let v550 : BitVec 32 := Scalar.addi v549 c64_i32_352
  let v551 : Index := Scalar.indexCast v550
  ![v551.toNat]
@[reducible] def k0_t6_loop : Scf.Loop 32 :=
  let c0_i32_359 : BitVec 32 := 0#32
  let c10_i32_360 : BitVec 32 := 10#32
  let v563 : BitVec 32 := Scalar.addi c0_i32_359 c10_i32_360
  let c1_i32_361 : BitVec 32 := 1#32
  ⟨c0_i32_359, v563, c1_i32_361⟩

def k0_chk41 (v974 : IVec S16 32) (v976 : IVec S16 32) : Prop :=
  (∀ a x, ((![v974, v976] : Fin 2 → IVec S16 32) a x).toNat < S512x16.size a)
theorem k0_idx41_inb : ∀ (v974 : IVec S16 32) (v976 : IVec S16 32) (k0_hw41 : k0_chk41 v974 v976), ∀ a x, ((![v974, v976] : Fin 2 → IVec S16 32) a x).toNat < S512x16.size a := fun v974 v976 k0_hw41 => k0_hw41

def k0_chk42 (v560 : IVec S16 32) (v980 : IVec S16 32) : Prop :=
  (∀ a x, ((![v560, v980] : Fin 2 → IVec S16 32) a x).toNat < S64x128.size a)
theorem k0_idx42_inb : ∀ (v560 : IVec S16 32) (v980 : IVec S16 32) (k0_hw42 : k0_chk42 v560 v980), ∀ a x, ((![v560, v980] : Fin 2 → IVec S16 32) a x).toNat < S64x128.size a := fun v560 v980 k0_hw42 => k0_hw42

def k0_chk43 (v990 : IVec S16 32) (v992 : IVec S16 32) : Prop :=
  (∀ a x, ((![v990, v992] : Fin 2 → IVec S16 32) a x).toNat < S512x16.size a)
theorem k0_idx43_inb : ∀ (v990 : IVec S16 32) (v992 : IVec S16 32) (k0_hw43 : k0_chk43 v990 v992), ∀ a x, ((![v990, v992] : Fin 2 → IVec S16 32) a x).toNat < S512x16.size a := fun v990 v992 k0_hw43 => k0_hw43

def k0_chk44 (v560 : IVec S16 32) (v996 : IVec S16 32) : Prop :=
  (∀ a x, ((![v560, v996] : Fin 2 → IVec S16 32) a x).toNat < S64x128.size a)
theorem k0_idx44_inb : ∀ (v560 : IVec S16 32) (v996 : IVec S16 32) (k0_hw44 : k0_chk44 v560 v996), ∀ a x, ((![v560, v996] : Fin 2 → IVec S16 32) a x).toNat < S64x128.size a := fun v560 v996 k0_hw44 => k0_hw44

def k0_chk45 (v1006 : IVec S16 32) (v1008 : IVec S16 32) : Prop :=
  (∀ a x, ((![v1006, v1008] : Fin 2 → IVec S16 32) a x).toNat < S512x16.size a)
theorem k0_idx45_inb : ∀ (v1006 : IVec S16 32) (v1008 : IVec S16 32) (k0_hw45 : k0_chk45 v1006 v1008), ∀ a x, ((![v1006, v1008] : Fin 2 → IVec S16 32) a x).toNat < S512x16.size a := fun v1006 v1008 k0_hw45 => k0_hw45

def k0_chk46 (v560 : IVec S16 32) (v1012 : IVec S16 32) : Prop :=
  (∀ a x, ((![v560, v1012] : Fin 2 → IVec S16 32) a x).toNat < S64x128.size a)
theorem k0_idx46_inb : ∀ (v560 : IVec S16 32) (v1012 : IVec S16 32) (k0_hw46 : k0_chk46 v560 v1012), ∀ a x, ((![v560, v1012] : Fin 2 → IVec S16 32) a x).toNat < S64x128.size a := fun v560 v1012 k0_hw46 => k0_hw46

def k0_chk47 (v1022 : IVec S16 32) (v1024 : IVec S16 32) : Prop :=
  (∀ a x, ((![v1022, v1024] : Fin 2 → IVec S16 32) a x).toNat < S512x16.size a)
theorem k0_idx47_inb : ∀ (v1022 : IVec S16 32) (v1024 : IVec S16 32) (k0_hw47 : k0_chk47 v1022 v1024), ∀ a x, ((![v1022, v1024] : Fin 2 → IVec S16 32) a x).toNat < S512x16.size a := fun v1022 v1024 k0_hw47 => k0_hw47

def k0_chk48 (v560 : IVec S16 32) (v1028 : IVec S16 32) : Prop :=
  (∀ a x, ((![v560, v1028] : Fin 2 → IVec S16 32) a x).toNat < S64x128.size a)
theorem k0_idx48_inb : ∀ (v560 : IVec S16 32) (v1028 : IVec S16 32) (k0_hw48 : k0_chk48 v560 v1028), ∀ a x, ((![v560, v1028] : Fin 2 → IVec S16 32) a x).toNat < S64x128.size a := fun v560 v1028 k0_hw48 => k0_hw48

def k0_chk49 (v1038 : IVec S16 32) (v1040 : IVec S16 32) : Prop :=
  (∀ a x, ((![v1038, v1040] : Fin 2 → IVec S16 32) a x).toNat < S512x16.size a)
theorem k0_idx49_inb : ∀ (v1038 : IVec S16 32) (v1040 : IVec S16 32) (k0_hw49 : k0_chk49 v1038 v1040), ∀ a x, ((![v1038, v1040] : Fin 2 → IVec S16 32) a x).toNat < S512x16.size a := fun v1038 v1040 k0_hw49 => k0_hw49

def k0_chk50 (v560 : IVec S16 32) (v1044 : IVec S16 32) : Prop :=
  (∀ a x, ((![v560, v1044] : Fin 2 → IVec S16 32) a x).toNat < S64x128.size a)
theorem k0_idx50_inb : ∀ (v560 : IVec S16 32) (v1044 : IVec S16 32) (k0_hw50 : k0_chk50 v560 v1044), ∀ a x, ((![v560, v1044] : Fin 2 → IVec S16 32) a x).toNat < S64x128.size a := fun v560 v1044 k0_hw50 => k0_hw50
def k0_off8 (k0_t1 : Fin k0_t1_loop.trips) : Fin 1 → Nat :=
  let c2_i32_280 : BitVec 32 := 2#32
  let c0_i32_70 : BitVec 32 := 0#32
  let c1_i32_71 : BitVec 32 := 1#32
  let arg19 : BitVec 32 := Scf.iv c0_i32_70 c1_i32_71 k0_t1
  let v473 : BitVec 32 := Scalar.muli c2_i32_280 arg19
  let c128_i32_363 : BitVec 32 := 128#32
  let v564 : BitVec 32 := Scalar.muli v473 c128_i32_363
  let c80_i32_364 : BitVec 32 := 80#32
  let v565 : BitVec 32 := Scalar.addi v564 c80_i32_364
  let v566 : Index := Scalar.indexCast v565
  ![v566.toNat]
@[reducible] def k0_t7_loop : Scf.Loop 32 :=
  let c0_i32_371 : BitVec 32 := 0#32
  let c10_i32_372 : BitVec 32 := 10#32
  let v578 : BitVec 32 := Scalar.addi c0_i32_371 c10_i32_372
  let c1_i32_373 : BitVec 32 := 1#32
  ⟨c0_i32_371, v578, c1_i32_373⟩

def k0_chk51 (v974 : IVec S16 32) (v976 : IVec S16 32) : Prop :=
  (∀ a x, ((![v974, v976] : Fin 2 → IVec S16 32) a x).toNat < S512x16.size a)
theorem k0_idx51_inb : ∀ (v974 : IVec S16 32) (v976 : IVec S16 32) (k0_hw51 : k0_chk51 v974 v976), ∀ a x, ((![v974, v976] : Fin 2 → IVec S16 32) a x).toNat < S512x16.size a := fun v974 v976 k0_hw51 => k0_hw51

def k0_chk52 (v575 : IVec S16 32) (v980 : IVec S16 32) : Prop :=
  (∀ a x, ((![v575, v980] : Fin 2 → IVec S16 32) a x).toNat < S64x128.size a)
theorem k0_idx52_inb : ∀ (v575 : IVec S16 32) (v980 : IVec S16 32) (k0_hw52 : k0_chk52 v575 v980), ∀ a x, ((![v575, v980] : Fin 2 → IVec S16 32) a x).toNat < S64x128.size a := fun v575 v980 k0_hw52 => k0_hw52

def k0_chk53 (v990 : IVec S16 32) (v992 : IVec S16 32) : Prop :=
  (∀ a x, ((![v990, v992] : Fin 2 → IVec S16 32) a x).toNat < S512x16.size a)
theorem k0_idx53_inb : ∀ (v990 : IVec S16 32) (v992 : IVec S16 32) (k0_hw53 : k0_chk53 v990 v992), ∀ a x, ((![v990, v992] : Fin 2 → IVec S16 32) a x).toNat < S512x16.size a := fun v990 v992 k0_hw53 => k0_hw53

def k0_chk54 (v575 : IVec S16 32) (v996 : IVec S16 32) : Prop :=
  (∀ a x, ((![v575, v996] : Fin 2 → IVec S16 32) a x).toNat < S64x128.size a)
theorem k0_idx54_inb : ∀ (v575 : IVec S16 32) (v996 : IVec S16 32) (k0_hw54 : k0_chk54 v575 v996), ∀ a x, ((![v575, v996] : Fin 2 → IVec S16 32) a x).toNat < S64x128.size a := fun v575 v996 k0_hw54 => k0_hw54

def k0_chk55 (v1006 : IVec S16 32) (v1008 : IVec S16 32) : Prop :=
  (∀ a x, ((![v1006, v1008] : Fin 2 → IVec S16 32) a x).toNat < S512x16.size a)
theorem k0_idx55_inb : ∀ (v1006 : IVec S16 32) (v1008 : IVec S16 32) (k0_hw55 : k0_chk55 v1006 v1008), ∀ a x, ((![v1006, v1008] : Fin 2 → IVec S16 32) a x).toNat < S512x16.size a := fun v1006 v1008 k0_hw55 => k0_hw55

def k0_chk56 (v575 : IVec S16 32) (v1012 : IVec S16 32) : Prop :=
  (∀ a x, ((![v575, v1012] : Fin 2 → IVec S16 32) a x).toNat < S64x128.size a)
theorem k0_idx56_inb : ∀ (v575 : IVec S16 32) (v1012 : IVec S16 32) (k0_hw56 : k0_chk56 v575 v1012), ∀ a x, ((![v575, v1012] : Fin 2 → IVec S16 32) a x).toNat < S64x128.size a := fun v575 v1012 k0_hw56 => k0_hw56

def k0_chk57 (v1022 : IVec S16 32) (v1024 : IVec S16 32) : Prop :=
  (∀ a x, ((![v1022, v1024] : Fin 2 → IVec S16 32) a x).toNat < S512x16.size a)
theorem k0_idx57_inb : ∀ (v1022 : IVec S16 32) (v1024 : IVec S16 32) (k0_hw57 : k0_chk57 v1022 v1024), ∀ a x, ((![v1022, v1024] : Fin 2 → IVec S16 32) a x).toNat < S512x16.size a := fun v1022 v1024 k0_hw57 => k0_hw57

def k0_chk58 (v575 : IVec S16 32) (v1028 : IVec S16 32) : Prop :=
  (∀ a x, ((![v575, v1028] : Fin 2 → IVec S16 32) a x).toNat < S64x128.size a)
theorem k0_idx58_inb : ∀ (v575 : IVec S16 32) (v1028 : IVec S16 32) (k0_hw58 : k0_chk58 v575 v1028), ∀ a x, ((![v575, v1028] : Fin 2 → IVec S16 32) a x).toNat < S64x128.size a := fun v575 v1028 k0_hw58 => k0_hw58

def k0_chk59 (v1038 : IVec S16 32) (v1040 : IVec S16 32) : Prop :=
  (∀ a x, ((![v1038, v1040] : Fin 2 → IVec S16 32) a x).toNat < S512x16.size a)
theorem k0_idx59_inb : ∀ (v1038 : IVec S16 32) (v1040 : IVec S16 32) (k0_hw59 : k0_chk59 v1038 v1040), ∀ a x, ((![v1038, v1040] : Fin 2 → IVec S16 32) a x).toNat < S512x16.size a := fun v1038 v1040 k0_hw59 => k0_hw59

def k0_chk60 (v575 : IVec S16 32) (v1044 : IVec S16 32) : Prop :=
  (∀ a x, ((![v575, v1044] : Fin 2 → IVec S16 32) a x).toNat < S64x128.size a)
theorem k0_idx60_inb : ∀ (v575 : IVec S16 32) (v1044 : IVec S16 32) (k0_hw60 : k0_chk60 v575 v1044), ∀ a x, ((![v575, v1044] : Fin 2 → IVec S16 32) a x).toNat < S64x128.size a := fun v575 v1044 k0_hw60 => k0_hw60
def k0_off9 (k0_t1 : Fin k0_t1_loop.trips) : Fin 1 → Nat :=
  let c2_i32_280 : BitVec 32 := 2#32
  let c0_i32_70 : BitVec 32 := 0#32
  let c1_i32_71 : BitVec 32 := 1#32
  let arg19 : BitVec 32 := Scf.iv c0_i32_70 c1_i32_71 k0_t1
  let v473 : BitVec 32 := Scalar.muli c2_i32_280 arg19
  let c128_i32_375 : BitVec 32 := 128#32
  let v579 : BitVec 32 := Scalar.muli v473 c128_i32_375
  let c96_i32_376 : BitVec 32 := 96#32
  let v580 : BitVec 32 := Scalar.addi v579 c96_i32_376
  let v581 : Index := Scalar.indexCast v580
  ![v581.toNat]
@[reducible] def k0_t8_loop : Scf.Loop 32 :=
  let c0_i32_383 : BitVec 32 := 0#32
  let c10_i32_384 : BitVec 32 := 10#32
  let v593 : BitVec 32 := Scalar.addi c0_i32_383 c10_i32_384
  let c1_i32_385 : BitVec 32 := 1#32
  ⟨c0_i32_383, v593, c1_i32_385⟩

def k0_chk61 (v974 : IVec S16 32) (v976 : IVec S16 32) : Prop :=
  (∀ a x, ((![v974, v976] : Fin 2 → IVec S16 32) a x).toNat < S512x16.size a)
theorem k0_idx61_inb : ∀ (v974 : IVec S16 32) (v976 : IVec S16 32) (k0_hw61 : k0_chk61 v974 v976), ∀ a x, ((![v974, v976] : Fin 2 → IVec S16 32) a x).toNat < S512x16.size a := fun v974 v976 k0_hw61 => k0_hw61

def k0_chk62 (v590 : IVec S16 32) (v980 : IVec S16 32) : Prop :=
  (∀ a x, ((![v590, v980] : Fin 2 → IVec S16 32) a x).toNat < S64x128.size a)
theorem k0_idx62_inb : ∀ (v590 : IVec S16 32) (v980 : IVec S16 32) (k0_hw62 : k0_chk62 v590 v980), ∀ a x, ((![v590, v980] : Fin 2 → IVec S16 32) a x).toNat < S64x128.size a := fun v590 v980 k0_hw62 => k0_hw62

def k0_chk63 (v990 : IVec S16 32) (v992 : IVec S16 32) : Prop :=
  (∀ a x, ((![v990, v992] : Fin 2 → IVec S16 32) a x).toNat < S512x16.size a)
theorem k0_idx63_inb : ∀ (v990 : IVec S16 32) (v992 : IVec S16 32) (k0_hw63 : k0_chk63 v990 v992), ∀ a x, ((![v990, v992] : Fin 2 → IVec S16 32) a x).toNat < S512x16.size a := fun v990 v992 k0_hw63 => k0_hw63

def k0_chk64 (v590 : IVec S16 32) (v996 : IVec S16 32) : Prop :=
  (∀ a x, ((![v590, v996] : Fin 2 → IVec S16 32) a x).toNat < S64x128.size a)
theorem k0_idx64_inb : ∀ (v590 : IVec S16 32) (v996 : IVec S16 32) (k0_hw64 : k0_chk64 v590 v996), ∀ a x, ((![v590, v996] : Fin 2 → IVec S16 32) a x).toNat < S64x128.size a := fun v590 v996 k0_hw64 => k0_hw64

def k0_chk65 (v1006 : IVec S16 32) (v1008 : IVec S16 32) : Prop :=
  (∀ a x, ((![v1006, v1008] : Fin 2 → IVec S16 32) a x).toNat < S512x16.size a)
theorem k0_idx65_inb : ∀ (v1006 : IVec S16 32) (v1008 : IVec S16 32) (k0_hw65 : k0_chk65 v1006 v1008), ∀ a x, ((![v1006, v1008] : Fin 2 → IVec S16 32) a x).toNat < S512x16.size a := fun v1006 v1008 k0_hw65 => k0_hw65

def k0_chk66 (v590 : IVec S16 32) (v1012 : IVec S16 32) : Prop :=
  (∀ a x, ((![v590, v1012] : Fin 2 → IVec S16 32) a x).toNat < S64x128.size a)
theorem k0_idx66_inb : ∀ (v590 : IVec S16 32) (v1012 : IVec S16 32) (k0_hw66 : k0_chk66 v590 v1012), ∀ a x, ((![v590, v1012] : Fin 2 → IVec S16 32) a x).toNat < S64x128.size a := fun v590 v1012 k0_hw66 => k0_hw66

def k0_chk67 (v1022 : IVec S16 32) (v1024 : IVec S16 32) : Prop :=
  (∀ a x, ((![v1022, v1024] : Fin 2 → IVec S16 32) a x).toNat < S512x16.size a)
theorem k0_idx67_inb : ∀ (v1022 : IVec S16 32) (v1024 : IVec S16 32) (k0_hw67 : k0_chk67 v1022 v1024), ∀ a x, ((![v1022, v1024] : Fin 2 → IVec S16 32) a x).toNat < S512x16.size a := fun v1022 v1024 k0_hw67 => k0_hw67

def k0_chk68 (v590 : IVec S16 32) (v1028 : IVec S16 32) : Prop :=
  (∀ a x, ((![v590, v1028] : Fin 2 → IVec S16 32) a x).toNat < S64x128.size a)
theorem k0_idx68_inb : ∀ (v590 : IVec S16 32) (v1028 : IVec S16 32) (k0_hw68 : k0_chk68 v590 v1028), ∀ a x, ((![v590, v1028] : Fin 2 → IVec S16 32) a x).toNat < S64x128.size a := fun v590 v1028 k0_hw68 => k0_hw68

def k0_chk69 (v1038 : IVec S16 32) (v1040 : IVec S16 32) : Prop :=
  (∀ a x, ((![v1038, v1040] : Fin 2 → IVec S16 32) a x).toNat < S512x16.size a)
theorem k0_idx69_inb : ∀ (v1038 : IVec S16 32) (v1040 : IVec S16 32) (k0_hw69 : k0_chk69 v1038 v1040), ∀ a x, ((![v1038, v1040] : Fin 2 → IVec S16 32) a x).toNat < S512x16.size a := fun v1038 v1040 k0_hw69 => k0_hw69

def k0_chk70 (v590 : IVec S16 32) (v1044 : IVec S16 32) : Prop :=
  (∀ a x, ((![v590, v1044] : Fin 2 → IVec S16 32) a x).toNat < S64x128.size a)
theorem k0_idx70_inb : ∀ (v590 : IVec S16 32) (v1044 : IVec S16 32) (k0_hw70 : k0_chk70 v590 v1044), ∀ a x, ((![v590, v1044] : Fin 2 → IVec S16 32) a x).toNat < S64x128.size a := fun v590 v1044 k0_hw70 => k0_hw70
def k0_off10 (k0_t1 : Fin k0_t1_loop.trips) : Fin 1 → Nat :=
  let c2_i32_280 : BitVec 32 := 2#32
  let c0_i32_70 : BitVec 32 := 0#32
  let c1_i32_71 : BitVec 32 := 1#32
  let arg19 : BitVec 32 := Scf.iv c0_i32_70 c1_i32_71 k0_t1
  let v473 : BitVec 32 := Scalar.muli c2_i32_280 arg19
  let c128_i32_387 : BitVec 32 := 128#32
  let v594 : BitVec 32 := Scalar.muli v473 c128_i32_387
  let c112_i32_388 : BitVec 32 := 112#32
  let v595 : BitVec 32 := Scalar.addi v594 c112_i32_388
  let v596 : Index := Scalar.indexCast v595
  ![v596.toNat]
@[reducible] def k0_t9_loop : Scf.Loop 32 :=
  let c0_i32_395 : BitVec 32 := 0#32
  let c10_i32_396 : BitVec 32 := 10#32
  let v608 : BitVec 32 := Scalar.addi c0_i32_395 c10_i32_396
  let c1_i32_397 : BitVec 32 := 1#32
  ⟨c0_i32_395, v608, c1_i32_397⟩

def k0_chk71 (v974 : IVec S16 32) (v976 : IVec S16 32) : Prop :=
  (∀ a x, ((![v974, v976] : Fin 2 → IVec S16 32) a x).toNat < S512x16.size a)
theorem k0_idx71_inb : ∀ (v974 : IVec S16 32) (v976 : IVec S16 32) (k0_hw71 : k0_chk71 v974 v976), ∀ a x, ((![v974, v976] : Fin 2 → IVec S16 32) a x).toNat < S512x16.size a := fun v974 v976 k0_hw71 => k0_hw71

def k0_chk72 (v605 : IVec S16 32) (v980 : IVec S16 32) : Prop :=
  (∀ a x, ((![v605, v980] : Fin 2 → IVec S16 32) a x).toNat < S64x128.size a)
theorem k0_idx72_inb : ∀ (v605 : IVec S16 32) (v980 : IVec S16 32) (k0_hw72 : k0_chk72 v605 v980), ∀ a x, ((![v605, v980] : Fin 2 → IVec S16 32) a x).toNat < S64x128.size a := fun v605 v980 k0_hw72 => k0_hw72

def k0_chk73 (v990 : IVec S16 32) (v992 : IVec S16 32) : Prop :=
  (∀ a x, ((![v990, v992] : Fin 2 → IVec S16 32) a x).toNat < S512x16.size a)
theorem k0_idx73_inb : ∀ (v990 : IVec S16 32) (v992 : IVec S16 32) (k0_hw73 : k0_chk73 v990 v992), ∀ a x, ((![v990, v992] : Fin 2 → IVec S16 32) a x).toNat < S512x16.size a := fun v990 v992 k0_hw73 => k0_hw73

def k0_chk74 (v605 : IVec S16 32) (v996 : IVec S16 32) : Prop :=
  (∀ a x, ((![v605, v996] : Fin 2 → IVec S16 32) a x).toNat < S64x128.size a)
theorem k0_idx74_inb : ∀ (v605 : IVec S16 32) (v996 : IVec S16 32) (k0_hw74 : k0_chk74 v605 v996), ∀ a x, ((![v605, v996] : Fin 2 → IVec S16 32) a x).toNat < S64x128.size a := fun v605 v996 k0_hw74 => k0_hw74

def k0_chk75 (v1006 : IVec S16 32) (v1008 : IVec S16 32) : Prop :=
  (∀ a x, ((![v1006, v1008] : Fin 2 → IVec S16 32) a x).toNat < S512x16.size a)
theorem k0_idx75_inb : ∀ (v1006 : IVec S16 32) (v1008 : IVec S16 32) (k0_hw75 : k0_chk75 v1006 v1008), ∀ a x, ((![v1006, v1008] : Fin 2 → IVec S16 32) a x).toNat < S512x16.size a := fun v1006 v1008 k0_hw75 => k0_hw75

def k0_chk76 (v605 : IVec S16 32) (v1012 : IVec S16 32) : Prop :=
  (∀ a x, ((![v605, v1012] : Fin 2 → IVec S16 32) a x).toNat < S64x128.size a)
theorem k0_idx76_inb : ∀ (v605 : IVec S16 32) (v1012 : IVec S16 32) (k0_hw76 : k0_chk76 v605 v1012), ∀ a x, ((![v605, v1012] : Fin 2 → IVec S16 32) a x).toNat < S64x128.size a := fun v605 v1012 k0_hw76 => k0_hw76

def k0_chk77 (v1022 : IVec S16 32) (v1024 : IVec S16 32) : Prop :=
  (∀ a x, ((![v1022, v1024] : Fin 2 → IVec S16 32) a x).toNat < S512x16.size a)
theorem k0_idx77_inb : ∀ (v1022 : IVec S16 32) (v1024 : IVec S16 32) (k0_hw77 : k0_chk77 v1022 v1024), ∀ a x, ((![v1022, v1024] : Fin 2 → IVec S16 32) a x).toNat < S512x16.size a := fun v1022 v1024 k0_hw77 => k0_hw77

def k0_chk78 (v605 : IVec S16 32) (v1028 : IVec S16 32) : Prop :=
  (∀ a x, ((![v605, v1028] : Fin 2 → IVec S16 32) a x).toNat < S64x128.size a)
theorem k0_idx78_inb : ∀ (v605 : IVec S16 32) (v1028 : IVec S16 32) (k0_hw78 : k0_chk78 v605 v1028), ∀ a x, ((![v605, v1028] : Fin 2 → IVec S16 32) a x).toNat < S64x128.size a := fun v605 v1028 k0_hw78 => k0_hw78

def k0_chk79 (v1038 : IVec S16 32) (v1040 : IVec S16 32) : Prop :=
  (∀ a x, ((![v1038, v1040] : Fin 2 → IVec S16 32) a x).toNat < S512x16.size a)
theorem k0_idx79_inb : ∀ (v1038 : IVec S16 32) (v1040 : IVec S16 32) (k0_hw79 : k0_chk79 v1038 v1040), ∀ a x, ((![v1038, v1040] : Fin 2 → IVec S16 32) a x).toNat < S512x16.size a := fun v1038 v1040 k0_hw79 => k0_hw79

def k0_chk80 (v605 : IVec S16 32) (v1044 : IVec S16 32) : Prop :=
  (∀ a x, ((![v605, v1044] : Fin 2 → IVec S16 32) a x).toNat < S64x128.size a)
theorem k0_idx80_inb : ∀ (v605 : IVec S16 32) (v1044 : IVec S16 32) (k0_hw80 : k0_chk80 v605 v1044), ∀ a x, ((![v605, v1044] : Fin 2 → IVec S16 32) a x).toNat < S64x128.size a := fun v605 v1044 k0_hw80 => k0_hw80
def k0_off11 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_280 : BitVec 32 := 2#32
  let c0_i32_70 : BitVec 32 := 0#32
  let c1_i32_71 : BitVec 32 := 1#32
  let arg19 : BitVec 32 := Scf.iv c0_i32_70 c1_i32_71 k0_t1
  let v473 : BitVec 32 := Scalar.muli c2_i32_280 arg19
  let c128_i32_399 : BitVec 32 := 128#32
  let v609 : BitVec 32 := Scalar.muli v473 c128_i32_399
  let v610 : BitVec 32 := Scalar.addi v2 v609
  let c0_i32_401 : BitVec 32 := 0#32
  let v612 : BitVec 1 := Scalar.cmpi .sgt v610 c0_i32_401
  let v613 : BitVec 32 := Scalar.extui v612
  let c0_i32_402 : BitVec 32 := 0#32
  let v614 : BitVec 1 := Scalar.cmpi .slt v610 c0_i32_402
  let v615 : BitVec 32 := Scalar.extui v614
  let v616 : BitVec 32 := Scalar.subi v613 v615
  let c2_i32_400 : BitVec 32 := 2#32
  let c0_i32_403 : BitVec 32 := 0#32
  let v617 : BitVec 1 := Scalar.cmpi .sgt c2_i32_400 c0_i32_403
  let v618 : BitVec 32 := Scalar.extui v617
  let c0_i32_404 : BitVec 32 := 0#32
  let v619 : BitVec 1 := Scalar.cmpi .slt c2_i32_400 c0_i32_404
  let v620 : BitVec 32 := Scalar.extui v619
  let v621 : BitVec 32 := Scalar.subi v618 v620
  let v622 : BitVec 1 := Scalar.cmpi .ne v616 v621
  let v623 : BitVec 32 := Scalar.remsi v610 c2_i32_400
  let c0_i32_405 : BitVec 32 := 0#32
  let v624 : BitVec 1 := Scalar.cmpi .ne v623 c0_i32_405
  let v625 : BitVec 1 := Scalar.andi v622 v624
  let v611 : BitVec 32 := Scalar.divsi v610 c2_i32_400
  let c1_i32_406 : BitVec 32 := 1#32
  let v626 : BitVec 32 := Scalar.subi v611 c1_i32_406
  let v627 : BitVec 32 := Scalar.select v625 v626 v611
  let c0_i32_409 : BitVec 32 := 0#32
  ![v627.toNat, 0]
def k0_off12 (k0_t1 : Fin k0_t1_loop.trips) (c2_i32_414 : BitVec 32) (c0_i32_416 : BitVec 32) : Fin 1 → Nat :=
  let c2_i32_413 : BitVec 32 := 2#32
  let c0_i32_70 : BitVec 32 := 0#32
  let c1_i32_71 : BitVec 32 := 1#32
  let arg19 : BitVec 32 := Scf.iv c0_i32_70 c1_i32_71 k0_t1
  let v632 : BitVec 32 := Scalar.muli c2_i32_413 arg19
  let v633 : BitVec 32 := Scalar.addi v632 c2_i32_414
  let c128_i32_415 : BitVec 32 := 128#32
  let v634 : BitVec 32 := Scalar.muli v633 c128_i32_415
  let v635 : BitVec 32 := Scalar.addi v634 c0_i32_416
  let v636 : Index := Scalar.indexCast v635
  ![v636.toNat]
def k0_off12_at (r : Fin 9) : BitVec 32 × BitVec 32 :=
  if r.val < 4 then
    if r.val < 2 then
      if r.val < 1 then
        (2#32, 0#32)
      else
        (2#32, 16#32)
    else
      if r.val < 3 then
        (2#32, 32#32)
      else
        (2#32, 48#32)
  else
    if r.val < 6 then
      if r.val < 5 then
        (2#32, 64#32)
      else
        (2#32, 80#32)
    else
      if r.val < 7 then
        (2#32, 96#32)
      else
        if r.val < 8 then
          (2#32, 112#32)
        else
          (1#32, 0#32)
@[reducible] def k0_t10_loop : Scf.Loop 32 :=
  let c0_i32_563 : BitVec 32 := 0#32
  let c10_i32_564 : BitVec 32 := 10#32
  let v837 : BitVec 32 := Scalar.addi c0_i32_563 c10_i32_564
  let c1_i32_565 : BitVec 32 := 1#32
  ⟨c0_i32_563, v837, c1_i32_565⟩

def k0_chk81 (v974 : IVec S16 32) (v976 : IVec S16 32) : Prop :=
  (∀ a x, ((![v974, v976] : Fin 2 → IVec S16 32) a x).toNat < S512x16.size a)
theorem k0_idx81_inb : ∀ (v974 : IVec S16 32) (v976 : IVec S16 32) (k0_hw81 : k0_chk81 v974 v976), ∀ a x, ((![v974, v976] : Fin 2 → IVec S16 32) a x).toNat < S512x16.size a := fun v974 v976 k0_hw81 => k0_hw81

def k0_chk82 (v834 : IVec S16 32) (v980 : IVec S16 32) : Prop :=
  (∀ a x, ((![v834, v980] : Fin 2 → IVec S16 32) a x).toNat < S64x128.size a)
theorem k0_idx82_inb : ∀ (v834 : IVec S16 32) (v980 : IVec S16 32) (k0_hw82 : k0_chk82 v834 v980), ∀ a x, ((![v834, v980] : Fin 2 → IVec S16 32) a x).toNat < S64x128.size a := fun v834 v980 k0_hw82 => k0_hw82

def k0_chk83 (v990 : IVec S16 32) (v992 : IVec S16 32) : Prop :=
  (∀ a x, ((![v990, v992] : Fin 2 → IVec S16 32) a x).toNat < S512x16.size a)
theorem k0_idx83_inb : ∀ (v990 : IVec S16 32) (v992 : IVec S16 32) (k0_hw83 : k0_chk83 v990 v992), ∀ a x, ((![v990, v992] : Fin 2 → IVec S16 32) a x).toNat < S512x16.size a := fun v990 v992 k0_hw83 => k0_hw83

def k0_chk84 (v834 : IVec S16 32) (v996 : IVec S16 32) : Prop :=
  (∀ a x, ((![v834, v996] : Fin 2 → IVec S16 32) a x).toNat < S64x128.size a)
theorem k0_idx84_inb : ∀ (v834 : IVec S16 32) (v996 : IVec S16 32) (k0_hw84 : k0_chk84 v834 v996), ∀ a x, ((![v834, v996] : Fin 2 → IVec S16 32) a x).toNat < S64x128.size a := fun v834 v996 k0_hw84 => k0_hw84

def k0_chk85 (v1006 : IVec S16 32) (v1008 : IVec S16 32) : Prop :=
  (∀ a x, ((![v1006, v1008] : Fin 2 → IVec S16 32) a x).toNat < S512x16.size a)
theorem k0_idx85_inb : ∀ (v1006 : IVec S16 32) (v1008 : IVec S16 32) (k0_hw85 : k0_chk85 v1006 v1008), ∀ a x, ((![v1006, v1008] : Fin 2 → IVec S16 32) a x).toNat < S512x16.size a := fun v1006 v1008 k0_hw85 => k0_hw85

def k0_chk86 (v834 : IVec S16 32) (v1012 : IVec S16 32) : Prop :=
  (∀ a x, ((![v834, v1012] : Fin 2 → IVec S16 32) a x).toNat < S64x128.size a)
theorem k0_idx86_inb : ∀ (v834 : IVec S16 32) (v1012 : IVec S16 32) (k0_hw86 : k0_chk86 v834 v1012), ∀ a x, ((![v834, v1012] : Fin 2 → IVec S16 32) a x).toNat < S64x128.size a := fun v834 v1012 k0_hw86 => k0_hw86

def k0_chk87 (v1022 : IVec S16 32) (v1024 : IVec S16 32) : Prop :=
  (∀ a x, ((![v1022, v1024] : Fin 2 → IVec S16 32) a x).toNat < S512x16.size a)
theorem k0_idx87_inb : ∀ (v1022 : IVec S16 32) (v1024 : IVec S16 32) (k0_hw87 : k0_chk87 v1022 v1024), ∀ a x, ((![v1022, v1024] : Fin 2 → IVec S16 32) a x).toNat < S512x16.size a := fun v1022 v1024 k0_hw87 => k0_hw87

def k0_chk88 (v834 : IVec S16 32) (v1028 : IVec S16 32) : Prop :=
  (∀ a x, ((![v834, v1028] : Fin 2 → IVec S16 32) a x).toNat < S64x128.size a)
theorem k0_idx88_inb : ∀ (v834 : IVec S16 32) (v1028 : IVec S16 32) (k0_hw88 : k0_chk88 v834 v1028), ∀ a x, ((![v834, v1028] : Fin 2 → IVec S16 32) a x).toNat < S64x128.size a := fun v834 v1028 k0_hw88 => k0_hw88

def k0_chk89 (v1038 : IVec S16 32) (v1040 : IVec S16 32) : Prop :=
  (∀ a x, ((![v1038, v1040] : Fin 2 → IVec S16 32) a x).toNat < S512x16.size a)
theorem k0_idx89_inb : ∀ (v1038 : IVec S16 32) (v1040 : IVec S16 32) (k0_hw89 : k0_chk89 v1038 v1040), ∀ a x, ((![v1038, v1040] : Fin 2 → IVec S16 32) a x).toNat < S512x16.size a := fun v1038 v1040 k0_hw89 => k0_hw89

def k0_chk90 (v834 : IVec S16 32) (v1044 : IVec S16 32) : Prop :=
  (∀ a x, ((![v834, v1044] : Fin 2 → IVec S16 32) a x).toNat < S64x128.size a)
theorem k0_idx90_inb : ∀ (v834 : IVec S16 32) (v1044 : IVec S16 32) (k0_hw90 : k0_chk90 v834 v1044), ∀ a x, ((![v834, v1044] : Fin 2 → IVec S16 32) a x).toNat < S64x128.size a := fun v834 v1044 k0_hw90 => k0_hw90
def k0_off13 (k0_t1 : Fin k0_t1_loop.trips) : Fin 1 → Nat :=
  let c2_i32_531 : BitVec 32 := 2#32
  let c0_i32_70 : BitVec 32 := 0#32
  let c1_i32_71 : BitVec 32 := 1#32
  let arg19 : BitVec 32 := Scf.iv c0_i32_70 c1_i32_71 k0_t1
  let v806 : BitVec 32 := Scalar.muli c2_i32_531 arg19
  let c1_i32_532 : BitVec 32 := 1#32
  let v807 : BitVec 32 := Scalar.addi v806 c1_i32_532
  let c128_i32_567 : BitVec 32 := 128#32
  let v838 : BitVec 32 := Scalar.muli v807 c128_i32_567
  let c16_i32_568 : BitVec 32 := 16#32
  let v839 : BitVec 32 := Scalar.addi v838 c16_i32_568
  let v840 : Index := Scalar.indexCast v839
  ![v840.toNat]
@[reducible] def k0_t11_loop : Scf.Loop 32 :=
  let c0_i32_575 : BitVec 32 := 0#32
  let c10_i32_576 : BitVec 32 := 10#32
  let v852 : BitVec 32 := Scalar.addi c0_i32_575 c10_i32_576
  let c1_i32_577 : BitVec 32 := 1#32
  ⟨c0_i32_575, v852, c1_i32_577⟩

def k0_chk91 (v974 : IVec S16 32) (v976 : IVec S16 32) : Prop :=
  (∀ a x, ((![v974, v976] : Fin 2 → IVec S16 32) a x).toNat < S512x16.size a)
theorem k0_idx91_inb : ∀ (v974 : IVec S16 32) (v976 : IVec S16 32) (k0_hw91 : k0_chk91 v974 v976), ∀ a x, ((![v974, v976] : Fin 2 → IVec S16 32) a x).toNat < S512x16.size a := fun v974 v976 k0_hw91 => k0_hw91

def k0_chk92 (v849 : IVec S16 32) (v980 : IVec S16 32) : Prop :=
  (∀ a x, ((![v849, v980] : Fin 2 → IVec S16 32) a x).toNat < S64x128.size a)
theorem k0_idx92_inb : ∀ (v849 : IVec S16 32) (v980 : IVec S16 32) (k0_hw92 : k0_chk92 v849 v980), ∀ a x, ((![v849, v980] : Fin 2 → IVec S16 32) a x).toNat < S64x128.size a := fun v849 v980 k0_hw92 => k0_hw92

def k0_chk93 (v990 : IVec S16 32) (v992 : IVec S16 32) : Prop :=
  (∀ a x, ((![v990, v992] : Fin 2 → IVec S16 32) a x).toNat < S512x16.size a)
theorem k0_idx93_inb : ∀ (v990 : IVec S16 32) (v992 : IVec S16 32) (k0_hw93 : k0_chk93 v990 v992), ∀ a x, ((![v990, v992] : Fin 2 → IVec S16 32) a x).toNat < S512x16.size a := fun v990 v992 k0_hw93 => k0_hw93

def k0_chk94 (v849 : IVec S16 32) (v996 : IVec S16 32) : Prop :=
  (∀ a x, ((![v849, v996] : Fin 2 → IVec S16 32) a x).toNat < S64x128.size a)
theorem k0_idx94_inb : ∀ (v849 : IVec S16 32) (v996 : IVec S16 32) (k0_hw94 : k0_chk94 v849 v996), ∀ a x, ((![v849, v996] : Fin 2 → IVec S16 32) a x).toNat < S64x128.size a := fun v849 v996 k0_hw94 => k0_hw94

def k0_chk95 (v1006 : IVec S16 32) (v1008 : IVec S16 32) : Prop :=
  (∀ a x, ((![v1006, v1008] : Fin 2 → IVec S16 32) a x).toNat < S512x16.size a)
theorem k0_idx95_inb : ∀ (v1006 : IVec S16 32) (v1008 : IVec S16 32) (k0_hw95 : k0_chk95 v1006 v1008), ∀ a x, ((![v1006, v1008] : Fin 2 → IVec S16 32) a x).toNat < S512x16.size a := fun v1006 v1008 k0_hw95 => k0_hw95

def k0_chk96 (v849 : IVec S16 32) (v1012 : IVec S16 32) : Prop :=
  (∀ a x, ((![v849, v1012] : Fin 2 → IVec S16 32) a x).toNat < S64x128.size a)
theorem k0_idx96_inb : ∀ (v849 : IVec S16 32) (v1012 : IVec S16 32) (k0_hw96 : k0_chk96 v849 v1012), ∀ a x, ((![v849, v1012] : Fin 2 → IVec S16 32) a x).toNat < S64x128.size a := fun v849 v1012 k0_hw96 => k0_hw96

def k0_chk97 (v1022 : IVec S16 32) (v1024 : IVec S16 32) : Prop :=
  (∀ a x, ((![v1022, v1024] : Fin 2 → IVec S16 32) a x).toNat < S512x16.size a)
theorem k0_idx97_inb : ∀ (v1022 : IVec S16 32) (v1024 : IVec S16 32) (k0_hw97 : k0_chk97 v1022 v1024), ∀ a x, ((![v1022, v1024] : Fin 2 → IVec S16 32) a x).toNat < S512x16.size a := fun v1022 v1024 k0_hw97 => k0_hw97

def k0_chk98 (v849 : IVec S16 32) (v1028 : IVec S16 32) : Prop :=
  (∀ a x, ((![v849, v1028] : Fin 2 → IVec S16 32) a x).toNat < S64x128.size a)
theorem k0_idx98_inb : ∀ (v849 : IVec S16 32) (v1028 : IVec S16 32) (k0_hw98 : k0_chk98 v849 v1028), ∀ a x, ((![v849, v1028] : Fin 2 → IVec S16 32) a x).toNat < S64x128.size a := fun v849 v1028 k0_hw98 => k0_hw98

def k0_chk99 (v1038 : IVec S16 32) (v1040 : IVec S16 32) : Prop :=
  (∀ a x, ((![v1038, v1040] : Fin 2 → IVec S16 32) a x).toNat < S512x16.size a)
theorem k0_idx99_inb : ∀ (v1038 : IVec S16 32) (v1040 : IVec S16 32) (k0_hw99 : k0_chk99 v1038 v1040), ∀ a x, ((![v1038, v1040] : Fin 2 → IVec S16 32) a x).toNat < S512x16.size a := fun v1038 v1040 k0_hw99 => k0_hw99

def k0_chk100 (v849 : IVec S16 32) (v1044 : IVec S16 32) : Prop :=
  (∀ a x, ((![v849, v1044] : Fin 2 → IVec S16 32) a x).toNat < S64x128.size a)
theorem k0_idx100_inb : ∀ (v849 : IVec S16 32) (v1044 : IVec S16 32) (k0_hw100 : k0_chk100 v849 v1044), ∀ a x, ((![v849, v1044] : Fin 2 → IVec S16 32) a x).toNat < S64x128.size a := fun v849 v1044 k0_hw100 => k0_hw100
def k0_off14 (k0_t1 : Fin k0_t1_loop.trips) : Fin 1 → Nat :=
  let c2_i32_531 : BitVec 32 := 2#32
  let c0_i32_70 : BitVec 32 := 0#32
  let c1_i32_71 : BitVec 32 := 1#32
  let arg19 : BitVec 32 := Scf.iv c0_i32_70 c1_i32_71 k0_t1
  let v806 : BitVec 32 := Scalar.muli c2_i32_531 arg19
  let c1_i32_532 : BitVec 32 := 1#32
  let v807 : BitVec 32 := Scalar.addi v806 c1_i32_532
  let c128_i32_579 : BitVec 32 := 128#32
  let v853 : BitVec 32 := Scalar.muli v807 c128_i32_579
  let c32_i32_580 : BitVec 32 := 32#32
  let v854 : BitVec 32 := Scalar.addi v853 c32_i32_580
  let v855 : Index := Scalar.indexCast v854
  ![v855.toNat]
@[reducible] def k0_t12_loop : Scf.Loop 32 :=
  let c0_i32_587 : BitVec 32 := 0#32
  let c10_i32_588 : BitVec 32 := 10#32
  let v867 : BitVec 32 := Scalar.addi c0_i32_587 c10_i32_588
  let c1_i32_589 : BitVec 32 := 1#32
  ⟨c0_i32_587, v867, c1_i32_589⟩

def k0_chk101 (v974 : IVec S16 32) (v976 : IVec S16 32) : Prop :=
  (∀ a x, ((![v974, v976] : Fin 2 → IVec S16 32) a x).toNat < S512x16.size a)
theorem k0_idx101_inb : ∀ (v974 : IVec S16 32) (v976 : IVec S16 32) (k0_hw101 : k0_chk101 v974 v976), ∀ a x, ((![v974, v976] : Fin 2 → IVec S16 32) a x).toNat < S512x16.size a := fun v974 v976 k0_hw101 => k0_hw101

def k0_chk102 (v864 : IVec S16 32) (v980 : IVec S16 32) : Prop :=
  (∀ a x, ((![v864, v980] : Fin 2 → IVec S16 32) a x).toNat < S64x128.size a)
theorem k0_idx102_inb : ∀ (v864 : IVec S16 32) (v980 : IVec S16 32) (k0_hw102 : k0_chk102 v864 v980), ∀ a x, ((![v864, v980] : Fin 2 → IVec S16 32) a x).toNat < S64x128.size a := fun v864 v980 k0_hw102 => k0_hw102

def k0_chk103 (v990 : IVec S16 32) (v992 : IVec S16 32) : Prop :=
  (∀ a x, ((![v990, v992] : Fin 2 → IVec S16 32) a x).toNat < S512x16.size a)
theorem k0_idx103_inb : ∀ (v990 : IVec S16 32) (v992 : IVec S16 32) (k0_hw103 : k0_chk103 v990 v992), ∀ a x, ((![v990, v992] : Fin 2 → IVec S16 32) a x).toNat < S512x16.size a := fun v990 v992 k0_hw103 => k0_hw103

def k0_chk104 (v864 : IVec S16 32) (v996 : IVec S16 32) : Prop :=
  (∀ a x, ((![v864, v996] : Fin 2 → IVec S16 32) a x).toNat < S64x128.size a)
theorem k0_idx104_inb : ∀ (v864 : IVec S16 32) (v996 : IVec S16 32) (k0_hw104 : k0_chk104 v864 v996), ∀ a x, ((![v864, v996] : Fin 2 → IVec S16 32) a x).toNat < S64x128.size a := fun v864 v996 k0_hw104 => k0_hw104

def k0_chk105 (v1006 : IVec S16 32) (v1008 : IVec S16 32) : Prop :=
  (∀ a x, ((![v1006, v1008] : Fin 2 → IVec S16 32) a x).toNat < S512x16.size a)
theorem k0_idx105_inb : ∀ (v1006 : IVec S16 32) (v1008 : IVec S16 32) (k0_hw105 : k0_chk105 v1006 v1008), ∀ a x, ((![v1006, v1008] : Fin 2 → IVec S16 32) a x).toNat < S512x16.size a := fun v1006 v1008 k0_hw105 => k0_hw105

def k0_chk106 (v864 : IVec S16 32) (v1012 : IVec S16 32) : Prop :=
  (∀ a x, ((![v864, v1012] : Fin 2 → IVec S16 32) a x).toNat < S64x128.size a)
theorem k0_idx106_inb : ∀ (v864 : IVec S16 32) (v1012 : IVec S16 32) (k0_hw106 : k0_chk106 v864 v1012), ∀ a x, ((![v864, v1012] : Fin 2 → IVec S16 32) a x).toNat < S64x128.size a := fun v864 v1012 k0_hw106 => k0_hw106

def k0_chk107 (v1022 : IVec S16 32) (v1024 : IVec S16 32) : Prop :=
  (∀ a x, ((![v1022, v1024] : Fin 2 → IVec S16 32) a x).toNat < S512x16.size a)
theorem k0_idx107_inb : ∀ (v1022 : IVec S16 32) (v1024 : IVec S16 32) (k0_hw107 : k0_chk107 v1022 v1024), ∀ a x, ((![v1022, v1024] : Fin 2 → IVec S16 32) a x).toNat < S512x16.size a := fun v1022 v1024 k0_hw107 => k0_hw107

def k0_chk108 (v864 : IVec S16 32) (v1028 : IVec S16 32) : Prop :=
  (∀ a x, ((![v864, v1028] : Fin 2 → IVec S16 32) a x).toNat < S64x128.size a)
theorem k0_idx108_inb : ∀ (v864 : IVec S16 32) (v1028 : IVec S16 32) (k0_hw108 : k0_chk108 v864 v1028), ∀ a x, ((![v864, v1028] : Fin 2 → IVec S16 32) a x).toNat < S64x128.size a := fun v864 v1028 k0_hw108 => k0_hw108

def k0_chk109 (v1038 : IVec S16 32) (v1040 : IVec S16 32) : Prop :=
  (∀ a x, ((![v1038, v1040] : Fin 2 → IVec S16 32) a x).toNat < S512x16.size a)
theorem k0_idx109_inb : ∀ (v1038 : IVec S16 32) (v1040 : IVec S16 32) (k0_hw109 : k0_chk109 v1038 v1040), ∀ a x, ((![v1038, v1040] : Fin 2 → IVec S16 32) a x).toNat < S512x16.size a := fun v1038 v1040 k0_hw109 => k0_hw109

def k0_chk110 (v864 : IVec S16 32) (v1044 : IVec S16 32) : Prop :=
  (∀ a x, ((![v864, v1044] : Fin 2 → IVec S16 32) a x).toNat < S64x128.size a)
theorem k0_idx110_inb : ∀ (v864 : IVec S16 32) (v1044 : IVec S16 32) (k0_hw110 : k0_chk110 v864 v1044), ∀ a x, ((![v864, v1044] : Fin 2 → IVec S16 32) a x).toNat < S64x128.size a := fun v864 v1044 k0_hw110 => k0_hw110
def k0_off15 (k0_t1 : Fin k0_t1_loop.trips) : Fin 1 → Nat :=
  let c2_i32_531 : BitVec 32 := 2#32
  let c0_i32_70 : BitVec 32 := 0#32
  let c1_i32_71 : BitVec 32 := 1#32
  let arg19 : BitVec 32 := Scf.iv c0_i32_70 c1_i32_71 k0_t1
  let v806 : BitVec 32 := Scalar.muli c2_i32_531 arg19
  let c1_i32_532 : BitVec 32 := 1#32
  let v807 : BitVec 32 := Scalar.addi v806 c1_i32_532
  let c128_i32_591 : BitVec 32 := 128#32
  let v868 : BitVec 32 := Scalar.muli v807 c128_i32_591
  let c48_i32_592 : BitVec 32 := 48#32
  let v869 : BitVec 32 := Scalar.addi v868 c48_i32_592
  let v870 : Index := Scalar.indexCast v869
  ![v870.toNat]
@[reducible] def k0_t13_loop : Scf.Loop 32 :=
  let c0_i32_599 : BitVec 32 := 0#32
  let c10_i32_600 : BitVec 32 := 10#32
  let v882 : BitVec 32 := Scalar.addi c0_i32_599 c10_i32_600
  let c1_i32_601 : BitVec 32 := 1#32
  ⟨c0_i32_599, v882, c1_i32_601⟩

def k0_chk111 (v974 : IVec S16 32) (v976 : IVec S16 32) : Prop :=
  (∀ a x, ((![v974, v976] : Fin 2 → IVec S16 32) a x).toNat < S512x16.size a)
theorem k0_idx111_inb : ∀ (v974 : IVec S16 32) (v976 : IVec S16 32) (k0_hw111 : k0_chk111 v974 v976), ∀ a x, ((![v974, v976] : Fin 2 → IVec S16 32) a x).toNat < S512x16.size a := fun v974 v976 k0_hw111 => k0_hw111

def k0_chk112 (v879 : IVec S16 32) (v980 : IVec S16 32) : Prop :=
  (∀ a x, ((![v879, v980] : Fin 2 → IVec S16 32) a x).toNat < S64x128.size a)
theorem k0_idx112_inb : ∀ (v879 : IVec S16 32) (v980 : IVec S16 32) (k0_hw112 : k0_chk112 v879 v980), ∀ a x, ((![v879, v980] : Fin 2 → IVec S16 32) a x).toNat < S64x128.size a := fun v879 v980 k0_hw112 => k0_hw112

def k0_chk113 (v990 : IVec S16 32) (v992 : IVec S16 32) : Prop :=
  (∀ a x, ((![v990, v992] : Fin 2 → IVec S16 32) a x).toNat < S512x16.size a)
theorem k0_idx113_inb : ∀ (v990 : IVec S16 32) (v992 : IVec S16 32) (k0_hw113 : k0_chk113 v990 v992), ∀ a x, ((![v990, v992] : Fin 2 → IVec S16 32) a x).toNat < S512x16.size a := fun v990 v992 k0_hw113 => k0_hw113

def k0_chk114 (v879 : IVec S16 32) (v996 : IVec S16 32) : Prop :=
  (∀ a x, ((![v879, v996] : Fin 2 → IVec S16 32) a x).toNat < S64x128.size a)
theorem k0_idx114_inb : ∀ (v879 : IVec S16 32) (v996 : IVec S16 32) (k0_hw114 : k0_chk114 v879 v996), ∀ a x, ((![v879, v996] : Fin 2 → IVec S16 32) a x).toNat < S64x128.size a := fun v879 v996 k0_hw114 => k0_hw114

def k0_chk115 (v1006 : IVec S16 32) (v1008 : IVec S16 32) : Prop :=
  (∀ a x, ((![v1006, v1008] : Fin 2 → IVec S16 32) a x).toNat < S512x16.size a)
theorem k0_idx115_inb : ∀ (v1006 : IVec S16 32) (v1008 : IVec S16 32) (k0_hw115 : k0_chk115 v1006 v1008), ∀ a x, ((![v1006, v1008] : Fin 2 → IVec S16 32) a x).toNat < S512x16.size a := fun v1006 v1008 k0_hw115 => k0_hw115

def k0_chk116 (v879 : IVec S16 32) (v1012 : IVec S16 32) : Prop :=
  (∀ a x, ((![v879, v1012] : Fin 2 → IVec S16 32) a x).toNat < S64x128.size a)
theorem k0_idx116_inb : ∀ (v879 : IVec S16 32) (v1012 : IVec S16 32) (k0_hw116 : k0_chk116 v879 v1012), ∀ a x, ((![v879, v1012] : Fin 2 → IVec S16 32) a x).toNat < S64x128.size a := fun v879 v1012 k0_hw116 => k0_hw116

def k0_chk117 (v1022 : IVec S16 32) (v1024 : IVec S16 32) : Prop :=
  (∀ a x, ((![v1022, v1024] : Fin 2 → IVec S16 32) a x).toNat < S512x16.size a)
theorem k0_idx117_inb : ∀ (v1022 : IVec S16 32) (v1024 : IVec S16 32) (k0_hw117 : k0_chk117 v1022 v1024), ∀ a x, ((![v1022, v1024] : Fin 2 → IVec S16 32) a x).toNat < S512x16.size a := fun v1022 v1024 k0_hw117 => k0_hw117

def k0_chk118 (v879 : IVec S16 32) (v1028 : IVec S16 32) : Prop :=
  (∀ a x, ((![v879, v1028] : Fin 2 → IVec S16 32) a x).toNat < S64x128.size a)
theorem k0_idx118_inb : ∀ (v879 : IVec S16 32) (v1028 : IVec S16 32) (k0_hw118 : k0_chk118 v879 v1028), ∀ a x, ((![v879, v1028] : Fin 2 → IVec S16 32) a x).toNat < S64x128.size a := fun v879 v1028 k0_hw118 => k0_hw118

def k0_chk119 (v1038 : IVec S16 32) (v1040 : IVec S16 32) : Prop :=
  (∀ a x, ((![v1038, v1040] : Fin 2 → IVec S16 32) a x).toNat < S512x16.size a)
theorem k0_idx119_inb : ∀ (v1038 : IVec S16 32) (v1040 : IVec S16 32) (k0_hw119 : k0_chk119 v1038 v1040), ∀ a x, ((![v1038, v1040] : Fin 2 → IVec S16 32) a x).toNat < S512x16.size a := fun v1038 v1040 k0_hw119 => k0_hw119

def k0_chk120 (v879 : IVec S16 32) (v1044 : IVec S16 32) : Prop :=
  (∀ a x, ((![v879, v1044] : Fin 2 → IVec S16 32) a x).toNat < S64x128.size a)
theorem k0_idx120_inb : ∀ (v879 : IVec S16 32) (v1044 : IVec S16 32) (k0_hw120 : k0_chk120 v879 v1044), ∀ a x, ((![v879, v1044] : Fin 2 → IVec S16 32) a x).toNat < S64x128.size a := fun v879 v1044 k0_hw120 => k0_hw120
def k0_off16 (k0_t1 : Fin k0_t1_loop.trips) : Fin 1 → Nat :=
  let c2_i32_531 : BitVec 32 := 2#32
  let c0_i32_70 : BitVec 32 := 0#32
  let c1_i32_71 : BitVec 32 := 1#32
  let arg19 : BitVec 32 := Scf.iv c0_i32_70 c1_i32_71 k0_t1
  let v806 : BitVec 32 := Scalar.muli c2_i32_531 arg19
  let c1_i32_532 : BitVec 32 := 1#32
  let v807 : BitVec 32 := Scalar.addi v806 c1_i32_532
  let c128_i32_603 : BitVec 32 := 128#32
  let v883 : BitVec 32 := Scalar.muli v807 c128_i32_603
  let c64_i32_604 : BitVec 32 := 64#32
  let v884 : BitVec 32 := Scalar.addi v883 c64_i32_604
  let v885 : Index := Scalar.indexCast v884
  ![v885.toNat]
@[reducible] def k0_t14_loop : Scf.Loop 32 :=
  let c0_i32_611 : BitVec 32 := 0#32
  let c10_i32_612 : BitVec 32 := 10#32
  let v897 : BitVec 32 := Scalar.addi c0_i32_611 c10_i32_612
  let c1_i32_613 : BitVec 32 := 1#32
  ⟨c0_i32_611, v897, c1_i32_613⟩

def k0_chk121 (v974 : IVec S16 32) (v976 : IVec S16 32) : Prop :=
  (∀ a x, ((![v974, v976] : Fin 2 → IVec S16 32) a x).toNat < S512x16.size a)
theorem k0_idx121_inb : ∀ (v974 : IVec S16 32) (v976 : IVec S16 32) (k0_hw121 : k0_chk121 v974 v976), ∀ a x, ((![v974, v976] : Fin 2 → IVec S16 32) a x).toNat < S512x16.size a := fun v974 v976 k0_hw121 => k0_hw121

def k0_chk122 (v894 : IVec S16 32) (v980 : IVec S16 32) : Prop :=
  (∀ a x, ((![v894, v980] : Fin 2 → IVec S16 32) a x).toNat < S64x128.size a)
theorem k0_idx122_inb : ∀ (v894 : IVec S16 32) (v980 : IVec S16 32) (k0_hw122 : k0_chk122 v894 v980), ∀ a x, ((![v894, v980] : Fin 2 → IVec S16 32) a x).toNat < S64x128.size a := fun v894 v980 k0_hw122 => k0_hw122

def k0_chk123 (v990 : IVec S16 32) (v992 : IVec S16 32) : Prop :=
  (∀ a x, ((![v990, v992] : Fin 2 → IVec S16 32) a x).toNat < S512x16.size a)
theorem k0_idx123_inb : ∀ (v990 : IVec S16 32) (v992 : IVec S16 32) (k0_hw123 : k0_chk123 v990 v992), ∀ a x, ((![v990, v992] : Fin 2 → IVec S16 32) a x).toNat < S512x16.size a := fun v990 v992 k0_hw123 => k0_hw123

def k0_chk124 (v894 : IVec S16 32) (v996 : IVec S16 32) : Prop :=
  (∀ a x, ((![v894, v996] : Fin 2 → IVec S16 32) a x).toNat < S64x128.size a)
theorem k0_idx124_inb : ∀ (v894 : IVec S16 32) (v996 : IVec S16 32) (k0_hw124 : k0_chk124 v894 v996), ∀ a x, ((![v894, v996] : Fin 2 → IVec S16 32) a x).toNat < S64x128.size a := fun v894 v996 k0_hw124 => k0_hw124

def k0_chk125 (v1006 : IVec S16 32) (v1008 : IVec S16 32) : Prop :=
  (∀ a x, ((![v1006, v1008] : Fin 2 → IVec S16 32) a x).toNat < S512x16.size a)
theorem k0_idx125_inb : ∀ (v1006 : IVec S16 32) (v1008 : IVec S16 32) (k0_hw125 : k0_chk125 v1006 v1008), ∀ a x, ((![v1006, v1008] : Fin 2 → IVec S16 32) a x).toNat < S512x16.size a := fun v1006 v1008 k0_hw125 => k0_hw125

def k0_chk126 (v894 : IVec S16 32) (v1012 : IVec S16 32) : Prop :=
  (∀ a x, ((![v894, v1012] : Fin 2 → IVec S16 32) a x).toNat < S64x128.size a)
theorem k0_idx126_inb : ∀ (v894 : IVec S16 32) (v1012 : IVec S16 32) (k0_hw126 : k0_chk126 v894 v1012), ∀ a x, ((![v894, v1012] : Fin 2 → IVec S16 32) a x).toNat < S64x128.size a := fun v894 v1012 k0_hw126 => k0_hw126

def k0_chk127 (v1022 : IVec S16 32) (v1024 : IVec S16 32) : Prop :=
  (∀ a x, ((![v1022, v1024] : Fin 2 → IVec S16 32) a x).toNat < S512x16.size a)
theorem k0_idx127_inb : ∀ (v1022 : IVec S16 32) (v1024 : IVec S16 32) (k0_hw127 : k0_chk127 v1022 v1024), ∀ a x, ((![v1022, v1024] : Fin 2 → IVec S16 32) a x).toNat < S512x16.size a := fun v1022 v1024 k0_hw127 => k0_hw127

def k0_chk128 (v894 : IVec S16 32) (v1028 : IVec S16 32) : Prop :=
  (∀ a x, ((![v894, v1028] : Fin 2 → IVec S16 32) a x).toNat < S64x128.size a)
theorem k0_idx128_inb : ∀ (v894 : IVec S16 32) (v1028 : IVec S16 32) (k0_hw128 : k0_chk128 v894 v1028), ∀ a x, ((![v894, v1028] : Fin 2 → IVec S16 32) a x).toNat < S64x128.size a := fun v894 v1028 k0_hw128 => k0_hw128

def k0_chk129 (v1038 : IVec S16 32) (v1040 : IVec S16 32) : Prop :=
  (∀ a x, ((![v1038, v1040] : Fin 2 → IVec S16 32) a x).toNat < S512x16.size a)
theorem k0_idx129_inb : ∀ (v1038 : IVec S16 32) (v1040 : IVec S16 32) (k0_hw129 : k0_chk129 v1038 v1040), ∀ a x, ((![v1038, v1040] : Fin 2 → IVec S16 32) a x).toNat < S512x16.size a := fun v1038 v1040 k0_hw129 => k0_hw129

def k0_chk130 (v894 : IVec S16 32) (v1044 : IVec S16 32) : Prop :=
  (∀ a x, ((![v894, v1044] : Fin 2 → IVec S16 32) a x).toNat < S64x128.size a)
theorem k0_idx130_inb : ∀ (v894 : IVec S16 32) (v1044 : IVec S16 32) (k0_hw130 : k0_chk130 v894 v1044), ∀ a x, ((![v894, v1044] : Fin 2 → IVec S16 32) a x).toNat < S64x128.size a := fun v894 v1044 k0_hw130 => k0_hw130
def k0_off17 (k0_t1 : Fin k0_t1_loop.trips) : Fin 1 → Nat :=
  let c2_i32_531 : BitVec 32 := 2#32
  let c0_i32_70 : BitVec 32 := 0#32
  let c1_i32_71 : BitVec 32 := 1#32
  let arg19 : BitVec 32 := Scf.iv c0_i32_70 c1_i32_71 k0_t1
  let v806 : BitVec 32 := Scalar.muli c2_i32_531 arg19
  let c1_i32_532 : BitVec 32 := 1#32
  let v807 : BitVec 32 := Scalar.addi v806 c1_i32_532
  let c128_i32_615 : BitVec 32 := 128#32
  let v898 : BitVec 32 := Scalar.muli v807 c128_i32_615
  let c80_i32_616 : BitVec 32 := 80#32
  let v899 : BitVec 32 := Scalar.addi v898 c80_i32_616
  let v900 : Index := Scalar.indexCast v899
  ![v900.toNat]
@[reducible] def k0_t15_loop : Scf.Loop 32 :=
  let c0_i32_623 : BitVec 32 := 0#32
  let c10_i32_624 : BitVec 32 := 10#32
  let v912 : BitVec 32 := Scalar.addi c0_i32_623 c10_i32_624
  let c1_i32_625 : BitVec 32 := 1#32
  ⟨c0_i32_623, v912, c1_i32_625⟩

def k0_chk131 (v974 : IVec S16 32) (v976 : IVec S16 32) : Prop :=
  (∀ a x, ((![v974, v976] : Fin 2 → IVec S16 32) a x).toNat < S512x16.size a)
theorem k0_idx131_inb : ∀ (v974 : IVec S16 32) (v976 : IVec S16 32) (k0_hw131 : k0_chk131 v974 v976), ∀ a x, ((![v974, v976] : Fin 2 → IVec S16 32) a x).toNat < S512x16.size a := fun v974 v976 k0_hw131 => k0_hw131

def k0_chk132 (v909 : IVec S16 32) (v980 : IVec S16 32) : Prop :=
  (∀ a x, ((![v909, v980] : Fin 2 → IVec S16 32) a x).toNat < S64x128.size a)
theorem k0_idx132_inb : ∀ (v909 : IVec S16 32) (v980 : IVec S16 32) (k0_hw132 : k0_chk132 v909 v980), ∀ a x, ((![v909, v980] : Fin 2 → IVec S16 32) a x).toNat < S64x128.size a := fun v909 v980 k0_hw132 => k0_hw132

def k0_chk133 (v990 : IVec S16 32) (v992 : IVec S16 32) : Prop :=
  (∀ a x, ((![v990, v992] : Fin 2 → IVec S16 32) a x).toNat < S512x16.size a)
theorem k0_idx133_inb : ∀ (v990 : IVec S16 32) (v992 : IVec S16 32) (k0_hw133 : k0_chk133 v990 v992), ∀ a x, ((![v990, v992] : Fin 2 → IVec S16 32) a x).toNat < S512x16.size a := fun v990 v992 k0_hw133 => k0_hw133

def k0_chk134 (v909 : IVec S16 32) (v996 : IVec S16 32) : Prop :=
  (∀ a x, ((![v909, v996] : Fin 2 → IVec S16 32) a x).toNat < S64x128.size a)
theorem k0_idx134_inb : ∀ (v909 : IVec S16 32) (v996 : IVec S16 32) (k0_hw134 : k0_chk134 v909 v996), ∀ a x, ((![v909, v996] : Fin 2 → IVec S16 32) a x).toNat < S64x128.size a := fun v909 v996 k0_hw134 => k0_hw134

def k0_chk135 (v1006 : IVec S16 32) (v1008 : IVec S16 32) : Prop :=
  (∀ a x, ((![v1006, v1008] : Fin 2 → IVec S16 32) a x).toNat < S512x16.size a)
theorem k0_idx135_inb : ∀ (v1006 : IVec S16 32) (v1008 : IVec S16 32) (k0_hw135 : k0_chk135 v1006 v1008), ∀ a x, ((![v1006, v1008] : Fin 2 → IVec S16 32) a x).toNat < S512x16.size a := fun v1006 v1008 k0_hw135 => k0_hw135

def k0_chk136 (v909 : IVec S16 32) (v1012 : IVec S16 32) : Prop :=
  (∀ a x, ((![v909, v1012] : Fin 2 → IVec S16 32) a x).toNat < S64x128.size a)
theorem k0_idx136_inb : ∀ (v909 : IVec S16 32) (v1012 : IVec S16 32) (k0_hw136 : k0_chk136 v909 v1012), ∀ a x, ((![v909, v1012] : Fin 2 → IVec S16 32) a x).toNat < S64x128.size a := fun v909 v1012 k0_hw136 => k0_hw136

def k0_chk137 (v1022 : IVec S16 32) (v1024 : IVec S16 32) : Prop :=
  (∀ a x, ((![v1022, v1024] : Fin 2 → IVec S16 32) a x).toNat < S512x16.size a)
theorem k0_idx137_inb : ∀ (v1022 : IVec S16 32) (v1024 : IVec S16 32) (k0_hw137 : k0_chk137 v1022 v1024), ∀ a x, ((![v1022, v1024] : Fin 2 → IVec S16 32) a x).toNat < S512x16.size a := fun v1022 v1024 k0_hw137 => k0_hw137

def k0_chk138 (v909 : IVec S16 32) (v1028 : IVec S16 32) : Prop :=
  (∀ a x, ((![v909, v1028] : Fin 2 → IVec S16 32) a x).toNat < S64x128.size a)
theorem k0_idx138_inb : ∀ (v909 : IVec S16 32) (v1028 : IVec S16 32) (k0_hw138 : k0_chk138 v909 v1028), ∀ a x, ((![v909, v1028] : Fin 2 → IVec S16 32) a x).toNat < S64x128.size a := fun v909 v1028 k0_hw138 => k0_hw138

def k0_chk139 (v1038 : IVec S16 32) (v1040 : IVec S16 32) : Prop :=
  (∀ a x, ((![v1038, v1040] : Fin 2 → IVec S16 32) a x).toNat < S512x16.size a)
theorem k0_idx139_inb : ∀ (v1038 : IVec S16 32) (v1040 : IVec S16 32) (k0_hw139 : k0_chk139 v1038 v1040), ∀ a x, ((![v1038, v1040] : Fin 2 → IVec S16 32) a x).toNat < S512x16.size a := fun v1038 v1040 k0_hw139 => k0_hw139

def k0_chk140 (v909 : IVec S16 32) (v1044 : IVec S16 32) : Prop :=
  (∀ a x, ((![v909, v1044] : Fin 2 → IVec S16 32) a x).toNat < S64x128.size a)
theorem k0_idx140_inb : ∀ (v909 : IVec S16 32) (v1044 : IVec S16 32) (k0_hw140 : k0_chk140 v909 v1044), ∀ a x, ((![v909, v1044] : Fin 2 → IVec S16 32) a x).toNat < S64x128.size a := fun v909 v1044 k0_hw140 => k0_hw140
def k0_off18 (k0_t1 : Fin k0_t1_loop.trips) : Fin 1 → Nat :=
  let c2_i32_531 : BitVec 32 := 2#32
  let c0_i32_70 : BitVec 32 := 0#32
  let c1_i32_71 : BitVec 32 := 1#32
  let arg19 : BitVec 32 := Scf.iv c0_i32_70 c1_i32_71 k0_t1
  let v806 : BitVec 32 := Scalar.muli c2_i32_531 arg19
  let c1_i32_532 : BitVec 32 := 1#32
  let v807 : BitVec 32 := Scalar.addi v806 c1_i32_532
  let c128_i32_627 : BitVec 32 := 128#32
  let v913 : BitVec 32 := Scalar.muli v807 c128_i32_627
  let c96_i32_628 : BitVec 32 := 96#32
  let v914 : BitVec 32 := Scalar.addi v913 c96_i32_628
  let v915 : Index := Scalar.indexCast v914
  ![v915.toNat]
@[reducible] def k0_t16_loop : Scf.Loop 32 :=
  let c0_i32_635 : BitVec 32 := 0#32
  let c10_i32_636 : BitVec 32 := 10#32
  let v927 : BitVec 32 := Scalar.addi c0_i32_635 c10_i32_636
  let c1_i32_637 : BitVec 32 := 1#32
  ⟨c0_i32_635, v927, c1_i32_637⟩

def k0_chk141 (v974 : IVec S16 32) (v976 : IVec S16 32) : Prop :=
  (∀ a x, ((![v974, v976] : Fin 2 → IVec S16 32) a x).toNat < S512x16.size a)
theorem k0_idx141_inb : ∀ (v974 : IVec S16 32) (v976 : IVec S16 32) (k0_hw141 : k0_chk141 v974 v976), ∀ a x, ((![v974, v976] : Fin 2 → IVec S16 32) a x).toNat < S512x16.size a := fun v974 v976 k0_hw141 => k0_hw141

def k0_chk142 (v924 : IVec S16 32) (v980 : IVec S16 32) : Prop :=
  (∀ a x, ((![v924, v980] : Fin 2 → IVec S16 32) a x).toNat < S64x128.size a)
theorem k0_idx142_inb : ∀ (v924 : IVec S16 32) (v980 : IVec S16 32) (k0_hw142 : k0_chk142 v924 v980), ∀ a x, ((![v924, v980] : Fin 2 → IVec S16 32) a x).toNat < S64x128.size a := fun v924 v980 k0_hw142 => k0_hw142

def k0_chk143 (v990 : IVec S16 32) (v992 : IVec S16 32) : Prop :=
  (∀ a x, ((![v990, v992] : Fin 2 → IVec S16 32) a x).toNat < S512x16.size a)
theorem k0_idx143_inb : ∀ (v990 : IVec S16 32) (v992 : IVec S16 32) (k0_hw143 : k0_chk143 v990 v992), ∀ a x, ((![v990, v992] : Fin 2 → IVec S16 32) a x).toNat < S512x16.size a := fun v990 v992 k0_hw143 => k0_hw143

def k0_chk144 (v924 : IVec S16 32) (v996 : IVec S16 32) : Prop :=
  (∀ a x, ((![v924, v996] : Fin 2 → IVec S16 32) a x).toNat < S64x128.size a)
theorem k0_idx144_inb : ∀ (v924 : IVec S16 32) (v996 : IVec S16 32) (k0_hw144 : k0_chk144 v924 v996), ∀ a x, ((![v924, v996] : Fin 2 → IVec S16 32) a x).toNat < S64x128.size a := fun v924 v996 k0_hw144 => k0_hw144

def k0_chk145 (v1006 : IVec S16 32) (v1008 : IVec S16 32) : Prop :=
  (∀ a x, ((![v1006, v1008] : Fin 2 → IVec S16 32) a x).toNat < S512x16.size a)
theorem k0_idx145_inb : ∀ (v1006 : IVec S16 32) (v1008 : IVec S16 32) (k0_hw145 : k0_chk145 v1006 v1008), ∀ a x, ((![v1006, v1008] : Fin 2 → IVec S16 32) a x).toNat < S512x16.size a := fun v1006 v1008 k0_hw145 => k0_hw145

def k0_chk146 (v924 : IVec S16 32) (v1012 : IVec S16 32) : Prop :=
  (∀ a x, ((![v924, v1012] : Fin 2 → IVec S16 32) a x).toNat < S64x128.size a)
theorem k0_idx146_inb : ∀ (v924 : IVec S16 32) (v1012 : IVec S16 32) (k0_hw146 : k0_chk146 v924 v1012), ∀ a x, ((![v924, v1012] : Fin 2 → IVec S16 32) a x).toNat < S64x128.size a := fun v924 v1012 k0_hw146 => k0_hw146

def k0_chk147 (v1022 : IVec S16 32) (v1024 : IVec S16 32) : Prop :=
  (∀ a x, ((![v1022, v1024] : Fin 2 → IVec S16 32) a x).toNat < S512x16.size a)
theorem k0_idx147_inb : ∀ (v1022 : IVec S16 32) (v1024 : IVec S16 32) (k0_hw147 : k0_chk147 v1022 v1024), ∀ a x, ((![v1022, v1024] : Fin 2 → IVec S16 32) a x).toNat < S512x16.size a := fun v1022 v1024 k0_hw147 => k0_hw147

def k0_chk148 (v924 : IVec S16 32) (v1028 : IVec S16 32) : Prop :=
  (∀ a x, ((![v924, v1028] : Fin 2 → IVec S16 32) a x).toNat < S64x128.size a)
theorem k0_idx148_inb : ∀ (v924 : IVec S16 32) (v1028 : IVec S16 32) (k0_hw148 : k0_chk148 v924 v1028), ∀ a x, ((![v924, v1028] : Fin 2 → IVec S16 32) a x).toNat < S64x128.size a := fun v924 v1028 k0_hw148 => k0_hw148

def k0_chk149 (v1038 : IVec S16 32) (v1040 : IVec S16 32) : Prop :=
  (∀ a x, ((![v1038, v1040] : Fin 2 → IVec S16 32) a x).toNat < S512x16.size a)
theorem k0_idx149_inb : ∀ (v1038 : IVec S16 32) (v1040 : IVec S16 32) (k0_hw149 : k0_chk149 v1038 v1040), ∀ a x, ((![v1038, v1040] : Fin 2 → IVec S16 32) a x).toNat < S512x16.size a := fun v1038 v1040 k0_hw149 => k0_hw149

def k0_chk150 (v924 : IVec S16 32) (v1044 : IVec S16 32) : Prop :=
  (∀ a x, ((![v924, v1044] : Fin 2 → IVec S16 32) a x).toNat < S64x128.size a)
theorem k0_idx150_inb : ∀ (v924 : IVec S16 32) (v1044 : IVec S16 32) (k0_hw150 : k0_chk150 v924 v1044), ∀ a x, ((![v924, v1044] : Fin 2 → IVec S16 32) a x).toNat < S64x128.size a := fun v924 v1044 k0_hw150 => k0_hw150
def k0_off19 (k0_t1 : Fin k0_t1_loop.trips) : Fin 1 → Nat :=
  let c2_i32_531 : BitVec 32 := 2#32
  let c0_i32_70 : BitVec 32 := 0#32
  let c1_i32_71 : BitVec 32 := 1#32
  let arg19 : BitVec 32 := Scf.iv c0_i32_70 c1_i32_71 k0_t1
  let v806 : BitVec 32 := Scalar.muli c2_i32_531 arg19
  let c1_i32_532 : BitVec 32 := 1#32
  let v807 : BitVec 32 := Scalar.addi v806 c1_i32_532
  let c128_i32_639 : BitVec 32 := 128#32
  let v928 : BitVec 32 := Scalar.muli v807 c128_i32_639
  let c112_i32_640 : BitVec 32 := 112#32
  let v929 : BitVec 32 := Scalar.addi v928 c112_i32_640
  let v930 : Index := Scalar.indexCast v929
  ![v930.toNat]
@[reducible] def k0_t17_loop : Scf.Loop 32 :=
  let c0_i32_647 : BitVec 32 := 0#32
  let c10_i32_648 : BitVec 32 := 10#32
  let v942 : BitVec 32 := Scalar.addi c0_i32_647 c10_i32_648
  let c1_i32_649 : BitVec 32 := 1#32
  ⟨c0_i32_647, v942, c1_i32_649⟩

def k0_chk151 (v974 : IVec S16 32) (v976 : IVec S16 32) : Prop :=
  (∀ a x, ((![v974, v976] : Fin 2 → IVec S16 32) a x).toNat < S512x16.size a)
theorem k0_idx151_inb : ∀ (v974 : IVec S16 32) (v976 : IVec S16 32) (k0_hw151 : k0_chk151 v974 v976), ∀ a x, ((![v974, v976] : Fin 2 → IVec S16 32) a x).toNat < S512x16.size a := fun v974 v976 k0_hw151 => k0_hw151

def k0_chk152 (v939 : IVec S16 32) (v980 : IVec S16 32) : Prop :=
  (∀ a x, ((![v939, v980] : Fin 2 → IVec S16 32) a x).toNat < S64x128.size a)
theorem k0_idx152_inb : ∀ (v939 : IVec S16 32) (v980 : IVec S16 32) (k0_hw152 : k0_chk152 v939 v980), ∀ a x, ((![v939, v980] : Fin 2 → IVec S16 32) a x).toNat < S64x128.size a := fun v939 v980 k0_hw152 => k0_hw152

def k0_chk153 (v990 : IVec S16 32) (v992 : IVec S16 32) : Prop :=
  (∀ a x, ((![v990, v992] : Fin 2 → IVec S16 32) a x).toNat < S512x16.size a)
theorem k0_idx153_inb : ∀ (v990 : IVec S16 32) (v992 : IVec S16 32) (k0_hw153 : k0_chk153 v990 v992), ∀ a x, ((![v990, v992] : Fin 2 → IVec S16 32) a x).toNat < S512x16.size a := fun v990 v992 k0_hw153 => k0_hw153

def k0_chk154 (v939 : IVec S16 32) (v996 : IVec S16 32) : Prop :=
  (∀ a x, ((![v939, v996] : Fin 2 → IVec S16 32) a x).toNat < S64x128.size a)
theorem k0_idx154_inb : ∀ (v939 : IVec S16 32) (v996 : IVec S16 32) (k0_hw154 : k0_chk154 v939 v996), ∀ a x, ((![v939, v996] : Fin 2 → IVec S16 32) a x).toNat < S64x128.size a := fun v939 v996 k0_hw154 => k0_hw154

def k0_chk155 (v1006 : IVec S16 32) (v1008 : IVec S16 32) : Prop :=
  (∀ a x, ((![v1006, v1008] : Fin 2 → IVec S16 32) a x).toNat < S512x16.size a)
theorem k0_idx155_inb : ∀ (v1006 : IVec S16 32) (v1008 : IVec S16 32) (k0_hw155 : k0_chk155 v1006 v1008), ∀ a x, ((![v1006, v1008] : Fin 2 → IVec S16 32) a x).toNat < S512x16.size a := fun v1006 v1008 k0_hw155 => k0_hw155

def k0_chk156 (v939 : IVec S16 32) (v1012 : IVec S16 32) : Prop :=
  (∀ a x, ((![v939, v1012] : Fin 2 → IVec S16 32) a x).toNat < S64x128.size a)
theorem k0_idx156_inb : ∀ (v939 : IVec S16 32) (v1012 : IVec S16 32) (k0_hw156 : k0_chk156 v939 v1012), ∀ a x, ((![v939, v1012] : Fin 2 → IVec S16 32) a x).toNat < S64x128.size a := fun v939 v1012 k0_hw156 => k0_hw156

def k0_chk157 (v1022 : IVec S16 32) (v1024 : IVec S16 32) : Prop :=
  (∀ a x, ((![v1022, v1024] : Fin 2 → IVec S16 32) a x).toNat < S512x16.size a)
theorem k0_idx157_inb : ∀ (v1022 : IVec S16 32) (v1024 : IVec S16 32) (k0_hw157 : k0_chk157 v1022 v1024), ∀ a x, ((![v1022, v1024] : Fin 2 → IVec S16 32) a x).toNat < S512x16.size a := fun v1022 v1024 k0_hw157 => k0_hw157

def k0_chk158 (v939 : IVec S16 32) (v1028 : IVec S16 32) : Prop :=
  (∀ a x, ((![v939, v1028] : Fin 2 → IVec S16 32) a x).toNat < S64x128.size a)
theorem k0_idx158_inb : ∀ (v939 : IVec S16 32) (v1028 : IVec S16 32) (k0_hw158 : k0_chk158 v939 v1028), ∀ a x, ((![v939, v1028] : Fin 2 → IVec S16 32) a x).toNat < S64x128.size a := fun v939 v1028 k0_hw158 => k0_hw158

def k0_chk159 (v1038 : IVec S16 32) (v1040 : IVec S16 32) : Prop :=
  (∀ a x, ((![v1038, v1040] : Fin 2 → IVec S16 32) a x).toNat < S512x16.size a)
theorem k0_idx159_inb : ∀ (v1038 : IVec S16 32) (v1040 : IVec S16 32) (k0_hw159 : k0_chk159 v1038 v1040), ∀ a x, ((![v1038, v1040] : Fin 2 → IVec S16 32) a x).toNat < S512x16.size a := fun v1038 v1040 k0_hw159 => k0_hw159

def k0_chk160 (v939 : IVec S16 32) (v1044 : IVec S16 32) : Prop :=
  (∀ a x, ((![v939, v1044] : Fin 2 → IVec S16 32) a x).toNat < S64x128.size a)
theorem k0_idx160_inb : ∀ (v939 : IVec S16 32) (v1044 : IVec S16 32) (k0_hw160 : k0_chk160 v939 v1044), ∀ a x, ((![v939, v1044] : Fin 2 → IVec S16 32) a x).toNat < S64x128.size a := fun v939 v1044 k0_hw160 => k0_hw160
def k0_off20 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_531 : BitVec 32 := 2#32
  let c0_i32_70 : BitVec 32 := 0#32
  let c1_i32_71 : BitVec 32 := 1#32
  let arg19 : BitVec 32 := Scf.iv c0_i32_70 c1_i32_71 k0_t1
  let v806 : BitVec 32 := Scalar.muli c2_i32_531 arg19
  let c1_i32_532 : BitVec 32 := 1#32
  let v807 : BitVec 32 := Scalar.addi v806 c1_i32_532
  let c128_i32_651 : BitVec 32 := 128#32
  let v943 : BitVec 32 := Scalar.muli v807 c128_i32_651
  let v944 : BitVec 32 := Scalar.addi v2 v943
  let c0_i32_653 : BitVec 32 := 0#32
  let v946 : BitVec 1 := Scalar.cmpi .sgt v944 c0_i32_653
  let v947 : BitVec 32 := Scalar.extui v946
  let c0_i32_654 : BitVec 32 := 0#32
  let v948 : BitVec 1 := Scalar.cmpi .slt v944 c0_i32_654
  let v949 : BitVec 32 := Scalar.extui v948
  let v950 : BitVec 32 := Scalar.subi v947 v949
  let c2_i32_652 : BitVec 32 := 2#32
  let c0_i32_655 : BitVec 32 := 0#32
  let v951 : BitVec 1 := Scalar.cmpi .sgt c2_i32_652 c0_i32_655
  let v952 : BitVec 32 := Scalar.extui v951
  let c0_i32_656 : BitVec 32 := 0#32
  let v953 : BitVec 1 := Scalar.cmpi .slt c2_i32_652 c0_i32_656
  let v954 : BitVec 32 := Scalar.extui v953
  let v955 : BitVec 32 := Scalar.subi v952 v954
  let v956 : BitVec 1 := Scalar.cmpi .ne v950 v955
  let v957 : BitVec 32 := Scalar.remsi v944 c2_i32_652
  let c0_i32_657 : BitVec 32 := 0#32
  let v958 : BitVec 1 := Scalar.cmpi .ne v957 c0_i32_657
  let v959 : BitVec 1 := Scalar.andi v956 v958
  let v945 : BitVec 32 := Scalar.divsi v944 c2_i32_652
  let c1_i32_658 : BitVec 32 := 1#32
  let v960 : BitVec 32 := Scalar.subi v945 c1_i32_658
  let v961 : BitVec 32 := Scalar.select v959 v960 v945
  let c0_i32_661 : BitVec 32 := 0#32
  ![v961.toNat, 0]
@[reducible] def k0_t18_loop : Scf.Loop 32 :=
  let c0_i32_106 : BitVec 32 := 0#32
  let c10_i32 : BitVec 32 := 10#32
  let v184 : BitVec 32 := Scalar.addi c0_i32_106 c10_i32
  let c1_i32_107 : BitVec 32 := 1#32
  ⟨c0_i32_106, v184, c1_i32_107⟩

def k0_chk161 (v307 : IVec S16 32) (v309 : IVec S16 32) : Prop :=
  (∀ a x, ((![v307, v309] : Fin 2 → IVec S16 32) a x).toNat < S512x16.size a)
theorem k0_idx161_inb : ∀ (v307 : IVec S16 32) (v309 : IVec S16 32) (k0_hw161 : k0_chk161 v307 v309), ∀ a x, ((![v307, v309] : Fin 2 → IVec S16 32) a x).toNat < S512x16.size a := fun v307 v309 k0_hw161 => k0_hw161

def k0_chk162 (v181 : IVec S16 32) (v313 : IVec S16 32) : Prop :=
  (∀ a x, ((![v181, v313] : Fin 2 → IVec S16 32) a x).toNat < S64x128.size a)
theorem k0_idx162_inb : ∀ (v181 : IVec S16 32) (v313 : IVec S16 32) (k0_hw162 : k0_chk162 v181 v313), ∀ a x, ((![v181, v313] : Fin 2 → IVec S16 32) a x).toNat < S64x128.size a := fun v181 v313 k0_hw162 => k0_hw162

def k0_chk163 (v323 : IVec S16 32) (v325 : IVec S16 32) : Prop :=
  (∀ a x, ((![v323, v325] : Fin 2 → IVec S16 32) a x).toNat < S512x16.size a)
theorem k0_idx163_inb : ∀ (v323 : IVec S16 32) (v325 : IVec S16 32) (k0_hw163 : k0_chk163 v323 v325), ∀ a x, ((![v323, v325] : Fin 2 → IVec S16 32) a x).toNat < S512x16.size a := fun v323 v325 k0_hw163 => k0_hw163

def k0_chk164 (v181 : IVec S16 32) (v329 : IVec S16 32) : Prop :=
  (∀ a x, ((![v181, v329] : Fin 2 → IVec S16 32) a x).toNat < S64x128.size a)
theorem k0_idx164_inb : ∀ (v181 : IVec S16 32) (v329 : IVec S16 32) (k0_hw164 : k0_chk164 v181 v329), ∀ a x, ((![v181, v329] : Fin 2 → IVec S16 32) a x).toNat < S64x128.size a := fun v181 v329 k0_hw164 => k0_hw164

def k0_chk165 (v339 : IVec S16 32) (v341 : IVec S16 32) : Prop :=
  (∀ a x, ((![v339, v341] : Fin 2 → IVec S16 32) a x).toNat < S512x16.size a)
theorem k0_idx165_inb : ∀ (v339 : IVec S16 32) (v341 : IVec S16 32) (k0_hw165 : k0_chk165 v339 v341), ∀ a x, ((![v339, v341] : Fin 2 → IVec S16 32) a x).toNat < S512x16.size a := fun v339 v341 k0_hw165 => k0_hw165

def k0_chk166 (v181 : IVec S16 32) (v345 : IVec S16 32) : Prop :=
  (∀ a x, ((![v181, v345] : Fin 2 → IVec S16 32) a x).toNat < S64x128.size a)
theorem k0_idx166_inb : ∀ (v181 : IVec S16 32) (v345 : IVec S16 32) (k0_hw166 : k0_chk166 v181 v345), ∀ a x, ((![v181, v345] : Fin 2 → IVec S16 32) a x).toNat < S64x128.size a := fun v181 v345 k0_hw166 => k0_hw166

def k0_chk167 (v355 : IVec S16 32) (v357 : IVec S16 32) : Prop :=
  (∀ a x, ((![v355, v357] : Fin 2 → IVec S16 32) a x).toNat < S512x16.size a)
theorem k0_idx167_inb : ∀ (v355 : IVec S16 32) (v357 : IVec S16 32) (k0_hw167 : k0_chk167 v355 v357), ∀ a x, ((![v355, v357] : Fin 2 → IVec S16 32) a x).toNat < S512x16.size a := fun v355 v357 k0_hw167 => k0_hw167

def k0_chk168 (v181 : IVec S16 32) (v361 : IVec S16 32) : Prop :=
  (∀ a x, ((![v181, v361] : Fin 2 → IVec S16 32) a x).toNat < S64x128.size a)
theorem k0_idx168_inb : ∀ (v181 : IVec S16 32) (v361 : IVec S16 32) (k0_hw168 : k0_chk168 v181 v361), ∀ a x, ((![v181, v361] : Fin 2 → IVec S16 32) a x).toNat < S64x128.size a := fun v181 v361 k0_hw168 => k0_hw168

def k0_chk169 (v371 : IVec S16 32) (v373 : IVec S16 32) : Prop :=
  (∀ a x, ((![v371, v373] : Fin 2 → IVec S16 32) a x).toNat < S512x16.size a)
theorem k0_idx169_inb : ∀ (v371 : IVec S16 32) (v373 : IVec S16 32) (k0_hw169 : k0_chk169 v371 v373), ∀ a x, ((![v371, v373] : Fin 2 → IVec S16 32) a x).toNat < S512x16.size a := fun v371 v373 k0_hw169 => k0_hw169

def k0_chk170 (v181 : IVec S16 32) (v377 : IVec S16 32) : Prop :=
  (∀ a x, ((![v181, v377] : Fin 2 → IVec S16 32) a x).toNat < S64x128.size a)
theorem k0_idx170_inb : ∀ (v181 : IVec S16 32) (v377 : IVec S16 32) (k0_hw170 : k0_chk170 v181 v377), ∀ a x, ((![v181, v377] : Fin 2 → IVec S16 32) a x).toNat < S64x128.size a := fun v181 v377 k0_hw170 => k0_hw170
@[reducible] def k0_t19_loop : Scf.Loop 32 :=
  let c0_i32_113 : BitVec 32 := 0#32
  let c10_i32_114 : BitVec 32 := 10#32
  let v196 : BitVec 32 := Scalar.addi c0_i32_113 c10_i32_114
  let c1_i32_115 : BitVec 32 := 1#32
  ⟨c0_i32_113, v196, c1_i32_115⟩

def k0_chk171 (v307 : IVec S16 32) (v309 : IVec S16 32) : Prop :=
  (∀ a x, ((![v307, v309] : Fin 2 → IVec S16 32) a x).toNat < S512x16.size a)
theorem k0_idx171_inb : ∀ (v307 : IVec S16 32) (v309 : IVec S16 32) (k0_hw171 : k0_chk171 v307 v309), ∀ a x, ((![v307, v309] : Fin 2 → IVec S16 32) a x).toNat < S512x16.size a := fun v307 v309 k0_hw171 => k0_hw171

def k0_chk172 (v193 : IVec S16 32) (v313 : IVec S16 32) : Prop :=
  (∀ a x, ((![v193, v313] : Fin 2 → IVec S16 32) a x).toNat < S64x128.size a)
theorem k0_idx172_inb : ∀ (v193 : IVec S16 32) (v313 : IVec S16 32) (k0_hw172 : k0_chk172 v193 v313), ∀ a x, ((![v193, v313] : Fin 2 → IVec S16 32) a x).toNat < S64x128.size a := fun v193 v313 k0_hw172 => k0_hw172

def k0_chk173 (v323 : IVec S16 32) (v325 : IVec S16 32) : Prop :=
  (∀ a x, ((![v323, v325] : Fin 2 → IVec S16 32) a x).toNat < S512x16.size a)
theorem k0_idx173_inb : ∀ (v323 : IVec S16 32) (v325 : IVec S16 32) (k0_hw173 : k0_chk173 v323 v325), ∀ a x, ((![v323, v325] : Fin 2 → IVec S16 32) a x).toNat < S512x16.size a := fun v323 v325 k0_hw173 => k0_hw173

def k0_chk174 (v193 : IVec S16 32) (v329 : IVec S16 32) : Prop :=
  (∀ a x, ((![v193, v329] : Fin 2 → IVec S16 32) a x).toNat < S64x128.size a)
theorem k0_idx174_inb : ∀ (v193 : IVec S16 32) (v329 : IVec S16 32) (k0_hw174 : k0_chk174 v193 v329), ∀ a x, ((![v193, v329] : Fin 2 → IVec S16 32) a x).toNat < S64x128.size a := fun v193 v329 k0_hw174 => k0_hw174

def k0_chk175 (v339 : IVec S16 32) (v341 : IVec S16 32) : Prop :=
  (∀ a x, ((![v339, v341] : Fin 2 → IVec S16 32) a x).toNat < S512x16.size a)
theorem k0_idx175_inb : ∀ (v339 : IVec S16 32) (v341 : IVec S16 32) (k0_hw175 : k0_chk175 v339 v341), ∀ a x, ((![v339, v341] : Fin 2 → IVec S16 32) a x).toNat < S512x16.size a := fun v339 v341 k0_hw175 => k0_hw175

def k0_chk176 (v193 : IVec S16 32) (v345 : IVec S16 32) : Prop :=
  (∀ a x, ((![v193, v345] : Fin 2 → IVec S16 32) a x).toNat < S64x128.size a)
theorem k0_idx176_inb : ∀ (v193 : IVec S16 32) (v345 : IVec S16 32) (k0_hw176 : k0_chk176 v193 v345), ∀ a x, ((![v193, v345] : Fin 2 → IVec S16 32) a x).toNat < S64x128.size a := fun v193 v345 k0_hw176 => k0_hw176

def k0_chk177 (v355 : IVec S16 32) (v357 : IVec S16 32) : Prop :=
  (∀ a x, ((![v355, v357] : Fin 2 → IVec S16 32) a x).toNat < S512x16.size a)
theorem k0_idx177_inb : ∀ (v355 : IVec S16 32) (v357 : IVec S16 32) (k0_hw177 : k0_chk177 v355 v357), ∀ a x, ((![v355, v357] : Fin 2 → IVec S16 32) a x).toNat < S512x16.size a := fun v355 v357 k0_hw177 => k0_hw177

def k0_chk178 (v193 : IVec S16 32) (v361 : IVec S16 32) : Prop :=
  (∀ a x, ((![v193, v361] : Fin 2 → IVec S16 32) a x).toNat < S64x128.size a)
theorem k0_idx178_inb : ∀ (v193 : IVec S16 32) (v361 : IVec S16 32) (k0_hw178 : k0_chk178 v193 v361), ∀ a x, ((![v193, v361] : Fin 2 → IVec S16 32) a x).toNat < S64x128.size a := fun v193 v361 k0_hw178 => k0_hw178

def k0_chk179 (v371 : IVec S16 32) (v373 : IVec S16 32) : Prop :=
  (∀ a x, ((![v371, v373] : Fin 2 → IVec S16 32) a x).toNat < S512x16.size a)
theorem k0_idx179_inb : ∀ (v371 : IVec S16 32) (v373 : IVec S16 32) (k0_hw179 : k0_chk179 v371 v373), ∀ a x, ((![v371, v373] : Fin 2 → IVec S16 32) a x).toNat < S512x16.size a := fun v371 v373 k0_hw179 => k0_hw179

def k0_chk180 (v193 : IVec S16 32) (v377 : IVec S16 32) : Prop :=
  (∀ a x, ((![v193, v377] : Fin 2 → IVec S16 32) a x).toNat < S64x128.size a)
theorem k0_idx180_inb : ∀ (v193 : IVec S16 32) (v377 : IVec S16 32) (k0_hw180 : k0_chk180 v193 v377), ∀ a x, ((![v193, v377] : Fin 2 → IVec S16 32) a x).toNat < S64x128.size a := fun v193 v377 k0_hw180 => k0_hw180
@[reducible] def k0_t20_loop : Scf.Loop 32 :=
  let c0_i32_122 : BitVec 32 := 0#32
  let c10_i32_123 : BitVec 32 := 10#32
  let v208 : BitVec 32 := Scalar.addi c0_i32_122 c10_i32_123
  let c1_i32_124 : BitVec 32 := 1#32
  ⟨c0_i32_122, v208, c1_i32_124⟩

def k0_chk181 (v307 : IVec S16 32) (v309 : IVec S16 32) : Prop :=
  (∀ a x, ((![v307, v309] : Fin 2 → IVec S16 32) a x).toNat < S512x16.size a)
theorem k0_idx181_inb : ∀ (v307 : IVec S16 32) (v309 : IVec S16 32) (k0_hw181 : k0_chk181 v307 v309), ∀ a x, ((![v307, v309] : Fin 2 → IVec S16 32) a x).toNat < S512x16.size a := fun v307 v309 k0_hw181 => k0_hw181

def k0_chk182 (v205 : IVec S16 32) (v313 : IVec S16 32) : Prop :=
  (∀ a x, ((![v205, v313] : Fin 2 → IVec S16 32) a x).toNat < S64x128.size a)
theorem k0_idx182_inb : ∀ (v205 : IVec S16 32) (v313 : IVec S16 32) (k0_hw182 : k0_chk182 v205 v313), ∀ a x, ((![v205, v313] : Fin 2 → IVec S16 32) a x).toNat < S64x128.size a := fun v205 v313 k0_hw182 => k0_hw182

def k0_chk183 (v323 : IVec S16 32) (v325 : IVec S16 32) : Prop :=
  (∀ a x, ((![v323, v325] : Fin 2 → IVec S16 32) a x).toNat < S512x16.size a)
theorem k0_idx183_inb : ∀ (v323 : IVec S16 32) (v325 : IVec S16 32) (k0_hw183 : k0_chk183 v323 v325), ∀ a x, ((![v323, v325] : Fin 2 → IVec S16 32) a x).toNat < S512x16.size a := fun v323 v325 k0_hw183 => k0_hw183

def k0_chk184 (v205 : IVec S16 32) (v329 : IVec S16 32) : Prop :=
  (∀ a x, ((![v205, v329] : Fin 2 → IVec S16 32) a x).toNat < S64x128.size a)
theorem k0_idx184_inb : ∀ (v205 : IVec S16 32) (v329 : IVec S16 32) (k0_hw184 : k0_chk184 v205 v329), ∀ a x, ((![v205, v329] : Fin 2 → IVec S16 32) a x).toNat < S64x128.size a := fun v205 v329 k0_hw184 => k0_hw184

def k0_chk185 (v339 : IVec S16 32) (v341 : IVec S16 32) : Prop :=
  (∀ a x, ((![v339, v341] : Fin 2 → IVec S16 32) a x).toNat < S512x16.size a)
theorem k0_idx185_inb : ∀ (v339 : IVec S16 32) (v341 : IVec S16 32) (k0_hw185 : k0_chk185 v339 v341), ∀ a x, ((![v339, v341] : Fin 2 → IVec S16 32) a x).toNat < S512x16.size a := fun v339 v341 k0_hw185 => k0_hw185

def k0_chk186 (v205 : IVec S16 32) (v345 : IVec S16 32) : Prop :=
  (∀ a x, ((![v205, v345] : Fin 2 → IVec S16 32) a x).toNat < S64x128.size a)
theorem k0_idx186_inb : ∀ (v205 : IVec S16 32) (v345 : IVec S16 32) (k0_hw186 : k0_chk186 v205 v345), ∀ a x, ((![v205, v345] : Fin 2 → IVec S16 32) a x).toNat < S64x128.size a := fun v205 v345 k0_hw186 => k0_hw186

def k0_chk187 (v355 : IVec S16 32) (v357 : IVec S16 32) : Prop :=
  (∀ a x, ((![v355, v357] : Fin 2 → IVec S16 32) a x).toNat < S512x16.size a)
theorem k0_idx187_inb : ∀ (v355 : IVec S16 32) (v357 : IVec S16 32) (k0_hw187 : k0_chk187 v355 v357), ∀ a x, ((![v355, v357] : Fin 2 → IVec S16 32) a x).toNat < S512x16.size a := fun v355 v357 k0_hw187 => k0_hw187

def k0_chk188 (v205 : IVec S16 32) (v361 : IVec S16 32) : Prop :=
  (∀ a x, ((![v205, v361] : Fin 2 → IVec S16 32) a x).toNat < S64x128.size a)
theorem k0_idx188_inb : ∀ (v205 : IVec S16 32) (v361 : IVec S16 32) (k0_hw188 : k0_chk188 v205 v361), ∀ a x, ((![v205, v361] : Fin 2 → IVec S16 32) a x).toNat < S64x128.size a := fun v205 v361 k0_hw188 => k0_hw188

def k0_chk189 (v371 : IVec S16 32) (v373 : IVec S16 32) : Prop :=
  (∀ a x, ((![v371, v373] : Fin 2 → IVec S16 32) a x).toNat < S512x16.size a)
theorem k0_idx189_inb : ∀ (v371 : IVec S16 32) (v373 : IVec S16 32) (k0_hw189 : k0_chk189 v371 v373), ∀ a x, ((![v371, v373] : Fin 2 → IVec S16 32) a x).toNat < S512x16.size a := fun v371 v373 k0_hw189 => k0_hw189

def k0_chk190 (v205 : IVec S16 32) (v377 : IVec S16 32) : Prop :=
  (∀ a x, ((![v205, v377] : Fin 2 → IVec S16 32) a x).toNat < S64x128.size a)
theorem k0_idx190_inb : ∀ (v205 : IVec S16 32) (v377 : IVec S16 32) (k0_hw190 : k0_chk190 v205 v377), ∀ a x, ((![v205, v377] : Fin 2 → IVec S16 32) a x).toNat < S64x128.size a := fun v205 v377 k0_hw190 => k0_hw190
@[reducible] def k0_t21_loop : Scf.Loop 32 :=
  let c0_i32_130 : BitVec 32 := 0#32
  let c10_i32_131 : BitVec 32 := 10#32
  let v220 : BitVec 32 := Scalar.addi c0_i32_130 c10_i32_131
  let c1_i32_132 : BitVec 32 := 1#32
  ⟨c0_i32_130, v220, c1_i32_132⟩

def k0_chk191 (v307 : IVec S16 32) (v309 : IVec S16 32) : Prop :=
  (∀ a x, ((![v307, v309] : Fin 2 → IVec S16 32) a x).toNat < S512x16.size a)
theorem k0_idx191_inb : ∀ (v307 : IVec S16 32) (v309 : IVec S16 32) (k0_hw191 : k0_chk191 v307 v309), ∀ a x, ((![v307, v309] : Fin 2 → IVec S16 32) a x).toNat < S512x16.size a := fun v307 v309 k0_hw191 => k0_hw191

def k0_chk192 (v217 : IVec S16 32) (v313 : IVec S16 32) : Prop :=
  (∀ a x, ((![v217, v313] : Fin 2 → IVec S16 32) a x).toNat < S64x128.size a)
theorem k0_idx192_inb : ∀ (v217 : IVec S16 32) (v313 : IVec S16 32) (k0_hw192 : k0_chk192 v217 v313), ∀ a x, ((![v217, v313] : Fin 2 → IVec S16 32) a x).toNat < S64x128.size a := fun v217 v313 k0_hw192 => k0_hw192

def k0_chk193 (v323 : IVec S16 32) (v325 : IVec S16 32) : Prop :=
  (∀ a x, ((![v323, v325] : Fin 2 → IVec S16 32) a x).toNat < S512x16.size a)
theorem k0_idx193_inb : ∀ (v323 : IVec S16 32) (v325 : IVec S16 32) (k0_hw193 : k0_chk193 v323 v325), ∀ a x, ((![v323, v325] : Fin 2 → IVec S16 32) a x).toNat < S512x16.size a := fun v323 v325 k0_hw193 => k0_hw193

def k0_chk194 (v217 : IVec S16 32) (v329 : IVec S16 32) : Prop :=
  (∀ a x, ((![v217, v329] : Fin 2 → IVec S16 32) a x).toNat < S64x128.size a)
theorem k0_idx194_inb : ∀ (v217 : IVec S16 32) (v329 : IVec S16 32) (k0_hw194 : k0_chk194 v217 v329), ∀ a x, ((![v217, v329] : Fin 2 → IVec S16 32) a x).toNat < S64x128.size a := fun v217 v329 k0_hw194 => k0_hw194

def k0_chk195 (v339 : IVec S16 32) (v341 : IVec S16 32) : Prop :=
  (∀ a x, ((![v339, v341] : Fin 2 → IVec S16 32) a x).toNat < S512x16.size a)
theorem k0_idx195_inb : ∀ (v339 : IVec S16 32) (v341 : IVec S16 32) (k0_hw195 : k0_chk195 v339 v341), ∀ a x, ((![v339, v341] : Fin 2 → IVec S16 32) a x).toNat < S512x16.size a := fun v339 v341 k0_hw195 => k0_hw195

def k0_chk196 (v217 : IVec S16 32) (v345 : IVec S16 32) : Prop :=
  (∀ a x, ((![v217, v345] : Fin 2 → IVec S16 32) a x).toNat < S64x128.size a)
theorem k0_idx196_inb : ∀ (v217 : IVec S16 32) (v345 : IVec S16 32) (k0_hw196 : k0_chk196 v217 v345), ∀ a x, ((![v217, v345] : Fin 2 → IVec S16 32) a x).toNat < S64x128.size a := fun v217 v345 k0_hw196 => k0_hw196

def k0_chk197 (v355 : IVec S16 32) (v357 : IVec S16 32) : Prop :=
  (∀ a x, ((![v355, v357] : Fin 2 → IVec S16 32) a x).toNat < S512x16.size a)
theorem k0_idx197_inb : ∀ (v355 : IVec S16 32) (v357 : IVec S16 32) (k0_hw197 : k0_chk197 v355 v357), ∀ a x, ((![v355, v357] : Fin 2 → IVec S16 32) a x).toNat < S512x16.size a := fun v355 v357 k0_hw197 => k0_hw197

def k0_chk198 (v217 : IVec S16 32) (v361 : IVec S16 32) : Prop :=
  (∀ a x, ((![v217, v361] : Fin 2 → IVec S16 32) a x).toNat < S64x128.size a)
theorem k0_idx198_inb : ∀ (v217 : IVec S16 32) (v361 : IVec S16 32) (k0_hw198 : k0_chk198 v217 v361), ∀ a x, ((![v217, v361] : Fin 2 → IVec S16 32) a x).toNat < S64x128.size a := fun v217 v361 k0_hw198 => k0_hw198

def k0_chk199 (v371 : IVec S16 32) (v373 : IVec S16 32) : Prop :=
  (∀ a x, ((![v371, v373] : Fin 2 → IVec S16 32) a x).toNat < S512x16.size a)
theorem k0_idx199_inb : ∀ (v371 : IVec S16 32) (v373 : IVec S16 32) (k0_hw199 : k0_chk199 v371 v373), ∀ a x, ((![v371, v373] : Fin 2 → IVec S16 32) a x).toNat < S512x16.size a := fun v371 v373 k0_hw199 => k0_hw199

def k0_chk200 (v217 : IVec S16 32) (v377 : IVec S16 32) : Prop :=
  (∀ a x, ((![v217, v377] : Fin 2 → IVec S16 32) a x).toNat < S64x128.size a)
theorem k0_idx200_inb : ∀ (v217 : IVec S16 32) (v377 : IVec S16 32) (k0_hw200 : k0_chk200 v217 v377), ∀ a x, ((![v217, v377] : Fin 2 → IVec S16 32) a x).toNat < S64x128.size a := fun v217 v377 k0_hw200 => k0_hw200
@[reducible] def k0_t22_loop : Scf.Loop 32 :=
  let c0_i32_140 : BitVec 32 := 0#32
  let c10_i32_141 : BitVec 32 := 10#32
  let v232 : BitVec 32 := Scalar.addi c0_i32_140 c10_i32_141
  let c1_i32_142 : BitVec 32 := 1#32
  ⟨c0_i32_140, v232, c1_i32_142⟩

def k0_chk201 (v307 : IVec S16 32) (v309 : IVec S16 32) : Prop :=
  (∀ a x, ((![v307, v309] : Fin 2 → IVec S16 32) a x).toNat < S512x16.size a)
theorem k0_idx201_inb : ∀ (v307 : IVec S16 32) (v309 : IVec S16 32) (k0_hw201 : k0_chk201 v307 v309), ∀ a x, ((![v307, v309] : Fin 2 → IVec S16 32) a x).toNat < S512x16.size a := fun v307 v309 k0_hw201 => k0_hw201

def k0_chk202 (v229 : IVec S16 32) (v313 : IVec S16 32) : Prop :=
  (∀ a x, ((![v229, v313] : Fin 2 → IVec S16 32) a x).toNat < S64x128.size a)
theorem k0_idx202_inb : ∀ (v229 : IVec S16 32) (v313 : IVec S16 32) (k0_hw202 : k0_chk202 v229 v313), ∀ a x, ((![v229, v313] : Fin 2 → IVec S16 32) a x).toNat < S64x128.size a := fun v229 v313 k0_hw202 => k0_hw202

def k0_chk203 (v323 : IVec S16 32) (v325 : IVec S16 32) : Prop :=
  (∀ a x, ((![v323, v325] : Fin 2 → IVec S16 32) a x).toNat < S512x16.size a)
theorem k0_idx203_inb : ∀ (v323 : IVec S16 32) (v325 : IVec S16 32) (k0_hw203 : k0_chk203 v323 v325), ∀ a x, ((![v323, v325] : Fin 2 → IVec S16 32) a x).toNat < S512x16.size a := fun v323 v325 k0_hw203 => k0_hw203

def k0_chk204 (v229 : IVec S16 32) (v329 : IVec S16 32) : Prop :=
  (∀ a x, ((![v229, v329] : Fin 2 → IVec S16 32) a x).toNat < S64x128.size a)
theorem k0_idx204_inb : ∀ (v229 : IVec S16 32) (v329 : IVec S16 32) (k0_hw204 : k0_chk204 v229 v329), ∀ a x, ((![v229, v329] : Fin 2 → IVec S16 32) a x).toNat < S64x128.size a := fun v229 v329 k0_hw204 => k0_hw204

def k0_chk205 (v339 : IVec S16 32) (v341 : IVec S16 32) : Prop :=
  (∀ a x, ((![v339, v341] : Fin 2 → IVec S16 32) a x).toNat < S512x16.size a)
theorem k0_idx205_inb : ∀ (v339 : IVec S16 32) (v341 : IVec S16 32) (k0_hw205 : k0_chk205 v339 v341), ∀ a x, ((![v339, v341] : Fin 2 → IVec S16 32) a x).toNat < S512x16.size a := fun v339 v341 k0_hw205 => k0_hw205

def k0_chk206 (v229 : IVec S16 32) (v345 : IVec S16 32) : Prop :=
  (∀ a x, ((![v229, v345] : Fin 2 → IVec S16 32) a x).toNat < S64x128.size a)
theorem k0_idx206_inb : ∀ (v229 : IVec S16 32) (v345 : IVec S16 32) (k0_hw206 : k0_chk206 v229 v345), ∀ a x, ((![v229, v345] : Fin 2 → IVec S16 32) a x).toNat < S64x128.size a := fun v229 v345 k0_hw206 => k0_hw206

def k0_chk207 (v355 : IVec S16 32) (v357 : IVec S16 32) : Prop :=
  (∀ a x, ((![v355, v357] : Fin 2 → IVec S16 32) a x).toNat < S512x16.size a)
theorem k0_idx207_inb : ∀ (v355 : IVec S16 32) (v357 : IVec S16 32) (k0_hw207 : k0_chk207 v355 v357), ∀ a x, ((![v355, v357] : Fin 2 → IVec S16 32) a x).toNat < S512x16.size a := fun v355 v357 k0_hw207 => k0_hw207

def k0_chk208 (v229 : IVec S16 32) (v361 : IVec S16 32) : Prop :=
  (∀ a x, ((![v229, v361] : Fin 2 → IVec S16 32) a x).toNat < S64x128.size a)
theorem k0_idx208_inb : ∀ (v229 : IVec S16 32) (v361 : IVec S16 32) (k0_hw208 : k0_chk208 v229 v361), ∀ a x, ((![v229, v361] : Fin 2 → IVec S16 32) a x).toNat < S64x128.size a := fun v229 v361 k0_hw208 => k0_hw208

def k0_chk209 (v371 : IVec S16 32) (v373 : IVec S16 32) : Prop :=
  (∀ a x, ((![v371, v373] : Fin 2 → IVec S16 32) a x).toNat < S512x16.size a)
theorem k0_idx209_inb : ∀ (v371 : IVec S16 32) (v373 : IVec S16 32) (k0_hw209 : k0_chk209 v371 v373), ∀ a x, ((![v371, v373] : Fin 2 → IVec S16 32) a x).toNat < S512x16.size a := fun v371 v373 k0_hw209 => k0_hw209

def k0_chk210 (v229 : IVec S16 32) (v377 : IVec S16 32) : Prop :=
  (∀ a x, ((![v229, v377] : Fin 2 → IVec S16 32) a x).toNat < S64x128.size a)
theorem k0_idx210_inb : ∀ (v229 : IVec S16 32) (v377 : IVec S16 32) (k0_hw210 : k0_chk210 v229 v377), ∀ a x, ((![v229, v377] : Fin 2 → IVec S16 32) a x).toNat < S64x128.size a := fun v229 v377 k0_hw210 => k0_hw210
@[reducible] def k0_t23_loop : Scf.Loop 32 :=
  let c0_i32_148 : BitVec 32 := 0#32
  let c10_i32_149 : BitVec 32 := 10#32
  let v244 : BitVec 32 := Scalar.addi c0_i32_148 c10_i32_149
  let c1_i32_150 : BitVec 32 := 1#32
  ⟨c0_i32_148, v244, c1_i32_150⟩

def k0_chk211 (v307 : IVec S16 32) (v309 : IVec S16 32) : Prop :=
  (∀ a x, ((![v307, v309] : Fin 2 → IVec S16 32) a x).toNat < S512x16.size a)
theorem k0_idx211_inb : ∀ (v307 : IVec S16 32) (v309 : IVec S16 32) (k0_hw211 : k0_chk211 v307 v309), ∀ a x, ((![v307, v309] : Fin 2 → IVec S16 32) a x).toNat < S512x16.size a := fun v307 v309 k0_hw211 => k0_hw211

def k0_chk212 (v241 : IVec S16 32) (v313 : IVec S16 32) : Prop :=
  (∀ a x, ((![v241, v313] : Fin 2 → IVec S16 32) a x).toNat < S64x128.size a)
theorem k0_idx212_inb : ∀ (v241 : IVec S16 32) (v313 : IVec S16 32) (k0_hw212 : k0_chk212 v241 v313), ∀ a x, ((![v241, v313] : Fin 2 → IVec S16 32) a x).toNat < S64x128.size a := fun v241 v313 k0_hw212 => k0_hw212

def k0_chk213 (v323 : IVec S16 32) (v325 : IVec S16 32) : Prop :=
  (∀ a x, ((![v323, v325] : Fin 2 → IVec S16 32) a x).toNat < S512x16.size a)
theorem k0_idx213_inb : ∀ (v323 : IVec S16 32) (v325 : IVec S16 32) (k0_hw213 : k0_chk213 v323 v325), ∀ a x, ((![v323, v325] : Fin 2 → IVec S16 32) a x).toNat < S512x16.size a := fun v323 v325 k0_hw213 => k0_hw213

def k0_chk214 (v241 : IVec S16 32) (v329 : IVec S16 32) : Prop :=
  (∀ a x, ((![v241, v329] : Fin 2 → IVec S16 32) a x).toNat < S64x128.size a)
theorem k0_idx214_inb : ∀ (v241 : IVec S16 32) (v329 : IVec S16 32) (k0_hw214 : k0_chk214 v241 v329), ∀ a x, ((![v241, v329] : Fin 2 → IVec S16 32) a x).toNat < S64x128.size a := fun v241 v329 k0_hw214 => k0_hw214

def k0_chk215 (v339 : IVec S16 32) (v341 : IVec S16 32) : Prop :=
  (∀ a x, ((![v339, v341] : Fin 2 → IVec S16 32) a x).toNat < S512x16.size a)
theorem k0_idx215_inb : ∀ (v339 : IVec S16 32) (v341 : IVec S16 32) (k0_hw215 : k0_chk215 v339 v341), ∀ a x, ((![v339, v341] : Fin 2 → IVec S16 32) a x).toNat < S512x16.size a := fun v339 v341 k0_hw215 => k0_hw215

def k0_chk216 (v241 : IVec S16 32) (v345 : IVec S16 32) : Prop :=
  (∀ a x, ((![v241, v345] : Fin 2 → IVec S16 32) a x).toNat < S64x128.size a)
theorem k0_idx216_inb : ∀ (v241 : IVec S16 32) (v345 : IVec S16 32) (k0_hw216 : k0_chk216 v241 v345), ∀ a x, ((![v241, v345] : Fin 2 → IVec S16 32) a x).toNat < S64x128.size a := fun v241 v345 k0_hw216 => k0_hw216

def k0_chk217 (v355 : IVec S16 32) (v357 : IVec S16 32) : Prop :=
  (∀ a x, ((![v355, v357] : Fin 2 → IVec S16 32) a x).toNat < S512x16.size a)
theorem k0_idx217_inb : ∀ (v355 : IVec S16 32) (v357 : IVec S16 32) (k0_hw217 : k0_chk217 v355 v357), ∀ a x, ((![v355, v357] : Fin 2 → IVec S16 32) a x).toNat < S512x16.size a := fun v355 v357 k0_hw217 => k0_hw217

def k0_chk218 (v241 : IVec S16 32) (v361 : IVec S16 32) : Prop :=
  (∀ a x, ((![v241, v361] : Fin 2 → IVec S16 32) a x).toNat < S64x128.size a)
theorem k0_idx218_inb : ∀ (v241 : IVec S16 32) (v361 : IVec S16 32) (k0_hw218 : k0_chk218 v241 v361), ∀ a x, ((![v241, v361] : Fin 2 → IVec S16 32) a x).toNat < S64x128.size a := fun v241 v361 k0_hw218 => k0_hw218

def k0_chk219 (v371 : IVec S16 32) (v373 : IVec S16 32) : Prop :=
  (∀ a x, ((![v371, v373] : Fin 2 → IVec S16 32) a x).toNat < S512x16.size a)
theorem k0_idx219_inb : ∀ (v371 : IVec S16 32) (v373 : IVec S16 32) (k0_hw219 : k0_chk219 v371 v373), ∀ a x, ((![v371, v373] : Fin 2 → IVec S16 32) a x).toNat < S512x16.size a := fun v371 v373 k0_hw219 => k0_hw219

def k0_chk220 (v241 : IVec S16 32) (v377 : IVec S16 32) : Prop :=
  (∀ a x, ((![v241, v377] : Fin 2 → IVec S16 32) a x).toNat < S64x128.size a)
theorem k0_idx220_inb : ∀ (v241 : IVec S16 32) (v377 : IVec S16 32) (k0_hw220 : k0_chk220 v241 v377), ∀ a x, ((![v241, v377] : Fin 2 → IVec S16 32) a x).toNat < S64x128.size a := fun v241 v377 k0_hw220 => k0_hw220
@[reducible] def k0_t24_loop : Scf.Loop 32 :=
  let c0_i32_157 : BitVec 32 := 0#32
  let c10_i32_158 : BitVec 32 := 10#32
  let v256 : BitVec 32 := Scalar.addi c0_i32_157 c10_i32_158
  let c1_i32_159 : BitVec 32 := 1#32
  ⟨c0_i32_157, v256, c1_i32_159⟩

def k0_chk221 (v307 : IVec S16 32) (v309 : IVec S16 32) : Prop :=
  (∀ a x, ((![v307, v309] : Fin 2 → IVec S16 32) a x).toNat < S512x16.size a)
theorem k0_idx221_inb : ∀ (v307 : IVec S16 32) (v309 : IVec S16 32) (k0_hw221 : k0_chk221 v307 v309), ∀ a x, ((![v307, v309] : Fin 2 → IVec S16 32) a x).toNat < S512x16.size a := fun v307 v309 k0_hw221 => k0_hw221

def k0_chk222 (v253 : IVec S16 32) (v313 : IVec S16 32) : Prop :=
  (∀ a x, ((![v253, v313] : Fin 2 → IVec S16 32) a x).toNat < S64x128.size a)
theorem k0_idx222_inb : ∀ (v253 : IVec S16 32) (v313 : IVec S16 32) (k0_hw222 : k0_chk222 v253 v313), ∀ a x, ((![v253, v313] : Fin 2 → IVec S16 32) a x).toNat < S64x128.size a := fun v253 v313 k0_hw222 => k0_hw222

def k0_chk223 (v323 : IVec S16 32) (v325 : IVec S16 32) : Prop :=
  (∀ a x, ((![v323, v325] : Fin 2 → IVec S16 32) a x).toNat < S512x16.size a)
theorem k0_idx223_inb : ∀ (v323 : IVec S16 32) (v325 : IVec S16 32) (k0_hw223 : k0_chk223 v323 v325), ∀ a x, ((![v323, v325] : Fin 2 → IVec S16 32) a x).toNat < S512x16.size a := fun v323 v325 k0_hw223 => k0_hw223

def k0_chk224 (v253 : IVec S16 32) (v329 : IVec S16 32) : Prop :=
  (∀ a x, ((![v253, v329] : Fin 2 → IVec S16 32) a x).toNat < S64x128.size a)
theorem k0_idx224_inb : ∀ (v253 : IVec S16 32) (v329 : IVec S16 32) (k0_hw224 : k0_chk224 v253 v329), ∀ a x, ((![v253, v329] : Fin 2 → IVec S16 32) a x).toNat < S64x128.size a := fun v253 v329 k0_hw224 => k0_hw224

def k0_chk225 (v339 : IVec S16 32) (v341 : IVec S16 32) : Prop :=
  (∀ a x, ((![v339, v341] : Fin 2 → IVec S16 32) a x).toNat < S512x16.size a)
theorem k0_idx225_inb : ∀ (v339 : IVec S16 32) (v341 : IVec S16 32) (k0_hw225 : k0_chk225 v339 v341), ∀ a x, ((![v339, v341] : Fin 2 → IVec S16 32) a x).toNat < S512x16.size a := fun v339 v341 k0_hw225 => k0_hw225

def k0_chk226 (v253 : IVec S16 32) (v345 : IVec S16 32) : Prop :=
  (∀ a x, ((![v253, v345] : Fin 2 → IVec S16 32) a x).toNat < S64x128.size a)
theorem k0_idx226_inb : ∀ (v253 : IVec S16 32) (v345 : IVec S16 32) (k0_hw226 : k0_chk226 v253 v345), ∀ a x, ((![v253, v345] : Fin 2 → IVec S16 32) a x).toNat < S64x128.size a := fun v253 v345 k0_hw226 => k0_hw226

def k0_chk227 (v355 : IVec S16 32) (v357 : IVec S16 32) : Prop :=
  (∀ a x, ((![v355, v357] : Fin 2 → IVec S16 32) a x).toNat < S512x16.size a)
theorem k0_idx227_inb : ∀ (v355 : IVec S16 32) (v357 : IVec S16 32) (k0_hw227 : k0_chk227 v355 v357), ∀ a x, ((![v355, v357] : Fin 2 → IVec S16 32) a x).toNat < S512x16.size a := fun v355 v357 k0_hw227 => k0_hw227

def k0_chk228 (v253 : IVec S16 32) (v361 : IVec S16 32) : Prop :=
  (∀ a x, ((![v253, v361] : Fin 2 → IVec S16 32) a x).toNat < S64x128.size a)
theorem k0_idx228_inb : ∀ (v253 : IVec S16 32) (v361 : IVec S16 32) (k0_hw228 : k0_chk228 v253 v361), ∀ a x, ((![v253, v361] : Fin 2 → IVec S16 32) a x).toNat < S64x128.size a := fun v253 v361 k0_hw228 => k0_hw228

def k0_chk229 (v371 : IVec S16 32) (v373 : IVec S16 32) : Prop :=
  (∀ a x, ((![v371, v373] : Fin 2 → IVec S16 32) a x).toNat < S512x16.size a)
theorem k0_idx229_inb : ∀ (v371 : IVec S16 32) (v373 : IVec S16 32) (k0_hw229 : k0_chk229 v371 v373), ∀ a x, ((![v371, v373] : Fin 2 → IVec S16 32) a x).toNat < S512x16.size a := fun v371 v373 k0_hw229 => k0_hw229

def k0_chk230 (v253 : IVec S16 32) (v377 : IVec S16 32) : Prop :=
  (∀ a x, ((![v253, v377] : Fin 2 → IVec S16 32) a x).toNat < S64x128.size a)
theorem k0_idx230_inb : ∀ (v253 : IVec S16 32) (v377 : IVec S16 32) (k0_hw230 : k0_chk230 v253 v377), ∀ a x, ((![v253, v377] : Fin 2 → IVec S16 32) a x).toNat < S64x128.size a := fun v253 v377 k0_hw230 => k0_hw230
@[reducible] def k0_t25_loop : Scf.Loop 32 :=
  let c0_i32_165 : BitVec 32 := 0#32
  let c10_i32_166 : BitVec 32 := 10#32
  let v268 : BitVec 32 := Scalar.addi c0_i32_165 c10_i32_166
  let c1_i32_167 : BitVec 32 := 1#32
  ⟨c0_i32_165, v268, c1_i32_167⟩

def k0_chk231 (v307 : IVec S16 32) (v309 : IVec S16 32) : Prop :=
  (∀ a x, ((![v307, v309] : Fin 2 → IVec S16 32) a x).toNat < S512x16.size a)
theorem k0_idx231_inb : ∀ (v307 : IVec S16 32) (v309 : IVec S16 32) (k0_hw231 : k0_chk231 v307 v309), ∀ a x, ((![v307, v309] : Fin 2 → IVec S16 32) a x).toNat < S512x16.size a := fun v307 v309 k0_hw231 => k0_hw231

def k0_chk232 (v265 : IVec S16 32) (v313 : IVec S16 32) : Prop :=
  (∀ a x, ((![v265, v313] : Fin 2 → IVec S16 32) a x).toNat < S64x128.size a)
theorem k0_idx232_inb : ∀ (v265 : IVec S16 32) (v313 : IVec S16 32) (k0_hw232 : k0_chk232 v265 v313), ∀ a x, ((![v265, v313] : Fin 2 → IVec S16 32) a x).toNat < S64x128.size a := fun v265 v313 k0_hw232 => k0_hw232

def k0_chk233 (v323 : IVec S16 32) (v325 : IVec S16 32) : Prop :=
  (∀ a x, ((![v323, v325] : Fin 2 → IVec S16 32) a x).toNat < S512x16.size a)
theorem k0_idx233_inb : ∀ (v323 : IVec S16 32) (v325 : IVec S16 32) (k0_hw233 : k0_chk233 v323 v325), ∀ a x, ((![v323, v325] : Fin 2 → IVec S16 32) a x).toNat < S512x16.size a := fun v323 v325 k0_hw233 => k0_hw233

def k0_chk234 (v265 : IVec S16 32) (v329 : IVec S16 32) : Prop :=
  (∀ a x, ((![v265, v329] : Fin 2 → IVec S16 32) a x).toNat < S64x128.size a)
theorem k0_idx234_inb : ∀ (v265 : IVec S16 32) (v329 : IVec S16 32) (k0_hw234 : k0_chk234 v265 v329), ∀ a x, ((![v265, v329] : Fin 2 → IVec S16 32) a x).toNat < S64x128.size a := fun v265 v329 k0_hw234 => k0_hw234

def k0_chk235 (v339 : IVec S16 32) (v341 : IVec S16 32) : Prop :=
  (∀ a x, ((![v339, v341] : Fin 2 → IVec S16 32) a x).toNat < S512x16.size a)
theorem k0_idx235_inb : ∀ (v339 : IVec S16 32) (v341 : IVec S16 32) (k0_hw235 : k0_chk235 v339 v341), ∀ a x, ((![v339, v341] : Fin 2 → IVec S16 32) a x).toNat < S512x16.size a := fun v339 v341 k0_hw235 => k0_hw235

def k0_chk236 (v265 : IVec S16 32) (v345 : IVec S16 32) : Prop :=
  (∀ a x, ((![v265, v345] : Fin 2 → IVec S16 32) a x).toNat < S64x128.size a)
theorem k0_idx236_inb : ∀ (v265 : IVec S16 32) (v345 : IVec S16 32) (k0_hw236 : k0_chk236 v265 v345), ∀ a x, ((![v265, v345] : Fin 2 → IVec S16 32) a x).toNat < S64x128.size a := fun v265 v345 k0_hw236 => k0_hw236

def k0_chk237 (v355 : IVec S16 32) (v357 : IVec S16 32) : Prop :=
  (∀ a x, ((![v355, v357] : Fin 2 → IVec S16 32) a x).toNat < S512x16.size a)
theorem k0_idx237_inb : ∀ (v355 : IVec S16 32) (v357 : IVec S16 32) (k0_hw237 : k0_chk237 v355 v357), ∀ a x, ((![v355, v357] : Fin 2 → IVec S16 32) a x).toNat < S512x16.size a := fun v355 v357 k0_hw237 => k0_hw237

def k0_chk238 (v265 : IVec S16 32) (v361 : IVec S16 32) : Prop :=
  (∀ a x, ((![v265, v361] : Fin 2 → IVec S16 32) a x).toNat < S64x128.size a)
theorem k0_idx238_inb : ∀ (v265 : IVec S16 32) (v361 : IVec S16 32) (k0_hw238 : k0_chk238 v265 v361), ∀ a x, ((![v265, v361] : Fin 2 → IVec S16 32) a x).toNat < S64x128.size a := fun v265 v361 k0_hw238 => k0_hw238

def k0_chk239 (v371 : IVec S16 32) (v373 : IVec S16 32) : Prop :=
  (∀ a x, ((![v371, v373] : Fin 2 → IVec S16 32) a x).toNat < S512x16.size a)
theorem k0_idx239_inb : ∀ (v371 : IVec S16 32) (v373 : IVec S16 32) (k0_hw239 : k0_chk239 v371 v373), ∀ a x, ((![v371, v373] : Fin 2 → IVec S16 32) a x).toNat < S512x16.size a := fun v371 v373 k0_hw239 => k0_hw239

def k0_chk240 (v265 : IVec S16 32) (v377 : IVec S16 32) : Prop :=
  (∀ a x, ((![v265, v377] : Fin 2 → IVec S16 32) a x).toNat < S64x128.size a)
theorem k0_idx240_inb : ∀ (v265 : IVec S16 32) (v377 : IVec S16 32) (k0_hw240 : k0_chk240 v265 v377), ∀ a x, ((![v265, v377] : Fin 2 → IVec S16 32) a x).toNat < S64x128.size a := fun v265 v377 k0_hw240 => k0_hw240
def k0_off21 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c3072_i32 : BitVec 32 := 3072#32
  let v269 : BitVec 32 := Scalar.addi v2 c3072_i32
  let c0_i32_170 : BitVec 32 := 0#32
  let v271 : BitVec 1 := Scalar.cmpi .sgt v269 c0_i32_170
  let v272 : BitVec 32 := Scalar.extui v271
  let c0_i32_171 : BitVec 32 := 0#32
  let v273 : BitVec 1 := Scalar.cmpi .slt v269 c0_i32_171
  let v274 : BitVec 32 := Scalar.extui v273
  let v275 : BitVec 32 := Scalar.subi v272 v274
  let c2_i32_169 : BitVec 32 := 2#32
  let c0_i32_172 : BitVec 32 := 0#32
  let v276 : BitVec 1 := Scalar.cmpi .sgt c2_i32_169 c0_i32_172
  let v277 : BitVec 32 := Scalar.extui v276
  let c0_i32_173 : BitVec 32 := 0#32
  let v278 : BitVec 1 := Scalar.cmpi .slt c2_i32_169 c0_i32_173
  let v279 : BitVec 32 := Scalar.extui v278
  let v280 : BitVec 32 := Scalar.subi v277 v279
  let v281 : BitVec 1 := Scalar.cmpi .ne v275 v280
  let v282 : BitVec 32 := Scalar.remsi v269 c2_i32_169
  let c0_i32_174 : BitVec 32 := 0#32
  let v283 : BitVec 1 := Scalar.cmpi .ne v282 c0_i32_174
  let v284 : BitVec 1 := Scalar.andi v281 v283
  let v270 : BitVec 32 := Scalar.divsi v269 c2_i32_169
  let c1_i32_175 : BitVec 32 := 1#32
  let v285 : BitVec 32 := Scalar.subi v270 c1_i32_175
  let v286 : BitVec 32 := Scalar.select v284 v285 v270
  let c0_i32_178 : BitVec 32 := 0#32
  ![v286.toNat, 0]
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S50x50 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x50 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x50 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S3200x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![64], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x800x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x32x50 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S50x50 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x50 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x50 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S50x5 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x5 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1x32x50 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x32x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x1x5 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x32x50 : Shape := ⟨3, ![64, 32, 50]⟩
abbrev S400000x50 : Shape := ⟨2, ![400000, 50]⟩
abbrev S50x50 : Shape := ⟨2, ![50, 50]⟩
abbrev S50 : Shape := ⟨1, ![50]⟩
abbrev S50x5 : Shape := ⟨2, ![50, 5]⟩
abbrev S5 : Shape := ⟨1, ![5]⟩
abbrev S_ : Shape := ⟨0, ![]⟩
abbrev S64x32x50x1 : Shape := ⟨4, ![64, 32, 50, 1]⟩
abbrev S1 : Shape := ⟨1, ![1]⟩
abbrev S1x1x1x1 : Shape := ⟨4, ![1, 1, 1, 1]⟩
abbrev S64x32x50x50 : Shape := ⟨4, ![64, 32, 50, 50]⟩
abbrev S1x1x1x50 : Shape := ⟨4, ![1, 1, 1, 50]⟩
abbrev S64x32 : Shape := ⟨2, ![64, 32]⟩
abbrev S64x32x1 : Shape := ⟨3, ![64, 32, 1]⟩
abbrev S1x1x50 : Shape := ⟨3, ![1, 1, 50]⟩
abbrev S64 : Shape := ⟨1, ![64]⟩
abbrev S64x1 : Shape := ⟨2, ![64, 1]⟩
abbrev S64x50 : Shape := ⟨2, ![64, 50]⟩
abbrev S64x5 : Shape := ⟨2, ![64, 5]⟩
abbrev S1x5 : Shape := ⟨2, ![1, 5]⟩

abbrev nBuf : Space → Nat
  | .hbm => 79
  | .vmem => 0
  | .smem => 0
  | _ => 0

abbrev bufTy : (tb : Table) → Fin (tcTables nBuf tb) → BufTy
  | .hbm, ⟨0, _⟩ => ⟨S64x32x50, .i32⟩
  | .hbm, ⟨1, _⟩ => ⟨S400000x50, .f32⟩
  | .hbm, ⟨2, _⟩ => ⟨S50x50, .f32⟩
  | .hbm, ⟨3, _⟩ => ⟨S50, .f32⟩
  | .hbm, ⟨4, _⟩ => ⟨S50, .f32⟩
  | .hbm, ⟨5, _⟩ => ⟨S50x50, .f32⟩
  | .hbm, ⟨6, _⟩ => ⟨S50, .f32⟩
  | .hbm, ⟨7, _⟩ => ⟨S50, .f32⟩
  | .hbm, ⟨8, _⟩ => ⟨S50x5, .f32⟩
  | .hbm, ⟨9, _⟩ => ⟨S5, .f32⟩
  | .hbm, ⟨10, _⟩ => ⟨S_, .i32⟩
  | .hbm, ⟨11, _⟩ => ⟨S64x32x50, .i32⟩
  | .hbm, ⟨12, _⟩ => ⟨S64x32x50, .i1⟩
  | .hbm, ⟨13, _⟩ => ⟨S_, .i32⟩
  | .hbm, ⟨14, _⟩ => ⟨S64x32x50, .i32⟩
  | .hbm, ⟨15, _⟩ => ⟨S64x32x50, .i32⟩
  | .hbm, ⟨16, _⟩ => ⟨S64x32x50, .i32⟩
  | .hbm, ⟨17, _⟩ => ⟨S64x32x50x1, .i32⟩
  | .hbm, ⟨18, _⟩ => ⟨S1, .i32⟩
  | .hbm, ⟨19, _⟩ => ⟨S_, .i32⟩
  | .hbm, ⟨20, _⟩ => ⟨S64x32x50x1, .i32⟩
  | .hbm, ⟨21, _⟩ => ⟨S64x32x50x1, .i1⟩
  | .hbm, ⟨22, _⟩ => ⟨S1x1x1x1, .i32⟩
  | .hbm, ⟨23, _⟩ => ⟨S64x32x50x1, .i32⟩
  | .hbm, ⟨24, _⟩ => ⟨S64x32x50x1, .i1⟩
  | .hbm, ⟨25, _⟩ => ⟨S64x32x50x1, .i1⟩
  | .hbm, ⟨26, _⟩ => ⟨S_, .i1⟩
  | .hbm, ⟨27, _⟩ => ⟨S64x32x50, .i1⟩
  | .hbm, ⟨28, _⟩ => ⟨S64x32x50x50, .f32⟩
  | .hbm, ⟨29, _⟩ => ⟨S64x32x50x50, .i1⟩
  | .hbm, ⟨30, _⟩ => ⟨S_, .f32⟩
  | .hbm, ⟨31, _⟩ => ⟨S64x32x50x50, .f32⟩
  | .hbm, ⟨32, _⟩ => ⟨S64x32x50x50, .f32⟩
  | .hbm, ⟨33, _⟩ => ⟨S64x32x50x50, .f32⟩
  | .hbm, ⟨34, _⟩ => ⟨S1x1x1x50, .f32⟩
  | .hbm, ⟨35, _⟩ => ⟨S64x32x50x50, .f32⟩
  | .hbm, ⟨36, _⟩ => ⟨S64x32x50x50, .f32⟩
  | .hbm, ⟨37, _⟩ => ⟨S64x32x50x50, .f32⟩
  | .hbm, ⟨38, _⟩ => ⟨S64x32x50, .f32⟩
  | .hbm, ⟨39, _⟩ => ⟨S_, .f32⟩
  | .hbm, ⟨40, _⟩ => ⟨S64x32, .f32⟩
  | .hbm, ⟨41, _⟩ => ⟨S_, .f32⟩
  | .hbm, ⟨42, _⟩ => ⟨S64x32, .f32⟩
  | .hbm, ⟨43, _⟩ => ⟨S64x32, .f32⟩
  | .hbm, ⟨44, _⟩ => ⟨S64x32x1, .f32⟩
  | .hbm, ⟨45, _⟩ => ⟨S64x32x50, .f32⟩
  | .hbm, ⟨46, _⟩ => ⟨S64x32x50, .f32⟩
  | .hbm, ⟨47, _⟩ => ⟨S64x32x50, .f32⟩
  | .hbm, ⟨48, _⟩ => ⟨S_, .f32⟩
  | .hbm, ⟨49, _⟩ => ⟨S64x32, .f32⟩
  | .hbm, ⟨50, _⟩ => ⟨S64x32x1, .f32⟩
  | .hbm, ⟨51, _⟩ => ⟨S64x32x50, .f32⟩
  | .hbm, ⟨52, _⟩ => ⟨S64x32x50, .f32⟩
  | .hbm, ⟨53, _⟩ => ⟨S64x32x50, .f32⟩
  | .hbm, ⟨54, _⟩ => ⟨S64x32x50, .f32⟩
  | .hbm, ⟨55, _⟩ => ⟨S1x1x50, .f32⟩
  | .hbm, ⟨56, _⟩ => ⟨S64x32x50, .f32⟩
  | .hbm, ⟨57, _⟩ => ⟨S64x32x50, .f32⟩
  | .hbm, ⟨58, _⟩ => ⟨S64x32x50, .f32⟩
  | .hbm, ⟨59, _⟩ => ⟨S64x32, .f32⟩
  | .hbm, ⟨60, _⟩ => ⟨S_, .f32⟩
  | .hbm, ⟨61, _⟩ => ⟨S64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S64x1, .f32⟩
  | .hbm, ⟨66, _⟩ => ⟨S64x32, .f32⟩
  | .hbm, ⟨67, _⟩ => ⟨S64x32, .f32⟩
  | .hbm, ⟨68, _⟩ => ⟨S64x32, .f32⟩
  | .hbm, ⟨69, _⟩ => ⟨S_, .f32⟩
  | .hbm, ⟨70, _⟩ => ⟨S64, .f32⟩
  | .hbm, ⟨71, _⟩ => ⟨S64x1, .f32⟩
  | .hbm, ⟨72, _⟩ => ⟨S64x32, .f32⟩
  | .hbm, ⟨73, _⟩ => ⟨S64x32, .f32⟩
  | .hbm, ⟨74, _⟩ => ⟨S64x50, .f32⟩
  | .hbm, ⟨75, _⟩ => ⟨S64x5, .f32⟩
  | .hbm, ⟨76, _⟩ => ⟨S1x5, .f32⟩
  | .hbm, ⟨77, _⟩ => ⟨S64x5, .f32⟩
  | .hbm, ⟨78, _⟩ => ⟨S64x5, .f32⟩
  | _, _ => ⟨S64x32x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst : Ref sig .tc := ⟨.hbm, 39, rfl⟩
abbrev main_v7 : Ref sig .tc := ⟨.hbm, 40, rfl⟩
abbrev main_cst_0 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_cst_1 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_cst_2 : Ref sig .tc := ⟨.hbm, 60, rfl⟩
abbrev main_v25 : Ref sig .tc := ⟨.hbm, 61, rfl⟩
abbrev main_cst_3 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_4 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩

abbrev nD : Nat := 1
abbrev τ : Topo := Topo.v7x

variable {F : FTy → Type} [FloatOps F]
-- ==== Proof.Ideal.Shape.lean ====
/- The SparseCore kernel written again as a program of named steps: fetching the ids,
   writing the window rows of one chunk and starting its gathers (`fireChunk`), and waiting for a
   chunk's windows, moving every element to its place and starting the copy out (`processChunk`).
   `kernel_eq_tileProg` states that the printed kernel is this program. -/
module

public import proofs.«01_k».proof.Proof.Gen.KernelIdeal.Skeleton

@[expose] public section

noncomputable section

namespace Cert.KernelIdeal.Tile

open Idealize.ShloMosaic Idealize.SL.Sem Cert.KernelIdeal Cert.KernelIdeal.Gen

variable {F : FTy → Type} [FloatOps F]

/-- The programs of the tile `i`. -/
abbrev TProg (i : grid0.Coords) (α : Type) := Prog (TpuEff nD τ sig (Elt F) Λ₀ (.scVector ((i 0).castLE hcore0) ((i 1).castLE hsub0))) α

/-- The window row of the 64-byte window `k` of each lane's id. -/
def winRow (v : Vec F S16 .i32) (k : BitVec 32) : IVec S16 32 :=
  addi (shrui (muli v (broadcast S16 50#32)) (broadcast S16 4#32)) (broadcast S16 k)

/-- Each id's offset inside its first window. -/
def sph (v : Vec F S16 .i32) : IVec S16 32 := andi (muli v (broadcast S16 50#32)) (broadcast S16 15#32)
/-- The lane numbers. -/
def lanes : IVec S16 32 := iota .scVector S16 32 [0] iota_S16_d0_w32_scVector
/-- The half of a 128-wide row each lane writes. -/
def halfv : IVec S16 32 := muli (broadcast S16 64#32) (andi lanes (broadcast S16 1#32))
/-- The output row of each lane in the group whose first row is `p`. -/
def prow (p : BitVec 32) : IVec S16 32 := addi (broadcast S16 p) (shrui lanes (broadcast S16 1#32))
/-- The window row of each lane in the group whose first lane is `p`. -/
def rowv (p : BitVec 32) : IVec S16 32 := addi (broadcast S16 p) lanes
/-- The window row column `c` is read from. -/
def srcRow (s r : IVec S16 32) (c : BitVec 32) : IVec S16 32 :=
  addi (muli (broadcast S16 128#32) (shrui (addi s (broadcast S16 c)) (broadcast S16 4#32))) r
/-- The place in its window column `c` is read from. -/
def srcCol (s : IVec S16 32) (c : BitVec 32) : IVec S16 32 := andi (addi s (broadcast S16 c)) (broadcast S16 15#32)
/-- The output column of column `c`. -/
def dstCol (h : IVec S16 32) (c : BitVec 32) : IVec S16 32 := addi h (broadcast S16 c)

variable (i : grid0.Coords)

/-- The half of the window buffer that holds the windows of the chunks of parity `q/512`. -/
abbrev winHalf (arg7 : Memref sig .scVector .vmem S1024x16 .f32) (q : ℕ) (hq : q ≤ 512) : Memref sig .scVector .vmem S512x16 .f32 :=
  arg7.slice (Rect.unit (s := S1024x16) ![q, 0] S512x16.size (by intro a; fin_cases a <;> simp [Shape.size]; omega)) (fun _ => rfl)

/-- The half of the row buffer from row `q`. -/
abbrev rowHalf (arg8 : Memref sig .scVector .vmem S128x128 .f32) (q : ℕ) (hq : q ≤ 64) : Memref sig .scVector .vmem S64x128 .f32 :=
  arg8.slice (Rect.unit (s := S128x128) ![q, 0] S64x128.size (by intro a; fin_cases a <;> simp [Shape.size]; omega)) (fun _ => rfl)

/-- One column of sixteen rows moved. -/
def colStep (win : Memref sig .scVector .vmem S512x16 .f32) (rows : Memref sig .scVector .vmem S64x128 .f32)
    (hw : win.view.Loads) (hr : (rows.access (.whole S64x128)).Stores Finset.univ)
    (s r p h : IVec S16 32) (c : BitVec 32) : TProg (F := F) i PUnit := do
  have h1 : k0_chk1 (srcRow s r c) (srcCol s c) := (← Prog.lift (TpuEff.assume (k0_chk1 (srcRow s r c) (srcCol s c)) (k0_chk1.dec (srcRow s r c) (srcCol s c)))).down
  let v : Vec F S16 .f32 ← SparseCore.vectorLoadIdx win ![srcRow s r c, srcCol s c] (k0_idx1_inb _ _ h1) hw
  have h2 : k0_chk2 p (dstCol h c) := (← Prog.lift (TpuEff.assume (k0_chk2 p (dstCol h c)) (k0_chk2.dec p (dstCol h c)))).down
  SparseCore.vectorStoreIdx rows ![p, dstCol h c] v (fun _ => 1#1) false (k0_idx2_inb _ _ h2) hr

/-- Trip `t`: columns `5 t` to `5 t + 4`. -/
def colBody (win : Memref sig .scVector .vmem S512x16 .f32) (rows : Memref sig .scVector .vmem S64x128 .f32)
    (hw : win.view.Loads) (hr : (rows.access (.whole S64x128)).Stores Finset.univ)
    (s r p h : IVec S16 32) : Fin k0_t2_loop.trips → Unit → TProg (F := F) i Unit := fun t _ => do
  colStep i win rows hw hr s r p h (Scalar.addi (Scalar.muli 5#32 (Scf.iv 0#32 1#32 t)) 0#32)
  colStep i win rows hw hr s r p h (Scalar.addi (Scalar.muli 5#32 (Scf.iv 0#32 1#32 t)) 1#32)
  colStep i win rows hw hr s r p h (Scalar.addi (Scalar.muli 5#32 (Scf.iv 0#32 1#32 t)) 2#32)
  colStep i win rows hw hr s r p h (Scalar.addi (Scalar.muli 5#32 (Scf.iv 0#32 1#32 t)) 3#32)
  colStep i win rows hw hr s r p h (Scalar.addi (Scalar.muli 5#32 (Scf.iv 0#32 1#32 t)) 4#32)
  pure ⟨⟩

/-- One group of sixteen ids: the rows of their four windows written into the row lists. -/
def fireGroup (arg5 : Memref sig .scVector .vmem S3200 .i32) (arg6 : Memref sig .scVector .vmem S1024 .i32)
    (o : Fin 1 → ℕ) (ho : ∀ a, o a + S16.size a ≤ S3200.size a)
    (r : Fin 4 → ℕ) (hr : ∀ k, ∀ a, (![r k] : Fin 1 → ℕ) a + S16.size a ≤ S1024.size a) : TProg (F := F) i PUnit := do
  let v : Vec F S16 .i32 ← Prog.lift (.load arg5 (Rect.unit (s := S3200) o S16.size ho).toLoadRect (View.loadsAt_vmem h_S16))
  let _ : Vec F S16 .i32 ← Prog.lift (.load arg6 (Rect.unit (s := S1024) ![r 0] S16.size (hr 0)).toLoadRect (View.loadsAt_vmem h_S16))
  Prog.lift (.store arg6 (Rect.unit (s := S1024) ![r 0] S16.size (hr 0)) (winRow v 0#32) Finset.univ (View.stores_vmem_bits_univ h_S16 rfl) (.inl rfl))
  let _ : Vec F S16 .i32 ← Prog.lift (.load arg6 (Rect.unit (s := S1024) ![r 1] S16.size (hr 1)).toLoadRect (View.loadsAt_vmem h_S16))
  Prog.lift (.store arg6 (Rect.unit (s := S1024) ![r 1] S16.size (hr 1)) (winRow v 1#32) Finset.univ (View.stores_vmem_bits_univ h_S16 rfl) (.inl rfl))
  let _ : Vec F S16 .i32 ← Prog.lift (.load arg6 (Rect.unit (s := S1024) ![r 2] S16.size (hr 2)).toLoadRect (View.loadsAt_vmem h_S16))
  Prog.lift (.store arg6 (Rect.unit (s := S1024) ![r 2] S16.size (hr 2)) (winRow v 2#32) Finset.univ (View.stores_vmem_bits_univ h_S16 rfl) (.inl rfl))
  let _ : Vec F S16 .i32 ← Prog.lift (.load arg6 (Rect.unit (s := S1024) ![r 3] S16.size (hr 3)).toLoadRect (View.loadsAt_vmem h_S16))
  Prog.lift (.store arg6 (Rect.unit (s := S1024) ![r 3] S16.size (hr 3)) (winRow v 3#32) Finset.univ (View.stores_vmem_bits_univ h_S16 rfl) (.inl rfl))

/-- The places of group `b`'s four sixteen-word pieces in the row lists that start at `q`. -/
def grp (q b : ℕ) : Fin 4 → ℕ := fun k => q + 128 * k.val + 16 * b

theorem grp_inb {q b : ℕ} (hq : q ≤ 512) (hb : b < 8) : ∀ k, ∀ a, (![grp q b k] : Fin 1 → ℕ) a + S16.size a ≤ S1024.size a := by
  intro k a
  have := k.isLt
  fin_cases a
  simp only [grp, S16, S1024, Fin.zero_eta, Matrix.cons_val_zero]
  omega

/-- The table seen through its whole. -/
abbrev tabAll (arg3 : Memref sig .scVector .hbm S1250000x16 .f32) : Memref sig .scVector .hbm S1250000x16 .f32 :=
  arg3.slice (Rect.unit (s := S1250000x16) ![0, 0] S1250000x16.size inb_S1250000x16_S1250000x16_0_0) (fun _ => rfl)

theorem win_inb {q : ℕ} (hq : q ≤ 896) : ∀ a, (![q, 0] : Fin 2 → ℕ) a + S128x16.size a ≤ S1024x16.size a := by
  intro a; fin_cases a <;> simp [Shape.size]; omega
theorem lst_inb {q : ℕ} (hq : q ≤ 896) : ∀ a, (![q] : Fin 1 → ℕ) a + S128.size a ≤ S1024.size a := by
  intro a; fin_cases a; simp [Shape.size]; omega

/-- One window row list of a chunk and the rows it fetches. -/
abbrev winOf (arg7 : Memref sig .scVector .vmem S1024x16 .f32) (q : ℕ) (hq : q ≤ 896) : Memref sig .scVector .vmem S128x16 .f32 :=
  arg7.slice (Rect.unit (s := S1024x16) ![q, 0] S128x16.size (win_inb hq)) (fun _ => rfl)
abbrev lstOf (arg6 : Memref sig .scVector .vmem S1024 .i32) (q : ℕ) (hq : q ≤ 896) : Memref sig .scVector .vmem S128 .i32 :=
  arg6.slice (Rect.unit (s := S1024) ![q] S128.size (lst_inb hq)) (fun _ => rfl)

/-- One of a chunk's four gathers. -/
def fireOne (arg3 : Memref sig .scVector .hbm S1250000x16 .f32) (arg6 : Memref sig .scVector .vmem S1024 .i32)
    (arg7 : Memref sig .scVector .vmem S1024x16 .f32) (q : ℕ) (hq : q ≤ 896) (sm : DmaSems sig S_) : TProg (F := F) i PUnit :=
  SparseCore.enqueueIndirectGather rfl (tabAll arg3) (winOf arg7 q hq) gathers_S1250000x16_S128x16 (lstOf arg6 q hq) rfl sm.sem (View.wordExact_bits rfl) rfl (Or.inl rfl)

/-- The wait for one of a chunk's four gathers. -/
def waitOne (arg3 : Memref sig .scVector .hbm S1250000x16 .f32)
    (arg7 : Memref sig .scVector .vmem S1024x16 .f32) (q : ℕ) (hq : q ≤ 896) (sm : DmaSems sig S_) : TProg (F := F) i PUnit :=
  SparseCore.waitIndirectGather sm.sem (tabAll arg3) (winOf arg7 q hq) (View.wordExact_bits rfl) (View.wordExact_bits rfl)

/-- A chunk's row lists written and its four gathers started; `q` is the start of its half. -/
def fireChunk (arg3 : Memref sig .scVector .hbm S1250000x16 .f32) (arg5 : Memref sig .scVector .vmem S3200 .i32)
    (arg6 : Memref sig .scVector .vmem S1024 .i32) (arg7 : Memref sig .scVector .vmem S1024x16 .f32)
    (o : Fin 8 → Fin 1 → ℕ) (ho : ∀ b a, o b a + S16.size a ≤ S3200.size a) (q : ℕ) (hq : q ≤ 512)
    (s0 s1 s2 s3 : DmaSems sig S_) : TProg (F := F) i PUnit := do
  fireGroup i arg5 arg6 (o 0) (ho 0) (grp q 0) (grp_inb hq (by decide))
  fireGroup i arg5 arg6 (o 1) (ho 1) (grp q 1) (grp_inb hq (by decide))
  fireGroup i arg5 arg6 (o 2) (ho 2) (grp q 2) (grp_inb hq (by decide))
  fireGroup i arg5 arg6 (o 3) (ho 3) (grp q 3) (grp_inb hq (by decide))
  fireGroup i arg5 arg6 (o 4) (ho 4) (grp q 4) (grp_inb hq (by decide))
  fireGroup i arg5 arg6 (o 5) (ho 5) (grp q 5) (grp_inb hq (by decide))
  fireGroup i arg5 arg6 (o 6) (ho 6) (grp q 6) (grp_inb hq (by decide))
  fireGroup i arg5 arg6 (o 7) (ho 7) (grp q 7) (grp_inb hq (by decide))
  fireOne i arg3 arg6 arg7 q (by omega) s0
  fireOne i arg3 arg6 arg7 (q + 128) (by omega) s1
  fireOne i arg3 arg6 arg7 (q + 256) (by omega) s2
  fireOne i arg3 arg6 arg7 (q + 384) (by omega) s3

/-- A group of sixteen ids' rows moved from the windows to the rows buffer. -/
def moveGroup (arg5 : Memref sig .scVector .vmem S3200 .i32)
    (win : Memref sig .scVector .vmem S512x16 .f32) (rows : Memref sig .scVector .vmem S64x128 .f32)
    (hw : win.view.Loads) (hr : (rows.access (.whole S64x128)).Stores Finset.univ)
    (o : Fin 1 → ℕ) (ho : ∀ a, o a + S16.size a ≤ S3200.size a) (p r : BitVec 32) : TProg (F := F) i Unit := do
  let v : Vec F S16 .i32 ← Prog.lift (.load arg5 (Rect.unit (s := S3200) o S16.size ho).toLoadRect (View.loadsAt_vmem h_S16))
  Scf.Loop.for k0_t2_loop k0_t2_ok ⟨⟩ (colBody i win rows hw hr (sph v) (rowv r) (prow p) halfv)

/-- All of a chunk's rows moved. -/
def moveChunk (arg5 : Memref sig .scVector .vmem S3200 .i32)
    (win : Memref sig .scVector .vmem S512x16 .f32) (rows : Memref sig .scVector .vmem S64x128 .f32)
    (hw : win.view.Loads) (hr : (rows.access (.whole S64x128)).Stores Finset.univ)
    (o : Fin 8 → Fin 1 → ℕ) (ho : ∀ b a, o b a + S16.size a ≤ S3200.size a) : TProg (F := F) i Unit := do
  moveGroup i arg5 win rows hw hr (o 0) (ho 0) 0#32 0#32
  moveGroup i arg5 win rows hw hr (o 1) (ho 1) 8#32 16#32
  moveGroup i arg5 win rows hw hr (o 2) (ho 2) 16#32 32#32
  moveGroup i arg5 win rows hw hr (o 3) (ho 3) 24#32 48#32
  moveGroup i arg5 win rows hw hr (o 4) (ho 4) 32#32 64#32
  moveGroup i arg5 win rows hw hr (o 5) (ho 5) 40#32 80#32
  moveGroup i arg5 win rows hw hr (o 6) (ho 6) 48#32 96#32
  moveGroup i arg5 win rows hw hr (o 7) (ho 7) 56#32 112#32

/-- The wait for the copy out of the half of the row buffer from row `q`. -/
def waitOut (arg4 : Memref sig .scVector .hbm S51200x128 .f32) (arg8 : Memref sig .scVector .vmem S128x128 .f32)
    (q : ℕ) (hq : q ≤ 64) (sm : DmaSems sig S_) : TProg (F := F) i PUnit :=
  Prog.lift (.waitDma2 sm.sem (rowHalf arg8 q hq)
    (arg4.slice (Rect.unit (s := S51200x128) ![0, 0] S64x128.size inb_S51200x128_S64x128_0_0) (fun _ => rfl)) (View.wordExact_bits rfl) (View.wordExact_bits rfl))

/-- The rows of the output from `o`. -/
abbrev outOf (arg4 : Memref sig .scVector .hbm S51200x128 .f32) (o : Fin 2 → ℕ) (ho : ∀ a, o a + S64x128.size a ≤ S51200x128.size a) :
    Memref sig .scVector .hbm S64x128 .f32 := arg4.slice (Rect.unit (s := S51200x128) o S64x128.size ho) (fun _ => rfl)

/-- The copy out of the half of the row buffer from row `q` started. -/
def sendOut (arg4 : Memref sig .scVector .hbm S51200x128 .f32) (arg8 : Memref sig .scVector .vmem S128x128 .f32)
    (q : ℕ) (hq : q ≤ 64) (sm : DmaSems sig S_) (o : Fin 2 → ℕ) (ho : ∀ a, o a + S64x128.size a ≤ S51200x128.size a) : TProg (F := F) i PUnit :=
  Prog.lift (.enqueueDma (rowHalf arg8 q hq) (.here (outOf arg4 o ho)) (.dma sm.sem) (View.wordExact_bits rfl) (View.wordExact_bits rfl) ⟨Or.inl rfl, trivial⟩)

/-- The four waits of a chunk. -/
def waitFour (arg3 : Memref sig .scVector .hbm S1250000x16 .f32)
    (arg7 : Memref sig .scVector .vmem S1024x16 .f32) (q : ℕ) (hq : q ≤ 512) (s0 s1 s2 s3 : DmaSems sig S_) : TProg (F := F) i PUnit := do
  waitOne i arg3 arg7 q (by omega) s0
  waitOne i arg3 arg7 (q + 128) (by omega) s1
  waitOne i arg3 arg7 (q + 256) (by omega) s2
  waitOne i arg3 arg7 (q + 384) (by omega) s3

end Cert.KernelIdeal.Tile

end
-- ==== Proof.Ideal.ShapeEq.lean ====
/- The printed SparseCore kernel is the program of named steps. -/
module

public import proofs.«01_k».proof.Proof.Ideal.Shape

@[expose] public section

set_option maxRecDepth 65536

noncomputable section

namespace Cert.KernelIdeal.Tile

open Idealize.ShloMosaic Idealize.SL.Sem Cert.KernelIdeal Cert.KernelIdeal.Gen

variable {F : FTy → Type} [FloatOps F]
variable (i : grid0.Coords) (arg2 : Memref sig .scVector .hbm S102400 .i32) (harg2 : arg2.IsWhole) (arg3 : Memref sig .scVector .hbm S1250000x16 .f32) (harg3 : arg3.IsWhole) (arg4 : Memref sig .scVector .hbm S51200x128 .f32) (harg4 : arg4.IsWhole) (arg5 : Memref sig .scVector .vmem S3200 .i32) (harg5 : arg5.IsWhole) (arg6 : Memref sig .scVector .vmem S1024 .i32) (harg6 : arg6.IsWhole) (arg7 : Memref sig .scVector .vmem S1024x16 .f32) (harg7 : arg7.IsWhole) (arg8 : Memref sig .scVector .vmem S128x128 .f32) (harg8 : arg8.IsWhole) (arg9 : DmaSems sig S_) (arg10 : DmaSems sig S_) (arg11 : DmaSems sig S_) (arg12 : DmaSems sig S_) (arg13 : DmaSems sig S_) (arg14 : DmaSems sig S_) (arg15 : DmaSems sig S_) (arg16 : DmaSems sig S_) (arg17 : DmaSems sig S_) (arg18 : DmaSems sig S_) (v299_r0 : DmaSems sig S_)

/-- Where the ids of the groups of the even chunk of trip `t` start. -/
def offA (t : Fin k0_t1_loop.trips) : Fin 8 → Fin 1 → ℕ :=
  ![k0_off3 t, k0_off4 t, k0_off5 t, k0_off6 t, k0_off7 t, k0_off8 t, k0_off9 t, k0_off10 t]
theorem offA_inb (t : Fin k0_t1_loop.trips) : ∀ b a, offA t b a + S16.size a ≤ S3200.size a := by
  intro b
  fin_cases b
  · exact k0_off3_inb t
  · exact k0_off4_inb t
  · exact k0_off5_inb t
  · exact k0_off6_inb t
  · exact k0_off7_inb t
  · exact k0_off8_inb t
  · exact k0_off9_inb t
  · exact k0_off10_inb t
/-- Where the ids of the groups of the odd chunk of trip `t` start. -/
def offB (t : Fin k0_t1_loop.trips) : Fin 8 → Fin 1 → ℕ :=
  ![k0_off12 t 1#32 0#32, k0_off13 t, k0_off14 t, k0_off15 t, k0_off16 t, k0_off17 t, k0_off18 t, k0_off19 t]
theorem offB_inb (t : Fin k0_t1_loop.trips) : ∀ b a, offB t b a + S16.size a ≤ S3200.size a := by
  intro b
  fin_cases b
  · exact k0_off12_inb t 8
  · exact k0_off13_inb t
  · exact k0_off14_inb t
  · exact k0_off15_inb t
  · exact k0_off16_inb t
  · exact k0_off17_inb t
  · exact k0_off18_inb t
  · exact k0_off19_inb t
/-- Where the ids of the groups of the odd chunk of trip `t` start, as its gathers' row lists read them. -/
def offF (t : Fin k0_t1_loop.trips) : Fin 8 → Fin 1 → ℕ := fun b => k0_off2 t (BitVec.ofNat 32 (16 * b.val))
/-- Where the ids of the groups of the next even chunk start. -/
def offG (t : Fin k0_t1_loop.trips) : Fin 8 → Fin 1 → ℕ := fun b => k0_off12 t 2#32 (BitVec.ofNat 32 (16 * b.val))
theorem offG_inb (t : Fin k0_t1_loop.trips) : ∀ b a, offG t b a + S16.size a ≤ S3200.size a := by
  intro b
  fin_cases b
  · exact k0_off12_inb t 0
  · exact k0_off12_inb t 1
  · exact k0_off12_inb t 2
  · exact k0_off12_inb t 3
  · exact k0_off12_inb t 4
  · exact k0_off12_inb t 5
  · exact k0_off12_inb t 6
  · exact k0_off12_inb t 7
/-- Where the ids of the groups of the first chunk, and of the last, start. -/
def offC (n : ℕ) : Fin 8 → Fin 1 → ℕ := fun b => ![n + 16 * b.val]
theorem offC_inb {n : ℕ} (hn : n ≤ 3072) : ∀ b a, offC n b a + S16.size a ≤ S3200.size a := by
  intro b a
  have := b.isLt
  fin_cases a
  simp only [offC, S16, S3200, Fin.zero_eta, Matrix.cons_val_zero]
  omega

/-- The guarded wait. -/
def guardOut (v : BitVec 1) (q : ℕ) (hq : q ≤ 64) (sm : DmaSems sig S_) : TProg (F := F) i PUnit :=
  if k0_h1 : Scalar.cmpi .ne (Scalar.extui v : BitVec 32) 0#32 = 1#1 then do
    waitOut i arg4 arg8 q hq sm
    pure ⟨⟩
  else pure ⟨⟩

/-- One trip of the kernel's loop: two chunks. -/
def pairBody : Fin k0_t1_loop.trips → Unit → TProg (F := F) i Unit := fun t _ => do
  fireChunk i arg3 arg5 arg6 arg7 (offF t) (k0_off2_inb t) 512 (by decide) arg13 arg14 arg15 arg16
  waitFour i arg3 arg7 0 (by decide) arg9 arg10 arg11 arg12
  guardOut i arg4 arg8 (Scalar.cmpi .sge (Scf.iv 0#32 1#32 t) 1#32) 0 (by decide) arg17
  moveChunk i arg5 (winHalf arg7 0 (by decide)) (rowHalf arg8 0 (by decide)) (View.loads_vmem h_S512x16) (View.stores_vmem_bits_univ h_S64x128 rfl) (offA t) (offA_inb t)
  sendOut i arg4 arg8 0 (by decide) arg17 (k0_off11 i t) (k0_off11_inb i t)
  fireChunk i arg3 arg5 arg6 arg7 (offG t) (offG_inb t) 0 (by decide) arg9 arg10 arg11 arg12
  waitFour i arg3 arg7 512 (by decide) arg13 arg14 arg15 arg16
  guardOut i arg4 arg8 (Scalar.cmpi .sge (Scf.iv 0#32 1#32 t) 1#32) 64 (by decide) arg18
  moveChunk i arg5 (winHalf arg7 512 (by decide)) (rowHalf arg8 64 (by decide)) (View.loads_vmem h_S512x16) (View.stores_vmem_bits_univ h_S64x128 rfl) (offB t) (offB_inb t)
  sendOut i arg4 arg8 64 (by decide) arg18 (k0_off20 i t) (k0_off20_inb i t)
  pure ⟨⟩

theorem part39_eq (v3 v7 : IVec S16 32) (t : Fin k0_t1_loop.trips) (v473 : BitVec 32) (v474 : BitVec 1) :
    k0_part39 (F := F) i arg2 harg2 arg3 harg3 arg4 harg4 arg5 harg5 arg6 harg6 arg7 harg7 arg8 harg8 arg9 arg10 arg11 arg12 arg13 arg14 arg15 arg16 arg17 arg18 v299_r0 v3 v7 t v473 v474 = (do
      waitOne i arg3 arg7 384 (by decide) arg12
      guardOut i arg4 arg8 v474 0 (by decide) arg17
      let v492 : Vec F S16 .i32 ← Prog.lift (.load arg5 (Rect.unit (s := S3200) (k0_off3 t) S16.size (k0_off3_inb t)).toLoadRect (View.loadsAt_vmem h_S16))
      Scf.Loop.for k0_t2_loop k0_t2_ok ⟨⟩ (k0_t2_body i arg2 harg2 arg3 harg3 arg4 harg4 arg5 harg5 arg6 harg6 arg7 harg7 arg8 harg8 arg9 arg10 arg11 arg12 arg13 arg14 arg15 arg16 arg17 arg18 v299_r0 v3 v7 t v473 v474 v492 (k0_pay314 v3))
      let v507 : Vec F S16 .i32 ← Prog.lift (.load arg5 (Rect.unit (s := S3200) (k0_off4 t) S16.size (k0_off4_inb t)).toLoadRect (View.loadsAt_vmem h_S16))
      pure ⟨k0_pay319 v507, k0_pay320 v3, 16#32⟩) := by
  rw [k0_part39_eq_skeleton]
  unfold k0_part39_skel guardOut
  by_cases h : Scalar.cmpi .ne (Scalar.extui v474 : BitVec 32) 0#32 = 1#1
  · simp only [dif_pos h]; rfl
  · simp only [dif_neg h]; rfl

theorem part49_eq (t : Fin k0_t1_loop.trips) (arg19 : BitVec 32) :
    k0_part49 (F := F) i arg2 harg2 arg3 harg3 arg4 harg4 arg5 harg5 arg6 harg6 arg7 harg7 arg8 harg8 arg9 arg10 arg11 arg12 arg13 arg14 arg15 arg16 arg17 arg18 v299_r0 t arg19 = (do
      fireOne i arg3 arg6 arg7 384 (by decide) arg12
      waitFour i arg3 arg7 512 (by decide) arg13 arg14 arg15 arg16
      guardOut i arg4 arg8 (Scalar.cmpi .sge arg19 1#32) 64 (by decide) arg18
      let v826 : Vec F S16 .i32 ← Prog.lift (.load arg5 (Rect.unit (s := S3200) (k0_off12 t 1#32 0#32) S16.size (k0_off12_inb t 8)).toLoadRect (View.loadsAt_vmem h_S16))
      pure ⟨Scalar.addi (Scalar.muli 2#32 arg19) 1#32, k0_pay403 v826, k0_pay404⟩) := by
  rw [k0_part49_eq_skeleton]
  unfold k0_part49_skel guardOut
  by_cases h : Scalar.cmpi .ne (Scalar.extui (Scalar.cmpi .sge arg19 1#32) : BitVec 32) 0#32 = 1#1
  · simp only [dif_pos h]; rfl
  · simp only [dif_neg h]; rfl

set_option maxHeartbeats 4000000 in
theorem pairBody_eq (v2 : BitVec 32) : k0_t1_body (F := F) i arg2 harg2 arg3 harg3 arg4 harg4 arg5 harg5 arg6 harg6 arg7 harg7 arg8 harg8 arg9 arg10 arg11 arg12 arg13 arg14 arg15 arg16 arg17 arg18 v299_r0 v2 lanes halfv = pairBody i arg3 arg4 arg5 arg6 arg7 arg8 arg9 arg10 arg11 arg12 arg13 arg14 arg15 arg16 arg17 arg18 := by
  funext t u
  unfold k0_t1_body
  simp only [part39_eq, part49_eq, k0_part40_eq_skeleton, k0_part40_skel, k0_part41_eq_skeleton, k0_part41_skel, k0_part42_eq_skeleton, k0_part42_skel, k0_part50_eq_skeleton, k0_part50_skel, k0_part51_eq_skeleton, k0_part51_skel, k0_part52_eq_skeleton, k0_part52_skel, k0_part53_eq_skeleton, k0_part53_skel,
    pairBody, moveChunk, moveGroup, bind_assoc, pure_bind]
  rfl

/-- The kernel. -/
def tileProg : TProg (F := F) i PUnit := do
  Prog.lift (.enqueueDma (arg2.slice (Rect.unit (s := S102400) (k0_off1 i) S3200.size (k0_off1_inb i)) (fun _ => rfl)) (.here arg5) (.dma v299_r0.sem) (View.wordExact_bits rfl) harg5.wordExact ⟨Or.inl rfl, trivial⟩)
  Prog.lift (.waitDma2 v299_r0.sem (arg2.slice (Rect.unit (s := S102400) (k0_off1 i) S3200.size (k0_off1_inb i)) (fun _ => rfl)) arg5 (View.wordExact_bits rfl) harg5.wordExact)
  fireChunk i arg3 arg5 arg6 arg7 (offC 0) (offC_inb (by decide)) 0 (by decide) arg9 arg10 arg11 arg12
  Scf.Loop.for k0_t1_loop k0_t1_ok ⟨⟩ (pairBody i arg3 arg4 arg5 arg6 arg7 arg8 arg9 arg10 arg11 arg12 arg13 arg14 arg15 arg16 arg17 arg18)
  waitFour i arg3 arg7 0 (by decide) arg9 arg10 arg11 arg12
  waitOut i arg4 arg8 0 (by decide) arg17
  moveChunk i arg5 (winHalf arg7 0 (by decide)) (rowHalf arg8 0 (by decide)) (View.loads_vmem h_S512x16) (View.stores_vmem_bits_univ h_S64x128 rfl) (offC 3072) (offC_inb (by decide))
  sendOut i arg4 arg8 0 (by decide) arg17 (k0_off21 i) (k0_off21_inb i)
  waitOut i arg4 arg8 64 (by decide) arg18
  waitOut i arg4 arg8 0 (by decide) arg17

set_option maxHeartbeats 4000000 in
theorem kernel_eq_tileProg : cc0__sc_gather_kernel (F := F) i arg2 harg2 arg3 harg3 arg4 harg4 arg5 harg5 arg6 harg6 arg7 harg7 arg8 harg8 arg9 arg10 arg11 arg12 arg13 arg14 arg15 arg16 arg17 arg18 v299_r0 = tileProg i arg2 arg3 arg4 arg5 harg5 arg6 arg7 arg8 arg9 arg10 arg11 arg12 arg13 arg14 arg15 arg16 arg17 arg18 v299_r0 := by
  rw [cc0__sc_gather_kernel_eq_skeleton]
  unfold cc0__sc_gather_kernel_skel
  have hb : ∀ v2, k0_t1_body (F := F) i arg2 harg2 arg3 harg3 arg4 harg4 arg5 harg5 arg6 harg6 arg7 harg7 arg8 harg8 arg9 arg10 arg11 arg12 arg13 arg14 arg15 arg16 arg17 arg18 v299_r0 v2 (iota .scVector S16 32 [0] iota_S16_d0_w32_scVector) k0_pay590
      = pairBody i arg3 arg4 arg5 arg6 arg7 arg8 arg9 arg10 arg11 arg12 arg13 arg14 arg15 arg16 arg17 arg18 :=
    fun v2 => pairBody_eq (v2 := v2) ..
  simp only [k0_part70_eq_skeleton, k0_part70_skel, k0_part75_eq_skeleton, k0_part75_skel, k0_part76_eq_skeleton, k0_part76_skel, k0_part77_eq_skeleton, k0_part77_skel, k0_part78_eq_skeleton, k0_part78_skel, k0_part79_eq_skeleton, k0_part79_skel, hb,
    tileProg, moveChunk, moveGroup, bind_assoc, pure_bind]
  rfl

end Cert.KernelIdeal.Tile

end
-- ==== Proof.Ideal.Arith.lean ====
/- Values on the tile: what each lane of the kernel's index vectors is, what a window, a row list and a row
   buffer hold when they are right, and that one column moved keeps the row buffer right. -/
module

public import proofs.«01_k».proof.Proof.Ideal.Shape

@[expose] public section

noncomputable section

namespace Cert.KernelIdeal.Tile

open Idealize.ShloMosaic Idealize.SL.Sem Cert.KernelIdeal Cert.KernelIdeal.Gen

variable {F : FTy → Type} [FloatOps F]

/-! ## The lanes -/

theorem shrui_four (x : BitVec 32) : (IntOp.shrui .vector x 4#32).toNat = x.toNat / 16 := by
  unfold IntOp.shrui
  rw [if_pos (by decide)]
  simp [BitVec.toNat_ushiftRight, Nat.shiftRight_eq_div_pow]
theorem shrui_one (x : BitVec 32) : (IntOp.shrui .vector x 1#32).toNat = x.toNat / 2 := by
  unfold IntOp.shrui
  rw [if_pos (by decide)]
  simp [BitVec.toNat_ushiftRight, Nat.shiftRight_eq_div_pow]
theorem and_fifteen (x : BitVec 32) : (x &&& 15#32).toNat = x.toNat % 16 := by
  rw [BitVec.toNat_and]
  exact Nat.and_two_pow_sub_one_eq_mod x.toNat 4
theorem and_one' (x : BitVec 32) : (x &&& 1#32).toNat = x.toNat % 2 := by
  rw [BitVec.toNat_and]
  exact Nat.and_two_pow_sub_one_eq_mod x.toNat 1

theorem winRow_toNat (v : Vec F S16 .i32) (k : ℕ) (hk : k < 4) (x : S16.Idx) (hv : (v x).toNat < 400000) :
    (winRow v (BitVec.ofNat 32 k) x).toNat = 50 * (v x).toNat / 16 + k := by
  show (IntOp.shrui .vector (v x * 50#32) 4#32 + BitVec.ofNat 32 k).toNat = _
  have e : (v x).toNat * (50 % 2 ^ 32) % 2 ^ 32 = 50 * (v x).toNat := by omega
  rw [BitVec.toNat_add, shrui_four, BitVec.toNat_mul, BitVec.toNat_ofNat, BitVec.toNat_ofNat, e]
  omega

theorem sph_toNat (v : Vec F S16 .i32) (x : S16.Idx) (hv : (v x).toNat < 400000) :
    (sph v x).toNat = 50 * (v x).toNat % 16 := by
  show ((v x * 50#32) &&& 15#32).toNat = _
  rw [and_fifteen, BitVec.toNat_mul, BitVec.toNat_ofNat]
  omega

theorem lanes_toNat (x : S16.Idx) : (lanes x).toNat = (x 0).val := by
  have h : (x 0).val < 16 := (x 0).isLt
  show (BitVec.ofNat 32 (0 * 16 + (x 0).val)).toNat = _
  rw [BitVec.toNat_ofNat]
  omega

theorem halfv_toNat (x : S16.Idx) : (halfv x).toNat = 64 * ((x 0).val % 2) := by
  show (64#32 * (lanes x &&& 1#32)).toNat = _
  rw [BitVec.toNat_mul, and_one', lanes_toNat, BitVec.toNat_ofNat]
  omega

theorem prow_toNat (b : ℕ) (hb : b < 8) (x : S16.Idx) : (prow (BitVec.ofNat 32 (8 * b)) x).toNat = 8 * b + (x 0).val / 2 := by
  have h : (x 0).val < 16 := (x 0).isLt
  show (BitVec.ofNat 32 (8 * b) + IntOp.shrui .vector (lanes x) 1#32).toNat = _
  rw [BitVec.toNat_add, shrui_one, lanes_toNat, BitVec.toNat_ofNat]
  omega

theorem rowv_toNat (b : ℕ) (hb : b < 8) (x : S16.Idx) : (rowv (BitVec.ofNat 32 (16 * b)) x).toNat = 16 * b + (x 0).val := by
  have h : (x 0).val < 16 := (x 0).isLt
  show (BitVec.ofNat 32 (16 * b) + lanes x).toNat = _
  rw [BitVec.toNat_add, lanes_toNat, BitVec.toNat_ofNat]
  omega

theorem srcRow_toNat (v : Vec F S16 .i32) (b c : ℕ) (hb : b < 8) (hc : c < 50) (x : S16.Idx) (hv : (v x).toNat < 400000) :
    (srcRow (sph v) (rowv (BitVec.ofNat 32 (16 * b))) (BitVec.ofNat 32 c) x).toNat
      = 128 * ((50 * (v x).toNat % 16 + c) / 16) + 16 * b + (x 0).val := by
  have h : (x 0).val < 16 := (x 0).isLt
  show (128#32 * IntOp.shrui .vector (sph v x + BitVec.ofNat 32 c) 4#32 + rowv (BitVec.ofNat 32 (16 * b)) x).toNat = _
  rw [BitVec.toNat_add, BitVec.toNat_mul, shrui_four, BitVec.toNat_add, sph_toNat v x hv, rowv_toNat b hb, BitVec.toNat_ofNat, BitVec.toNat_ofNat]
  omega

theorem srcCol_toNat (v : Vec F S16 .i32) (c : ℕ) (hc : c < 50) (x : S16.Idx) (hv : (v x).toNat < 400000) :
    (srcCol (sph v) (BitVec.ofNat 32 c) x).toNat = (50 * (v x).toNat + c) % 16 := by
  show ((sph v x + BitVec.ofNat 32 c) &&& 15#32).toNat = _
  rw [and_fifteen, BitVec.toNat_add, sph_toNat v x hv, BitVec.toNat_ofNat]
  omega

theorem dstCol_toNat (c : ℕ) (hc : c < 50) (x : S16.Idx) :
    (dstCol halfv (BitVec.ofNat 32 c) x).toNat = 64 * ((x 0).val % 2) + c := by
  show (halfv x + BitVec.ofNat 32 c).toNat = _
  rw [BitVec.toNat_add, halfv_toNat, BitVec.toNat_ofNat]
  omega

/-! ## The indexed store, element by element -/

/-- What an unmasked indexed store leaves: an element some lane names holds the value of a lane that names it; an
    element no lane names is unchanged. -/
theorem storeIdx_cases {s : Shape} {e : EltTy} {d : Fin 1 → ℕ} (f : Vec F s e) (idxs : Fin s.rank → IVec ⟨1, d⟩ 32) (v : Vec F ⟨1, d⟩ e)
    (h : ∀ a x, (idxs a x).toNat < s.size a) (j : s.Idx) :
    (∃ x, (∀ a, (j a).val = (idxs a x).toNat) ∧ storeIdx f idxs v (fun _ => 1#1) false h j = v x)
      ∨ ((∀ x, ¬ ∀ a, (j a).val = (idxs a x).toNat) ∧ storeIdx f idxs v (fun _ => 1#1) false h j = f j) := by
  have key : ∀ (st : Vec F s e → Fin (d 0) → Vec F s e)
      (_ : ∀ g k, (∀ a, (j a).val = (idxs a (Shape.ofLane k)).toNat) → st g k j = v (Shape.ofLane k))
      (_ : ∀ g k, (¬ ∀ a, (j a).val = (idxs a (Shape.ofLane k)).toNat) → st g k j = g j) (l : List (Fin (d 0))) (g : Vec F s e),
      (∃ k ∈ l, (∀ a, (j a).val = (idxs a (Shape.ofLane k)).toNat) ∧ l.foldl st g j = v (Shape.ofLane k))
      ∨ ((∀ k ∈ l, ¬ ∀ a, (j a).val = (idxs a (Shape.ofLane k)).toNat) ∧ l.foldl st g j = g j) := by
    intro st h1 h2 l
    induction l with
    | nil => intro g; exact Or.inr ⟨by simp, rfl⟩
    | cons k l ih =>
      intro g
      simp only [List.foldl_cons]
      rcases ih (st g k) with ⟨k', hk', hj, he⟩ | ⟨hn, he⟩
      · exact Or.inl ⟨k', List.mem_cons_of_mem _ hk', hj, he⟩
      · by_cases hk : ∀ a, (j a).val = (idxs a (Shape.ofLane k)).toNat
        · exact Or.inl ⟨k, List.mem_cons_self, hk, he.trans (h1 g k hk)⟩
        · refine Or.inr ⟨fun k' hk' => ?_, he.trans (h2 g k hk)⟩
          rcases List.mem_cons.mp hk' with rfl | hk'
          · exact hk
          · exact hn k' hk'
  have hl : ∀ x : (⟨1, d⟩ : Shape).Idx, x = Shape.ofLane (x 0) := fun x => by
    funext a; obtain rfl := Fin.eq_zero a; rfl
  unfold storeIdx
  refine Or.imp (fun ⟨k, _, hj, he⟩ => ⟨Shape.ofLane k, hj, he⟩)
    (fun ⟨hn, he⟩ => ⟨fun x hx => hn (x 0) (List.mem_finRange _) (by rw [← hl x]; exact hx), he⟩) (key _ ?_ ?_ (List.finRange (d 0)) f)
  · intro g k hk
    dsimp only
    rw [if_pos (show (1#1 : BitVec 1) = 1 from rfl)]
    exact if_pos hk
  · intro g k hk
    dsimp only
    rw [if_pos (show (1#1 : BitVec 1) = 1 from rfl)]
    exact if_neg hk

/-! ## What the buffers hold -/

/-- `w` is element `n` of the table read in row-major order, whenever there is one. -/
def IsTab (tv : Vec F S1250000x16 .f32) (n : ℕ) (w : Elt F .f32) : Prop :=
  ∀ X : S1250000x16.Idx, 16 * (X 0).val + (X 1).val = n → w = tv X

variable (tv : Vec F S1250000x16 .f32) (ids : ℕ → ℕ)

/-- The row lists' piece `k` of the chunk whose first id is `ids n0`, its first `T` entries written. -/
def LstOK (n0 k T : ℕ) (l : Vec F S128 .i32) : Prop :=
  ∀ y : S128.Idx, (y 0).val < T → (l y).toNat = 50 * ids (n0 + (y 0).val) / 16 + k

/-- The windows of a chunk. -/
def WinOK (n0 : ℕ) (w : Vec F S512x16 .f32) : Prop :=
  ∀ y : S512x16.Idx, IsTab tv (16 * (50 * ids (n0 + (y 0).val % 128) / 16 + (y 0).val / 128) + (y 1).val) (w y)

/-- The chunk's rows, all of the groups before `b` and the columns below `c` of group `b` moved. -/
def RowsOK (n0 b c : ℕ) (g : Vec F S64x128 .f32) : Prop :=
  ∀ y : S64x128.Idx, ((y 0).val / 8 < b ∧ (y 1).val % 64 < 50 ∨ (y 0).val / 8 = b ∧ (y 1).val % 64 < c) →
    IsTab tv (50 * ids (n0 + 2 * (y 0).val + (y 1).val / 64) + (y 1).val % 64) (g y)

variable {tv ids}

theorem RowsOK.next {n0 b : ℕ} {g : Vec F S64x128 .f32} (h : RowsOK tv ids n0 b 50 g) : RowsOK tv ids n0 (b + 1) 0 g := by
  intro y hy
  refine h y ?_
  omega

/-- The index vectors of a column are in range. -/
theorem chk1_ok (v : Vec F S16 .i32) (hv : ∀ x, (v x).toNat < 400000) (b c : ℕ) (hb : b < 8) (hc : c < 50) :
    k0_chk1 (srcRow (sph v) (rowv (BitVec.ofNat 32 (16 * b))) (BitVec.ofNat 32 c)) (srcCol (sph v) (BitVec.ofNat 32 c)) := by
  intro a x
  have h : (x 0).val < 16 := (x 0).isLt
  fin_cases a
  · show (srcRow (sph v) (rowv (BitVec.ofNat 32 (16 * b))) (BitVec.ofNat 32 c) x).toNat < 512
    rw [srcRow_toNat v b c hb hc x (hv x)]
    omega
  · show (srcCol (sph v) (BitVec.ofNat 32 c) x).toNat < 16
    rw [srcCol_toNat v c hc x (hv x)]
    omega

theorem chk2_ok (b c : ℕ) (hb : b < 8) (hc : c < 50) :
    k0_chk2 (prow (BitVec.ofNat 32 (8 * b))) (dstCol halfv (BitVec.ofNat 32 c)) := by
  intro a x
  have h : (x 0).val < 16 := (x 0).isLt
  fin_cases a
  · show (prow (BitVec.ofNat 32 (8 * b)) x).toNat < 64
    rw [prow_toNat b hb]
    omega
  · show (dstCol halfv (BitVec.ofNat 32 c) x).toNat < 128
    rw [dstCol_toNat c hc]
    omega

/-- One column moved. -/
theorem RowsOK.step {n0 b c : ℕ} {w : Vec F S512x16 .f32} {g : Vec F S64x128 .f32} (hw : WinOK tv ids n0 w) (hg : RowsOK tv ids n0 b c g)
    (hb : b < 8) (hc : c < 50) (v : Vec F S16 .i32) (hv : ∀ x, (v x).toNat < 400000) (hi : ∀ x : S16.Idx, (v x).toNat = ids (n0 + 16 * b + (x 0).val))
    (h1 : ∀ a x, ((![srcRow (sph v) (rowv (BitVec.ofNat 32 (16 * b))) (BitVec.ofNat 32 c), srcCol (sph v) (BitVec.ofNat 32 c)] : Fin 2 → IVec S16 32) a x).toNat < S512x16.size a)
    (h2 : ∀ a x, ((![prow (BitVec.ofNat 32 (8 * b)), dstCol halfv (BitVec.ofNat 32 c)] : Fin 2 → IVec S16 32) a x).toNat < S64x128.size a) :
    RowsOK tv ids n0 b (c + 1) (storeIdx (s := S64x128) (e := .f32) (d := ![16]) g ![prow (BitVec.ofNat 32 (8 * b)), dstCol halfv (BitVec.ofNat 32 c)]
      (loadIdx (s := S512x16) (e := .f32) w ![srcRow (sph v) (rowv (BitVec.ofNat 32 (16 * b))) (BitVec.ofNat 32 c), srcCol (sph v) (BitVec.ofNat 32 c)] h1) (fun _ => 1#1) false h2) := by
  intro y hy
  rcases storeIdx_cases (s := S64x128) (e := .f32) (d := ![16]) g ![prow (BitVec.ofNat 32 (8 * b)), dstCol halfv (BitVec.ofNat 32 c)]
      (loadIdx (s := S512x16) (e := .f32) w ![srcRow (sph v) (rowv (BitVec.ofNat 32 (16 * b))) (BitVec.ofNat 32 c), srcCol (sph v) (BitVec.ofNat 32 c)] h1) h2 y with ⟨x, hx, he⟩ | ⟨hn, he⟩
  · rw [he]
    have hx0 : (y 0).val = 8 * b + (x 0).val / 2 := (hx 0).trans (prow_toNat b hb x)
    have hx1 : (y 1).val = 64 * ((x 0).val % 2) + c := (hx 1).trans (dstCol_toNat c hc x)
    have hxl : (x 0).val < 16 := (x 0).isLt
    intro X hX
    have e0 := srcRow_toNat v b c hb hc x (hv x)
    have e1 := srcCol_toNat v c hc x (hv x)
    have hxi := hi x
    refine hw (idxAt _ h1 x) X ?_
    rw [show (idxAt (s := S512x16) _ h1 x 0).val = _ from e0, show (idxAt (s := S512x16) _ h1 x 1).val = _ from e1]
    have a1 : (128 * ((50 * (v x).toNat % 16 + c) / 16) + 16 * b + (x 0).val) % 128 = 16 * b + (x 0).val := by omega
    have a2 : (128 * ((50 * (v x).toNat % 16 + c) / 16) + 16 * b + (x 0).val) / 128 = (50 * (v x).toNat % 16 + c) / 16 := by omega
    have a3 : n0 + 2 * (y 0).val + (y 1).val / 64 = n0 + 16 * b + (x 0).val := by omega
    have a4 : (y 1).val % 64 = c := by omega
    rw [a3, a4, ← hxi] at hX
    rw [a1, a2, ← Nat.add_assoc, ← hxi]
    omega
  · rw [he]
    refine hg y ?_
    by_contra hc'
    have hy0 : (y 0).val / 8 = b := by omega
    have hyc : (y 1).val % 64 = c := by omega
    have l0 : (y 0).val < 64 := (y 0).isLt
    have l1 : (y 1).val < 128 := (y 1).isLt
    have hxl : 2 * ((y 0).val - 8 * b) + (y 1).val / 64 < 16 := by omega
    refine hn (Shape.ofLane (d := ![16]) ⟨2 * ((y 0).val - 8 * b) + (y 1).val / 64, hxl⟩) fun a => ?_
    fin_cases a
    · refine Eq.trans ?_ (prow_toNat b hb (Shape.ofLane (d := ![16]) ⟨2 * ((y 0).val - 8 * b) + (y 1).val / 64, hxl⟩)).symm
      show (y 0).val = 8 * b + (2 * ((y 0).val - 8 * b) + (y 1).val / 64) / 2
      omega
    · refine Eq.trans ?_ (dstCol_toNat c hc (Shape.ofLane (d := ![16]) ⟨2 * ((y 0).val - 8 * b) + (y 1).val / 64, hxl⟩)).symm
      show (y 1).val = 64 * ((2 * ((y 0).val - 8 * b) + (y 1).val / 64) % 2) + c
      omega

end Cert.KernelIdeal.Tile

end
-- ==== Proof.Ideal.Base.lean ====
/- The program as the launch theorem of the SparseCore sees it, and the algebra its proof owns resources in. -/
module

public import proofs.«01_k».proof.Proof.Ideal.ShapeEq
public import proofs.«01_k».proof.Proof.Ideal.Arith
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
/-- The rounds of the two TensorCore regions' staging cells. -/
abbrev UP : Type := URounds (GSem nD τ sig) Unit
abbrev UU : Type := UH × (UP × Counters)

abbrev EH : Emb UH (MT nD τ sig (HIx 1) (Elt F) ℕ UU ℕ) := embL
def EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP embR; infer_instance

abbrev cV (L : grid0.Coords) : Fin τ.nSC := (L 0).castLE hcore0
abbrev jV (L : grid0.Coords) : Fin τ.nSub := (L 1).castLE hsub0

/-- The thread of tile `L`. -/
abbrev thr (d : Dev nD) (L : grid0.Coords) : Thread nD τ := V d (cV L) (jV L)

end Cert.KernelIdeal.Tile

end
-- ==== Proof.Ideal.Move.lean ====
/- A chunk's rows moved from the windows to the row buffer. -/
module

public import proofs.«01_k».proof.Proof.Ideal.Base

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid0.Coords)

theorem set_access_whole' {κ : Kind} {sp : Space} {s : Shape} {e : EltTy} (m : Memref sig κ sp s e) :
    (m.access (.whole s)).set = m.view.set := by
  rw [View.set_slice, Rect.set_whole]; rfl
theorem read_access_whole' {κ : Kind} {sp : Space} {s : Shape} {e : EltTy} (m : Memref sig κ sp s e) (f : m.view.ty.Contents (Elt F)) :
    (m.access (.whole s)).read (Elt F) f = m.view.read (Elt F) f := by
  funext x
  show _root_.cast _ (f (m.view.emb ((Rect.whole s).emb x))) = _root_.cast _ (f (m.view.emb x))
  rw [Rect.emb_whole_apply]
theorem write_access_whole' {κ : Kind} {sp : Space} {s : Shape} {e : EltTy} (m : Memref sig κ sp s e) (f : m.view.ty.Contents (Elt F)) (w : s.Idx → Elt F e) :
    m.view.read (Elt F) ((m.access (.whole s)).write (Elt F) f w Finset.univ) = w := by
  rw [← read_access_whole']; exact View.read_write_univ _ _

theorem set_access_subset {κ : Kind} {sp : Space} {s : Shape} {e : EltTy} (m : Memref sig κ sp s e) (r : Rect s) :
    (m.access r).set ⊆ m.view.set := by
  rw [View.set_slice]
  exact Finset.map_subset_map.mpr (Finset.subset_univ _)

variable (win : Memref sig .scVector .vmem S512x16 .f32) (rows : Memref sig .scVector .vmem S64x128 .f32)
    (hw : win.view.Loads) (hr : (rows.access (.whole S64x128)).Stores Finset.univ)
    {tv : Vec F S1250000x16 .f32} {ids : ℕ → ℕ}

/-- The windows' elements. -/
abbrev winPts (fw : Buf (Elt F) (win.view.loc (thr d i))) : sProp 𝕄 := win.view.loc (thr d i) ↦[win.view.set]{fullShare} fw
/-- The row buffer's elements, right up to column `c` of group `b`. -/
abbrev rowsAt (tv : Vec F S1250000x16 .f32) (ids : ℕ → ℕ) (n0 b c : ℕ) : sProp 𝕄 :=
  iprop(∃ fr, ⌜RowsOK tv ids n0 b c (rows.view.read (Elt F) fr)⌝ ∗ rows.view.loc (thr d i) ↦[rows.view.set]{fullShare} fr)

theorem wp_colStep (fw : Buf (Elt F) (win.view.loc (thr d i))) (n0 b c : ℕ) (hb : b < 8) (hc : c < 50)
    (hfw : WinOK tv ids n0 (win.view.read (Elt F) fw))
    (v : Vec F S16 .i32) (hv : ∀ x, (v x).toNat < 400000) (hi : ∀ x : S16.Idx, (v x).toNat = ids (n0 + 16 * b + (x 0).val)) :
    iprop(winPts d i win fw ∗ rowsAt d i rows tv ids n0 b c)
      ⊢ wp frame (wpE (defs₀ (F := F)) 𝒱₀ (thr d i) none) Set.univ
        (colStep i win rows hw hr (sph v) (rowv (BitVec.ofNat 32 (16 * b))) (prow (BitVec.ofNat 32 (8 * b))) halfv (BitVec.ofNat 32 c))
        fun _ => iprop(winPts d i win fw ∗ rowsAt d i rows tv ids n0 b (c + 1)) := by
  unfold colStep

  iintro H
  icases H with ⟨Hw, H⟩
  icases H with ⟨%fr, %hfr, Hr⟩
  iapply (wp_assume (defs := defs₀ (F := F)) 𝒱₀ (thr d i) none Set.univ (chk1_ok v hv b c hb hc))
  iapply (SparseCore.wp_vectorLoadIdx (defs := defs₀ (F := F)) 𝒱₀ (thr d i) none Set.univ (base := win) (hl := hw) (S := win.view.set) (by rw [set_access_whole'])) $$ Hw
  iintro Hw
  iapply (wp_assume (defs := defs₀ (F := F)) 𝒱₀ (thr d i) none Set.univ (chk2_ok b c hb hc))
  rw [show ∀ (x : PLift (k0_chk2 (prow (BitVec.ofNat 32 (8 * b))) (dstCol halfv (BitVec.ofNat 32 c)))) (f : _ → TProg (F := F) i PUnit), (Prog.ret x).bind f = f x >>= pure from
    fun x f => (Prog.bind_pure (f x)).symm]
  ihave Hr := (Entails.of_eq (show (rows.view.loc (thr d i) ↦[rows.view.set]{fullShare} fr : sProp 𝕄)
    = ((rows.access (.whole S64x128)).loc (thr d i) ↦[(rows.access (.whole S64x128)).set]{fullShare} fr) by rw [set_access_whole'])) $$ Hr
  iapply (SparseCore.wp_vectorStoreIdx (defs := defs₀ (F := F)) 𝒱₀ (thr d i) none Set.univ (base := rows) (hs := hr)) $$ Hr
  iintro Hr
  rw [wp_pure]
  imodintro
  isplitl [Hw]; · iexact Hw
  iexists _
  isplitr
  swap
  · iapply (Entails.of_eq (show ((rows.access (.whole S64x128)).loc (thr d i) ↦[(rows.access (.whole S64x128)).set]{fullShare} _ : sProp 𝕄)
      = (rows.view.loc (thr d i) ↦[rows.view.set]{fullShare} _) by rw [set_access_whole']))
    iexact Hr
  · ipureintro
    rw [write_access_whole', read_access_whole', read_access_whole']
    exact RowsOK.step hfw hfr hb hc v hv hi _ _

/-- One program after another. -/
theorem wp_seq {α β : Type} {p : TProg (F := F) i α} {k : α → TProg (F := F) i β} {P R : sProp 𝕄} {Q : β → sProp 𝕄}
    (h1 : P ⊢ wp frame (wpE (defs₀ (F := F)) 𝒱₀ (thr d i) none) Set.univ p fun _ => R)
    (h2 : ∀ a, R ⊢ wp frame (wpE (defs₀ (F := F)) 𝒱₀ (thr d i) none) Set.univ (k a) Q) :
    P ⊢ wp frame (wpE (defs₀ (F := F)) 𝒱₀ (thr d i) none) Set.univ (p >>= k) Q := by
  rw [wp_bind]
  exact h1.trans (wp_mono frame _ _ h2)

/-- A column's number. -/
theorem col_eq (t : Fin k0_t2_loop.trips) (m : ℕ) (hm : m < 5) :
    Scalar.addi (Scalar.muli 5#32 (Scf.iv 0#32 1#32 t)) (BitVec.ofNat 32 m) = BitVec.ofNat 32 (5 * t.val + m) := by
  have ht : t.val < 10 := t.isLt
  apply BitVec.eq_of_toNat_eq
  show (5#32 * (0#32 + BitVec.ofNat 32 t.val * 1#32) + BitVec.ofNat 32 m).toNat = _
  simp only [BitVec.toNat_add, BitVec.toNat_mul, BitVec.toNat_ofNat]
  omega

theorem wp_colBody (fw : Buf (Elt F) (win.view.loc (thr d i))) (n0 b : ℕ) (hb : b < 8)
    (hfw : WinOK tv ids n0 (win.view.read (Elt F) fw))
    (v : Vec F S16 .i32) (hv : ∀ x, (v x).toNat < 400000) (hi : ∀ x : S16.Idx, (v x).toNat = ids (n0 + 16 * b + (x 0).val))
    (t : Fin k0_t2_loop.trips) (u : Unit) :
    iprop(winPts d i win fw ∗ rowsAt d i rows tv ids n0 b (5 * t.val))
      ⊢ wp frame (wpE (defs₀ (F := F)) 𝒱₀ (thr d i) none) Set.univ
        (colBody i win rows hw hr (sph v) (rowv (BitVec.ofNat 32 (16 * b))) (prow (BitVec.ofNat 32 (8 * b))) halfv t u)
        fun _ => iprop(winPts d i win fw ∗ rowsAt d i rows tv ids n0 b (5 * (t.val + 1))) := by
  have ht : t.val < 10 := t.isLt
  unfold colBody
  rw [col_eq t 0 (by omega), col_eq t 1 (by omega), col_eq t 2 (by omega), col_eq t 3 (by omega), col_eq t 4 (by omega)]
  refine wp_seq d i (wp_colStep d i win rows hw hr fw n0 b _ hb (by omega) hfw v hv hi) fun _ => ?_
  refine wp_seq d i (wp_colStep d i win rows hw hr fw n0 b _ hb (by omega) hfw v hv hi) fun _ => ?_
  refine wp_seq d i (wp_colStep d i win rows hw hr fw n0 b _ hb (by omega) hfw v hv hi) fun _ => ?_
  refine wp_seq d i (wp_colStep d i win rows hw hr fw n0 b _ hb (by omega) hfw v hv hi) fun _ => ?_
  refine wp_seq d i (wp_colStep d i win rows hw hr fw n0 b _ hb (by omega) hfw v hv hi) fun _ => ?_
  iintro H
  rw [wp_pure]
  imodintro
  iexact H

variable (arg5 : Memref sig .scVector .vmem S3200 .i32)

/-- The tile's ids. -/
abbrev idPts (fi : Buf (Elt F) (arg5.view.loc (thr d i))) : sProp 𝕄 := arg5.view.loc (thr d i) ↦[arg5.view.set]{fullShare} fi

theorem ids_read (fi : Buf (Elt F) (arg5.view.loc (thr d i))) (hfi : ∀ y, (arg5.view.read (Elt F) fi y : BitVec 32).toNat = ids (y 0).val)
    (o : Fin 1 → ℕ) (ho : ∀ a, o a + S16.size a ≤ S3200.size a) (x : S16.Idx) :
    ((arg5.access (Rect.unit (s := S3200) o S16.size ho)).read (Elt F) fi x : BitVec 32).toNat = ids (o 0 + (x 0).val) := by
  refine (hfi ((Rect.unit (s := S3200) o S16.size ho).emb x)).trans (congrArg ids ?_)
  show o 0 + 1 * (x 0).val = _
  omega

theorem wp_moveGroup (fw : Buf (Elt F) (win.view.loc (thr d i))) (fi : Buf (Elt F) (arg5.view.loc (thr d i))) (n0 b : ℕ) (hb : b < 8)
    (hids : ∀ n, ids n < 400000) (hfi : ∀ y, (arg5.view.read (Elt F) fi y : BitVec 32).toNat = ids (y 0).val)
    (hfw : WinOK tv ids n0 (win.view.read (Elt F) fw))
    (o : Fin 1 → ℕ) (ho : ∀ a, o a + S16.size a ≤ S3200.size a) (hoe : o 0 = n0 + 16 * b) :
    iprop(idPts d i arg5 fi ∗ winPts d i win fw ∗ rowsAt d i rows tv ids n0 b 0)
      ⊢ wp frame (wpE (defs₀ (F := F)) 𝒱₀ (thr d i) none) Set.univ
        (moveGroup i arg5 win rows hw hr o ho (BitVec.ofNat 32 (8 * b)) (BitVec.ofNat 32 (16 * b)))
        fun _ => iprop(idPts d i arg5 fi ∗ winPts d i win fw ∗ rowsAt d i rows tv ids n0 (b + 1) 0) := by
  unfold moveGroup
  iintro ⟨Hi, HW⟩
  iapply (wp_load_rect (defs := defs₀ (F := F)) 𝒱₀ (thr d i) none Set.univ (m := arg5) (r := Rect.unit (s := S3200) o S16.size ho) (S := arg5.view.set) (set_access_subset arg5 _)) $$ Hi
  iintro Hi
  iapply (Scf.wp_for frame _ _ _ _ _ _ _ _ (fun t _ => iprop(winPts d i win fw ∗ rowsAt d i rows tv ids n0 b (5 * t)))
    (wp_colBody d i win rows hw hr fw n0 b hb hfw _ (fun x => by rw [ids_read d i arg5 fi hfi]; exact hids _)
      (fun x => by rw [ids_read d i arg5 fi hfi, hoe])))
  isplitl [HW]; · iexact HW
  iintro %u ⟨HW, %fr, %hfr, Hr⟩
  isplitl [Hi]; · iexact Hi
  isplitl [HW]; · iexact HW
  iexists fr
  isplitr
  · ipureintro; exact RowsOK.next hfr
  · iexact Hr

theorem wp_moveChunk (fw : Buf (Elt F) (win.view.loc (thr d i))) (fi : Buf (Elt F) (arg5.view.loc (thr d i))) (n0 : ℕ)
    (hids : ∀ n, ids n < 400000) (hfi : ∀ y, (arg5.view.read (Elt F) fi y : BitVec 32).toNat = ids (y 0).val)
    (hfw : WinOK tv ids n0 (win.view.read (Elt F) fw))
    (o : Fin 8 → Fin 1 → ℕ) (ho : ∀ b a, o b a + S16.size a ≤ S3200.size a) (hoe : ∀ b, o b 0 = n0 + 16 * b.val) :
    iprop(idPts d i arg5 fi ∗ winPts d i win fw ∗ rowsAt d i rows tv ids n0 0 0)
      ⊢ wp frame (wpE (defs₀ (F := F)) 𝒱₀ (thr d i) none) Set.univ
        (moveChunk i arg5 win rows hw hr o ho)
        fun _ => iprop(idPts d i arg5 fi ∗ winPts d i win fw ∗ rowsAt d i rows tv ids n0 8 0) := by
  unfold moveChunk
  refine wp_seq d i (wp_moveGroup d i win rows hw hr arg5 fw fi n0 0 (by omega) hids hfi hfw (o 0) (ho 0) (hoe 0)) fun _ => ?_
  refine wp_seq d i (wp_moveGroup d i win rows hw hr arg5 fw fi n0 1 (by omega) hids hfi hfw (o 1) (ho 1) (hoe 1)) fun _ => ?_
  refine wp_seq d i (wp_moveGroup d i win rows hw hr arg5 fw fi n0 2 (by omega) hids hfi hfw (o 2) (ho 2) (hoe 2)) fun _ => ?_
  refine wp_seq d i (wp_moveGroup d i win rows hw hr arg5 fw fi n0 3 (by omega) hids hfi hfw (o 3) (ho 3) (hoe 3)) fun _ => ?_
  refine wp_seq d i (wp_moveGroup d i win rows hw hr arg5 fw fi n0 4 (by omega) hids hfi hfw (o 4) (ho 4) (hoe 4)) fun _ => ?_
  refine wp_seq d i (wp_moveGroup d i win rows hw hr arg5 fw fi n0 5 (by omega) hids hfi hfw (o 5) (ho 5) (hoe 5)) fun _ => ?_
  refine wp_seq d i (wp_moveGroup d i win rows hw hr arg5 fw fi n0 6 (by omega) hids hfi hfw (o 6) (ho 6) (hoe 6)) fun _ => ?_
  exact wp_moveGroup d i win rows hw hr arg5 fw fi n0 7 (by omega) hids hfi hfw (o 7) (ho 7) (hoe 7)

end Cert.KernelIdeal.Tile

end
-- ==== Proof.Ideal.Fire.lean ====
/- A chunk's row lists written, its gathers started and waited for. -/
module

public import proofs.«01_k».proof.Proof.Ideal.Move

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid0.Coords)

variable (arg3 : Memref sig .scVector .hbm S1250000x16 .f32) (arg5 : Memref sig .scVector .vmem S3200 .i32)
  (arg6 : Memref sig .scVector .vmem S1024 .i32) (arg7 : Memref sig .scVector .vmem S1024x16 .f32)

/-- What a store of sixteen words into a row list reads back as. -/
theorem lst_read_in (q b : ℕ) (hq : q ≤ 896) (r : ℕ) (hr : r = q + 16 * b) (hri : ∀ a, (![r] : Fin 1 → ℕ) a + S16.size a ≤ S1024.size a)
    (f : Buf (Elt F) (arg6.view.loc (thr d i))) (w : S16.Idx → Elt F .i32) (y : S128.Idx) (x : S16.Idx) (hy : (y 0).val = 16 * b + (x 0).val) :
    (lstOf arg6 q hq).view.read (Elt F) ((arg6.access (Rect.unit (s := S1024) ![r] S16.size hri)).write (Elt F) f w Finset.univ) y = w x := by
  have e : (Rect.unit (s := S1024) ![q] S128.size (lst_inb hq)).emb y = (Rect.unit (s := S1024) ![r] S16.size hri).emb x := by
    funext a
    apply Fin.ext
    fin_cases a
    show q + 1 * (y 0).val = r + 1 * (x 0).val
    omega
  refine Eq.trans ?_ (View.read_slice_write_emb (v := arg6.view) (Rect.unit (s := S1024) ![r] S16.size hri) f w (Finset.mem_univ x))
  rw [← e]
  rfl

theorem lst_read_out (q b : ℕ) (hq : q ≤ 896) (r : ℕ) (hr : r = q + 16 * b) (hri : ∀ a, (![r] : Fin 1 → ℕ) a + S16.size a ≤ S1024.size a)
    (f : Buf (Elt F) (arg6.view.loc (thr d i))) (w : S16.Idx → Elt F .i32) (y : S128.Idx) (hy : (y 0).val < 16 * b) :
    (lstOf arg6 q hq).view.read (Elt F) ((arg6.access (Rect.unit (s := S1024) ![r] S16.size hri)).write (Elt F) f w Finset.univ) y
      = (lstOf arg6 q hq).view.read (Elt F) f y := by
  refine View.read_slice_write_of_not_mem (v := arg6.view) (Rect.unit (s := S1024) ![r] S16.size hri) f w Finset.univ
    (y := (Rect.unit (s := S1024) ![q] S128.size (lst_inb hq)).emb y) ?_
  rw [Rect.map_emb_univ, Rect.mem_set_unit]
  intro h
  have h0 := (h 0).1
  change r ≤ q + 1 * (y 0).val at h0
  omega

/-- A store lies inside its row list. -/
theorem lst_subset (q b : ℕ) (hb : b < 8) (hq : q ≤ 896) (r : ℕ) (hr : r = q + 16 * b) (hri : ∀ a, (![r] : Fin 1 → ℕ) a + S16.size a ≤ S1024.size a) :
    (arg6.access (Rect.unit (s := S1024) ![r] S16.size hri)).set ⊆ (lstOf arg6 q hq).view.set := by
  rw [View.set_slice, View.set_slice]
  refine Finset.map_subset_map.mpr fun x hx => ?_
  rw [Rect.mem_set_unit] at hx ⊢
  intro a
  have := hx a
  fin_cases a
  change r ≤ (x 0).val ∧ (x 0).val < r + 16 at this
  show q ≤ (x 0).val ∧ (x 0).val < q + 128
  omega

variable {tv : Vec F S1250000x16 .f32} {ids : ℕ → ℕ}

/-- A row list, right below entry `T`. -/
abbrev LstP (ids : ℕ → ℕ) (q : ℕ) (hq : q ≤ 896) (n0 k T : ℕ) : sProp 𝕄 :=
  iprop(∃ f, ⌜LstOK ids n0 k T ((lstOf arg6 q hq).view.read (Elt F) f)⌝ ∗ arg6.view.loc (thr d i) ↦[(lstOf arg6 q hq).view.set]{fullShare} f)

theorem LstP_any (q : ℕ) (hq : q ≤ 896) (n0 k T n1 k1 : ℕ) :
    (LstP d i arg6 ids q hq n0 k T : sProp 𝕄) ⊢ LstP (F := F) d i arg6 ids q hq n1 k1 0 := by
  iintro ⟨%f, %hf, H⟩
  iexists f
  isplitr
  · ipureintro; exact fun y hy => absurd hy (Nat.not_lt_zero _)
  · iexact H

/-- The store of one group's sixteen words. -/
theorem wp_putRows (q b k n0 : ℕ) (hq : q ≤ 896) (hb : b < 8) (hk : k < 4) (r : ℕ) (hr : r = q + 16 * b)
    (hri : ∀ a, (![r] : Fin 1 → ℕ) a + S16.size a ≤ S1024.size a)
    (v : Vec F S16 .i32) (hv : ∀ x, (v x).toNat < 400000) (hi : ∀ x : S16.Idx, (v x).toNat = ids (n0 + 16 * b + (x 0).val))
    {β : Type} (kk : TProg (F := F) i β) (Q : β → sProp 𝕄) :
    iprop(LstP d i arg6 ids q hq n0 k (16 * b) ∗ (LstP d i arg6 ids q hq n0 k (16 * (b + 1)) -∗ wp frame (wpE (defs₀ (F := F)) 𝒱₀ (thr d i) none) Set.univ kk Q))
      ⊢ wp frame (wpE (defs₀ (F := F)) 𝒱₀ (thr d i) none) Set.univ
        (.op (.load arg6 (Rect.unit (s := S1024) ![r] S16.size hri).toLoadRect (View.loadsAt_vmem h_S16)) fun _ =>
          .op (.store arg6 (Rect.unit (s := S1024) ![r] S16.size hri) (winRow v (BitVec.ofNat 32 k)) Finset.univ (View.stores_vmem_bits_univ h_S16 rfl) (.inl rfl)) fun _ => kk) Q := by
  iintro ⟨⟨%f, %hf, H⟩, Hk⟩
  iapply (wp_load_rect (defs := defs₀ (F := F)) 𝒱₀ (thr d i) none Set.univ (m := arg6) (r := Rect.unit (s := S1024) ![r] S16.size hri)
    (S := (lstOf arg6 q hq).view.set) (lst_subset arg6 q b hb hq r hr hri)) $$ H
  iintro H
  iapply (wp_store (defs := defs₀ (F := F)) 𝒱₀ (thr d i) none Set.univ (m := arg6) (r := Rect.unit (s := S1024) ![r] S16.size hri)
    (S := (lstOf arg6 q hq).view.set) (lst_subset arg6 q b hb hq r hr hri)) $$ H
  iintro H
  iapply Hk
  iexists _
  isplitr
  swap
  · iexact H
  · ipureintro
    intro y hy
    by_cases h : (y 0).val < 16 * b
    · rw [lst_read_out d i arg6 q b hq r hr hri f _ y h]
      exact hf y h
    · have hlt : (y 0).val - 16 * b < 16 := by omega
      let x : S16.Idx := fun a => ⟨(y 0).val - 16 * b, by fin_cases a; exact hlt⟩
      have hx : (x 0).val = (y 0).val - 16 * b := rfl
      rw [lst_read_in d i arg6 q b hq r hr hri f _ y x (by omega)]
      refine (winRow_toNat v k hk x (hv x)).trans ?_
      rw [hi x, hx, show n0 + 16 * b + ((y 0).val - 16 * b) = n0 + (y 0).val by omega]

/-- The four row lists of a half. -/
abbrev Lsts (ids : ℕ → ℕ) (q : ℕ) (hq : q ≤ 512) (n0 T : ℕ) : sProp 𝕄 :=
  iprop(LstP d i arg6 ids q (by omega) n0 0 T ∗ LstP d i arg6 ids (q + 128) (by omega) n0 1 T
    ∗ LstP d i arg6 ids (q + 256) (by omega) n0 2 T ∗ LstP d i arg6 ids (q + 384) (by omega) n0 3 T)

theorem wp_fireGroup (q : ℕ) (hq : q ≤ 512) (n0 b : ℕ) (hb : b < 8) (fi : Buf (Elt F) (arg5.view.loc (thr d i)))
    (hids : ∀ n, ids n < 400000) (hfi : ∀ y, (arg5.view.read (Elt F) fi y : BitVec 32).toNat = ids (y 0).val)
    (o : Fin 1 → ℕ) (ho : ∀ a, o a + S16.size a ≤ S3200.size a) (hoe : o 0 = n0 + 16 * b) :
    iprop(idPts d i arg5 fi ∗ Lsts d i arg6 ids q hq n0 (16 * b))
      ⊢ wp frame (wpE (defs₀ (F := F)) 𝒱₀ (thr d i) none) Set.univ
        (fireGroup i arg5 arg6 o ho (grp q b) (grp_inb hq hb))
        fun _ => iprop(idPts d i arg5 fi ∗ Lsts d i arg6 ids q hq n0 (16 * (b + 1))) := by
  unfold fireGroup
  iintro ⟨Hi, H0, H1, H2, H3⟩
  iapply (wp_load_rect (defs := defs₀ (F := F)) 𝒱₀ (thr d i) none Set.univ (m := arg5) (r := Rect.unit (s := S3200) o S16.size ho) (S := arg5.view.set) (set_access_subset arg5 _)) $$ Hi
  iintro Hi
  have hv : ∀ x, ((arg5.access (Rect.unit (s := S3200) o S16.size ho)).read (Elt F) fi x : BitVec 32).toNat < 400000 :=
    fun x => by rw [ids_read d i arg5 fi hfi]; exact hids _
  have hi : ∀ x : S16.Idx, ((arg5.access (Rect.unit (s := S3200) o S16.size ho)).read (Elt F) fi x : BitVec 32).toNat = ids (n0 + 16 * b + (x 0).val) :=
    fun x => by rw [ids_read d i arg5 fi hfi, hoe]
  iapply (wp_putRows d i arg6 (ids := ids) q b 0 n0 (by omega) hb (by omega) (grp q b 0) (by simp [grp]) _ _ hv hi)
  isplitl [H0]; · iexact H0
  iintro H0
  iapply (wp_putRows d i arg6 (ids := ids) (q + 128) b 1 n0 (by omega) hb (by omega) (grp q b 1) (by simp [grp]) _ _ hv hi)
  isplitl [H1]; · iexact H1
  iintro H1
  iapply (wp_putRows d i arg6 (ids := ids) (q + 256) b 2 n0 (by omega) hb (by omega) (grp q b 2) (by simp [grp]) _ _ hv hi)
  isplitl [H2]; · iexact H2
  iintro H2
  iapply (wp_putRows d i arg6 (ids := ids) (q + 384) b 3 n0 (by omega) hb (by omega) (grp q b 3) (by simp [grp]) _ _ hv hi)
  isplitl [H3]; · iexact H3
  iintro H3
  rw [wp_ret]
  imodintro
  isplitl [Hi]; · iexact Hi
  isplitl [H0]; · iexact H0
  isplitl [H1]; · iexact H1
  isplitl [H2]; · iexact H2
  iexact H3

/-- One piece of a chunk's windows. -/
def PieceOK (tv : Vec F S1250000x16 .f32) (ids : ℕ → ℕ) (n0 k : ℕ) (w : Vec F S128x16 .f32) : Prop :=
  ∀ y : S128x16.Idx, IsTab tv (16 * (50 * ids (n0 + (y 0).val) / 16 + k) + (y 1).val) (w y)

abbrev WinAny (q : ℕ) (hq : q ≤ 896) : sProp 𝕄 :=
  iprop(∃ f, arg7.view.loc (thr d i) ↦[(winOf arg7 q hq).view.set]{fullShare} f)
abbrev WinP (tv : Vec F S1250000x16 .f32) (ids : ℕ → ℕ) (q : ℕ) (hq : q ≤ 896) (n0 k : ℕ) : sProp 𝕄 :=
  iprop(∃ f, ⌜PieceOK tv ids n0 k ((winOf arg7 q hq).view.read (Elt F) f)⌝ ∗ arg7.view.loc (thr d i) ↦[(winOf arg7 q hq).view.set]{fullShare} f)
/-- A share of the table. -/
abbrev TabP (ft : Buf (Elt F) (arg3.view.loc (thr d i))) (p : PosShare TreeShare) : sProp 𝕄 :=
  arg3.view.loc (thr d i) ↦[(tabAll arg3).view.set]{p} ft

/-- What a gather credits its semaphore by is what its wait takes. -/
def Credits : Prop := ∀ q hq, ∑ j, ((winOf arg7 q hq).slice (S128x16.rowRect gathers_S1250000x16_S128x16.axis' j)
  (S128x16.stride_rowRect gathers_S1250000x16_S128x16.axis' j)).view.dmaCredit = (winOf arg7 q hq).view.dmaCredit

/-- A gather under way. -/
abbrev GFlight (tv : Vec F S1250000x16 .f32) (ids : ℕ → ℕ) (ft : Buf (Elt F) (arg3.view.loc (thr d i))) (p : PosShare TreeShare)
    (q : ℕ) (hq : q ≤ 896) (n0 k : ℕ) (sm : DmaSems sig S_) : sProp 𝕄 :=
  Transfers.Flight countersEmb (thr d i) (.dma sm.sem) (default : HIx 1) ((winOf arg7 q hq).view.dmaCredit)
    iprop(WinP d i arg7 tv ids q hq n0 k ∗ TabP d i arg3 ft p ∗ LstP d i arg6 ids q hq 0 0 0)

theorem wp_fireOne (hcr : Credits arg7) (ft : Buf (Elt F) (arg3.view.loc (thr d i))) (htv : (tabAll arg3).view.read (Elt F) ft = tv)
    (p : PosShare TreeShare) (q : ℕ) (hq : q ≤ 896) (n0 k : ℕ) (hk : k < 4) (sm : DmaSems sig S_) (hids : ∀ n, ids n < 400000) :
    iprop(LstP d i arg6 ids q hq n0 k 128 ∗ WinAny d i arg7 q hq ∗ TabP d i arg3 ft p ∗ semVal (thr d i, SemLoc.dma sm.sem) 0)
      ⊢ wp frame (wpE (defs₀ (F := F)) 𝒱₀ (thr d i) none) Set.univ (fireOne i arg3 arg6 arg7 q hq sm)
        fun _ => GFlight d i arg3 arg6 arg7 tv ids ft p q hq n0 k sm := by
  rw [show fireOne (F := F) i arg3 arg6 arg7 q hq sm = fireOne i arg3 arg6 arg7 q hq sm >>= pure from (Prog.bind_pure _).symm]
  unfold fireOne
  iintro ⟨⟨%fo, %hfo, Hl⟩, ⟨%fd, Hw⟩, Ht, Hs⟩
  have hin : ∀ x, ((lstOf arg6 q hq).view.read (Elt F) fo x : BitVec 32).toNat < S1250000x16.size gathers_S1250000x16_S128x16.axis := by
    intro x
    rw [hfo x (x 0).isLt]
    have := hids (n0 + (x 0).val)
    show _ < 1250000
    omega
  iapply (SparseCore.wp_indirectGatherLocal (defs := defs₀ (F := F)) countersEmb 𝒱₀ (thr d i) none (src := tabAll arg3) (dst := winOf arg7 q hq) (offs := lstOf arg6 q hq)
    (hg := gathers_S1250000x16_S128x16) (default : HIx 1) ((winOf arg7 q hq).view.dmaCredit) (hcr q hq) (by decide) hin (q := p) (qo := fullShare) (fs := ft) (fd := fd) (fo := fo))
    $$ [Hl Hw Ht Hs]
  · isplitl [Ht]; · iexact Ht
    isplitl [Hw]; · iexact Hw
    isplitl [Hl]; · iexact Hl
    iexact Hs
  iintro HF
  rw [wp_pure]
  imodintro
  iapply (Transfers.Flight_mono countersEmb (thr d i) ?_) $$ HF
  iintro ⟨Hw, Ht, Hl⟩
  isplitl [Hw]
  · iexists _
    isplitr
    swap
    · iexact Hw
    · ipureintro
      rw [View.read_write_univ]
      intro y X hX
      rw [htv]
      unfold SparseCore.gatherPayload
      refine congrArg tv ?_
      have h1 : (X 1).val < 16 := (X 1).isLt
      have hy1 : (y 1).val < 16 := (y 1).isLt
      funext a
      apply Fin.ext
      match a with
      | ⟨0, _⟩ =>
        refine (congrArg Fin.val (Shape.Gathers.idx_axis gathers_S1250000x16_S128x16 _ y)).trans ?_
        refine (hfo (S128.rowMajor.symm (Fin.cast _ (y gathers_S1250000x16_S128x16.axis'))) (Fin.isLt _)).trans ?_
        have e : (S128.rowMajor.symm (Fin.cast rfl (y gathers_S1250000x16_S128x16.axis')) 0).val = (y 0).val := by
          have := S128.rowMajor.apply_symm_apply (Fin.cast rfl (y gathers_S1250000x16_S128x16.axis'))
          have h2 := congrArg Fin.val this
          rw [show (S128.rowMajor (S128.rowMajor.symm (Fin.cast rfl (y gathers_S1250000x16_S128x16.axis')))).val
            = (S128.rowMajor.symm (Fin.cast rfl (y gathers_S1250000x16_S128x16.axis')) 0).val from by
              rw [Shape.rowMajor_val_one]] at h2
          exact h2
        refine (congrArg (fun n => 50 * ids (n0 + n) / 16 + k) e).trans ?_
        show _ = (X 0).val
        omega
      | ⟨1, h⟩ =>
        refine (Shape.Gathers.idx_of_ne gathers_S1250000x16_S128x16 _ y ⟨1, h⟩ Nat.one_ne_zero).trans ?_
        show (y 1).val = (X 1).val
        omega
  isplitl [Ht]; · iexact Ht
  iexists fo
  isplitr
  · ipureintro; exact fun y hy => absurd hy (Nat.not_lt_zero _)
  · iexact Hl

/-- The pieces of a half of the windows. -/
theorem win_sets (q : ℕ) (hq : q ≤ 512) (k : Fin 4) : q + 128 * k.val ≤ 896 := by omega

theorem winHalf_set (q : ℕ) (hq : q ≤ 512) :
    (winHalf arg7 q hq).view.set = Finset.univ.biUnion fun k : Fin 4 => (winOf arg7 (q + 128 * k.val) (win_sets q hq k)).view.set := by
  ext x
  simp only [Finset.mem_biUnion, Finset.mem_univ, true_and]
  constructor
  · intro hx
    rw [View.set_slice] at hx
    obtain ⟨y, hy, rfl⟩ := Finset.mem_map.mp hx
    rw [Rect.mem_set_unit] at hy
    have h0 := hy 0
    have h1 := hy 1
    change q ≤ (y 0).val ∧ (y 0).val < q + 512 at h0
    change 0 ≤ (y 1).val ∧ (y 1).val < 0 + 16 at h1
    refine ⟨⟨((y 0).val - q) / 128, by omega⟩, ?_⟩
    rw [View.set_slice]
    refine Finset.mem_map.mpr ⟨y, ?_, rfl⟩
    rw [Rect.mem_set_unit]
    intro a
    match a with
    | ⟨0, _⟩ =>
      show q + 128 * (((y 0).val - q) / 128) ≤ (y 0).val ∧ (y 0).val < q + 128 * (((y 0).val - q) / 128) + 128
      omega
    | ⟨1, _⟩ => exact h1
  · rintro ⟨k, hx⟩
    rw [View.set_slice] at hx
    obtain ⟨y, hy, rfl⟩ := Finset.mem_map.mp hx
    rw [Rect.mem_set_unit] at hy
    have h0 := hy 0
    have h1 := hy 1
    have := k.isLt
    change q + 128 * k.val ≤ (y 0).val ∧ (y 0).val < q + 128 * k.val + 128 at h0
    change 0 ≤ (y 1).val ∧ (y 1).val < 0 + 16 at h1
    rw [View.set_slice]
    refine Finset.mem_map.mpr ⟨y, ?_, rfl⟩
    rw [Rect.mem_set_unit]
    intro a
    match a with
    | ⟨0, _⟩ =>
      show q ≤ (y 0).val ∧ (y 0).val < q + 512
      omega
    | ⟨1, _⟩ => exact h1

theorem winOf_disjoint (q : ℕ) (hq : q ≤ 512) (k k' : Fin 4) (h : k ≠ k') :
    Disjoint (winOf arg7 (q + 128 * k.val) (win_sets q hq k)).view.set (winOf arg7 (q + 128 * k'.val) (win_sets q hq k')).view.set := by
  rw [View.set_slice, View.set_slice, Finset.disjoint_map]
  refine Finset.disjoint_left.mpr fun x hx hx' => h ?_
  rw [Rect.mem_set_unit] at hx hx'
  have h0 := hx 0
  have h1 := hx' 0
  change q + 128 * k.val ≤ (x 0).val ∧ (x 0).val < q + 128 * k.val + 128 at h0
  change q + 128 * k'.val ≤ (x 0).val ∧ (x 0).val < q + 128 * k'.val + 128 at h1
  exact Fin.ext (by omega)

theorem bigSep_fin4 (Φ : Fin 4 → sProp 𝕄) : bigSep Finset.univ Φ = iprop(Φ 0 ∗ Φ 1 ∗ Φ 2 ∗ Φ 3) := by
  rw [show (Finset.univ : Finset (Fin 4)) = insert 0 (insert 1 (insert 2 {3})) by decide, bigSep_insert (by decide), bigSep_insert (by decide),
    bigSep_insert (by decide), bigSep_singleton]
  rfl

/-- The four window pieces of a half, any contents. -/
abbrev Wins (q : ℕ) (hq : q ≤ 512) : sProp 𝕄 :=
  iprop(WinAny d i arg7 q (by omega) ∗ WinAny d i arg7 (q + 128) (by omega) ∗ WinAny d i arg7 (q + 256) (by omega) ∗ WinAny d i arg7 (q + 384) (by omega))

theorem win_split (q : ℕ) (hq : q ≤ 512) (f : Buf (Elt F) (arg7.view.loc (thr d i))) :
    (arg7.view.loc (thr d i) ↦[(winHalf arg7 q hq).view.set]{fullShare} f : sProp 𝕄) ⊢ Wins (F := F) d i arg7 q hq := by
  refine (Entails.of_eq (show (arg7.view.loc (thr d i) ↦[(winHalf arg7 q hq).view.set]{fullShare} f : sProp 𝕄)
    = bigSep Finset.univ fun k : Fin 4 => arg7.view.loc (thr d i) ↦[(winOf arg7 (q + 128 * k.val) (win_sets q hq k)).view.set]{fullShare} f from
    (congrArg (fun S => (arg7.view.loc (thr d i) ↦[S]{fullShare} f : sProp 𝕄)) (winHalf_set arg7 q hq)).trans
      (pointsTo_biUnion _ _ fun k _ k' _ h => winOf_disjoint arg7 q hq k k' h))).trans ?_
  rw [bigSep_fin4]
  iintro ⟨H0, H1, H2, H3⟩
  isplitl [H0]; · iexists f; iexact H0
  isplitl [H1]; · iexists f; iexact H1
  isplitl [H2]; · iexists f; iexact H2
  iexists f; iexact H3

/-- The index of a window piece. -/
def pieceIdx (a : Fin 128) (b : Fin 16) : S128x16.Idx
  | ⟨0, _⟩ => a
  | ⟨1, _⟩ => b

/-- A half of the windows, right for the chunk that starts at `n0`. -/
abbrev WinH (tv : Vec F S1250000x16 .f32) (ids : ℕ → ℕ) (q : ℕ) (hq : q ≤ 512) (n0 : ℕ) : sProp 𝕄 :=
  iprop(∃ f, ⌜WinOK tv ids n0 ((winHalf arg7 q hq).view.read (Elt F) f)⌝ ∗ winPts d i (winHalf arg7 q hq) f)

theorem win_join (q : ℕ) (hq : q ≤ 512) (n0 : ℕ) :
    iprop(WinP d i arg7 tv ids q (by omega) n0 0 ∗ WinP d i arg7 tv ids (q + 128) (by omega) n0 1
      ∗ WinP d i arg7 tv ids (q + 256) (by omega) n0 2 ∗ WinP d i arg7 tv ids (q + 384) (by omega) n0 3)
      ⊢ (WinH d i arg7 tv ids q hq n0 : sProp 𝕄) := by
  iintro ⟨⟨%f0, %h0, H0⟩, ⟨%f1, %h1, H1⟩, ⟨%f2, %h2, H2⟩, ⟨%f3, %h3, H3⟩⟩
  let fs : Fin 4 → Buf (Elt F) (arg7.view.loc (thr d i)) := ![f0, f1, f2, f3]
  have hfs : ∀ k : Fin 4, PieceOK tv ids n0 k.val ((winOf arg7 (q + 128 * k.val) (win_sets q hq k)).view.read (Elt F) (fs k)) := by
    intro k
    fin_cases k
    · exact h0
    · exact h1
    · exact h2
    · exact h3
  ihave H := (pointsTo_biUnion_join (ℓ := arg7.view.loc (thr d i)) (q := fullShare) Finset.univ
    (fun k : Fin 4 => (winOf arg7 (q + 128 * k.val) (win_sets q hq k)).view.set) fs f0 fun k _ k' _ h => winOf_disjoint arg7 q hq k k' h) $$ [H0 H1 H2 H3]
  · rw [bigSep_fin4]
    isplitl [H0]; · iexact H0
    isplitl [H1]; · iexact H1
    isplitl [H2]; · iexact H2
    iexact H3
  icases H with ⟨%g, %hg, H⟩
  iexists g
  isplitr
  · ipureintro
    intro y
    have hy : (y 0).val < 512 := (y 0).isLt
    have hy1 : (y 1).val < 16 := (y 1).isLt
    let k : Fin 4 := ⟨(y 0).val / 128, by omega⟩
    let z : S128x16.Idx := pieceIdx ⟨(y 0).val % 128, Nat.mod_lt _ (by omega)⟩ ⟨(y 1).val, hy1⟩
    have hz0 : (z 0).val = (y 0).val % 128 := rfl
    have hz1 : (z 1).val = (y 1).val := rfl
    have e : (winHalf arg7 q hq).view.emb y = (winOf arg7 (q + 128 * k.val) (win_sets q hq k)).view.emb z := by
      refine congrArg arg7.view.emb ?_
      funext a
      apply Fin.ext
      match a with
      | ⟨0, _⟩ =>
        show q + 1 * (y 0).val = (q + 128 * ((y 0).val / 128)) + 1 * ((y 0).val % 128)
        omega
      | ⟨1, _⟩ => rfl
    have := hfs k z
    rw [hz0, hz1] at this
    rw [show (winHalf arg7 q hq).view.read (Elt F) g y = (winOf arg7 (q + 128 * k.val) (win_sets q hq k)).view.read (Elt F) (fs k) z from ?_]
    · exact this
    · have hk := hg k (Finset.mem_univ _) _ (View.emb_mem_set (v := (winOf arg7 (q + 128 * k.val) (win_sets q hq k)).view) z)
      rw [View.read_apply, View.read_apply, e, hk]
  · iapply (Entails.of_eq (congrArg (fun S => (arg7.view.loc (thr d i) ↦[S]{fullShare} g : sProp 𝕄)) (winHalf_set arg7 q hq).symm))
    iexact H

/-- One program after another, the rest of the resources kept. -/
theorem wp_use {α β : Type} {p : TProg (F := F) i α} {k : α → TProg (F := F) i β} {P R : sProp 𝕄} {Q : β → sProp 𝕄}
    (h1 : P ⊢ wp frame (wpE (defs₀ (F := F)) 𝒱₀ (thr d i) none) Set.univ p fun _ => R) :
    P ⊢ iprop((∀ a, R -∗ wp frame (wpE (defs₀ (F := F)) 𝒱₀ (thr d i) none) Set.univ (k a) Q)
      -∗ wp frame (wpE (defs₀ (F := F)) 𝒱₀ (thr d i) none) Set.univ (p >>= k) Q) := by
  rw [wp_bind]
  exact h1.trans (wp_wand frame _ _)

/-- A program at the end. -/
theorem wp_last {α : Type} {p : TProg (F := F) i α} {P R : sProp 𝕄} {Q : α → sProp 𝕄}
    (h1 : P ⊢ wp frame (wpE (defs₀ (F := F)) 𝒱₀ (thr d i) none) Set.univ p fun _ => R) :
    P ⊢ iprop((∀ a, R -∗ Q a) -∗ wp frame (wpE (defs₀ (F := F)) 𝒱₀ (thr d i) none) Set.univ p Q) :=
  h1.trans (wp_wand frame _ _)

/-- The gathers of a half under way. -/
abbrev GFlights (tv : Vec F S1250000x16 .f32) (ids : ℕ → ℕ) (ft : Buf (Elt F) (arg3.view.loc (thr d i))) (p : Fin 4 → PosShare TreeShare)
    (q : ℕ) (hq : q ≤ 512) (n0 : ℕ) (s0 s1 s2 s3 : DmaSems sig S_) : sProp 𝕄 :=
  iprop(GFlight d i arg3 arg6 arg7 tv ids ft (p 0) q (by omega) n0 0 s0 ∗ GFlight d i arg3 arg6 arg7 tv ids ft (p 1) (q + 128) (by omega) n0 1 s1
    ∗ GFlight d i arg3 arg6 arg7 tv ids ft (p 2) (q + 256) (by omega) n0 2 s2 ∗ GFlight d i arg3 arg6 arg7 tv ids ft (p 3) (q + 384) (by omega) n0 3 s3)
/-- The table shares of a half. -/
abbrev Tabs (ft : Buf (Elt F) (arg3.view.loc (thr d i))) (p : Fin 4 → PosShare TreeShare) : sProp 𝕄 :=
  iprop(TabP d i arg3 ft (p 0) ∗ TabP d i arg3 ft (p 1) ∗ TabP d i arg3 ft (p 2) ∗ TabP d i arg3 ft (p 3))
/-- The gather semaphores of a half at rest. -/
abbrev Sems4 (s0 s1 s2 s3 : DmaSems sig S_) : sProp 𝕄 :=
  iprop(semVal (thr d i, SemLoc.dma s0.sem) 0 ∗ semVal (thr d i, SemLoc.dma s1.sem) 0 ∗ semVal (thr d i, SemLoc.dma s2.sem) 0 ∗ semVal (thr d i, SemLoc.dma s3.sem) 0)

theorem wp_fireGroups (q : ℕ) (hq : q ≤ 512) (n0 : ℕ) (fi : Buf (Elt F) (arg5.view.loc (thr d i)))
    (hids : ∀ n, ids n < 400000) (hfi : ∀ y, (arg5.view.read (Elt F) fi y : BitVec 32).toNat = ids (y 0).val)
    (o : Fin 8 → Fin 1 → ℕ) (ho : ∀ b a, o b a + S16.size a ≤ S3200.size a) (hoe : ∀ b, o b 0 = n0 + 16 * b.val)
    {β : Type} (k : TProg (F := F) i β) (X : sProp 𝕄) (Q : β → sProp 𝕄)
    (hk : iprop(X ∗ idPts d i arg5 fi ∗ Lsts d i arg6 ids q hq n0 128) ⊢ wp frame (wpE (defs₀ (F := F)) 𝒱₀ (thr d i) none) Set.univ k Q) :
    iprop(X ∗ idPts d i arg5 fi ∗ Lsts d i arg6 ids q hq n0 0)
      ⊢ wp frame (wpE (defs₀ (F := F)) 𝒱₀ (thr d i) none) Set.univ (do
        fireGroup i arg5 arg6 (o 0) (ho 0) (grp q 0) (grp_inb hq (by decide))
        fireGroup i arg5 arg6 (o 1) (ho 1) (grp q 1) (grp_inb hq (by decide))
        fireGroup i arg5 arg6 (o 2) (ho 2) (grp q 2) (grp_inb hq (by decide))
        fireGroup i arg5 arg6 (o 3) (ho 3) (grp q 3) (grp_inb hq (by decide))
        fireGroup i arg5 arg6 (o 4) (ho 4) (grp q 4) (grp_inb hq (by decide))
        fireGroup i arg5 arg6 (o 5) (ho 5) (grp q 5) (grp_inb hq (by decide))
        fireGroup i arg5 arg6 (o 6) (ho 6) (grp q 6) (grp_inb hq (by decide))
        fireGroup i arg5 arg6 (o 7) (ho 7) (grp q 7) (grp_inb hq (by decide))
        k) Q := by
  iintro ⟨X, H⟩
  iapply (wp_use d i (wp_fireGroup d i arg5 arg6 q hq n0 0 (by omega) fi hids hfi (o 0) (ho 0) (hoe 0))) $$ H; iintro %_ H
  iapply (wp_use d i (wp_fireGroup d i arg5 arg6 q hq n0 1 (by omega) fi hids hfi (o 1) (ho 1) (hoe 1))) $$ H; iintro %_ H
  iapply (wp_use d i (wp_fireGroup d i arg5 arg6 q hq n0 2 (by omega) fi hids hfi (o 2) (ho 2) (hoe 2))) $$ H; iintro %_ H
  iapply (wp_use d i (wp_fireGroup d i arg5 arg6 q hq n0 3 (by omega) fi hids hfi (o 3) (ho 3) (hoe 3))) $$ H; iintro %_ H
  iapply (wp_use d i (wp_fireGroup d i arg5 arg6 q hq n0 4 (by omega) fi hids hfi (o 4) (ho 4) (hoe 4))) $$ H; iintro %_ H
  iapply (wp_use d i (wp_fireGroup d i arg5 arg6 q hq n0 5 (by omega) fi hids hfi (o 5) (ho 5) (hoe 5))) $$ H; iintro %_ H
  iapply (wp_use d i (wp_fireGroup d i arg5 arg6 q hq n0 6 (by omega) fi hids hfi (o 6) (ho 6) (hoe 6))) $$ H; iintro %_ H
  iapply (wp_use d i (wp_fireGroup d i arg5 arg6 q hq n0 7 (by omega) fi hids hfi (o 7) (ho 7) (hoe 7))) $$ H; iintro %_ H
  iapply hk
  isplitl [X]; · iexact X
  iexact H

theorem wp_fireChunk (hcr : Credits arg7) (ft : Buf (Elt F) (arg3.view.loc (thr d i))) (htv : (tabAll arg3).view.read (Elt F) ft = tv)
    (p : Fin 4 → PosShare TreeShare) (q : ℕ) (hq : q ≤ 512) (n0 : ℕ) (s0 s1 s2 s3 : DmaSems sig S_) (fi : Buf (Elt F) (arg5.view.loc (thr d i)))
    (hids : ∀ n, ids n < 400000) (hfi : ∀ y, (arg5.view.read (Elt F) fi y : BitVec 32).toNat = ids (y 0).val)
    (o : Fin 8 → Fin 1 → ℕ) (ho : ∀ b a, o b a + S16.size a ≤ S3200.size a) (hoe : ∀ b, o b 0 = n0 + 16 * b.val) :
    iprop((Wins d i arg7 q hq ∗ Tabs d i arg3 ft p ∗ Sems4 d i s0 s1 s2 s3) ∗ idPts d i arg5 fi ∗ Lsts d i arg6 ids q hq n0 0)
      ⊢ wp frame (wpE (defs₀ (F := F)) 𝒱₀ (thr d i) none) Set.univ (fireChunk i arg3 arg5 arg6 arg7 o ho q hq s0 s1 s2 s3)
        fun _ => iprop(idPts d i arg5 fi ∗ GFlights d i arg3 arg6 arg7 tv ids ft p q hq n0 s0 s1 s2 s3) := by
  unfold fireChunk
  refine wp_fireGroups d i arg5 arg6 q hq n0 fi hids hfi o ho hoe _ _ _ ?_
  iintro ⟨⟨⟨W0, W1, W2, W3⟩, ⟨T0, T1, T2, T3⟩, S0, S1, S2, S3⟩, Hi, L0, L1, L2, L3⟩
  iapply (wp_use d i (wp_fireOne d i arg3 arg6 arg7 hcr ft htv (p 0) q _ n0 0 (by omega) s0 hids)) $$ [L0 W0 T0 S0]
  · isplitl [L0]; · iexact L0
    isplitl [W0]; · iexact W0
    isplitl [T0]; · iexact T0
    iexact S0
  iintro %_ F0
  iapply (wp_use d i (wp_fireOne d i arg3 arg6 arg7 hcr ft htv (p 1) (q + 128) _ n0 1 (by omega) s1 hids)) $$ [L1 W1 T1 S1]
  · isplitl [L1]; · iexact L1
    isplitl [W1]; · iexact W1
    isplitl [T1]; · iexact T1
    iexact S1
  iintro %_ F1
  iapply (wp_use d i (wp_fireOne d i arg3 arg6 arg7 hcr ft htv (p 2) (q + 256) _ n0 2 (by omega) s2 hids)) $$ [L2 W2 T2 S2]
  · isplitl [L2]; · iexact L2
    isplitl [W2]; · iexact W2
    isplitl [T2]; · iexact T2
    iexact S2
  iintro %_ F2
  iapply (wp_last d i (wp_fireOne d i arg3 arg6 arg7 hcr ft htv (p 3) (q + 384) _ n0 3 (by omega) s3 hids)) $$ [L3 W3 T3 S3]
  · isplitl [L3]; · iexact L3
    isplitl [W3]; · iexact W3
    isplitl [T3]; · iexact T3
    iexact S3
  iintro %_ F3
  isplitl [Hi]; · iexact Hi
  isplitl [F0]; · iexact F0
  isplitl [F1]; · iexact F1
  isplitl [F2]; · iexact F2
  iexact F3

variable (O : CellTallies nD τ sig (HIx 1)) (W : Waits sig (HIx 1))

/-- What the tile owes, and the evidence its own waits are allowed. -/
abbrev Ow : sProp 𝕄 :=
  iprop(Transfers.MayWaits (thr d i) (default : HIx 1) O ∗ ∃ W', ⌜∀ p ∈ W', p ∈ W ∨ p.2 = none⌝ ∗ owes (thr d i) O W')

/-- The wait for one gather. -/
theorem wp_waitOne (q : ℕ) (hq : q ≤ 896) (sm : DmaSems sig S_) (Dl : sProp 𝕄) :
    iprop(Transfers.Flight countersEmb (thr d i) (.dma sm.sem) (default : HIx 1) ((winOf arg7 q hq).view.dmaCredit) Dl ∗ Ow (F := F) d i O W)
      ⊢ wp frame (wpE (defs₀ (F := F)) 𝒱₀ (thr d i) none) Set.univ (waitOne i arg3 arg7 q hq sm)
        fun _ => iprop(Dl ∗ semVal (thr d i, SemLoc.dma sm.sem) 0 ∗ Ow (F := F) d i O W) := by
  unfold waitOne SparseCore.waitIndirectGather
  iintro ⟨HF, #Hmw, %W', %hW', HO⟩
  iapply (Transfers.wp_waitLocalO (defs := defs₀ (F := F)) countersEmb 𝒱₀ (thr d i) none (default : HIx 1) (N := (winOf arg7 q hq).view.dmaCredit) rfl) $$ [HF HO]
  · isplitl [HF]; · iexact HF
    isplitl [HO]; · iexact HO
    iapply (Transfers.MayWaits.elim (SemLoc.dma sm.sem)) $$ Hmw
  iintro ⟨HD, HS, HO⟩
  rw [wp_ret]
  imodintro
  isplitl [HD]; · iexact HD
  isplitl [HS]; · iexact HS
  isplitr; · iexact Hmw
  iexists _
  isplitr
  swap
  · iexact HO
  · ipureintro
    intro p hp
    rcases Finset.mem_insert.mp hp with rfl | hp
    · exact Or.inr rfl
    · exact hW' p hp

theorem wp_waitFour (ft : Buf (Elt F) (arg3.view.loc (thr d i)))
    (p : Fin 4 → PosShare TreeShare) (q : ℕ) (hq : q ≤ 512) (n0 : ℕ) (s0 s1 s2 s3 : DmaSems sig S_) :
    iprop(GFlights d i arg3 arg6 arg7 tv ids ft p q hq n0 s0 s1 s2 s3 ∗ Ow (F := F) d i O W)
      ⊢ wp frame (wpE (defs₀ (F := F)) 𝒱₀ (thr d i) none) Set.univ (waitFour i arg3 arg7 q hq s0 s1 s2 s3)
        fun _ => iprop(WinH d i arg7 tv ids q hq n0 ∗ Lsts d i arg6 ids q hq 0 0 ∗ Tabs d i arg3 ft p ∗ Sems4 d i s0 s1 s2 s3 ∗ Ow (F := F) d i O W) := by
  unfold waitFour
  iintro ⟨⟨F0, F1, F2, F3⟩, HO⟩
  iapply (wp_use d i (wp_waitOne d i arg3 arg7 O W q _ s0 _)) $$ [F0 HO]
  · isplitl [F0]; · iexact F0
    iexact HO
  iintro %_ ⟨⟨W0, T0, L0⟩, S0, HO⟩
  iapply (wp_use d i (wp_waitOne d i arg3 arg7 O W (q + 128) _ s1 _)) $$ [F1 HO]
  · isplitl [F1]; · iexact F1
    iexact HO
  iintro %_ ⟨⟨W1, T1, L1⟩, S1, HO⟩
  iapply (wp_use d i (wp_waitOne d i arg3 arg7 O W (q + 256) _ s2 _)) $$ [F2 HO]
  · isplitl [F2]; · iexact F2
    iexact HO
  iintro %_ ⟨⟨W2, T2, L2⟩, S2, HO⟩
  iapply (wp_last d i (wp_waitOne d i arg3 arg7 O W (q + 384) _ s3 _)) $$ [F3 HO]
  · isplitl [F3]; · iexact F3
    iexact HO
  iintro %_ ⟨⟨W3, T3, L3⟩, S3, HO⟩
  isplitl [W0 W1 W2 W3]
  · iapply (win_join d i arg7 q hq n0)
    isplitl [W0]; · iexact W0
    isplitl [W1]; · iexact W1
    isplitl [W2]; · iexact W2
    iexact W3
  isplitl [L0 L1 L2 L3]
  · isplitl [L0]; · iexact L0
    isplitl [L1]; · iapply (LstP_any d i arg6 _ _ 0 0 0 0 1) $$ L1
    isplitl [L2]; · iapply (LstP_any d i arg6 _ _ 0 0 0 0 2) $$ L2
    iapply (LstP_any d i arg6 _ _ 0 0 0 0 3) $$ L3
  isplitl [T0 T1 T2 T3]
  · isplitl [T0]; · iexact T0
    isplitl [T1]; · iexact T1
    isplitl [T2]; · iexact T2
    iexact T3
  isplitr [HO]
  · isplitl [S0]; · iexact S0
    isplitl [S1]; · iexact S1
    isplitl [S2]; · iexact S2
    iexact S3
  iexact HO

theorem Lsts_any (q : ℕ) (hq : q ≤ 512) (n0 T n1 : ℕ) : (Lsts d i arg6 ids q hq n0 T : sProp 𝕄) ⊢ Lsts (F := F) d i arg6 ids q hq n1 0 := by
  iintro ⟨L0, L1, L2, L3⟩
  isplitl [L0]; · iapply (LstP_any d i arg6 _ _ n0 0 T n1 0) $$ L0
  isplitl [L1]; · iapply (LstP_any d i arg6 _ _ n0 1 T n1 1) $$ L1
  isplitl [L2]; · iapply (LstP_any d i arg6 _ _ n0 2 T n1 2) $$ L2
  iapply (LstP_any d i arg6 _ _ n0 3 T n1 3) $$ L3

end Cert.KernelIdeal.Tile

end
-- ==== Proof.Ideal.Out.lean ====
/- The copies out of the row buffer, and the tile's loop over pairs of chunks. -/
module

public import proofs.«01_k».proof.Proof.Ideal.Fire

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid0.Coords)

variable {tv : Vec F S1250000x16 .f32} {ids : ℕ → ℕ}
variable (arg3 : Memref sig .scVector .hbm S1250000x16 .f32) (arg4 : Memref sig .scVector .hbm S51200x128 .f32) (arg5 : Memref sig .scVector .vmem S3200 .i32)
  (arg6 : Memref sig .scVector .vmem S1024 .i32) (arg7 : Memref sig .scVector .vmem S1024x16 .f32) (arg8 : Memref sig .scVector .vmem S128x128 .f32)

/-- The first row the tile writes. -/
def rowBase : ℕ := 3200 * (i 1).val + 1600 * (i 0).val

/-- The rows of the tile's chunk `n`. -/
def chunk (n : ℕ) : Finset S51200x128.Idx := Finset.univ.filter fun y => rowBase i + 64 * n ≤ (y 0).val ∧ (y 0).val < rowBase i + 64 * n + 64

theorem mem_chunk (n : ℕ) (y : S51200x128.Idx) : y ∈ chunk i n ↔ rowBase i + 64 * n ≤ (y 0).val ∧ (y 0).val < rowBase i + 64 * n + 64 := by
  simp [chunk]

/-- An element of the tile's rows is right. -/
def OutOK (tv : Vec F S1250000x16 .f32) (ids : ℕ → ℕ) (base : ℕ) (y : S51200x128.Idx) (w : Elt F .f32) : Prop :=
  (y 1).val % 64 < 50 → IsTab tv (50 * ids (2 * ((y 0).val - base) + (y 1).val / 64) + (y 1).val % 64) w

abbrev OutAny (n : ℕ) : sProp 𝕄 := iprop(∃ f, arg4.view.loc (thr d i) ↦[arg4.view.setOn (chunk i n)]{fullShare} f)
abbrev OutGood (tv : Vec F S1250000x16 .f32) (ids : ℕ → ℕ) (n : ℕ) : sProp 𝕄 :=
  iprop(∃ f, ⌜∀ y ∈ chunk i n, OutOK tv ids (rowBase i) y (arg4.view.read (Elt F) f y)⌝ ∗ arg4.view.loc (thr d i) ↦[arg4.view.setOn (chunk i n)]{fullShare} f)
abbrev RowAny (q : ℕ) (hq : q ≤ 64) : sProp 𝕄 := iprop(∃ f, arg8.view.loc (thr d i) ↦[(rowHalf arg8 q hq).view.set]{fullShare} f)

/-- What a copy out adds to its semaphore. -/
abbrev outCredit : ℕ := (outOf arg4 ![0, 0] inb_S51200x128_S64x128_0_0).view.dmaCredit

/-- A copy out under way. -/
abbrev OFlight (tv : Vec F S1250000x16 .f32) (ids : ℕ → ℕ) (n q : ℕ) (hq : q ≤ 64) (sm : DmaSems sig S_) : sProp 𝕄 :=
  Transfers.Flight countersEmb (thr d i) (.dma sm.sem) (default : HIx 1) (outCredit arg4)
    iprop(OutGood d i arg4 tv ids n ∗ RowAny d i arg8 q hq)

theorem out_set (o : Fin 2 → ℕ) (ho : ∀ a, o a + S64x128.size a ≤ S51200x128.size a) (n : ℕ) (hoe : o = ![rowBase i + 64 * n, 0]) :
    (outOf arg4 o ho).view.set = arg4.view.setOn (chunk i n) := by
  rw [View.set_slice]
  refine congrArg (Finset.map arg4.view.emb) ?_
  ext y
  rw [Rect.mem_set_unit, mem_chunk]
  subst hoe
  constructor
  · intro h; exact h 0
  · intro h a
    match a with
    | ⟨0, _⟩ => exact h
    | ⟨1, _⟩ => exact ⟨Nat.zero_le _, lt_of_lt_of_eq (y 1).isLt (Nat.zero_add _).symm⟩

theorem wp_sendOut (n q : ℕ) (hq : q ≤ 64) (sm : DmaSems sig S_) (o : Fin 2 → ℕ) (ho : ∀ a, o a + S64x128.size a ≤ S51200x128.size a)
    (hoe : o = ![rowBase i + 64 * n, 0]) :
    iprop(rowsAt d i (rowHalf arg8 q hq) tv ids (128 * n) 8 0 ∗ OutAny d i arg4 n ∗ semVal (thr d i, SemLoc.dma sm.sem) 0)
      ⊢ wp frame (wpE (defs₀ (F := F)) 𝒱₀ (thr d i) none) Set.univ (sendOut i arg4 arg8 q hq sm o ho)
        fun _ => OFlight d i arg4 arg8 tv ids n q hq sm := by
  unfold sendOut
  iintro ⟨⟨%fr, %hfr, Hr⟩, ⟨%fd, Ho⟩, Hs⟩
  iapply (Transfers.wp_dmaLocal (defs := defs₀ (F := F)) countersEmb 𝒱₀ (thr d i) none (dst := outOf arg4 o ho) (src := rowHalf arg8 q hq) (via := .same)
    (default : HIx 1) (outCredit arg4) rfl (View.dmaCredit_pos _ (by decide)) (Sd := arg4.view.setOn (chunk i n)) (le_of_eq (out_set i arg4 o ho n hoe)) (fs := fr) (fd := fd)) $$ [Hr Ho Hs]
  · isplitl [Hr]; · iexact Hr
    isplitl [Ho]; · iexact Ho
    iexact Hs
  iintro HF
  rw [wp_ret]
  imodintro
  iapply (Transfers.Flight_mono countersEmb (thr d i) ?_) $$ HF
  iintro ⟨Ho, Hr⟩
  isplitr [Hr]
  swap
  · iexists fr; iexact Hr
  iexists _
  isplitr
  swap
  · iexact Ho
  · ipureintro
    intro y hy hc
    have hyc := (mem_chunk i n y).mp hy
    have hz : ∃ z : S64x128.Idx, (Rect.unit (s := S51200x128) o S64x128.size ho).emb z = y ∧ (z 0).val = (y 0).val - (rowBase i + 64 * n) ∧ (z 1).val = (y 1).val := by
      have hm : y ∈ (Rect.unit (s := S51200x128) o S64x128.size ho).set := by
        have h := out_set i arg4 o ho n hoe
        rw [View.set_slice] at h
        have h2 : arg4.view.emb y ∈ arg4.view.setOn (chunk i n) := (View.mem_setOn (v := arg4.view)).mpr hy
        rw [← h] at h2
        exact (Finset.mem_map' arg4.view.emb).mp h2
      rw [← Rect.map_emb_univ] at hm
      obtain ⟨z, -, rfl⟩ := Finset.mem_map.mp hm
      refine ⟨z, rfl, ?_, ?_⟩
      · subst hoe
        show (z 0).val = (rowBase i + 64 * n) + 1 * (z 0).val - (rowBase i + 64 * n)
        omega
      · subst hoe
        show (z 1).val = 0 + 1 * (z 1).val
        omega
    obtain ⟨z, hz, h0, h1⟩ := hz
    have hz1 : (z 0).val < 64 := (z 0).isLt
    have hR := hfr z (Or.inl ⟨by omega, by omega⟩)
    rw [h1] at hR
    rw [show 2 * ((y 0).val - rowBase i) + (y 1).val / 64 = 128 * n + 2 * (z 0).val + (y 1).val / 64 by omega]
    refine Eq.mp (congrArg (IsTab tv _) ?_) hR
    rw [← hz]
    exact (View.read_slice_write_emb (v := arg4.view) (Rect.unit (s := S51200x128) o S64x128.size ho) fd _ (Finset.mem_univ z)).symm

variable (O : CellTallies nD τ sig (HIx 1)) (W : Waits sig (HIx 1))

/-- The wait for a copy out. -/
theorem wp_waitOut (q : ℕ) (hq : q ≤ 64) (sm : DmaSems sig S_) (Dl : sProp 𝕄) :
    iprop(Transfers.Flight countersEmb (thr d i) (.dma sm.sem) (default : HIx 1) (outCredit arg4) Dl ∗ Ow (F := F) d i O W)
      ⊢ wp frame (wpE (defs₀ (F := F)) 𝒱₀ (thr d i) none) Set.univ (waitOut i arg4 arg8 q hq sm)
        fun _ => iprop(Dl ∗ semVal (thr d i, SemLoc.dma sm.sem) 0 ∗ Ow (F := F) d i O W) := by
  unfold waitOut
  iintro ⟨HF, #Hmw, %W', %hW', HO⟩
  iapply (Transfers.wp_waitLocalO (defs := defs₀ (F := F)) countersEmb 𝒱₀ (thr d i) none (default : HIx 1) (N := outCredit arg4) rfl) $$ [HF HO]
  · isplitl [HF]; · iexact HF
    isplitl [HO]; · iexact HO
    iapply (Transfers.MayWaits.elim (SemLoc.dma sm.sem)) $$ Hmw
  iintro ⟨HD, HS, HO⟩
  rw [wp_ret]
  imodintro
  isplitl [HD]; · iexact HD
  isplitl [HS]; · iexact HS
  isplitr; · iexact Hmw
  iexists _
  isplitr
  swap
  · iexact HO
  · ipureintro
    intro p hp
    rcases Finset.mem_insert.mp hp with rfl | hp
    · exact Or.inr rfl
    · exact hW' p hp

/-- A half of the row buffer before trip `j`: at rest before the first, its last copy out under way before the others. -/
def OState (tv : Vec F S1250000x16 .f32) (ids : ℕ → ℕ) (e q : ℕ) (hq : q ≤ 64) (sm : DmaSems sig S_) : ℕ → sProp 𝕄
  | 0 => iprop(RowAny d i arg8 q hq ∗ semVal (thr d i, SemLoc.dma sm.sem) 0)
  | j + 1 => OFlight d i arg4 arg8 tv ids (2 * j + e) q hq sm

/-- What the wait before trip `j`'s copy out hands back. -/
def Got (tv : Vec F S1250000x16 .f32) (ids : ℕ → ℕ) (e : ℕ) : ℕ → sProp 𝕄
  | 0 => iprop(emp)
  | j + 1 => OutGood d i arg4 tv ids (2 * j + e)

theorem guard_iff : ∀ t : Fin k0_t1_loop.trips,
    (Scalar.cmpi .ne (Scalar.extui (Scalar.cmpi .sge (Scf.iv 0#32 1#32 t) 1#32) : BitVec 32) 0#32 = 1#1) ↔ t.val ≠ 0 := by decide +kernel

theorem wp_guardOut (e q : ℕ) (hq : q ≤ 64) (sm : DmaSems sig S_) (t : Fin k0_t1_loop.trips) :
    iprop(OState d i arg4 arg8 tv ids e q hq sm t.val ∗ Ow (F := F) d i O W)
      ⊢ wp frame (wpE (defs₀ (F := F)) 𝒱₀ (thr d i) none) Set.univ
        (guardOut i arg4 arg8 (Scalar.cmpi .sge (Scf.iv 0#32 1#32 t) 1#32) q hq sm)
        fun _ => iprop(RowAny d i arg8 q hq ∗ semVal (thr d i, SemLoc.dma sm.sem) 0 ∗ Got d i arg4 tv ids e t.val ∗ Ow (F := F) d i O W) := by
  unfold guardOut
  obtain ⟨t, ht⟩ := t
  cases t with
  | zero =>
    rw [dif_neg (fun h => (guard_iff ⟨0, ht⟩).mp h rfl)]
    unfold OState Got
    iintro ⟨⟨Hr, Hs⟩, HO⟩
    rw [wp_pure]
    imodintro
    isplitl [Hr]; · iexact Hr
    isplitl [Hs]; · iexact Hs
    isplitr; · iempintro
    iexact HO
  | succ j =>
    rw [dif_pos ((guard_iff ⟨j + 1, ht⟩).mpr (Nat.succ_ne_zero j))]
    unfold OState Got
    iintro ⟨HF, HO⟩
    iapply (wp_use d i (wp_waitOut d i arg4 arg8 O W q hq sm _)) $$ [HF HO]
    · isplitl [HF]; · iexact HF
      iexact HO
    iintro %_ ⟨⟨Hg, Hr⟩, Hs, HO⟩
    rw [wp_pure]
    imodintro
    isplitl [Hr]; · iexact Hr
    isplitl [Hs]; · iexact Hs
    isplitl [Hg]; · iexact Hg
    iexact HO

theorem RowAny_rowsAt (q : ℕ) (hq : q ≤ 64) (n0 : ℕ) : (RowAny d i arg8 q hq : sProp 𝕄) ⊢ rowsAt (F := F) d i (rowHalf arg8 q hq) tv ids n0 0 0 := by
  iintro ⟨%f, H⟩
  iexists f
  isplitr
  · ipureintro
    intro y hy
    omega
  · iexact H

end Cert.KernelIdeal.Tile

end
-- ==== Proof.Ideal.Pair.lean ====
/- The whole task of one tile. -/
module

public import proofs.«01_k».proof.Proof.Ideal.Out

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid0.Coords)

variable {tv : Vec F S1250000x16 .f32} {ids : ℕ → ℕ}
variable (arg2 : Memref sig .scVector .hbm S102400 .i32) (arg3 : Memref sig .scVector .hbm S1250000x16 .f32) (arg4 : Memref sig .scVector .hbm S51200x128 .f32)
  (arg5 : Memref sig .scVector .vmem S3200 .i32) (harg5 : arg5.IsWhole)
  (arg6 : Memref sig .scVector .vmem S1024 .i32) (arg7 : Memref sig .scVector .vmem S1024x16 .f32) (arg8 : Memref sig .scVector .vmem S128x128 .f32)
  (arg9 arg10 arg11 arg12 arg13 arg14 arg15 arg16 arg17 arg18 v299_r0 : DmaSems sig S_)
variable (O : CellTallies nD τ sig (HIx 1)) (W : Waits sig (HIx 1))

theorem offF_eq (t : Fin k0_t1_loop.trips) (b : Fin 8) : offF t b 0 = (256 * t.val + 128) + 16 * b.val := by
  unfold offF
  rw [k0_off2_eq]
  show 256 * t.val + 16 * b.val + 128 = _
  omega
theorem offA_eq (t : Fin k0_t1_loop.trips) (b : Fin 8) : offA t b 0 = 256 * t.val + 16 * b.val := by
  fin_cases b
  · exact congrFun (k0_off3_eq t) 0
  · exact congrFun (k0_off4_eq t) 0
  · exact congrFun (k0_off5_eq t) 0
  · exact congrFun (k0_off6_eq t) 0
  · exact congrFun (k0_off7_eq t) 0
  · exact congrFun (k0_off8_eq t) 0
  · exact congrFun (k0_off9_eq t) 0
  · exact congrFun (k0_off10_eq t) 0
theorem offG_eq : ∀ (t : Fin k0_t1_loop.trips) (b : Fin 8), offG t b 0 = 256 * (t.val + 1) + 16 * b.val := by decide +kernel
theorem offB_eq0 : ∀ (t : Fin k0_t1_loop.trips), k0_off12 t 1#32 0#32 0 = 256 * t.val + 128 := by decide +kernel
theorem offB_eq (t : Fin k0_t1_loop.trips) (b : Fin 8) : offB t b 0 = (256 * t.val + 128) + 16 * b.val := by
  fin_cases b
  · exact offB_eq0 t
  · exact congrFun (k0_off13_eq t) 0
  · exact congrFun (k0_off14_eq t) 0
  · exact congrFun (k0_off15_eq t) 0
  · exact congrFun (k0_off16_eq t) 0
  · exact congrFun (k0_off17_eq t) 0
  · exact congrFun (k0_off18_eq t) 0
  · exact congrFun (k0_off19_eq t) 0

/-- The chunks written, and those not yet sent. -/
abbrev Done (tv : Vec F S1250000x16 .f32) (ids : ℕ → ℕ) (n : ℕ) : sProp 𝕄 := bigSep (Finset.range n) fun k => OutGood d i arg4 tv ids k
abbrev Todo (n : ℕ) : sProp 𝕄 := bigSep (Finset.Ico n 25) fun k => OutAny (F := F) d i arg4 k

theorem Todo_next (n : ℕ) (hn : n < 25) : (Todo (F := F) d i arg4 n : sProp 𝕄) = iprop(OutAny (F := F) d i arg4 n ∗ Todo (F := F) d i arg4 (n + 1)) := by
  unfold Todo
  rw [show Finset.Ico n 25 = insert n (Finset.Ico (n + 1) 25) from by ext x; simp only [Finset.mem_Ico, Finset.mem_insert]; omega, bigSep_insert (by simp)]
  rfl
theorem Done_next (n : ℕ) : (Done d i arg4 tv ids (n + 1) : sProp 𝕄) = iprop(OutGood d i arg4 tv ids n ∗ Done d i arg4 tv ids n) := by
  unfold Done
  rw [Finset.range_add_one, bigSep_insert (by simp)]
  rfl

theorem Done_got (j : ℕ) : iprop(Done d i arg4 tv ids (2 * (j - 1)) ∗ Got d i arg4 tv ids 0 j ∗ Got d i arg4 tv ids 1 j)
    ⊢ (Done d i arg4 tv ids (2 * j) : sProp 𝕄) := by
  cases j with
  | zero => unfold Got; iintro ⟨H, -, -⟩; iexact H
  | succ j =>
    unfold Got
    rw [show 2 * (j + 1) = 2 * j + 1 + 1 by omega, Done_next, Done_next, show 2 * (j + 1 - 1) = 2 * j by omega]
    iintro ⟨H, H0, H1⟩
    isplitl [H1]; · iexact H1
    isplitl [H0]; · iexact H0
    iexact H

theorem Done_last : iprop(Done d i arg4 tv ids (2 * (12 - 1)) ∗ OutGood d i arg4 tv ids 22 ∗ OutGood d i arg4 tv ids 23 ∗ OutGood d i arg4 tv ids 24)
    ⊢ (Done d i arg4 tv ids 25 : sProp 𝕄) := by
  rw [show (25 : ℕ) = 24 + 1 from rfl, Done_next d i arg4 24, show (24 : ℕ) = 23 + 1 from rfl, Done_next d i arg4 23, show (23 : ℕ) = 22 + 1 from rfl, Done_next d i arg4 22]
  iintro ⟨H, H22, H23, H24⟩
  isplitl [H24]; · iexact H24
  isplitl [H23]; · iexact H23
  isplitl [H22]; · iexact H22
  iexact H

theorem OState_succ (e q : ℕ) (hq : q ≤ 64) (sm : DmaSems sig S_) (j : ℕ) :
    (OState d i arg4 arg8 tv ids e q hq sm (j + 1) : sProp 𝕄) = OFlight d i arg4 arg8 tv ids (2 * j + e) q hq sm := rfl

/-- What the tile holds before trip `j`. -/
abbrev PairInv (tv : Vec F S1250000x16 .f32) (ids : ℕ → ℕ) (ft : Buf (Elt F) (arg3.view.loc (thr d i))) (p0 p1 : Fin 4 → PosShare TreeShare)
    (fi : Buf (Elt F) (arg5.view.loc (thr d i))) (j : ℕ) : sProp 𝕄 :=
  iprop(idPts d i arg5 fi ∗ GFlights d i arg3 arg6 arg7 tv ids ft p0 0 (by decide) (256 * j) arg9 arg10 arg11 arg12
    ∗ (Lsts d i arg6 ids 512 (by decide) 0 0 ∗ Wins (F := F) d i arg7 512 (by decide) ∗ Tabs d i arg3 ft p1 ∗ Sems4 (F := F) d i arg13 arg14 arg15 arg16)
    ∗ OState d i arg4 arg8 tv ids 0 0 (by decide) arg17 j ∗ OState d i arg4 arg8 tv ids 1 64 (by decide) arg18 j
    ∗ Done d i arg4 tv ids (2 * (j - 1)) ∗ Todo (F := F) d i arg4 (2 * j) ∗ Ow (F := F) d i O W)

set_option maxHeartbeats 1000000 in
theorem wp_pairBody (hcr : Credits arg7) (ft : Buf (Elt F) (arg3.view.loc (thr d i))) (htv : (tabAll arg3).view.read (Elt F) ft = tv)
    (p0 p1 : Fin 4 → PosShare TreeShare) (fi : Buf (Elt F) (arg5.view.loc (thr d i)))
    (hids : ∀ n, ids n < 400000) (hfi : ∀ y, (arg5.view.read (Elt F) fi y : BitVec 32).toNat = ids (y 0).val)
    (t : Fin k0_t1_loop.trips) (u : Unit) :
    (PairInv d i arg3 arg4 arg5 arg6 arg7 arg8 arg9 arg10 arg11 arg12 arg13 arg14 arg15 arg16 arg17 arg18 O W tv ids ft p0 p1 fi t.val)
      ⊢ wp frame (wpE (defs₀ (F := F)) 𝒱₀ (thr d i) none) Set.univ
        (pairBody i arg3 arg4 arg5 arg6 arg7 arg8 arg9 arg10 arg11 arg12 arg13 arg14 arg15 arg16 arg17 arg18 t u)
        fun _ => PairInv d i arg3 arg4 arg5 arg6 arg7 arg8 arg9 arg10 arg11 arg12 arg13 arg14 arg15 arg16 arg17 arg18 O W tv ids ft p0 p1 fi (t.val + 1) := by
  have ht : t.val < 12 := t.isLt
  unfold pairBody
  iintro ⟨Hi, HF, ⟨HL, HW, HT, HS⟩, HO0, HO1, HD, HTd, HO⟩
  iapply (wp_use d i (wp_fireChunk (tv := tv) d i arg3 arg5 arg6 arg7 hcr ft htv p1 512 _ (256 * t.val + 128) arg13 arg14 arg15 arg16 fi hids hfi (offF t) (k0_off2_inb t) (offF_eq t))) $$ [Hi HL HW HT HS]
  · isplitl [HW HT HS]
    · isplitl [HW]; · iexact HW
      isplitl [HT]; · iexact HT
      iexact HS
    isplitl [Hi]; · iexact Hi
    iapply (Lsts_any d i arg6 _ _ 0 0 (256 * t.val + 128)) $$ HL
  iintro %_ ⟨Hi, HF1⟩
  iapply (wp_use d i (wp_waitFour (tv := tv) (ids := ids) d i arg3 arg6 arg7 O W ft p0 0 _ (256 * t.val) arg9 arg10 arg11 arg12)) $$ [HF HO]
  · isplitl [HF]; · iexact HF
    iexact HO
  iintro %_ ⟨⟨%fw, %hfw, HWn⟩, HL, HT, HS, HO⟩
  iapply (wp_use d i (wp_guardOut (tv := tv) (ids := ids) d i arg4 arg8 O W 0 0 _ arg17 t)) $$ [HO0 HO]
  · isplitl [HO0]; · iexact HO0
    iexact HO
  iintro %_ ⟨HR, Hs, HG0, HO⟩
  iapply (wp_use d i (wp_moveChunk (tv := tv) (ids := ids) d i (winHalf arg7 0 _) (rowHalf arg8 0 _) _ _ arg5 fw fi (256 * t.val) hids hfi hfw (offA t) (offA_inb t) (offA_eq t))) $$ [Hi HWn HR]
  · isplitl [Hi]; · iexact Hi
    isplitl [HWn]; · iexact HWn
    iapply (RowAny_rowsAt d i arg8 _ _ (256 * t.val)) $$ HR
  iintro %_ ⟨Hi, HWn, HR⟩
  ihave HTd := (Entails.of_eq (Todo_next (F := F) d i arg4 (2 * t.val) (by omega))) $$ HTd
  icases HTd with ⟨Hc, HTd⟩
  iapply (wp_use d i (wp_sendOut (tv := tv) (ids := ids) d i arg4 arg8 (2 * t.val) 0 _ arg17 (k0_off11 i t) (k0_off11_inb i t)
    (by rw [k0_off11_eq]; unfold rowBase; rw [show 64 * (2 * t.val) = 128 * t.val by omega]))) $$ [HR Hc Hs]
  · isplitl [HR]
    · iapply (Entails.of_eq (show (rowsAt d i (rowHalf arg8 0 _) tv ids (256 * t.val) 8 0 : sProp 𝕄) = rowsAt d i (rowHalf arg8 0 _) tv ids (128 * (2 * t.val)) 8 0 by
        rw [show 128 * (2 * t.val) = 256 * t.val by omega])) $$ HR
    isplitl [Hc]; · iexact Hc
    iexact Hs
  iintro %_ HOF0
  iapply (wp_use d i (wp_fireChunk (tv := tv) d i arg3 arg5 arg6 arg7 hcr ft htv p0 0 _ (256 * (t.val + 1)) arg9 arg10 arg11 arg12 fi hids hfi (offG t) (offG_inb t) (offG_eq t))) $$ [Hi HL HWn HT HS]
  · isplitl [HWn HT HS]
    · isplitl [HWn]; · iapply (win_split d i arg7 0 _ fw) $$ HWn
      isplitl [HT]; · iexact HT
      iexact HS
    isplitl [Hi]; · iexact Hi
    iapply (Lsts_any d i arg6 _ _ 0 0 (256 * (t.val + 1))) $$ HL
  iintro %_ ⟨Hi, HF⟩
  iapply (wp_use d i (wp_waitFour (tv := tv) (ids := ids) d i arg3 arg6 arg7 O W ft p1 512 _ (256 * t.val + 128) arg13 arg14 arg15 arg16)) $$ [HF1 HO]
  · isplitl [HF1]; · iexact HF1
    iexact HO
  iintro %_ ⟨⟨%fw1, %hfw1, HWn⟩, HL, HT, HS, HO⟩
  iapply (wp_use d i (wp_guardOut (tv := tv) (ids := ids) d i arg4 arg8 O W 1 64 _ arg18 t)) $$ [HO1 HO]
  · isplitl [HO1]; · iexact HO1
    iexact HO
  iintro %_ ⟨HR, Hs, HG1, HO⟩
  iapply (wp_use d i (wp_moveChunk (tv := tv) (ids := ids) d i (winHalf arg7 512 _) (rowHalf arg8 64 _) _ _ arg5 fw1 fi (256 * t.val + 128) hids hfi hfw1 (offB t) (offB_inb t) (offB_eq t))) $$ [Hi HWn HR]
  · isplitl [Hi]; · iexact Hi
    isplitl [HWn]; · iexact HWn
    iapply (RowAny_rowsAt d i arg8 _ _ (256 * t.val + 128)) $$ HR
  iintro %_ ⟨Hi, HWn, HR⟩
  ihave HTd := (Entails.of_eq (Todo_next (F := F) d i arg4 (2 * t.val + 1) (by omega))) $$ HTd
  icases HTd with ⟨Hc, HTd⟩
  iapply (wp_use d i (wp_sendOut (tv := tv) (ids := ids) d i arg4 arg8 (2 * t.val + 1) 64 _ arg18 (k0_off20 i t) (k0_off20_inb i t)
    (by rw [k0_off20_eq]; unfold rowBase; rw [show 64 * (2 * t.val + 1) = 128 * t.val + 64 by omega]; rfl))) $$ [HR Hc Hs]
  · isplitl [HR]
    · iapply (Entails.of_eq (show (rowsAt d i (rowHalf arg8 64 _) tv ids (256 * t.val + 128) 8 0 : sProp 𝕄) = rowsAt d i (rowHalf arg8 64 _) tv ids (128 * (2 * t.val + 1)) 8 0 by
        rw [show 128 * (2 * t.val + 1) = 256 * t.val + 128 by omega])) $$ HR
    isplitl [Hc]; · iexact Hc
    iexact Hs
  iintro %_ HOF1
  rw [wp_pure]
  imodintro
  isplitl [Hi]; · iexact Hi
  isplitl [HF]; · iexact HF
  isplitl [HL HWn HT HS]
  · isplitl [HL]; · iexact HL
    isplitl [HWn]; · iapply (win_split d i arg7 512 _ fw1) $$ HWn
    isplitl [HT]; · iexact HT
    iexact HS
  isplitl [HOF0]; · iapply (Entails.of_eq (OState_succ d i arg4 arg8 (tv := tv) (ids := ids) 0 0 _ arg17 t.val).symm) $$ HOF0
  isplitl [HOF1]; · iapply (Entails.of_eq (OState_succ d i arg4 arg8 (tv := tv) (ids := ids) 1 64 _ arg18 t.val).symm) $$ HOF1
  isplitl [HD HG0 HG1]
  · iapply (Done_got d i arg4 t.val)
    isplitl [HD]; · iexact HD
    isplitl [HG0]; · iexact HG0
    iexact HG1
  isplitl [HTd]; · iexact HTd
  iexact HO

/-- The tile's ids in the launch's list. -/
abbrev idSlice : Memref sig .scVector .hbm S3200 .i32 := arg2.slice (Rect.unit (s := S102400) (k0_off1 i) S3200.size (k0_off1_inb i)) (fun _ => rfl)

set_option maxHeartbeats 1000000 in
theorem wp_tileProg (hcr : Credits arg7) (ft : Buf (Elt F) (arg3.view.loc (thr d i))) (htv : (tabAll arg3).view.read (Elt F) ft = tv)
    (p0 p1 : Fin 4 → PosShare TreeShare) (pi : PosShare TreeShare) (f2 : Buf (Elt F) (arg2.view.loc (thr d i)))
    (hids : ∀ n, ids n < 400000) (hf2 : ∀ y, ((idSlice i arg2).view.read (Elt F) f2 y : BitVec 32).toNat = ids (y 0).val) :
    iprop(((arg2.view.loc (thr d i) ↦[(idSlice i arg2).view.set]{pi} f2) ∗ Tabs d i arg3 ft p0 ∗ Tabs d i arg3 ft p1 ∗ Todo (F := F) d i arg4 0)
      ∗ ((∃ f, arg5.view.loc (thr d i) ↦[arg5.view.set]{fullShare} f) ∗ (Lsts (F := F) d i arg6 ids 0 (by decide) 0 0 ∗ Lsts (F := F) d i arg6 ids 512 (by decide) 0 0)
        ∗ (Wins (F := F) d i arg7 0 (by decide) ∗ Wins (F := F) d i arg7 512 (by decide)) ∗ (RowAny (F := F) d i arg8 0 (by decide) ∗ RowAny (F := F) d i arg8 64 (by decide)))
      ∗ (Sems4 (F := F) d i arg9 arg10 arg11 arg12 ∗ Sems4 (F := F) d i arg13 arg14 arg15 arg16
        ∗ semVal (thr d i, SemLoc.dma arg17.sem) 0 ∗ semVal (thr d i, SemLoc.dma arg18.sem) 0 ∗ semVal (thr d i, SemLoc.dma v299_r0.sem) 0)
      ∗ Ow (F := F) d i O W)
      ⊢ wp frame (wpE (defs₀ (F := F)) 𝒱₀ (thr d i) none) Set.univ
        (tileProg i arg2 arg3 arg4 arg5 harg5 arg6 arg7 arg8 arg9 arg10 arg11 arg12 arg13 arg14 arg15 arg16 arg17 arg18 v299_r0)
        fun _ => iprop(((arg2.view.loc (thr d i) ↦[(idSlice i arg2).view.set]{pi} f2) ∗ Tabs d i arg3 ft p0 ∗ Tabs d i arg3 ft p1 ∗ Done d i arg4 tv ids 25)
      ∗ ((∃ f, arg5.view.loc (thr d i) ↦[arg5.view.set]{fullShare} f) ∗ (Lsts (F := F) d i arg6 ids 0 (by decide) 0 0 ∗ Lsts (F := F) d i arg6 ids 512 (by decide) 0 0)
        ∗ (Wins (F := F) d i arg7 0 (by decide) ∗ Wins (F := F) d i arg7 512 (by decide)) ∗ (RowAny (F := F) d i arg8 0 (by decide) ∗ RowAny (F := F) d i arg8 64 (by decide)))
      ∗ (Sems4 (F := F) d i arg9 arg10 arg11 arg12 ∗ Sems4 (F := F) d i arg13 arg14 arg15 arg16
        ∗ semVal (thr d i, SemLoc.dma arg17.sem) 0 ∗ semVal (thr d i, SemLoc.dma arg18.sem) 0 ∗ semVal (thr d i, SemLoc.dma v299_r0.sem) 0)
      ∗ Ow (F := F) d i O W) := by
  unfold tileProg
  iintro ⟨⟨H2, HT0, HT1, HTd⟩, ⟨⟨%f5, H5⟩, ⟨HL0, HL1⟩, ⟨HW0, HW1⟩, HR0, HR1⟩, ⟨HS0, HS1, Hs17, Hs18, Hsr⟩, #Hmw, %W', %hW', HO⟩
  iapply (Transfers.wp_dmaLocal (defs := defs₀ (F := F)) countersEmb 𝒱₀ (thr d i) none (dst := arg5) (src := idSlice i arg2) (via := .same)
    (default : HIx 1) (arg5.view.dmaCredit) rfl (View.dmaCredit_pos _ (by decide)) (Sd := arg5.view.set) (le_refl _) (fs := f2) (fd := f5)) $$ [H2 H5 Hsr]
  · isplitl [H2]; · iexact H2
    isplitl [H5]; · iexact H5
    iexact Hsr
  iintro HF
  iapply (Transfers.wp_waitLocalO (defs := defs₀ (F := F)) countersEmb 𝒱₀ (thr d i) none (default : HIx 1) (N := arg5.view.dmaCredit) rfl) $$ [HF HO]
  · isplitl [HF]; · iexact HF
    isplitl [HO]; · iexact HO
    iapply (Transfers.MayWaits.elim (SemLoc.dma v299_r0.sem)) $$ Hmw
  iintro ⟨⟨H5, H2⟩, Hsr, HO⟩
  have hfi : ∀ y, (arg5.view.read (Elt F) (arg5.view.write (Elt F) f5 ((idSlice i arg2).view.read (Elt F) f2) Finset.univ) y : BitVec 32).toNat = ids (y 0).val := by
    intro y
    rw [View.read_write_univ]
    exact hf2 y
  ihave HO := (show iprop(Transfers.MayWaits (thr d i) (default : HIx 1) O ∗ owes (thr d i) O (insert (SemLoc.dma v299_r0.sem, (default : HIx 1)) W')) ⊢ (Ow (F := F) d i O W : sProp 𝕄) from by
    iintro ⟨H, HO⟩
    isplitl [H]; · iexact H
    iexists _
    isplitr
    swap
    · iexact HO
    · ipureintro
      intro p hp
      rcases Finset.mem_insert.mp hp with rfl | hp
      · exact Or.inr rfl
      · exact hW' p hp) $$ [HO]
  · isplitr; · iexact Hmw
    iexact HO
  iclear Hmw
  generalize hfg : arg5.view.write (Elt F) f5 ((idSlice i arg2).view.read (Elt F) f2) Finset.univ = fi at hfi
  iapply (wp_use d i (wp_fireChunk (tv := tv) d i arg3 arg5 arg6 arg7 hcr ft htv p0 0 _ 0 arg9 arg10 arg11 arg12 fi hids hfi (offC 0) (offC_inb (by decide)) (fun b => rfl))) $$ [H5 HL0 HW0 HT0 HS0]
  · isplitl [HW0 HT0 HS0]
    · isplitl [HW0]; · iexact HW0
      isplitl [HT0]; · iexact HT0
      iexact HS0
    isplitl [H5]; · iexact H5
    iexact HL0
  iintro %_ ⟨H5, HF⟩
  rw [wp_bind]
  iapply (Scf.wp_for frame _ _ _ _ _ _ _ _
    (fun j _ => PairInv d i arg3 arg4 arg5 arg6 arg7 arg8 arg9 arg10 arg11 arg12 arg13 arg14 arg15 arg16 arg17 arg18 O W tv ids ft p0 p1 fi j)
    (fun t u => wp_pairBody d i arg3 arg4 arg5 arg6 arg7 arg8 arg9 arg10 arg11 arg12 arg13 arg14 arg15 arg16 arg17 arg18 O W hcr ft htv p0 p1 fi hids hfi t u))
  isplitl [H5 HF HL1 HW1 HT1 HS1 HR0 HR1 Hs17 Hs18 HTd HO]
  · isplitl [H5]; · iexact H5
    isplitl [HF]; · iexact HF
    isplitl [HL1 HW1 HT1 HS1]
    · isplitl [HL1]; · iexact HL1
      isplitl [HW1]; · iexact HW1
      isplitl [HT1]; · iexact HT1
      iexact HS1
    isplitl [HR0 Hs17]
    · unfold OState
      isplitl [HR0]; · iexact HR0
      iexact Hs17
    isplitl [HR1 Hs18]
    · unfold OState
      isplitl [HR1]; · iexact HR1
      iexact Hs18
    isplitr
    · unfold Done
      rw [show Finset.range (2 * (0 - 1)) = ∅ from rfl, bigSep_empty]
      iempintro
    isplitl [HTd]; · iexact HTd
    iexact HO
  iintro %u HI
  ihave HI := (Entails.of_eq (show (PairInv d i arg3 arg4 arg5 arg6 arg7 arg8 arg9 arg10 arg11 arg12 arg13 arg14 arg15 arg16 arg17 arg18 O W tv ids ft p0 p1 fi (Scf.trips k0_t1_loop.lb k0_t1_loop.ub k0_t1_loop.st) : sProp 𝕄)
    = PairInv d i arg3 arg4 arg5 arg6 arg7 arg8 arg9 arg10 arg11 arg12 arg13 arg14 arg15 arg16 arg17 arg18 O W tv ids ft p0 p1 fi 12 by rw [show Scf.trips k0_t1_loop.lb k0_t1_loop.ub k0_t1_loop.st = 12 from by decide])) $$ HI
  icases HI with ⟨H5, HF, ⟨HL1, HW1, HT1, HS1⟩, HO0, HO1, HD, HTd, HO⟩
  iapply (wp_use d i (wp_waitFour (tv := tv) (ids := ids) d i arg3 arg6 arg7 O W ft p0 0 _ 3072 arg9 arg10 arg11 arg12)) $$ [HF HO]
  · isplitl [HF]; · iexact HF
    iexact HO
  iintro %_ ⟨⟨%fw, %hfw, HWn⟩, HL0, HT0, HS0, HO⟩
  iapply (wp_use d i (wp_waitOut d i arg4 arg8 O W 0 _ arg17 iprop(OutGood d i arg4 tv ids 22 ∗ RowAny d i arg8 0 (by decide)))) $$ [HO0 HO]
  · isplitl [HO0]; · iapply (Entails.of_eq (OState_succ d i arg4 arg8 (tv := tv) (ids := ids) 0 0 _ arg17 11)) $$ HO0
    iexact HO
  iintro %_ ⟨⟨HG22, HR⟩, Hs17, HO⟩
  iapply (wp_use d i (wp_moveChunk (tv := tv) (ids := ids) d i (winHalf arg7 0 _) (rowHalf arg8 0 _) _ _ arg5 fw fi 3072 hids hfi hfw (offC 3072) _ (fun b => rfl))) $$ [H5 HWn HR]
  · isplitl [H5]; · iexact H5
    isplitl [HWn]; · iexact HWn
    iapply (RowAny_rowsAt d i arg8 _ _ 3072) $$ HR
  iintro %_ ⟨H5, HWn, HR⟩
  ihave HTd := (Entails.of_eq (Todo_next (F := F) d i arg4 24 (by omega))) $$ HTd
  icases HTd with ⟨Hc, -⟩
  iapply (wp_use d i (wp_sendOut (tv := tv) (ids := ids) d i arg4 arg8 24 0 _ arg17 (k0_off21 i) (k0_off21_inb i)
    (by rw [k0_off21_eq]; rfl))) $$ [HR Hc Hs17]
  · isplitl [HR]; · iexact HR
    isplitl [Hc]; · iexact Hc
    iexact Hs17
  iintro %_ HOF
  iapply (wp_use d i (wp_waitOut d i arg4 arg8 O W 64 _ arg18 iprop(OutGood d i arg4 tv ids 23 ∗ RowAny d i arg8 64 (by decide)))) $$ [HO1 HO]
  · isplitl [HO1]; · iapply (Entails.of_eq (OState_succ d i arg4 arg8 (tv := tv) (ids := ids) 1 64 _ arg18 11)) $$ HO1
    iexact HO
  iintro %_ ⟨⟨HG23, HR1⟩, Hs18, HO⟩
  iapply (wp_last d i (wp_waitOut d i arg4 arg8 O W 0 _ arg17 iprop(OutGood d i arg4 tv ids 24 ∗ RowAny d i arg8 0 (by decide)))) $$ [HOF HO]
  · isplitl [HOF]; · iexact HOF
    iexact HO
  iintro %_ ⟨⟨HG24, HR0⟩, Hs17, HO⟩
  isplitl [H2 HT0 HT1 HD HG22 HG23 HG24]
  · isplitl [H2]; · iexact H2
    isplitl [HT0]; · iexact HT0
    isplitl [HT1]; · iexact HT1
    iapply (Done_last d i arg4)
    isplitl [HD]; · iexact HD
    isplitl [HG22]; · iexact HG22
    isplitl [HG23]; · iexact HG23
    iexact HG24
  isplitl [H5 HL0 HL1 HWn HW1 HR0 HR1]
  · isplitl [H5]; · iexists fi; iexact H5
    isplitl [HL0 HL1]
    · isplitl [HL0]; · iexact HL0
      iexact HL1
    isplitl [HWn HW1]
    · isplitl [HWn]; · iapply (win_split d i arg7 0 _ fw) $$ HWn
      iexact HW1
    isplitl [HR0]; · iexact HR0
    iexact HR1
  isplitl [HS0 HS1 Hs17 Hs18 Hsr]
  · isplitl [HS0]; · iexact HS0
    isplitl [HS1]; · iexact HS1
    isplitl [Hs17]; · iexact Hs17
    isplitl [Hs18]; · iexact Hs18
    iexact Hsr
  iexact HO

end Cert.KernelIdeal.Tile

end
-- ==== Proof.Ideal.Parts.lean ====
/- Points-tos cut into pieces and put together again. -/
module

public import proofs.«01_k».proof.Proof.Ideal.Pair

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem sep_mono {T : Type} {S : Finset T} {Φ Ψ : T → sProp 𝕄} (h : ∀ t ∈ S, (Φ t : sProp 𝕄) ⊢ Ψ t) : (bigSep S Φ : sProp 𝕄) ⊢ bigSep S Ψ :=
  bigSep_mono h

theorem ent_antisymm {P Q : sProp 𝕄} (h : P ⊢ Q) (h' : Q ⊢ P) : P = Q := BI.Entails.antisymm h h'

theorem ent_trans {P Q R : sProp 𝕄} (h : P ⊢ Q) (h' : Q ⊢ R) : P ⊢ R := BI.Entails.trans h h'

theorem parts_split {T : Type} [Fintype T] {ℓ : Loc nD τ sig} (K : T → Finset (Idx ℓ)) (hd : ∀ t t', t ≠ t' → Disjoint (K t) (K t'))
    (hc : ∀ y, ∃ t, y ∈ K t) (f : Buf (Elt F) ℓ) :
    (ℓ ↦{fullShare} f : sProp 𝕄) = bigSep Finset.univ fun t => ℓ ↦[K t]{fullShare} f := by
  classical
  rw [← pointsTo_biUnion Finset.univ K fun t _ t' _ h => hd t t' h, show Finset.univ.biUnion K = Finset.univ from
    Finset.eq_univ_iff_forall.mpr fun y => by
      obtain ⟨t, ht⟩ := hc y
      exact Finset.mem_biUnion.mpr ⟨t, Finset.mem_univ t, ht⟩]

theorem parts_join {T : Type} [Fintype T] [Inhabited T] {ℓ : Loc nD τ sig} (K : T → Finset (Idx ℓ)) (hd : ∀ t t', t ≠ t' → Disjoint (K t) (K t'))
    (hc : ∀ y, ∃ t, y ∈ K t) (φ : T → Buf (Elt F) ℓ → Prop) (hφ : ∀ t f g, (∀ y ∈ K t, g y = f y) → φ t f → φ t g) :
    (bigSep Finset.univ fun t => iprop(∃ f, ⌜φ t f⌝ ∗ ℓ ↦[K t]{fullShare} f))
      ⊢ (iprop(∃ f, ⌜∀ t, φ t f⌝ ∗ ℓ ↦{fullShare} f) : sProp 𝕄) := by
  classical
  refine ent_trans (sep_mono (Ψ := fun t => iprop(∃ f : {f : Buf (Elt F) ℓ // φ t f}, ℓ ↦[K t]{fullShare} f.1)) fun t _ => ?_) ?_
  · iintro ⟨%f, %h, H⟩
    iexists (⟨f, h⟩ : {f : Buf (Elt F) ℓ // φ t f})
    iexact H
  by_cases hne : ∀ t, Nonempty {f : Buf (Elt F) ℓ // φ t f}
  · have := fun t => hne t
    refine ent_trans (bigSep_exists_pi Finset.univ (fun t (f : {f : Buf (Elt F) ℓ // φ t f}) => (ℓ ↦[K t]{fullShare} f.1 : sProp 𝕄))) ?_
    iintro ⟨%fs, H⟩
    ihave H' := (pointsTo_biUnion_join (ℓ := ℓ) (q := fullShare) (Val := Elt F) Finset.univ K (fun t => (fs t).1) (fs default).1 fun t _ t' _ h => hd t t' h) $$ H
    icases H' with ⟨%g, %hg, Hg⟩
    iexists g
    isplitr
    · ipureintro
      exact fun t => hφ t _ g (fun y hy => hg t (Finset.mem_univ t) y hy) (fs t).2
    · iapply (Entails.of_eq (show (ℓ ↦[Finset.univ.biUnion K]{fullShare} g : sProp 𝕄) = (ℓ ↦{fullShare} g) by
        rw [show Finset.univ.biUnion K = Finset.univ from Finset.eq_univ_iff_forall.mpr fun y => by
          obtain ⟨t, ht⟩ := hc y
          exact Finset.mem_biUnion.mpr ⟨t, Finset.mem_univ t, ht⟩]))
      iexact Hg
  · rw [not_forall] at hne
    obtain ⟨t, ht⟩ := hne
    refine ent_trans (bigSep_elim (Finset.mem_univ t)) ?_
    iintro ⟨%f, -⟩
    exact absurd ⟨f⟩ ht

theorem parts_join_any {T : Type} [Fintype T] [Inhabited T] {ℓ : Loc nD τ sig} (K : T → Finset (Idx ℓ)) (hd : ∀ t t', t ≠ t' → Disjoint (K t) (K t'))
    (hc : ∀ y, ∃ t, y ∈ K t) : (bigSep Finset.univ fun t => iprop(∃ f, ℓ ↦[K t]{fullShare} f)) ⊢ (iprop(∃ f, ℓ ↦{fullShare} f) : sProp 𝕄) := by
  refine ent_trans (sep_mono (Ψ := fun t => iprop(∃ f, ⌜True⌝ ∗ ℓ ↦[K t]{fullShare} f)) fun t _ => ?_) (ent_trans (parts_join K hd hc (fun _ _ => True) fun _ _ _ _ _ => trivial) ?_)
  · iintro ⟨%f, H⟩
    iexists f
    isplitr; · ipureintro; trivial
    iexact H
  · iintro ⟨%f, -, H⟩
    iexists f
    iexact H

theorem share_halves {ℓ : Loc nD τ sig} (I : Finset (Idx ℓ)) (f : Buf (Elt F) ℓ) (q : PosShare TreeShare) :
    (ℓ ↦[I]{q} f : sProp 𝕄) = iprop((ℓ ↦[I]{q.left} f) ∗ ℓ ↦[I]{q.right} f) :=
  BI.Entails.antisymm (pointsTo_share (PosShare.mem_left_op_right q)).1 (pointsTo_share (PosShare.mem_left_op_right q)).2

/-- The quarters of a share. -/
def qtr (q : PosShare TreeShare) : Fin 4 → PosShare TreeShare := ![q.left.left, q.left.right, q.right.left, q.right.right]

theorem share_quarters {ℓ : Loc nD τ sig} (I : Finset (Idx ℓ)) (f : Buf (Elt F) ℓ) (q : PosShare TreeShare) :
    (ℓ ↦[I]{q} f : sProp 𝕄) = iprop((ℓ ↦[I]{qtr q 0} f) ∗ (ℓ ↦[I]{qtr q 1} f) ∗ (ℓ ↦[I]{qtr q 2} f) ∗ (ℓ ↦[I]{qtr q 3} f)) := by
  rw [share_halves I f q, share_halves I f q.left, share_halves I f q.right]
  refine ent_antisymm ?_ ?_
  · iintro ⟨⟨H0, H1⟩, H2, H3⟩
    isplitl [H0]; · iexact H0
    isplitl [H1]; · iexact H1
    isplitl [H2]; · iexact H2
    iexact H3
  · iintro ⟨H0, H1, H2, H3⟩
    isplitl [H0 H1]
    · isplitl [H0]; · iexact H0
      iexact H1
    isplitl [H2]; · iexact H2
    iexact H3

/-- Shares for the members of a finite set, with a rest. -/
theorem exists_shares {I : Type} [DecidableEq I] (S : Finset I) : ∀ q : PosShare TreeShare, ∃ (φ : I → PosShare TreeShare) (r : PosShare TreeShare),
    ∀ (F : FTy → Type) (ℓ : Loc nD τ sig) (f : Buf (Elt F) ℓ), (ℓ ↦{q} f : sProp (MT nD τ sig (HIx 1) (Elt F) ℕ UU ℕ)) = iprop((bigSep S fun i => ℓ ↦{φ i} f) ∗ ℓ ↦{r} f) := by
  induction S using Finset.induction_on with
  | empty =>
    intro q
    refine ⟨fun _ => q, q, fun F ℓ f => ?_⟩
    rw [bigSep_empty]
    refine ent_antisymm ?_ ?_
    · iintro H
      isplitr; · iempintro
      iexact H
    · iintro ⟨-, H⟩; iexact H
  | insert a S ha ih =>
    intro q
    obtain ⟨φ, r, h⟩ := ih q.right
    refine ⟨Function.update φ a q.left, r, fun F ℓ f => ?_⟩
    rw [SparseCore.bigSep_insert' ha, share_halves Finset.univ f q, h F ℓ f, Function.update_self,
      bigSep_congr (Φ := fun i => (ℓ ↦{Function.update φ a q.left i} f : sProp (MT nD τ sig (HIx 1) (Elt F) ℕ UU ℕ))) (Ψ := fun i => (ℓ ↦{φ i} f : sProp (MT nD τ sig (HIx 1) (Elt F) ℕ UU ℕ))) fun i hi => by
        rw [Function.update_of_ne (ne_of_mem_of_not_mem hi ha)]]
    refine ent_antisymm ?_ ?_
    · iintro ⟨H0, H1, H2⟩
      isplitl [H0 H1]
      · isplitl [H0]; · iexact H0
        iexact H1
      iexact H2
    · iintro ⟨⟨H0, H1⟩, H2⟩
      isplitl [H0]; · iexact H0
      isplitl [H1]; · iexact H1
      iexact H2

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = insert 0 (insert 1 (insert 2 (insert 3 (insert 4 (insert 5 (insert 6 {7})))))) by decide, bigSep_insert (by decide), bigSep_insert (by decide),
    bigSep_insert (by decide), bigSep_insert (by decide), bigSep_insert (by decide), bigSep_insert (by decide), bigSep_insert (by decide), bigSep_singleton]
  rfl

theorem bigSep_fin2 (Φ : Fin 2 → sProp 𝕄) : bigSep Finset.univ Φ = iprop(Φ 0 ∗ Φ 1) := by
  rw [show (Finset.univ : Finset (Fin 2)) = insert 0 {1} by decide, bigSep_insert (by decide), bigSep_singleton]
  rfl

end Cert.KernelIdeal.Tile

end
-- ==== Proof.Ideal.Tile.lean ====
/- One subcore's task, from its share of the arrays and its own scratch. -/
module

public import proofs.«01_k».proof.Proof.Ideal.Parts

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev wI : Memref sig .scVector .hbm S102400 .i32 := Memref.whole main_v6_scv
abbrev wT : Memref sig .scVector .hbm S1250000x16 .f32 := Memref.whole main_v7_scv
abbrev wO : Memref sig .scVector .hbm S51200x128 .f32 := Memref.whole main_v8_scv
abbrev w5 : Memref sig .scVector .vmem S3200 .i32 := Memref.whole cc0_scratch0
abbrev w6 : Memref sig .scVector .vmem S1024 .i32 := Memref.whole cc0_scratch1
abbrev w7 : Memref sig .scVector .vmem S1024x16 .f32 := Memref.whole cc0_scratch2
abbrev w8 : Memref sig .scVector .vmem S128x128 .f32 := Memref.whole cc0_scratch3

variable (d : Dev nD) (L : grid0.Coords)

theorem lst_part (k : Fin 8) : 128 * k.val ≤ 896 := by omega
theorem row_part (k : Fin 2) : 64 * k.val ≤ 64 := by omega

theorem mem_lst (q : ℕ) (hq : q ≤ 896) (x : S1024.Idx) : x ∈ (lstOf w6 q hq).view.set ↔ q ≤ (x 0).val ∧ (x 0).val < q + 128 := by
  rw [View.set_slice, show w6.view.emb = Function.Embedding.refl _ from rfl, Finset.map_refl, Rect.mem_set_unit]
  exact ⟨fun h => h 0, fun h a => by match a with | ⟨0, _⟩ => exact h⟩

theorem mem_win (q : ℕ) (hq : q ≤ 896) (x : S1024x16.Idx) : x ∈ (winOf w7 q hq).view.set ↔ q ≤ (x 0).val ∧ (x 0).val < q + 128 := by
  rw [View.set_slice, show w7.view.emb = Function.Embedding.refl _ from rfl, Finset.map_refl, Rect.mem_set_unit]
  exact ⟨fun h => h 0, fun h a => by
    match a with
    | ⟨0, _⟩ => exact h
    | ⟨1, _⟩ => exact ⟨Nat.zero_le _, lt_of_lt_of_eq (x 1).isLt (Nat.zero_add _).symm⟩⟩

theorem mem_row (q : ℕ) (hq : q ≤ 64) (x : S128x128.Idx) : x ∈ (rowHalf w8 q hq).view.set ↔ q ≤ (x 0).val ∧ (x 0).val < q + 64 := by
  rw [View.set_slice, show w8.view.emb = Function.Embedding.refl _ from rfl, Finset.map_refl, Rect.mem_set_unit]
  exact ⟨fun h => h 0, fun h a => by
    match a with
    | ⟨0, _⟩ => exact h
    | ⟨1, _⟩ => exact ⟨Nat.zero_le _, lt_of_lt_of_eq (x 1).isLt (Nat.zero_add _).symm⟩⟩

theorem disj_of {α : Type} {A B : Finset α} (g : α → ℕ) (a b w : ℕ) (hA : ∀ x, x ∈ A → a ≤ g x ∧ g x < a + w) (hB : ∀ x, x ∈ B → b ≤ g x ∧ g x < b + w)
    (h : a + w ≤ b ∨ b + w ≤ a) : Disjoint A B :=
  Finset.disjoint_left.mpr fun x hx hx' => by
    have := hA x hx
    have := hB x hx'
    omega

theorem lst_disj (k k' : Fin 8) (h : k ≠ k') : Disjoint (lstOf w6 (128 * k.val) (lst_part k)).view.set (lstOf w6 (128 * k'.val) (lst_part k')).view.set :=
  disj_of (fun x : S1024.Idx => (x 0).val) (128 * k.val) (128 * k'.val) 128 (fun x hx => (mem_lst _ _ x).mp hx) (fun x hx => (mem_lst _ _ x).mp hx)
    (by have := Fin.val_ne_of_ne h; omega)
theorem lst_cover (x : S1024.Idx) : ∃ k : Fin 8, x ∈ (lstOf w6 (128 * k.val) (lst_part k)).view.set := by
  have h : (x 0).val < 1024 := (x 0).isLt
  refine ⟨⟨(x 0).val / 128, by omega⟩, (mem_lst _ _ x).mpr ?_⟩
  show 128 * ((x 0).val / 128) ≤ _ ∧ _ < 128 * ((x 0).val / 128) + 128
  omega
theorem win_disj (k k' : Fin 8) (h : k ≠ k') : Disjoint (winOf w7 (128 * k.val) (lst_part k)).view.set (winOf w7 (128 * k'.val) (lst_part k')).view.set :=
  disj_of (fun x : S1024x16.Idx => (x 0).val) (128 * k.val) (128 * k'.val) 128 (fun x hx => (mem_win _ _ x).mp hx) (fun x hx => (mem_win _ _ x).mp hx)
    (by have := Fin.val_ne_of_ne h; omega)
theorem win_cover (x : S1024x16.Idx) : ∃ k : Fin 8, x ∈ (winOf w7 (128 * k.val) (lst_part k)).view.set := by
  have h : (x 0).val < 1024 := (x 0).isLt
  refine ⟨⟨(x 0).val / 128, by omega⟩, (mem_win _ _ x).mpr ?_⟩
  show 128 * ((x 0).val / 128) ≤ _ ∧ _ < 128 * ((x 0).val / 128) + 128
  omega
theorem row_disj (k k' : Fin 2) (h : k ≠ k') : Disjoint (rowHalf w8 (64 * k.val) (row_part k)).view.set (rowHalf w8 (64 * k'.val) (row_part k')).view.set :=
  disj_of (fun x : S128x128.Idx => (x 0).val) (64 * k.val) (64 * k'.val) 64 (fun x hx => (mem_row _ _ x).mp hx) (fun x hx => (mem_row _ _ x).mp hx)
    (by have := Fin.val_ne_of_ne h; omega)
theorem row_cover (x : S128x128.Idx) : ∃ k : Fin 2, x ∈ (rowHalf w8 (64 * k.val) (row_part k)).view.set := by
  have h : (x 0).val < 128 := (x 0).isLt
  refine ⟨⟨(x 0).val / 64, by omega⟩, (mem_row _ _ x).mpr ?_⟩
  show 64 * ((x 0).val / 64) ≤ _ ∧ _ < 64 * ((x 0).val / 64) + 64
  omega

variable (ids : ℕ → ℕ)

theorem lst_any (q : ℕ) (hq : q ≤ 896) (n0 k : ℕ) (f : Buf (Elt F) (w6.view.loc (thr d L))) :
    (w6.view.loc (thr d L) ↦[(lstOf w6 q hq).view.set]{fullShare} f : sProp 𝕄) ⊢ LstP d L w6 ids q hq n0 k 0 := by
  iintro H
  iexists f
  isplitr
  · ipureintro; exact fun y hy => absurd hy (Nat.not_lt_zero _)
  · iexact H

theorem lst_forget (q : ℕ) (hq : q ≤ 896) (n0 k : ℕ) :
    (LstP d L w6 ids q hq n0 k 0 : sProp 𝕄) ⊢ iprop(∃ f, w6.view.loc (thr d L) ↦[(lstOf w6 q hq).view.set]{fullShare} f) := by
  iintro ⟨%f, -, H⟩
  iexists f
  iexact H

theorem lsts_split (f : Buf (Elt F) (w6.view.loc (thr d L))) :
    (w6.view.loc (thr d L) ↦{fullShare} f : sProp 𝕄)
      ⊢ iprop(Lsts (F := F) d L w6 ids 0 (by decide) 0 0 ∗ Lsts (F := F) d L w6 ids 512 (by decide) 0 0) := by
  refine ent_trans (Entails.of_eq ((parts_split (ℓ := w6.view.loc (thr d L)) (fun k : Fin 8 => (lstOf w6 (128 * k.val) (lst_part k)).view.set) lst_disj lst_cover f).trans (bigSep_fin8 _))) ?_
  iintro ⟨H0, H1, H2, H3, H4, H5, H6, H7⟩
  isplitl [H0 H1 H2 H3]
  · isplitl [H0]; · iapply (lst_any d L ids 0 _ 0 0 f); iexact H0
    isplitl [H1]; · iapply (lst_any d L ids (0 + 128) _ 0 1 f); iexact H1
    isplitl [H2]; · iapply (lst_any d L ids (0 + 256) _ 0 2 f); iexact H2
    iapply (lst_any d L ids (0 + 384) _ 0 3 f); iexact H3
  · isplitl [H4]; · iapply (lst_any d L ids 512 _ 0 0 f); iexact H4
    isplitl [H5]; · iapply (lst_any d L ids (512 + 128) _ 0 1 f); iexact H5
    isplitl [H6]; · iapply (lst_any d L ids (512 + 256) _ 0 2 f); iexact H6
    iapply (lst_any d L ids (512 + 384) _ 0 3 f); iexact H7

theorem lsts_join :
    iprop(Lsts (F := F) d L w6 ids 0 (by decide) 0 0 ∗ Lsts (F := F) d L w6 ids 512 (by decide) 0 0)
      ⊢ (iprop(∃ f, w6.view.loc (thr d L) ↦{fullShare} f) : sProp 𝕄) := by
  refine ent_trans ?_ (ent_trans (Entails.of_eq (bigSep_fin8 (F := F) _).symm)
    (parts_join_any (ℓ := w6.view.loc (thr d L)) (fun k : Fin 8 => (lstOf w6 (128 * k.val) (lst_part k)).view.set) lst_disj lst_cover))
  iintro ⟨⟨H0, H1, H2, H3⟩, H4, H5, H6, H7⟩
  isplitl [H0]; · iapply (lst_forget d L ids 0 _ 0 0); iexact H0
  isplitl [H1]; · iapply (lst_forget d L ids (0 + 128) _ 0 1); iexact H1
  isplitl [H2]; · iapply (lst_forget d L ids (0 + 256) _ 0 2); iexact H2
  isplitl [H3]; · iapply (lst_forget d L ids (0 + 384) _ 0 3); iexact H3
  isplitl [H4]; · iapply (lst_forget d L ids 512 _ 0 0); iexact H4
  isplitl [H5]; · iapply (lst_forget d L ids (512 + 128) _ 0 1); iexact H5
  isplitl [H6]; · iapply (lst_forget d L ids (512 + 256) _ 0 2); iexact H6
  iapply (lst_forget d L ids (512 + 384) _ 0 3); iexact H7

theorem wins_split (f : Buf (Elt F) (w7.view.loc (thr d L))) :
    (w7.view.loc (thr d L) ↦{fullShare} f : sProp 𝕄)
      ⊢ iprop(Wins (F := F) d L w7 0 (by decide) ∗ Wins (F := F) d L w7 512 (by decide)) := by
  refine ent_trans (Entails.of_eq ((parts_split (ℓ := w7.view.loc (thr d L)) (fun k : Fin 8 => (winOf w7 (128 * k.val) (lst_part k)).view.set) win_disj win_cover f).trans (bigSep_fin8 _))) ?_
  iintro ⟨H0, H1, H2, H3, H4, H5, H6, H7⟩
  isplitl [H0 H1 H2 H3]
  · isplitl [H0]; · iexists f; iexact H0
    isplitl [H1]; · iexists f; iexact H1
    isplitl [H2]; · iexists f; iexact H2
    iexists f; iexact H3
  · isplitl [H4]; · iexists f; iexact H4
    isplitl [H5]; · iexists f; iexact H5
    isplitl [H6]; · iexists f; iexact H6
    iexists f; iexact H7

theorem wins_join :
    iprop(Wins (F := F) d L w7 0 (by decide) ∗ Wins (F := F) d L w7 512 (by decide))
      ⊢ (iprop(∃ f, w7.view.loc (thr d L) ↦{fullShare} f) : sProp 𝕄) := by
  refine ent_trans ?_ (ent_trans (Entails.of_eq (bigSep_fin8 (F := F) _).symm)
    (parts_join_any (ℓ := w7.view.loc (thr d L)) (fun k : Fin 8 => (winOf w7 (128 * k.val) (lst_part k)).view.set) win_disj win_cover))
  iintro ⟨⟨H0, H1, H2, H3⟩, H4, H5, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem rows_split (f : Buf (Elt F) (w8.view.loc (thr d L))) :
    (w8.view.loc (thr d L) ↦{fullShare} f : sProp 𝕄)
      ⊢ iprop(RowAny (F := F) d L w8 0 (by decide) ∗ RowAny (F := F) d L w8 64 (by decide)) := by
  refine ent_trans (Entails.of_eq ((parts_split (ℓ := w8.view.loc (thr d L)) (fun k : Fin 2 => (rowHalf w8 (64 * k.val) (row_part k)).view.set) row_disj row_cover f).trans (bigSep_fin2 _))) ?_
  iintro ⟨H0, H1⟩
  isplitl [H0]; · iexists f; iexact H0
  iexists f; iexact H1

theorem rows_join :
    iprop(RowAny (F := F) d L w8 0 (by decide) ∗ RowAny (F := F) d L w8 64 (by decide))
      ⊢ (iprop(∃ f, w8.view.loc (thr d L) ↦{fullShare} f) : sProp 𝕄) := by
  refine ent_trans ?_ (ent_trans (Entails.of_eq (bigSep_fin2 (F := F) _).symm)
    (parts_join_any (ℓ := w8.view.loc (thr d L)) (fun k : Fin 2 => (rowHalf w8 (64 * k.val) (row_part k)).view.set) row_disj row_cover))
  iintro ⟨H0, H1⟩
  isplitl [H0]; · iexact H0
  iexact H1

theorem credits : Credits w7 := by
  have key : ∑ j, ((winOf w7 0 (by decide)).slice (S128x16.rowRect gathers_S1250000x16_S128x16.axis' j)
    (S128x16.stride_rowRect gathers_S1250000x16_S128x16.axis' j)).view.dmaCredit = (winOf w7 0 (by decide)).view.dmaCredit := by decide
  exact fun q hq => key

/-! ## The subcore's own semaphores and buffers, named -/

/-- The DMA semaphores the task names. -/
def semList : List (SemLoc sig) := [.dma cc0_scratch4.sem, .dma cc0_scratch5.sem, .dma cc0_scratch6.sem, .dma cc0_scratch7.sem, .dma cc0_scratch8.sem,
  .dma cc0_scratch9.sem, .dma cc0_scratch10.sem, .dma cc0_scratch11.sem, .dma cc0_scratch12.sem, .dma cc0_scratch13.sem, .dma cc0_scoped0.sem]

def semCells : List (GSem nD τ sig) := semList.map fun s => (thr d L, s)

theorem semCells_nodup : (semCells d L).Nodup :=
  List.Nodup.map (fun a b h => (Prod.mk.inj h).2) (by decide)

theorem semCells_subset : (semCells d L).toFinset ⊆ ownCells (thr d L) := by
  intro g hg
  obtain ⟨s, hs, rfl⟩ := List.mem_map.mp (List.mem_toFinset.mp hg)
  refine mem_ownCells.mpr ⟨rfl, ?_⟩
  have : ∀ s ∈ semList, s.isScoped .scVector = true := by decide
  exact this s hs

theorem sems_named : (bigSepL (semCells d L) (fun g => semVal g 0) : sProp 𝕄)
    = iprop(semVal (thr d L, SemLoc.dma cc0_scratch4.sem) 0 ∗ semVal (thr d L, SemLoc.dma cc0_scratch5.sem) 0 ∗ semVal (thr d L, SemLoc.dma cc0_scratch6.sem) 0 ∗ semVal (thr d L, SemLoc.dma cc0_scratch7.sem) 0 ∗ semVal (thr d L, SemLoc.dma cc0_scratch8.sem) 0 ∗ semVal (thr d L, SemLoc.dma cc0_scratch9.sem) 0 ∗ semVal (thr d L, SemLoc.dma cc0_scratch10.sem) 0 ∗ semVal (thr d L, SemLoc.dma cc0_scratch11.sem) 0 ∗ semVal (thr d L, SemLoc.dma cc0_scratch12.sem) 0 ∗ semVal (thr d L, SemLoc.dma cc0_scratch13.sem) 0 ∗ semVal (thr d L, SemLoc.dma cc0_scoped0.sem) 0) := rfl

theorem ownSems_split : (ownSems0 (thr d L) : sProp 𝕄)
    = iprop(bigSepL (semCells d L) (fun g => semVal g 0) ∗ bigSep (ownCells (thr d L) \ (semCells d L).toFinset) fun g => semVal g 0) := by
  unfold SparseCore.Cfg.ownSems0
  rw [SparseCore.bigSep_sdiff_split' (semCells_subset d L), bigSep_eq_bigSepL _ (semCells_nodup d L)]

theorem ownBufs_split :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  have hm : ∀ b : Ref sig .scVector, (h : ((Proc.scVector (cV L) (jV L)).devRef b).owner = .proc (Proc.scVector (cV L) (jV L))) →
    (Proc.scVector (cV L) (jV L)).devRef b ∈ ownRefs (τ := τ) (.scVector (cV L) (jV L)) := fun b h => SparseCore.Cfg.mem_ownRefs_of_owner h
  have hne : ∀ a b : Ref sig .scVector, a ≠ b → (Proc.scVector (cV L) (jV L)).devRef a ≠ (Proc.scVector (cV L) (jV L)).devRef b :=
    fun a b h e => h (Proc.devRef_injective _ e)
  unfold SparseCore.Cfg.ownBufs
  refine (SparseCore.bigSep_erase' (hm cc0_scratch0 rfl)).trans ?_
  rw [SparseCore.bigSep_erase' (Finset.mem_erase.mpr ⟨hne cc0_scratch1 cc0_scratch0 (by decide), hm cc0_scratch1 rfl⟩),
    SparseCore.bigSep_erase' (Finset.mem_erase.mpr ⟨hne cc0_scratch2 cc0_scratch1 (by decide), Finset.mem_erase.mpr ⟨hne cc0_scratch2 cc0_scratch0 (by decide), hm cc0_scratch2 rfl⟩⟩),
    SparseCore.bigSep_erase' (Finset.mem_erase.mpr ⟨hne cc0_scratch3 cc0_scratch2 (by decide), Finset.mem_erase.mpr ⟨hne cc0_scratch3 cc0_scratch1 (by decide),
      Finset.mem_erase.mpr ⟨hne cc0_scratch3 cc0_scratch0 (by decide), hm cc0_scratch3 rfl⟩⟩⟩)]

/-! ## The task -/

/-- The ids and the output rows of the subcore. -/
def iSet : Finset S102400.Idx := Finset.univ.filter fun y => (y 0).val / 3200 = 2 * (L 1).val + (L 0).val
def oSet : Finset S51200x128.Idx := Finset.univ.filter fun y => (y 0).val / 1600 = 2 * (L 1).val + (L 0).val

theorem mem_iSet (y : S102400.Idx) : y ∈ iSet L ↔ (y 0).val / 3200 = 2 * (L 1).val + (L 0).val := by simp [iSet]
theorem mem_oSet (y : S51200x128.Idx) : y ∈ oSet L ↔ (y 0).val / 1600 = 2 * (L 1).val + (L 0).val := by simp [oSet]

theorem idSlice_set : (idSlice L wI).view.set = iSet L := by
  rw [View.set_slice, show wI.view.emb = Function.Embedding.refl _ from rfl, Finset.map_refl]
  ext y
  rw [Rect.mem_set_unit, mem_iSet]
  have e : k0_off1 L 0 = 6400 * (L 1).val + 3200 * (L 0).val := congrFun (k0_off1_eq L) 0
  constructor
  · intro h
    have h0 : k0_off1 L 0 ≤ (y 0).val ∧ (y 0).val < k0_off1 L 0 + 3200 := h 0
    omega
  · intro h a
    match a with
    | ⟨0, _⟩ =>
      show k0_off1 L 0 ≤ (y 0).val ∧ (y 0).val < k0_off1 L 0 + 3200
      omega

theorem chunk_disj (n n' : ℕ) (h : n ≠ n') : Disjoint (chunk L n) (chunk L n') :=
  disj_of (fun y : S51200x128.Idx => (y 0).val) (rowBase L + 64 * n) (rowBase L + 64 * n') 64 (fun y hy => (mem_chunk L n y).mp hy) (fun y hy => (mem_chunk L n' y).mp hy)
    (by omega)

theorem chunks_union : (Finset.range 25).biUnion (chunk L) = oSet L := by
  ext y
  simp only [Finset.mem_biUnion, Finset.mem_range, mem_chunk, mem_oSet, rowBase]
  constructor
  · rintro ⟨n, hn, h⟩
    omega
  · intro h
    exact ⟨((y 0).val - (3200 * (L 1).val + 1600 * (L 0).val)) / 64, by omega, by omega⟩

theorem whole_setOn (S : Finset S51200x128.Idx) : wO.view.setOn S = S := Finset.map_refl

theorem out_split (f : Buf (Elt F) (wO.view.loc (thr d L))) :
    (wO.view.loc (thr d L) ↦[oSet L]{fullShare} f : sProp 𝕄) ⊢ Todo (F := F) d L wO 0 := by
  rw [← chunks_union]
  refine ent_trans (Entails.of_eq (pointsTo_biUnion (ℓ := wO.view.loc (thr d L)) (Finset.range 25) (chunk L) fun n _ n' _ h => chunk_disj L n n' h)) ?_
  unfold Todo
  rw [show Finset.Ico 0 25 = Finset.range 25 from by ext x; simp]
  refine sep_mono fun n _ => ?_
  iintro H
  iexists f
  iapply (Entails.of_eq (congrArg (fun S => (wO.view.loc (thr d L) ↦[S]{fullShare} f : sProp 𝕄)) (whole_setOn (chunk L n)).symm))
  iexact H

variable {tv : Vec F S1250000x16 .f32}

theorem out_join (f0 : Buf (Elt F) (wO.view.loc (thr d L))) :
    (Done d L wO tv ids 25 : sProp 𝕄)
      ⊢ iprop(∃ f, ⌜∀ y ∈ oSet L, OutOK tv ids (rowBase L) y (f y)⌝ ∗ wO.view.loc (thr d L) ↦[oSet L]{fullShare} f) := by
  unfold Done
  have : ∀ n : ℕ, Nonempty (Buf (Elt F) (wO.view.loc (thr d L))) := fun _ => ⟨f0⟩
  refine ent_trans (sep_mono (T := ℕ) (Ψ := fun n => iprop(∃ f, ⌜∀ y ∈ chunk L n, OutOK tv ids (rowBase L) y (f y)⌝ ∗ wO.view.loc (thr d L) ↦[chunk L n]{fullShare} f)) fun n _ => ?_) ?_
  · iintro ⟨%f, %h, H⟩
    iexists f
    isplitr
    · ipureintro; exact h
    · iapply (Entails.of_eq (congrArg (fun S => (wO.view.loc (thr d L) ↦[S]{fullShare} f : sProp 𝕄)) (whole_setOn (chunk L n))))
      iexact H
  refine ent_trans (bigSep_exists_pi (Finset.range 25) (fun n (f : Buf (Elt F) (wO.view.loc (thr d L))) =>
    iprop(⌜∀ y ∈ chunk L n, OutOK tv ids (rowBase L) y (f y)⌝ ∗ wO.view.loc (thr d L) ↦[chunk L n]{fullShare} f))) ?_
  iintro ⟨%fs, H⟩
  ihave H := (show (bigSep (Finset.range 25) fun n => iprop(⌜∀ y ∈ chunk L n, OutOK tv ids (rowBase L) y (fs n y)⌝ ∗ wO.view.loc (thr d L) ↦[chunk L n]{fullShare} fs n) : sProp 𝕄)
    ⊢ iprop(⌜∀ n ∈ Finset.range 25, ∀ y ∈ chunk L n, OutOK tv ids (rowBase L) y (fs n y)⌝ ∗ bigSep (Finset.range 25) fun n => wO.view.loc (thr d L) ↦[chunk L n]{fullShare} fs n)
    from bigSep_pure_sep _ _ _) $$ H
  icases H with ⟨%h, H⟩
  ihave H' := (pointsTo_biUnion_join (ℓ := wO.view.loc (thr d L)) (q := fullShare) (Val := Elt F) (Finset.range 25) (chunk L) fs f0 fun n _ n' _ h => chunk_disj L n n' h) $$ H
  icases H' with ⟨%g, %hg, Hg⟩
  iexists g
  isplitr
  · ipureintro
    intro y hy
    rw [← chunks_union] at hy
    obtain ⟨n, hn, hy⟩ := Finset.mem_biUnion.mp hy
    rw [hg n hn y hy]
    exact h n hn y hy
  · rw [chunks_union]
    iexact Hg

/-- The ids of the subcore, by their numbers. -/
def idOf (f : S102400.Idx → BitVec 32) (n : ℕ) : ℕ :=
  if h : 6400 * (L 1).val + 3200 * (L 0).val + n < 102400 then
    (if n < 3200 then (f fun | ⟨0, _⟩ => ⟨6400 * (L 1).val + 3200 * (L 0).val + n, h⟩).toNat else 0)
  else 0

theorem idOf_lt (f : S102400.Idx → BitVec 32) (hf : ∀ y, (f y).toNat < 400000) (n : ℕ) : idOf L f n < 400000 := by
  unfold idOf
  split
  · split
    · exact hf _
    · decide
  · decide

theorem idSlice_read (f : Buf (Elt F) (wI.view.loc (thr d L))) (y : S3200.Idx) :
    ((idSlice L wI).view.read (Elt F) f y : BitVec 32).toNat = idOf L f (y 0).val := by
  have hy : (y 0).val < 3200 := (y 0).isLt
  have h1 : (L 1).val < 16 := (L 1).isLt
  have h0 : (L 0).val < 2 := (L 0).isLt
  have e : k0_off1 L 0 = 6400 * (L 1).val + 3200 * (L 0).val := congrFun (k0_off1_eq L) 0
  unfold idOf
  rw [dif_pos (show 6400 * (L 1).val + 3200 * (L 0).val + (y 0).val < 102400 by omega), if_pos hy]
  refine congrArg BitVec.toNat (congrArg f ?_)
  funext a
  match a with
  | ⟨0, _⟩ =>
    apply Fin.ext
    show k0_off1 L 0 + 1 * (y 0).val = 6400 * (L 1).val + 3200 * (L 0).val + (y 0).val
    omega

/-- What a subcore is handed: its ids, a share of the table, its rows of the output. -/
abbrev Go (cI : Buf (Elt F) (wI.view.loc (thr d L))) (cT : Buf (Elt F) (wT.view.loc (thr d L))) (cO : Buf (Elt F) (wO.view.loc (thr d L)))
    (q : PosShare TreeShare) : sProp 𝕄 :=
  iprop((wI.view.loc (thr d L) ↦[iSet L]{fullShare} cI) ∗ (wT.view.loc (thr d L) ↦{q} cT) ∗ (wO.view.loc (thr d L) ↦[oSet L]{fullShare} cO))
/-- What it hands back: the rows gathered. -/
abbrev Td (cI : Buf (Elt F) (wI.view.loc (thr d L))) (cT : Buf (Elt F) (wT.view.loc (thr d L)))
    (q : PosShare TreeShare) : sProp 𝕄 :=
  iprop((wI.view.loc (thr d L) ↦[iSet L]{fullShare} cI) ∗ (wT.view.loc (thr d L) ↦{q} cT)
    ∗ ∃ f, ⌜∀ y ∈ oSet L, OutOK cT (idOf L cI) (rowBase L) y (f y)⌝ ∗ wO.view.loc (thr d L) ↦[oSet L]{fullShare} f)

theorem tab_set : (tabAll wT).view.set = Finset.univ := by
  rw [View.set_slice, show wT.view.emb = Function.Embedding.refl _ from rfl, Finset.map_refl]
  ext y
  simp only [Finset.mem_univ, iff_true]
  rw [Rect.mem_set_unit]
  intro a
  match a with
  | ⟨0, _⟩ => exact ⟨Nat.zero_le _, lt_of_lt_of_eq (y 0).isLt (Nat.zero_add _).symm⟩
  | ⟨1, _⟩ => exact ⟨Nat.zero_le _, lt_of_lt_of_eq (y 1).isLt (Nat.zero_add _).symm⟩

theorem tab_read (f : Buf (Elt F) (wT.view.loc (thr d L))) : (tabAll wT).view.read (Elt F) f = f := by
  funext y
  refine congrArg f ?_
  funext a
  apply Fin.ext
  match a with
  | ⟨0, _⟩ => show 0 + 1 * (y 0).val = (y 0).val; omega
  | ⟨1, _⟩ => show 0 + 1 * (y 1).val = (y 1).val; omega

theorem tabs_eq (f : Buf (Elt F) (wT.view.loc (thr d L))) (q : PosShare TreeShare) :
    (wT.view.loc (thr d L) ↦{q} f : sProp 𝕄) = iprop(Tabs d L wT f (qtr q.left) ∗ Tabs d L wT f (qtr q.right)) := by
  rw [share_halves Finset.univ f q, share_quarters Finset.univ f q.left, share_quarters Finset.univ f q.right]
  unfold Tabs TabP
  rw [tab_set]

theorem tile_body (cI : Buf (Elt F) (wI.view.loc (thr d L))) (cT : Buf (Elt F) (wT.view.loc (thr d L))) (cO : Buf (Elt F) (wO.view.loc (thr d L)))
    (hcI : ∀ y, (cI y : BitVec 32).toNat < 400000)
    (q : PosShare TreeShare) (O : CellTallies nD τ sig (HIx 1)) (W : Waits sig (HIx 1)) (hO : ∀ g, O g none = 0) :
    iprop(levAts (K (F := F)).L (K (F := F)).lev ∗ emp ∗ Go d L cI cT cO q ∗ scopedBufs (thr d L) ∗ scopedSems0 (thr d L) ∗ owes (thr d L) O W)
      ⊢ wp frame (wpE (defs₀ (F := F)) 𝒱₀ (thr d L) none) Set.univ
          (cc0__sc_gather_kernel L wI (Memref.isWhole_whole _) wT (Memref.isWhole_whole _) wO (Memref.isWhole_whole _)
            w5 (Memref.isWhole_whole _) w6 (Memref.isWhole_whole _) w7 (Memref.isWhole_whole _) w8 (Memref.isWhole_whole _)
            cc0_scratch4 cc0_scratch5 cc0_scratch6 cc0_scratch7 cc0_scratch8 cc0_scratch9 cc0_scratch10 cc0_scratch11 cc0_scratch12 cc0_scratch13 cc0_scoped0)
          fun _ => iprop(Td d L cI cT q ∗ scopedBufs (thr d L) ∗ scopedSems0 (thr d L)
            ∗ ∃ W', ⌜∀ p ∈ W', p ∈ W ∨ p.2 = none⌝ ∗ owes (thr d L) O W') := by
  rw [kernel_eq_tileProg, (K (F := F)).scopedBufs_V facts d (cV L) (jV L), SparseCore.Cfg.scopedSems0_V (Val := Elt F) d (cV L) (jV L), ownSems_split, sems_named, ownBufs_split]
  iintro ⟨#Hlv, -, ⟨Hi, Ht, Ho⟩, ⟨⟨%f5, H5⟩, ⟨%f6, H6⟩, ⟨%f7, H7⟩, ⟨%f8, H8⟩, Hbufs⟩, ⟨⟨S0, S1, S2, S3, S4, S5, S6, S7, S8, S9, S10⟩, Hsems⟩, HO⟩
  ihave Hmw := (show levAts (K (F := F)).L (K (F := F)).lev ⊢ Transfers.MayWaits (thr d L) (default : HIx 1) O from
    (K (F := F)).mayWaits_none (thr := thr d L) hO) $$ Hlv
  ihave Ht := (Entails.of_eq (tabs_eq d L cT q)) $$ Ht
  icases Ht with ⟨Ht0, Ht1⟩
  ihave Hi := (Entails.of_eq (congrArg (fun S => (wI.view.loc (thr d L) ↦[S]{fullShare} cI : sProp 𝕄)) (idSlice_set L).symm)) $$ Hi
  ihave Ho := (out_split d L cO) $$ Ho
  ihave H6 := (lsts_split d L (idOf L cI) f6) $$ H6
  ihave H7 := (wins_split d L f7) $$ H7
  ihave H8 := (rows_split d L f8) $$ H8
  iapply (wp_last d L (wp_tileProg (tv := cT) (ids := idOf L cI) d L (O := O) (W := W) wI wT wO w5 (Memref.isWhole_whole _) w6 w7 w8
    cc0_scratch4 cc0_scratch5 cc0_scratch6 cc0_scratch7 cc0_scratch8 cc0_scratch9 cc0_scratch10 cc0_scratch11 cc0_scratch12 cc0_scratch13 cc0_scoped0
    credits cT (tab_read d L cT) (qtr q.left) (qtr q.right) fullShare cI (idOf_lt L cI hcI) (idSlice_read d L cI))) $$ [Hi Ht0 Ht1 Ho H5 H6 H7 H8 S0 S1 S2 S3 S4 S5 S6 S7 S8 S9 S10 HO]
  · isplitl [Hi Ht0 Ht1 Ho]
    · isplitl [Hi]; · iexact Hi
      isplitl [Ht0]; · iexact Ht0
      isplitl [Ht1]; · iexact Ht1
      iexact Ho
    isplitl [H5 H6 H7 H8]
    · isplitl [H5]
      · iexists f5
        iapply (Entails.of_eq (show (w5.view.loc (thr d L) ↦{fullShare} f5 : sProp 𝕄) = (w5.view.loc (thr d L) ↦[w5.view.set]{fullShare} f5) by rw [View.set_whole]))
        iexact H5
      isplitl [H6]; · iexact H6
      isplitl [H7]; · iexact H7
      iexact H8
    isplitr [HO]
    · isplitl [S0 S1 S2 S3]
      · isplitl [S0]; · iexact S0
        isplitl [S1]; · iexact S1
        isplitl [S2]; · iexact S2
        iexact S3
      isplitl [S4 S5 S6 S7]
      · isplitl [S4]; · iexact S4
        isplitl [S5]; · iexact S5
        isplitl [S6]; · iexact S6
        iexact S7
      isplitl [S8]; · iexact S8
      isplitl [S9]; · iexact S9
      iexact S10
    · isplitr; · iexact Hmw
      iexists W
      isplitr; · ipureintro; exact fun p hp => .inl hp
      iexact HO
  iintro %_ ⟨⟨Hi, Ht0, Ht1, Ho⟩, ⟨⟨%f5, H5⟩, H6, H7, H8⟩, ⟨⟨S0, S1, S2, S3⟩, ⟨S4, S5, S6, S7⟩, S8, S9, S10⟩, -, %W', %hW', HO⟩
  isplitl [Hi Ht0 Ht1 Ho]
  · isplitl [Hi]
    · iapply (Entails.of_eq (congrArg (fun S => (wI.view.loc (thr d L) ↦[S]{fullShare} cI : sProp 𝕄)) (idSlice_set L)))
      iexact Hi
    isplitl [Ht0 Ht1]
    · iapply (Entails.of_eq (tabs_eq d L cT q).symm)
      isplitl [Ht0]; · iexact Ht0
      iexact Ht1
    iapply (out_join d L (idOf L cI) cO)
    iexact Ho
  ihave H6 := (lsts_join d L (idOf L cI)) $$ H6
  ihave H7 := (wins_join d L) $$ H7
  ihave H8 := (rows_join d L) $$ H8
  isplitl [H5 H6 H7 H8 Hbufs]
  · isplitl [H5]
    · iexists f5
      iapply (Entails.of_eq (show (w5.view.loc (thr d L) ↦[w5.view.set]{fullShare} f5 : sProp 𝕄) = (w5.view.loc (thr d L) ↦{fullShare} f5) by rw [View.set_whole]))
      iexact H5
    isplitl [H6]; · iexact H6
    isplitl [H7]; · iexact H7
    isplitl [H8]; · iexact H8
    iexact Hbufs
  isplitr [HO]
  · isplitr [Hsems]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    · iexact Hsems
  · iexists W'
    isplitr
    · ipureintro; exact hW'
    · iexact HO

end Cert.KernelIdeal.Tile

end
-- ==== Proof.Ideal.Launch.lean ====
/- The gather's launch: what its handshakes carry, the subcores' obligation, the arrays dealt out and collected. -/
module

public import proofs.«01_k».proof.Proof.Ideal.Tile

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev iLoc (d : Dev nD) : Loc nD τ sig := (T d : Thread nD τ).loc main_v6
abbrev tLoc (d : Dev nD) : Loc nD τ sig := (T d : Thread nD τ).loc main_v7
abbrev oLoc (d : Dev nD) : Loc nD τ sig := (T d : Thread nD τ).loc main_v8

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather_kernel (coordsV c s) wI (Memref.isWhole_whole _) wT (Memref.isWhole_whole _) wO (Memref.isWhole_whole _)
            w5 (Memref.isWhole_whole _) w6 (Memref.isWhole_whole _) w7 (Memref.isWhole_whole _) w8 (Memref.isWhole_whole _)
            cc0_scratch4 cc0_scratch5 cc0_scratch6 cc0_scratch7 cc0_scratch8 cc0_scratch9 cc0_scratch10 cc0_scratch11 cc0_scratch12 cc0_scratch13 cc0_scoped0) ⟨⟩ c s := rfl

/-- Subcore `p.2` of core `p.1`. -/
abbrev tile (p : Fin 2 × Fin 16) : grid0.Coords := coordsV p.1 p.2

/-- The subcores' shares of the table, and what is left of it. -/
def tq : Fin 2 × Fin 16 → PosShare TreeShare := (exists_shares (Finset.univ : Finset (Fin 2 × Fin 16)) fullShare).choose
def tqRest : PosShare TreeShare := (exists_shares (Finset.univ : Finset (Fin 2 × Fin 16)) fullShare).choose_spec.choose

theorem tab_shares (ℓ : Loc nD τ sig) (f : Buf (Elt F) ℓ) : (ℓ ↦{fullShare} f : sProp 𝕄) = iprop((bigSep Finset.univ fun p => ℓ ↦{tq p} f) ∗ ℓ ↦{tqRest} f) :=
  (exists_shares (Finset.univ : Finset (Fin 2 × Fin 16)) fullShare).choose_spec.choose_spec F ℓ f

variable (cI : (d : Dev nD) → Buf (Elt F) (iLoc d)) (cT : (d : Dev nD) → Buf (Elt F) (tLoc d)) (cO : (d : Dev nD) → Buf (Elt F) (oLoc d))

abbrev GoP (d : Dev nD) (p : Fin 2 × Fin 16) : sProp 𝕄 :=
  iprop((iLoc d ↦[iSet (tile p)]{fullShare} cI d) ∗ (tLoc d ↦{tq p} cT d) ∗ (oLoc d ↦[oSet (tile p)]{fullShare} cO d))
abbrev TdP (d : Dev nD) (p : Fin 2 × Fin 16) : sProp 𝕄 :=
  iprop((iLoc d ↦[iSet (tile p)]{fullShare} cI d) ∗ (tLoc d ↦{tq p} cT d)
    ∗ ∃ f, ⌜∀ y ∈ oSet (tile p), OutOK (cT d) (idOf (tile p) (cI d)) (rowBase (tile p)) y (f y)⌝ ∗ oLoc d ↦[oSet (tile p)]{fullShare} f)

/-- A core is handed what its subcores are, and hands back what they do. -/
def P : (K (F := F)).Pay (nD := nD) (Val := Elt F) (Name := ℕ) (U := UU) where
  st := fun q d c => match q with | 0 => bigSep Finset.univ fun s : Fin 16 => GoP cI cT cO d (Fin.cast nCore_zero c, s)
  dn := fun q d c => match q with | 0 => bigSep Finset.univ fun s : Fin 16 => TdP cI cT d (Fin.cast nCore_zero c, s)
  go := fun q d c i => match q with | 0 => GoP cI cT cO d (Fin.cast nCore_zero c, Fin.cast nSub_zero i)
  td := fun q d c i => match q with | 0 => TdP cI cT d (Fin.cast nCore_zero c, Fin.cast nSub_zero i)
  x := fun _ _ => iprop(emp)

instance P_storable : (P cI cT cO).IsStorable where
  st q d c := match q with
    | 0 => (inferInstance : BI.Storable (upEmb : UEmb _ 𝕄) (bigSep Finset.univ fun s : Fin 16 => GoP cI cT cO d (Fin.cast nCore_zero c, s)))
  dn q d c := match q with
    | 0 => (inferInstance : BI.Storable (upEmb : UEmb _ 𝕄) (bigSep Finset.univ fun s : Fin 16 => TdP cI cT d (Fin.cast nCore_zero c, s)))
  go q d c i := match q with
    | 0 => (inferInstance : BI.Storable (upEmb : UEmb _ 𝕄) (GoP cI cT cO d (Fin.cast nCore_zero c, Fin.cast nSub_zero i)))
  td q d c i := match q with
    | 0 => (inferInstance : BI.Storable (upEmb : UEmb _ 𝕄) (TdP cI cT d (Fin.cast nCore_zero c, Fin.cast nSub_zero i)))

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

set_option maxRecDepth 16384 in
theorem tileObl (hcI : ∀ d y, (cI d y : BitVec 32).toNat < 400000) : (K (F := F)).TileObl (D (F := F)) 𝒱 (P cI cT cO) v₀ 0 := by
  intro d c i O W hO _ _
  simp only [show (P cI cT cO).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body d (coordsV ⟨_, hci.1⟩ ⟨_, hci.2⟩) (cI d) (cT d) (cO d) (hcI d) (tq (Fin.cast nCore_zero c, Fin.cast nSub_zero i)) O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P cI cT cO) 0 := by
  intro d c
  show (bigSep Finset.univ fun s : Fin 16 => GoP cI cT cO d (Fin.cast nCore_zero c, s)) ⊢ |={Set.univ}=> iprop(
      (bigSep Finset.univ fun i : Fin ((K (F := F)).nSub 0) => GoP cI cT cO d (Fin.cast nCore_zero c, Fin.cast nSub_zero i))
      ∗ ((bigSep Finset.univ fun i : Fin ((K (F := F)).nSub 0) => TdP cI cT d (Fin.cast nCore_zero c, Fin.cast nSub_zero i))
          -∗ (bigSep Finset.univ fun s : Fin 16 => TdP cI cT d (Fin.cast nCore_zero c, s))))
  rw [bigSep_tasks (F := F) (fun i => GoP cI cT cO d (Fin.cast nCore_zero c, i)), bigSep_tasks (F := F) (fun i => TdP cI cT d (Fin.cast nCore_zero c, i))]
  iintro H
  imodintro
  isplitl [H]; · iexact H
  iintro H
  iexact H

/-! ## The arrays dealt out to the cores and collected -/

theorem iSet_disj (p p' : Fin 2 × Fin 16) (h : p ≠ p') : Disjoint (iSet (tile p)) (iSet (tile p')) :=
  Finset.disjoint_left.mpr fun y hy hy' => h <| by
    have e := ((mem_iSet _ y).mp hy).symm.trans ((mem_iSet _ y).mp hy')
    have e : 2 * p.2.val + p.1.val = 2 * p'.2.val + p'.1.val := e
    have := p.1.isLt
    have := p'.1.isLt
    exact Prod.ext (Fin.ext (by omega)) (Fin.ext (by omega))

theorem oSet_disj (p p' : Fin 2 × Fin 16) (h : p ≠ p') : Disjoint (oSet (tile p)) (oSet (tile p')) :=
  Finset.disjoint_left.mpr fun y hy hy' => h <| by
    have e := ((mem_oSet _ y).mp hy).symm.trans ((mem_oSet _ y).mp hy')
    have e : 2 * p.2.val + p.1.val = 2 * p'.2.val + p'.1.val := e
    have := p.1.isLt
    have := p'.1.isLt
    exact Prod.ext (Fin.ext (by omega)) (Fin.ext (by omega))

/-- The subcore with number `n`, counted core within subcore. -/
def tileNo (n : ℕ) (h : n < 32) : Fin 2 × Fin 16 := (⟨n % 2, Nat.mod_lt _ (by decide)⟩, ⟨n / 2, by omega⟩)

theorem iSet_cover (y : S102400.Idx) : ∃ p, y ∈ iSet (tile p) := by
  have h : (y 0).val < 102400 := (y 0).isLt
  refine ⟨tileNo ((y 0).val / 3200) (by omega), (mem_iSet _ y).mpr ?_⟩
  show (y 0).val / 3200 = 2 * ((y 0).val / 3200 / 2) + (y 0).val / 3200 % 2
  omega

theorem oSet_cover (y : S51200x128.Idx) : ∃ p, y ∈ oSet (tile p) := by
  have h : (y 0).val < 51200 := (y 0).isLt
  refine ⟨tileNo ((y 0).val / 1600) (by omega), (mem_oSet _ y).mpr ?_⟩
  show (y 0).val / 1600 = 2 * ((y 0).val / 1600 / 2) + (y 0).val / 1600 % 2
  omega

theorem bigSep_cores_tasks (Φ : Fin 2 × Fin 16 → sProp 𝕄) :
    (bigSep Finset.univ fun c : Fin ((K (F := F)).nCore 0) => bigSep Finset.univ fun s : Fin 16 => Φ (Fin.cast nCore_zero c, s)) = bigSep Finset.univ Φ := by
  rw [bigSep_cores (F := F) (fun c => bigSep Finset.univ fun s : Fin 16 => Φ (c, s)), bigSep_univ_prod Φ]

theorem deal (d : Dev nD) :
    (iprop((iLoc d ↦{fullShare} cI d) ∗ (tLoc d ↦{fullShare} cT d) ∗ (oLoc d ↦{fullShare} cO d)) : sProp 𝕄)
      ⊢ iprop((bigSep Finset.univ fun c : Fin ((K (F := F)).nCore 0) => (P cI cT cO).st 0 d c) ∗ (tLoc d ↦{tqRest} cT d)) := by
  have e : (bigSep Finset.univ fun c : Fin ((K (F := F)).nCore 0) => (P cI cT cO).st 0 d c)
      = iprop((iLoc d ↦{fullShare} cI d) ∗ (bigSep Finset.univ fun p => tLoc d ↦{tq p} cT d) ∗ (oLoc d ↦{fullShare} cO d)) := by
    refine (bigSep_cores_tasks (F := F) (GoP cI cT cO d)).trans ?_
    rw [bigSep_sep', bigSep_sep', ← parts_split (ℓ := iLoc d) (fun p => iSet (tile p)) iSet_disj iSet_cover, ← parts_split (ℓ := oLoc d) (fun p => oSet (tile p)) oSet_disj oSet_cover]
  rw [e, tab_shares (tLoc d) (cT d)]
  iintro ⟨Hi, ⟨Ht, Hr⟩, Ho⟩
  isplitr [Hr]
  · isplitl [Hi]; · iexact Hi
    isplitl [Ht]; · iexact Ht
    iexact Ho
  · iexact Hr

/-- The output's rows are right: row `r` holds in its two halves the table rows of ids `2 r` and `2 r + 1`. -/
def Gathered (ci : S102400.Idx → BitVec 32) (tv : Vec F S1250000x16 .f32) (f : Vec F S51200x128 .f32) : Prop :=
  ∀ (y : S51200x128.Idx) (x : S102400.Idx), (x 0).val = 2 * (y 0).val + (y 1).val / 64 → (y 1).val % 64 < 50 →
    IsTab tv (50 * (ci x).toNat + (y 1).val % 64) (f y)

theorem gathered_of (d : Dev nD) (f : Buf (Elt F) (oLoc d))
    (h : ∀ p : Fin 2 × Fin 16, ∀ y ∈ oSet (tile p), OutOK (cT d) (idOf (tile p) (cI d)) (rowBase (tile p)) y (f y)) : Gathered (cI d) (cT d) f := by
  intro y x hx hy
  obtain ⟨p, hp⟩ := oSet_cover y
  have h1 := h p y hp hy
  have hm := (mem_oSet _ y).mp hp
  have hm : (y 0).val / 1600 = 2 * p.2.val + p.1.val := hm
  have hy1 : (y 1).val < 128 := (y 1).isLt
  have hx0 : (x 0).val < 102400 := (x 0).isLt
  have hb : rowBase (tile p) = 3200 * p.2.val + 1600 * p.1.val := rfl
  have e : idOf (tile p) (cI d) (2 * ((y 0).val - rowBase (tile p)) + (y 1).val / 64) = (cI d x : BitVec 32).toNat := by
    unfold idOf
    have hn : 6400 * (tile p 1).val + 3200 * (tile p 0).val + (2 * ((y 0).val - rowBase (tile p)) + (y 1).val / 64) = (x 0).val := by
      show 6400 * p.2.val + 3200 * p.1.val + (2 * ((y 0).val - rowBase (tile p)) + (y 1).val / 64) = (x 0).val
      omega
    rw [dif_pos (by rw [hn]; exact hx0), if_pos (by omega)]
    refine congrArg BitVec.toNat (congrArg (cI d) ?_)
    funext a
    match a with
    | ⟨0, _⟩ => exact Fin.ext hn
  rw [e] at h1
  exact h1

theorem collect (d : Dev nD) :
    iprop((bigSep Finset.univ fun c : Fin ((K (F := F)).nCore 0) => (P cI cT cO).dn 0 d c) ∗ (tLoc d ↦{tqRest} cT d))
      ⊢ (iprop((iLoc d ↦{fullShare} cI d) ∗ (tLoc d ↦{fullShare} cT d) ∗ ∃ f, ⌜Gathered (cI d) (cT d) f⌝ ∗ (oLoc d ↦{fullShare} f)) : sProp 𝕄) := by
  have e : (bigSep Finset.univ fun c : Fin ((K (F := F)).nCore 0) => (P cI cT cO).dn 0 d c)
      = iprop((iLoc d ↦{fullShare} cI d) ∗ (bigSep Finset.univ fun p => tLoc d ↦{tq p} cT d)
        ∗ bigSep Finset.univ fun p => iprop(∃ f, ⌜∀ y ∈ oSet (tile p), OutOK (cT d) (idOf (tile p) (cI d)) (rowBase (tile p)) y (f y)⌝ ∗ oLoc d ↦[oSet (tile p)]{fullShare} f)) := by
    refine (bigSep_cores_tasks (F := F) (TdP cI cT d)).trans ?_
    rw [bigSep_sep', bigSep_sep', ← parts_split (ℓ := iLoc d) (fun p => iSet (tile p)) iSet_disj iSet_cover]
  rw [e, tab_shares (tLoc d) (cT d)]
  iintro ⟨⟨Hi, Ht, Ho⟩, Hr⟩
  isplitl [Hi]; · iexact Hi
  isplitl [Ht Hr]
  · isplitl [Ht]; · iexact Ht
    iexact Hr
  ihave Ho := (parts_join (ℓ := oLoc d) (fun p => oSet (tile p)) oSet_disj oSet_cover
    (fun p f => ∀ y ∈ oSet (tile p), OutOK (cT d) (idOf (tile p) (cI d)) (rowBase (tile p)) y (f y)) fun p f g hg h y hy => by rw [hg y hy]; exact h y hy) $$ Ho
  icases Ho with ⟨%f, %hf, Ho⟩
  iexists f
  isplitr
  · ipureintro; exact gathered_of cI cT d f hf
  · iexact Ho

end Cert.KernelIdeal.Tile

end
-- ==== Proof.Ideal.Bodies.lean ====
/- The two TensorCore kernels, run on any staging buffers. -/
module

public import proofs.«01_k».proof.Proof.Ideal.Launch
public import proofs.«01_k».proof.Proof.Gen.KernelIdeal.Skeleton
public import proofs.«01_k».proof.Proof.Gen.KernelIdeal.Points

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A load of a whole shape reads what the view reads. -/
theorem readAt_full {κ : Kind} {sp : Space} {s : Shape} {e : EltTy} (v : View sig κ sp s e) (f : v.ty.Contents (Elt F))
    {off : Fin s.rank → ℕ} (inb : ∀ a, off a + s.size a ≤ s.size a) :
    v.readAt (Elt F) (Rect.unit off s.size inb).toLoadRect f = v.read (Elt F) f := by
  have hoff : ∀ a, off a = 0 := fun a => by have := inb a; omega
  funext y
  exact congrArg (v.read (Elt F) f) (funext fun a => Fin.ext (by
    show off a + 1 * (y a).val = (y a).val
    rw [hoff a]; omega))

/-- A whole-shape store leaves what it stored. -/
theorem read_writes_full {κ : Kind} {sp : Space} {s : Shape} {e : EltTy} (v : View sig κ sp s e) (f : v.ty.Contents (Elt F))
    {off : Fin s.rank → ℕ} (inb : ∀ a, off a + s.size a ≤ s.size a) (w : s.Idx → Elt F e) :
    v.read (Elt F) (v.writes (Elt F) f [⟨Rect.unit off s.size inb, w⟩]) = w := by
  have hoff : ∀ a, off a = 0 := fun a => by have := inb a; omega
  have hi : ∀ x : s.Idx, (Rect.unit off s.size inb).emb x = x := fun x => funext fun a => Fin.ext (by
    show off a + 1 * (x a).val = (x a).val
    rw [hoff a]; omega)
  funext y
  refine View.read_writes_apply_of_pieces v f w _ (fun p hp x => ?_) y ⟨_, List.mem_singleton_self _, ?_⟩
  · obtain rfl := List.mem_singleton.mp hp
    exact congrArg w (hi x).symm
  · have h : y ∈ (Rect.unit off s.size inb).set :=
      Rect.mem_set_unit.mpr fun a => ⟨by rw [hoff a]; exact Nat.zero_le _, by rw [hoff a, Nat.zero_add]; exact (y a).isLt⟩
    exact h

theorem run1 (d : Dev nD) (i : grid1.Coords) (M1 : Memref sig .tc .vmem S3200x128 .f32) (h1 : M1.IsWhole) (M2 : Memref sig .tc .vmem S50x50 .f32) (h2 : M2.IsWhole)
    (M3 : Memref sig .tc .vmem S1x50 .f32) (h3 : M3.IsWhole) (M4 : Memref sig .tc .vmem S1x50 .f32) (h4 : M4.IsWhole)
    (M5 : Memref sig .tc .vmem S3200x2 .f32) (h5 : M5.IsWhole) (X1 : Vec F S3200x128 .f32) (X2 : Vec F S50x50 .f32) (X3 X4 : Vec F S1x50 .f32)
    (Q : PUnit → sProp 𝕄) :
    iprop(owns (T d) M1 fullShare X1 ∗ owns (T d) M2 fullShare X2 ∗ owns (T d) M3 fullShare X3 ∗ owns (T d) M4 fullShare X4
        ∗ (∃ X5, owns (T d) M5 fullShare X5)
        ∗ (iprop(owns (T d) M1 fullShare X1 ∗ owns (T d) M2 fullShare X2 ∗ owns (T d) M3 fullShare X3 ∗ owns (T d) M4 fullShare X4
            ∗ owns (T d) M5 fullShare (k1_pay1 X1 X2 X3 X4)) -∗ Q ⟨⟩))
      ⊢ wp frame (wpE (defs₀ (F := F)) 𝒱₀ (T d) none) Set.univ (cc1__word_score_body i M1 h1 M2 h2 M3 h3 M4 h4 M5 h5) Q := by
  simp only [cc1__word_score_body_eq_skeleton]; unfold cc1__word_score_body_skel
  unfold owns
  iintro ⟨⟨%f1, %e1, H1⟩, ⟨%f2, %e2, H2⟩, ⟨%f3, %e3, H3⟩, ⟨%f4, %e4, H4⟩, ⟨%X5, %f5, -, H5⟩, Hk⟩
  sl_exec
  sl_step
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  iexists _; isplitr; swap; · iexact H5
  ipureintro
  rw [read_writes_full, readAt_full M1.view, readAt_full M2.view, readAt_full M3.view, readAt_full M4.view, e1, e2, e3, e4]
/-! ## The values of the second kernel, part by part -/

section Parts

variable (x0 : Vec F S1x32x50 .f32) (x1 : Vec F S1x800x128 .f32)

/-- The attention over words, from the block of scores. -/
def at10 : FVec F S32x50 .f32 := k2_pay4 x0
/-- The gathered rows of a document. -/
def em15 : FVec F S800x128 .f32 := k2_pay6 x1
def d34 : FVec F S16x50 .f32 := k2_pay9 x0 x1
def d39 : FVec F S16x50 .f32 := k2_pay10 x0 x1
def d40 : FVec F S16x128 .f32 := k2_pay11 x1
def d44 : FVec F S16x50 .f32 := k2_pay12 x0 x1
def d94 : FVec F S16x50 .f32 := k2_pay17 (at10 x0) (em15 x1) (d39 x0 x1) (d40 x1)
def d100 : FVec F S16x50 .f32 := k2_pay19 (at10 x0) (em15 x1) (d34 x0 x1) (d44 x0 x1)
def d104 : FVec F S16x50 .f32 := k2_pay20 (at10 x0) (em15 x1)
def d155 : FVec F S16x50 .f32 := k2_pay26 (at10 x0) (em15 x1) (d100 x0 x1)
def d160 : FVec F S16x50 .f32 := k2_pay27 (at10 x0) (em15 x1) (d94 x0 x1) (d104 x0 x1)
def d161 : FVec F S16x128 .f32 := k2_pay28 (em15 x1)
def d162 : FVec F S16x50 .f32 := k2_pay29 (em15 x1)
def d164 : FVec F S16x50 .f32 := k2_pay30 (at10 x0)
def d215 : FVec F S16x50 .f32 := k2_pay35 (at10 x0) (em15 x1) (d160 x0 x1) (d161 x1)
def d221 : FVec F S16x50 .f32 := k2_pay37 (at10 x0) (em15 x1) (d155 x0 x1) (d162 x1) (d164 x0)
def d222 : FVec F S16x50 .f32 := k2_pay38 (em15 x1)
def d224 : FVec F S16x50 .f32 := k2_pay39 (at10 x0)
def d276 : FVec F S16x50 .f32 := k2_pay45 (at10 x0) (em15 x1) (d221 x0 x1)
def d281 : FVec F S16x50 .f32 := k2_pay46 (at10 x0) (em15 x1) (d215 x0 x1) (d222 x1) (d224 x0)
def d282 : FVec F S16x128 .f32 := k2_pay47 (em15 x1)
def d283 : FVec F S16x50 .f32 := k2_pay48 (em15 x1)
def d284 : FVec F S16x1 .f32 := k2_pay49 (at10 x0)
def d336 : FVec F S16x50 .f32 := k2_pay54 (at10 x0) (em15 x1) (d281 x0 x1) (d282 x1)
def d342 : FVec F S16x50 .f32 := k2_pay56 (at10 x0) (em15 x1) (d276 x0 x1) (d283 x1) (d284 x0)
def d343 : FVec F S16x50 .f32 := k2_pay57 (em15 x1)
def d344 : FVec F S16x1 .f32 := k2_pay58 (at10 x0)
def d397 : FVec F S16x50 .f32 := k2_pay64 (at10 x0) (em15 x1) (d342 x0 x1)
def d402 : FVec F S16x50 .f32 := k2_pay65 (at10 x0) (em15 x1) (d336 x0 x1) (d343 x1) (d344 x0)
def d403 : FVec F S16x128 .f32 := k2_pay66 (em15 x1)
def d404 : FVec F S16x50 .f32 := k2_pay67 (em15 x1)
def d457 : FVec F S16x50 .f32 := k2_pay72 (at10 x0) (em15 x1) (d402 x0 x1) (d403 x1)
def d463 : FVec F S16x50 .f32 := k2_pay74 (at10 x0) (em15 x1) (d397 x0 x1) (d404 x1)
def d464 : FVec F S16x50 .f32 := k2_pay75 (em15 x1)
def d518 : FVec F S16x50 .f32 := k2_pay81 (at10 x0) (em15 x1) (d463 x0 x1)
def d523 : FVec F S16x50 .f32 := k2_pay82 (at10 x0) (em15 x1) (d457 x0 x1) (d464 x1)
def d524 : FVec F S16x128 .f32 := k2_pay83 (em15 x1)

/-- The sentence vectors. -/
def svOf : FVec F S32x50 .f32 := k2_pay84 (at10 x0) (em15 x1) (d518 x0 x1) (d523 x0 x1) (d524 x1)
/-- The hidden layer over the sentences. -/
def huOf (x2 : Vec F S50x50 .f32) (x3 : Vec F S1x50 .f32) : FVec F S32x50 .f32 := k2_pay85 (at10 x0) (em15 x1) (d518 x0 x1) (d523 x0 x1) (d524 x1) x2 x3
/-- The attention over sentences, as stored. -/
def saOf (x2 : Vec F S50x50 .f32) (x3 x4 : Vec F S1x50 .f32) : FVec F S1x32x1 .f32 := k2_pay2 (huOf x0 x1 x2 x3) (k2_pay86 x4)
/-- The class scores of a document. -/
def clOf (x2 : Vec F S50x50 .f32) (x3 x4 : Vec F S1x50 .f32) (x5 : Vec F S50x5 .f32) (x6 : Vec F S1x5 .f32) : FVec F S1x1x5 .f32 :=
  k2_pay3 (svOf x0 x1) (huOf x0 x1 x2 x3) (k2_pay86 x4) x5 x6

end Parts

theorem run2 (d : Dev nD) (i : grid2.Coords) (M1 : Memref sig .tc .vmem S1x800x128 .f32) (h1 : M1.IsWhole)
    (M2 : Memref sig .tc .vmem S1x32x50 .f32) (h2 : M2.IsWhole)
    (M3 : Memref sig .tc .vmem S50x50 .f32) (h3 : M3.IsWhole)
    (M4 : Memref sig .tc .vmem S1x50 .f32) (h4 : M4.IsWhole)
    (M5 : Memref sig .tc .vmem S1x50 .f32) (h5 : M5.IsWhole)
    (M6 : Memref sig .tc .vmem S50x5 .f32) (h6 : M6.IsWhole)
    (M7 : Memref sig .tc .vmem S1x5 .f32) (h7 : M7.IsWhole)
    (M8 : Memref sig .tc .vmem S1x32x50 .f32) (h8 : M8.IsWhole)
    (M9 : Memref sig .tc .vmem S1x32x1 .f32) (h9 : M9.IsWhole)
    (M10 : Memref sig .tc .vmem S1x1x5 .f32) (h10 : M10.IsWhole)
    (X1 : Vec F S1x800x128 .f32) (X2 : Vec F S1x32x50 .f32) (X3 : Vec F S50x50 .f32) (X4 : Vec F S1x50 .f32) (X5 : Vec F S1x50 .f32) (X6 : Vec F S50x5 .f32) (X7 : Vec F S1x5 .f32) (Q : PUnit → sProp 𝕄) :
    iprop(owns (T d) M1 fullShare X1 ∗ owns (T d) M2 fullShare X2 ∗ owns (T d) M3 fullShare X3 ∗ owns (T d) M4 fullShare X4 ∗ owns (T d) M5 fullShare X5 ∗ owns (T d) M6 fullShare X6 ∗ owns (T d) M7 fullShare X7
        ∗ (∃ X, owns (T d) M8 fullShare X) ∗ (∃ X, owns (T d) M9 fullShare X) ∗ (∃ X, owns (T d) M10 fullShare X)
        ∗ (iprop(owns (T d) M1 fullShare X1 ∗ owns (T d) M2 fullShare X2 ∗ owns (T d) M3 fullShare X3 ∗ owns (T d) M4 fullShare X4 ∗ owns (T d) M5 fullShare X5 ∗ owns (T d) M6 fullShare X6 ∗ owns (T d) M7 fullShare X7
            ∗ owns (T d) M8 fullShare (k2_pay5 X2) ∗ owns (T d) M9 fullShare (saOf X2 X1 X3 X4 X5)
            ∗ owns (T d) M10 fullShare (clOf X2 X1 X3 X4 X5 X6 X7)) -∗ Q ⟨⟩))
      ⊢ wp frame (wpE (defs₀ (F := F)) 𝒱₀ (T d) none) Set.univ
          (cc2__doc_body i M1 h1 M2 h2 M3 h3 M4 h4 M5 h5 M6 h6 M7 h7 M8 h8 M9 h9 M10 h10) Q := by
  simp only [cc2__doc_body_eq_skeleton]; unfold cc2__doc_body_skel
  simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%X8, %f8, -, H8⟩, ⟨%X9, %f9, -, H9⟩, ⟨%X10, %f10, -, H10⟩, Hk⟩
  sl_exec
  sl_step
  iapply Hk
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists _; isplitr; swap; · iexact H8
    ipureintro
    refine (read_writes_full M8.view f8 _ _).trans ?_
    exact congrArg k2_pay5 ((readAt_full M2.view f2 _).trans e2)
  isplitl [H9]
  · iexists _; isplitr; swap; · iexact H9
    ipureintro
    refine (read_writes_full M9.view f9 _ _).trans ?_
    refine (show _ = saOf (M2.view.readAt (Elt F) (Rect.unit (s := S1x32x50) ![0, 0, 0] S1x32x50.size inb_S1x32x50_S1x32x50_0_0_0).toLoadRect f2) (M1.view.readAt (Elt F) (Rect.unit (s := S1x800x128) ![0, 0, 0] S1x800x128.size inb_S1x800x128_S1x800x128_0_0_0).toLoadRect f1) (M3.view.readAt (Elt F) (Rect.unit (s := S50x50) ![0, 0] S50x50.size inb_S50x50_S50x50_0_0).toLoadRect f3) (M4.view.readAt (Elt F) (Rect.unit (s := S1x50) ![0, 0] S1x50.size inb_S1x50_S1x50_0_0).toLoadRect f4) (M5.view.readAt (Elt F) (Rect.unit (s := S1x50) ![0, 0] S1x50.size inb_S1x50_S1x50_0_0).toLoadRect f5) from rfl).trans ?_
    rw [readAt_full M2.view, e2, readAt_full M1.view, e1, readAt_full M3.view, e3, readAt_full M4.view, e4, readAt_full M5.view, e5]
  · iexists _; isplitr; swap; · iexact H10
    ipureintro
    refine (read_writes_full M10.view f10 _ _).trans ?_
    refine (show _ = clOf (M2.view.readAt (Elt F) (Rect.unit (s := S1x32x50) ![0, 0, 0] S1x32x50.size inb_S1x32x50_S1x32x50_0_0_0).toLoadRect f2) (M1.view.readAt (Elt F) (Rect.unit (s := S1x800x128) ![0, 0, 0] S1x800x128.size inb_S1x800x128_S1x800x128_0_0_0).toLoadRect f1) (M3.view.readAt (Elt F) (Rect.unit (s := S50x50) ![0, 0] S50x50.size inb_S50x50_S50x50_0_0).toLoadRect f3) (M4.view.readAt (Elt F) (Rect.unit (s := S1x50) ![0, 0] S1x50.size inb_S1x50_S1x50_0_0).toLoadRect f4) (M5.view.readAt (Elt F) (Rect.unit (s := S1x50) ![0, 0] S1x50.size inb_S1x50_S1x50_0_0).toLoadRect f5) (M6.view.readAt (Elt F) (Rect.unit (s := S50x5) ![0, 0] S50x5.size inb_S50x5_S50x5_0_0).toLoadRect f6) (M7.view.readAt (Elt F) (Rect.unit (s := S1x5) ![0, 0] S1x5.size inb_S1x5_S1x5_0_0).toLoadRect f7) from rfl).trans ?_
    rw [readAt_full M2.view, e2, readAt_full M1.view, e1, readAt_full M3.view, e3, readAt_full M4.view, e4, readAt_full M5.view, e5, readAt_full M6.view, e6, readAt_full M7.view, e7]

end Cert.KernelIdeal.Tile

end
-- ==== Proof.Ideal.Regions.lean ====
/- The two TensorCore regions: what their windows hold, and the bodies' obligations. -/
module

public import proofs.«01_k».proof.Proof.Ideal.Bodies
public import proofs.«01_k».proof.Proof.Gen.KernelIdeal.Launch
public import proofs.«01_k».proof.Proof.Ideal.Parts
public import Idealize.ShloMosaic.Lib.Pipeline.RegionArraysS
public import Idealize.ShloMosaic.Lib.Pipeline.FrameBody

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The one admissible set of tables: none of the two kernels prefetches one. -/
abbrev adm : (p : Fin 2) → (pcfgs (F := F) p).Adm := fun p => (cfgs p).toPCfg_adm

/-- A block of the first kernel's arrays. -/
abbrev bk1 (V₁ : Valuation τ sig (Elt F)) (w : Fin cfg1.W) (t : Fin cfg1.N) : ((cfg1.win w).xblock (cfg1.grid.coords t)).Idx → Elt F (cfg1.win w).elt :=
  ((cfg1.win w).blk t).view.read (Elt F) (V₁ (Proc.devRef .tc (Pipeline.arrRef spec1 w)))

/-- A block of the second kernel's arrays. -/
abbrev bk2 (V₁ : Valuation τ sig (Elt F)) (w : Fin cfg2.W) (t : Fin cfg2.N) : ((cfg2.win w).xblock (cfg2.grid.coords t)).Idx → Elt F (cfg2.win w).elt :=
  ((cfg2.win w).blk t).view.read (Elt F) (V₁ (Proc.devRef .tc (Pipeline.arrRef spec2 w)))

/-- What a kernel keeps between its points: the scoped buffers it does not stage, and the generator's register. -/
abbrev keep1 (c : Dev nD) : sProp 𝕄 :=
  iprop(Pipeline.scopedRest (Ix := HIx 1) (Name := ℕ) (U := UU) (Lvl := ℕ) (Val := Elt F) spec1 c ∗ ∃ r, prngReg c r)
abbrev keep2 (c : Dev nD) : sProp 𝕄 :=
  iprop(Pipeline.scopedRest (Ix := HIx 1) (Name := ℕ) (U := UU) (Lvl := ℕ) (Val := Elt F) spec2 c ∗ ∃ r, prngReg c r)

/-- The first kernel entered with the arrays at `V₁`. -/
def dat1 (V₁ : Valuation τ sig (Elt F)) (c : Dev nD) : Pipeline.Dat τ (Elt F) (HIx 1) ℕ UU ℕ cfg1 c where
  A w := V₁ (Proc.devRef .tc (Pipeline.arrRef spec1 w))
  after w t := match w with
    | ⟨0, _⟩ => bk1 V₁ 0 t
    | ⟨1, _⟩ => bk1 V₁ 1 t
    | ⟨2, _⟩ => bk1 V₁ 2 t
    | ⟨3, _⟩ => bk1 V₁ 3 t
    | ⟨4, _⟩ => k1_pay1 (bk1 V₁ 0 t) (bk1 V₁ 1 t) (bk1 V₁ 2 t) (bk1 V₁ 3 t)
  Φ _ := keep1 c
  q _ := fullShare
  owed _ := 0

/-- The second kernel entered with the arrays at `V₁`. -/
def dat2 (V₁ : Valuation τ sig (Elt F)) (c : Dev nD) : Pipeline.Dat τ (Elt F) (HIx 1) ℕ UU ℕ cfg2 c where
  A w := V₁ (Proc.devRef .tc (Pipeline.arrRef spec2 w))
  after w t := match w with
    | ⟨0, _⟩ => bk2 V₁ 0 t
    | ⟨1, _⟩ => bk2 V₁ 1 t
    | ⟨2, _⟩ => bk2 V₁ 2 t
    | ⟨3, _⟩ => bk2 V₁ 3 t
    | ⟨4, _⟩ => bk2 V₁ 4 t
    | ⟨5, _⟩ => bk2 V₁ 5 t
    | ⟨6, _⟩ => bk2 V₁ 6 t
    | ⟨7, _⟩ => k2_pay5 (bk2 V₁ 1 t)
    | ⟨8, _⟩ => saOf (bk2 V₁ 1 t) (bk2 V₁ 0 t) (bk2 V₁ 2 t) (bk2 V₁ 3 t) (bk2 V₁ 4 t)
    | ⟨9, _⟩ => clOf (bk2 V₁ 1 t) (bk2 V₁ 0 t) (bk2 V₁ 2 t) (bk2 V₁ 3 t) (bk2 V₁ 4 t) (bk2 V₁ 5 t) (bk2 V₁ 6 t)
  Φ _ := keep2 c
  q _ := fullShare
  owed _ := 0

/-- Both kernels' data, entered at `V₁`. -/
def pdats (V₁ : Valuation τ sig (Elt F)) : (p : Fin 2) → (c : Dev nD) → Pipeline.Dat τ (Elt F) (HIx 1) ℕ UU ℕ (Pipeline.pin (pcfgs (F := F)) adm p) c
  | ⟨0, _⟩ => fun c => dat1 V₁ c
  | ⟨1, _⟩ => fun c => dat2 V₁ c

theorem row1 (t : Fin cfg1.N) : defs₀ (F := F) .tc cfg1.body (cfg1.bodyArgs t (cfg1.slots t)) = bodyAt1 t := rfl
theorem row2 (t : Fin cfg2.N) : defs₀ (F := F) .tc cfg2.body (cfg2.bodyArgs t (cfg2.slots t)) = bodyAt2 t := rfl

theorem body1 (V₁ : Valuation τ sig (Elt F)) (c : Dev nD) : Pipeline.BodyObligation (dat1 V₁ c) (defs₀ (F := F)) 𝒱₀ (none : HIx 1) Set.univ := fun t => by
  rw [bigSep_W1, bigSep_W1, row1]
  show iprop(keep1 c ∗ (dat1 V₁ c).owesAt none t.castSucc
    ∗ (∃ x, owns (T c) ((cfg1.win 0).stage (cfg1.slots t 0)) fullShare ((dat1 V₁ c).before 0 t x))
    ∗ (∃ x, owns (T c) ((cfg1.win 1).stage (cfg1.slots t 1)) fullShare ((dat1 V₁ c).before 1 t x))
    ∗ (∃ x, owns (T c) ((cfg1.win 2).stage (cfg1.slots t 2)) fullShare ((dat1 V₁ c).before 2 t x))
    ∗ (∃ x, owns (T c) ((cfg1.win 3).stage (cfg1.slots t 3)) fullShare ((dat1 V₁ c).before 3 t x))
    ∗ (∃ x, owns (T c) ((cfg1.win 4).stage (cfg1.slots t 4)) fullShare ((dat1 V₁ c).before 4 t x)))
    ⊢ wp frame (wpE (defs₀ (F := F)) 𝒱₀ (T c) none) Set.univ (bodyAt1 t) fun _ =>
      iprop(keep1 c ∗ (dat1 V₁ c).owesAt none t.castSucc
        ∗ owns (T c) ((cfg1.win 0).stage (cfg1.slots t 0)) fullShare (bk1 V₁ 0 t)
        ∗ owns (T c) ((cfg1.win 1).stage (cfg1.slots t 1)) fullShare (bk1 V₁ 1 t)
        ∗ owns (T c) ((cfg1.win 2).stage (cfg1.slots t 2)) fullShare (bk1 V₁ 2 t)
        ∗ owns (T c) ((cfg1.win 3).stage (cfg1.slots t 3)) fullShare (bk1 V₁ 3 t)
        ∗ owns (T c) ((cfg1.win 4).stage (cfg1.slots t 4)) fullShare (k1_pay1 (bk1 V₁ 0 t) (bk1 V₁ 1 t) (bk1 V₁ 2 t) (bk1 V₁ 3 t)))
  iintro ⟨HΦ, HO, ⟨%x0, H0⟩, ⟨%x1, H1⟩, ⟨%x2, H2⟩, ⟨%x3, H3⟩, ⟨%x4, H4⟩⟩
  rw [show (dat1 V₁ c).before 0 t x0 = bk1 V₁ 0 t from (dat1 V₁ c).before_in_eq_fetched 0 rfl (fun _ => rfl) (fun _ _ _ => rfl) (fun _ => rfl) t x0]
  rw [show (dat1 V₁ c).before 1 t x1 = bk1 V₁ 1 t from (dat1 V₁ c).before_in_eq_fetched 1 rfl (fun _ => rfl) (fun _ _ _ => rfl) (fun _ => rfl) t x1]
  rw [show (dat1 V₁ c).before 2 t x2 = bk1 V₁ 2 t from (dat1 V₁ c).before_in_eq_fetched 2 rfl (fun _ => rfl) (fun _ _ _ => rfl) (fun _ => rfl) t x2]
  rw [show (dat1 V₁ c).before 3 t x3 = bk1 V₁ 3 t from (dat1 V₁ c).before_in_eq_fetched 3 rfl (fun _ => rfl) (fun _ _ _ => rfl) (fun _ => rfl) t x3]
  iapply (run1 (F := F) c (grid1.coords t) _ _ _ _ _ _ _ _ _ _ (bk1 V₁ 0 t) (bk1 V₁ 1 t) (bk1 V₁ 2 t) (bk1 V₁ 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [HO]; · iexact HO
  isplitl [H0]; · iexact H0
  isplitl [H1]; · iexact H1
  isplitl [H2]; · iexact H2
  isplitl [H3]; · iexact H3
  iexact H4

theorem body2 (V₁ : Valuation τ sig (Elt F)) (c : Dev nD) : Pipeline.BodyObligation (dat2 V₁ c) (defs₀ (F := F)) 𝒱₀ (none : HIx 1) Set.univ := fun t => by
  rw [bigSep_W2, bigSep_W2, row2]
  show iprop(keep2 c ∗ (dat2 V₁ c).owesAt none t.castSucc
    ∗ (∃ x, owns (T c) ((cfg2.win 0).stage (cfg2.slots t 0)) fullShare ((dat2 V₁ c).before 0 t x))
    ∗ (∃ x, owns (T c) ((cfg2.win 1).stage (cfg2.slots t 1)) fullShare ((dat2 V₁ c).before 1 t x))
    ∗ (∃ x, owns (T c) ((cfg2.win 2).stage (cfg2.slots t 2)) fullShare ((dat2 V₁ c).before 2 t x))
    ∗ (∃ x, owns (T c) ((cfg2.win 3).stage (cfg2.slots t 3)) fullShare ((dat2 V₁ c).before 3 t x))
    ∗ (∃ x, owns (T c) ((cfg2.win 4).stage (cfg2.slots t 4)) fullShare ((dat2 V₁ c).before 4 t x))
    ∗ (∃ x, owns (T c) ((cfg2.win 5).stage (cfg2.slots t 5)) fullShare ((dat2 V₁ c).before 5 t x))
    ∗ (∃ x, owns (T c) ((cfg2.win 6).stage (cfg2.slots t 6)) fullShare ((dat2 V₁ c).before 6 t x))
    ∗ (∃ x, owns (T c) ((cfg2.win 7).stage (cfg2.slots t 7)) fullShare ((dat2 V₁ c).before 7 t x))
    ∗ (∃ x, owns (T c) ((cfg2.win 8).stage (cfg2.slots t 8)) fullShare ((dat2 V₁ c).before 8 t x))
    ∗ (∃ x, owns (T c) ((cfg2.win 9).stage (cfg2.slots t 9)) fullShare ((dat2 V₁ c).before 9 t x)))
    ⊢ wp frame (wpE (defs₀ (F := F)) 𝒱₀ (T c) none) Set.univ (bodyAt2 t) fun _ =>
      iprop(keep2 c ∗ (dat2 V₁ c).owesAt none t.castSucc
        ∗ owns (T c) ((cfg2.win 0).stage (cfg2.slots t 0)) fullShare (bk2 V₁ 0 t)
        ∗ owns (T c) ((cfg2.win 1).stage (cfg2.slots t 1)) fullShare (bk2 V₁ 1 t)
        ∗ owns (T c) ((cfg2.win 2).stage (cfg2.slots t 2)) fullShare (bk2 V₁ 2 t)
        ∗ owns (T c) ((cfg2.win 3).stage (cfg2.slots t 3)) fullShare (bk2 V₁ 3 t)
        ∗ owns (T c) ((cfg2.win 4).stage (cfg2.slots t 4)) fullShare (bk2 V₁ 4 t)
        ∗ owns (T c) ((cfg2.win 5).stage (cfg2.slots t 5)) fullShare (bk2 V₁ 5 t)
        ∗ owns (T c) ((cfg2.win 6).stage (cfg2.slots t 6)) fullShare (bk2 V₁ 6 t)
        ∗ owns (T c) ((cfg2.win 7).stage (cfg2.slots t 7)) fullShare (k2_pay5 (bk2 V₁ 1 t))
        ∗ owns (T c) ((cfg2.win 8).stage (cfg2.slots t 8)) fullShare (saOf (bk2 V₁ 1 t) (bk2 V₁ 0 t) (bk2 V₁ 2 t) (bk2 V₁ 3 t) (bk2 V₁ 4 t))
        ∗ owns (T c) ((cfg2.win 9).stage (cfg2.slots t 9)) fullShare (clOf (bk2 V₁ 1 t) (bk2 V₁ 0 t) (bk2 V₁ 2 t) (bk2 V₁ 3 t) (bk2 V₁ 4 t) (bk2 V₁ 5 t) (bk2 V₁ 6 t)))
  iintro ⟨HΦ, HO, ⟨%x0, H0⟩, ⟨%x1, H1⟩, ⟨%x2, H2⟩, ⟨%x3, H3⟩, ⟨%x4, H4⟩, ⟨%x5, H5⟩, ⟨%x6, H6⟩, ⟨%x7, H7⟩, ⟨%x8, H8⟩, ⟨%x9, H9⟩⟩
  rw [show (dat2 V₁ c).before 0 t x0 = bk2 V₁ 0 t from (dat2 V₁ c).before_in_eq_fetched 0 rfl (fun _ => rfl) (fun _ _ _ => rfl) (fun _ => rfl) t x0]
  rw [show (dat2 V₁ c).before 1 t x1 = bk2 V₁ 1 t from (dat2 V₁ c).before_in_eq_fetched 1 rfl (fun _ => rfl) (fun _ _ _ => rfl) (fun _ => rfl) t x1]
  rw [show (dat2 V₁ c).before 2 t x2 = bk2 V₁ 2 t from (dat2 V₁ c).before_in_eq_fetched 2 rfl (fun _ => rfl) (fun _ _ _ => rfl) (fun _ => rfl) t x2]
  rw [show (dat2 V₁ c).before 3 t x3 = bk2 V₁ 3 t from (dat2 V₁ c).before_in_eq_fetched 3 rfl (fun _ => rfl) (fun _ _ _ => rfl) (fun _ => rfl) t x3]
  rw [show (dat2 V₁ c).before 4 t x4 = bk2 V₁ 4 t from (dat2 V₁ c).before_in_eq_fetched 4 rfl (fun _ => rfl) (fun _ _ _ => rfl) (fun _ => rfl) t x4]
  rw [show (dat2 V₁ c).before 5 t x5 = bk2 V₁ 5 t from (dat2 V₁ c).before_in_eq_fetched 5 rfl (fun _ => rfl) (fun _ _ _ => rfl) (fun _ => rfl) t x5]
  rw [show (dat2 V₁ c).before 6 t x6 = bk2 V₁ 6 t from (dat2 V₁ c).before_in_eq_fetched 6 rfl (fun _ => rfl) (fun _ _ _ => rfl) (fun _ => rfl) t x6]
  iapply (run2 (F := F) c (grid2.coords t) _ _ _ _ _ _ _ _ _ _ _ _ _ _ _ _ _ _ _ _ (bk2 V₁ 0 t) (bk2 V₁ 1 t) (bk2 V₁ 2 t) (bk2 V₁ 3 t) (bk2 V₁ 4 t) (bk2 V₁ 5 t) (bk2 V₁ 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem cut1 : Pipeline.LevelCut (nD := nD) (τ := τ) (pcfgs (F := F)) adm (none : HIx 1) (K (F := F)).L (K (F := F)).lev 0 (fun _ => 0) (fun _ => 0) where
  hι _ _ _ := Finset.mem_univ _
  hιb _ _ _ := le_of_eq ((K (F := F)).lev_none _)
  hD _ _ _ h := absurd h (lt_irrefl _)

/-- The first region of @main, entered with every buffer of the program at `V₁`. -/
def seg1 (V₁ : Valuation τ sig (Elt F)) :
    Pipeline.RegionSeg (pcfgs (F := F)) adm (pdats V₁) (none : HIx 1) (defs₀ (F := F)) 𝒱₀ (K (F := F)).L (K (F := F)).lev 0 :=
  Pipeline.RegionSeg.ofHeldIn (pcfgs (F := F)) adm (pdats V₁) none defs₀ 𝒱₀ (K (F := F)).L (K (F := F)).lev 0 (fun _ => 0) (Pipeline.ucRefs τ sig)
    (fun c => iprop(∃ r, prngReg c r)) (fun c => iprop(∃ r, prngReg c r)) launch1.toP rfl
    (fun c => (body1 V₁ c).loose) (fun _ _ => rfl) (fun _ => rfl) (fun _ w => by fin_cases w <;> rfl)
    (fun _ => BI.Entails.refl _) (fun _ => BI.Entails.refl _) (fun _ => 0) cut1 (fun _ => iprop(emp)) (fun _ => V₁) (fun _ _ => rfl)

theorem seg1_pre (V₁ : Valuation τ sig (Elt F)) (c : Dev nD) :
    iprop(StableHlo.held (T c) (Pipeline.ucRefs τ sig) V₁ ∗ ((∃ Wd, owes (T c) 0 Wd) ∗ (∃ r, prngReg c r) ∗ iprop(emp))) ⊢ (seg1 V₁).pre c :=
  Pipeline.RegionSeg.ofHeldIn_pre (pcs := pcfgs (F := F)) (a := adm) (pdats := pdats V₁) (ι := none) (defs₀ := defs₀) (𝒱₀ := 𝒱₀) (L := (K (F := F)).L) (lv := (K (F := F)).lev) (p := 0) (D := fun _ => 0)
    (S := Pipeline.ucRefs τ sig) (Pipeline.arrRefs_sub_ucRefs spec1 winFacts1.arr_unscoped) (X := fun c => iprop(∃ r, prngReg c r)) (Y := fun c => iprop(∃ r, prngReg c r)) (R := fun _ => iprop(emp)) (W := fun _ => V₁) c

theorem seg1_post (V₁ : Valuation τ sig (Elt F)) (c : Dev nD) :
    (seg1 V₁).post c ⊢ iprop(StableHlo.held (T c) (Pipeline.ucRefs τ sig) (Pipeline.afterRegion (dat1 V₁ c) V₁)
      ∗ ((∃ Wd, owes (T c) 0 Wd) ∗ (∃ r, prngReg c r) ∗ iprop(emp))) :=
  Pipeline.RegionSeg.ofHeldIn_post (pcs := pcfgs (F := F)) (a := adm) (pdats := pdats V₁) (ι := none) (defs₀ := defs₀) (𝒱₀ := 𝒱₀) (L := (K (F := F)).L) (lv := (K (F := F)).lev) (p := 0) (D := fun _ => 0)
    (S := Pipeline.ucRefs τ sig) (Pipeline.arrRefs_sub_ucRefs spec1 winFacts1.arr_unscoped) (X := fun c => iprop(∃ r, prngReg c r)) (Y := fun c => iprop(∃ r, prngReg c r)) (R := fun _ => iprop(emp)) (W := fun _ => V₁) c

theorem region1_wp (V₁ : Valuation τ sig (Elt F)) (c : Dev nD) (k : PUnit → Prog (TpuEff nD τ sig (Elt F) (ΛP (F := F)) .tc) PUnit) (Q : PUnit → sProp 𝕄) :
    iprop(((boundary (T c) ∗ StableHlo.held (T c) (Pipeline.ucRefs τ sig) (Pipeline.afterRegion (dat1 V₁ c) V₁) ∗ (∃ Wd, owes (T c) 0 Wd) ∗ (∃ r, prngReg c r))
        -∗ wp frame (wpE (D (F := F)) 𝒱 (T c) none) Set.univ (k ⟨⟩) Q)
      ∗ boundary (T c) ∗ StableHlo.held (T c) (Pipeline.ucRefs τ sig) V₁ ∗ (∃ Wd, owes (T c) 0 Wd) ∗ (∃ r, prngReg c r)
      ∗ levAts (K (F := F)).L (K (F := F)).lev
      ∗ Pipeline.cellsGhost (Pipeline.pin (pcfgs (F := F)) adm) EP 0 c ∗ Pipeline.toksInit (Pipeline.pin (pcfgs (F := F)) adm) EP 0 c)
    ⊢ wp frame (wpE (D (F := F)) 𝒱 (T c) none) Set.univ (.op (.customCall (Pipeline.entry 0) ()) k) Q := by
  refine ent_trans ?_ (Pipeline.RegionSeg.wp (pcfgs (F := F)) adm (pdats V₁) (none : HIx 1) cellOf_inj EP defs₀ 𝒱₀ (K (F := F)).L (K (F := F)).lev (seg1 V₁) c none
    (fun u h => nomatch h) k Q)
  iintro ⟨Hk, Hb, Hh, HO, HX, Hl, Hg, Ht⟩
  isplitl [Hk]
  · iintro ⟨Hb, Hp⟩
    ihave Hp := (seg1_post V₁ c) $$ Hp
    icases Hp with ⟨Hh, HO, HX, -⟩
    iapply Hk
    isplitl [Hb]; · iexact Hb
    isplitl [Hh]; · iexact Hh
    isplitl [HO]; · iexact HO
    iexact HX
  isplitl [Hb]; · iexact Hb
  isplitl [Hh HO HX]
  · iapply (seg1_pre V₁ c)
    isplitl [Hh]; · iexact Hh
    isplitl [HO]; · iexact HO
    isplitl [HX]; · iexact HX
    iempintro
  isplitl [Hl]; · iexact Hl
  isplitl [Hg]; · iexact Hg
  iexact Ht

theorem cut2 : Pipeline.LevelCut (nD := nD) (τ := τ) (pcfgs (F := F)) adm (none : HIx 1) (K (F := F)).L (K (F := F)).lev 1 (fun _ => 0) (fun _ => 0) where
  hι _ _ _ := Finset.mem_univ _
  hιb _ _ _ := le_of_eq ((K (F := F)).lev_none _)
  hD _ _ _ h := absurd h (lt_irrefl _)

/-- The second region of @main, entered with every buffer of the program at `V₁`. -/
def seg2 (V₁ : Valuation τ sig (Elt F)) :
    Pipeline.RegionSeg (pcfgs (F := F)) adm (pdats V₁) (none : HIx 1) (defs₀ (F := F)) 𝒱₀ (K (F := F)).L (K (F := F)).lev 1 :=
  Pipeline.RegionSeg.ofHeldIn (pcfgs (F := F)) adm (pdats V₁) none defs₀ 𝒱₀ (K (F := F)).L (K (F := F)).lev 1 (fun _ => 0) (Pipeline.ucRefs τ sig)
    (fun c => iprop(∃ r, prngReg c r)) (fun c => iprop(∃ r, prngReg c r)) launch2.toP rfl
    (fun c => (body2 V₁ c).loose) (fun _ _ => rfl) (fun _ => rfl) (fun _ w => by fin_cases w <;> rfl)
    (fun _ => BI.Entails.refl _) (fun _ => BI.Entails.refl _) (fun _ => 0) cut2 (fun _ => iprop(emp)) (fun _ => V₁) (fun _ _ => rfl)

theorem seg2_pre (V₁ : Valuation τ sig (Elt F)) (c : Dev nD) :
    iprop(StableHlo.held (T c) (Pipeline.ucRefs τ sig) V₁ ∗ ((∃ Wd, owes (T c) 0 Wd) ∗ (∃ r, prngReg c r) ∗ iprop(emp))) ⊢ (seg2 V₁).pre c :=
  Pipeline.RegionSeg.ofHeldIn_pre (pcs := pcfgs (F := F)) (a := adm) (pdats := pdats V₁) (ι := none) (defs₀ := defs₀) (𝒱₀ := 𝒱₀) (L := (K (F := F)).L) (lv := (K (F := F)).lev) (p := 1) (D := fun _ => 0)
    (S := Pipeline.ucRefs τ sig) (Pipeline.arrRefs_sub_ucRefs spec2 winFacts2.arr_unscoped) (X := fun c => iprop(∃ r, prngReg c r)) (Y := fun c => iprop(∃ r, prngReg c r)) (R := fun _ => iprop(emp)) (W := fun _ => V₁) c

theorem seg2_post (V₁ : Valuation τ sig (Elt F)) (c : Dev nD) :
    (seg2 V₁).post c ⊢ iprop(StableHlo.held (T c) (Pipeline.ucRefs τ sig) (Pipeline.afterRegion (dat2 V₁ c) V₁)
      ∗ ((∃ Wd, owes (T c) 0 Wd) ∗ (∃ r, prngReg c r) ∗ iprop(emp))) :=
  Pipeline.RegionSeg.ofHeldIn_post (pcs := pcfgs (F := F)) (a := adm) (pdats := pdats V₁) (ι := none) (defs₀ := defs₀) (𝒱₀ := 𝒱₀) (L := (K (F := F)).L) (lv := (K (F := F)).lev) (p := 1) (D := fun _ => 0)
    (S := Pipeline.ucRefs τ sig) (Pipeline.arrRefs_sub_ucRefs spec2 winFacts2.arr_unscoped) (X := fun c => iprop(∃ r, prngReg c r)) (Y := fun c => iprop(∃ r, prngReg c r)) (R := fun _ => iprop(emp)) (W := fun _ => V₁) c

theorem region2_wp (V₁ : Valuation τ sig (Elt F)) (c : Dev nD) (k : PUnit → Prog (TpuEff nD τ sig (Elt F) (ΛP (F := F)) .tc) PUnit) (Q : PUnit → sProp 𝕄) :
    iprop(((boundary (T c) ∗ StableHlo.held (T c) (Pipeline.ucRefs τ sig) (Pipeline.afterRegion (dat2 V₁ c) V₁) ∗ (∃ Wd, owes (T c) 0 Wd) ∗ (∃ r, prngReg c r))
        -∗ wp frame (wpE (D (F := F)) 𝒱 (T c) none) Set.univ (k ⟨⟩) Q)
      ∗ boundary (T c) ∗ StableHlo.held (T c) (Pipeline.ucRefs τ sig) V₁ ∗ (∃ Wd, owes (T c) 0 Wd) ∗ (∃ r, prngReg c r)
      ∗ levAts (K (F := F)).L (K (F := F)).lev
      ∗ Pipeline.cellsGhost (Pipeline.pin (pcfgs (F := F)) adm) EP 1 c ∗ Pipeline.toksInit (Pipeline.pin (pcfgs (F := F)) adm) EP 1 c)
    ⊢ wp frame (wpE (D (F := F)) 𝒱 (T c) none) Set.univ (.op (.customCall (Pipeline.entry 1) ()) k) Q := by
  refine ent_trans ?_ (Pipeline.RegionSeg.wp (pcfgs (F := F)) adm (pdats V₁) (none : HIx 1) cellOf_inj EP defs₀ 𝒱₀ (K (F := F)).L (K (F := F)).lev (seg2 V₁) c none
    (fun u h => nomatch h) k Q)
  iintro ⟨Hk, Hb, Hh, HO, HX, Hl, Hg, Ht⟩
  isplitl [Hk]
  · iintro ⟨Hb, Hp⟩
    ihave Hp := (seg2_post V₁ c) $$ Hp
    icases Hp with ⟨Hh, HO, HX, -⟩
    iapply Hk
    isplitl [Hb]; · iexact Hb
    isplitl [Hh]; · iexact Hh
    isplitl [HO]; · iexact HO
    iexact HX
  isplitl [Hb]; · iexact Hb
  isplitl [Hh HO HX]
  · iapply (seg2_pre V₁ c)
    isplitl [Hh]; · iexact Hh
    isplitl [HO]; · iexact HO
    isplitl [HX]; · iexact HX
    iempintro
  isplitl [Hl]; · iexact Hl
  isplitl [Hg]; · iexact Hg
  iexact Ht

end Cert.KernelIdeal.Tile

end
-- ==== Proof.Ideal.Main.lean ====
/- @main on the TensorCore and the program's whole run. -/
module

public import proofs.«01_k».proof.Proof.Ideal.Regions
public import proofs.«01_k».proof.Proof.Ideal.Launch
public import Idealize.ShloMosaic.Lib.SparseCore.Quiescent

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Host operations on the TensorCore's references touch none of the scoped buffers. -/
theorem host_sub {ops : List (HloOp τ sig (Elt F))} (h : ops.Forall fun op => op.bufs ⊆ StableHlo.tcRefs τ sig) : ∀ op ∈ ops, op.bufs ⊆ Pipeline.ucRefs τ sig := by
  intro op hop b hb
  refine Finset.mem_filter.mpr ⟨List.forall_iff_forall_mem.mp h op hop hb, ?_⟩
  rw [op.no_scoped b hb]
  exact Bool.false_ne_true

/-- The host's operations, part 0. -/
abbrev ops0 : List (HloOp τ sig (Elt F)) :=
  [ StableHlo.nullary main_c (fun i => lit0 (S32.rowMajor i)),
    StableHlo.nullary main_c_0 (constantI S32 1 0#1),
    StableHlo.unary main_arg0 main_v0 ((transpose S64x50x32 [0, 2, 1] · transposes_S64x32x50_S64x50x32_0_2_1) : (⟨S64x32x50, .i32⟩ : BufTy).Contents (Elt F) → (⟨S64x50x32, .i32⟩ : BufTy).Contents (Elt F)),
    StableHlo.nullary main_c_1 (constantI S_ 32 32#32),
    StableHlo.unary main_c_1 main_v1 (broadcastInDim S32 ![] bcast_S_S32 : (⟨S_, .i32⟩ : BufTy).Contents (Elt F) → (⟨S32, .i32⟩ : BufTy).Contents (Elt F)),
    StableHlo.binary main_c main_v1 main_v2 (addi : (⟨S32, .i32⟩ : BufTy).Contents (Elt F) → (⟨S32, .i32⟩ : BufTy).Contents (Elt F) → (⟨S32, .i32⟩ : BufTy).Contents (Elt F)),
    StableHlo.ternary main_c_0 main_v2 main_c main_v3 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v3 main_v4 (broadcastInDim S32x1 ![0] bcast_S32_S32x1_0 : (⟨S32, .i32⟩ : BufTy).Contents (Elt F) → (⟨S32x1, .i32⟩ : BufTy).Contents (Elt F)),
    StableHlo.binary main_v0 main_v4 main_v5 ((fun x i => Host.gather gather_S64x50x32_S32x1_S64x50x32_01_2_n_n_2_1_64501 x i) : (⟨S64x50x32, .i32⟩ : BufTy).Contents (Elt F) → (⟨S32x1, .i32⟩ : BufTy).Contents (Elt F) → (⟨S64x50x32, .i32⟩ : BufTy).Contents (Elt F)),
    StableHlo.reshape main_v5 main_v6 (rfl : (.i32 : EltTy) = .i32) shapeCasts_S64x50x32_S102400,
    StableHlo.reshape main_arg1 main_v7 (rfl : (.f32 : EltTy) = .f32) shapeCasts_S400000x50_S1250000x16 ]

/-- The host's operations, part 1. -/
abbrev ops1 : List (HloOp τ sig (Elt F)) :=
  [ StableHlo.reshape main_arg3 main_v9 (rfl : (.f32 : EltTy) = .f32) shapeCasts_S50_S1x50,
    StableHlo.reshape main_arg4 main_v10 (rfl : (.f32 : EltTy) = .f32) shapeCasts_S50_S1x50 ]

/-- The host's operations, part 2. -/
abbrev ops2 : List (HloOp τ sig (Elt F)) :=
  [ StableHlo.reshape main_v11 main_v12 (rfl : (.f32 : EltTy) = .f32) shapeCasts_S51200x2_S64x50x16x2,
    StableHlo.unary main_v12 main_v13 ((transpose S64x2x16x50 [0, 3, 2, 1] · transposes_S64x50x16x2_S64x2x16x50_0_3_2_1) : (⟨S64x50x16x2, .f32⟩ : BufTy).Contents (Elt F) → (⟨S64x2x16x50, .f32⟩ : BufTy).Contents (Elt F)),
    StableHlo.reshape main_v13 main_v14 (rfl : (.f32 : EltTy) = .f32) shapeCasts_S64x2x16x50_S64x32x50,
    StableHlo.reshape main_v8 main_v15 (rfl : (.f32 : EltTy) = .f32) shapeCasts_S51200x128_S64x800x128,
    StableHlo.reshape main_arg6 main_v16 (rfl : (.f32 : EltTy) = .f32) shapeCasts_S50_S1x50,
    StableHlo.reshape main_arg7 main_v17 (rfl : (.f32 : EltTy) = .f32) shapeCasts_S50_S1x50,
    StableHlo.reshape main_arg9 main_v18 (rfl : (.f32 : EltTy) = .f32) shapeCasts_S5_S1x5 ]

/-- The host's operations, part 3. -/
abbrev ops3 : List (HloOp τ sig (Elt F)) :=
  [ StableHlo.reshape main_v19_2 main_v20 (rfl : (.f32 : EltTy) = .f32) shapeCasts_S64x1x5_S64x5,
    StableHlo.reshape main_v19_1 main_v21 (rfl : (.f32 : EltTy) = .f32) shapeCasts_S64x32x1_S64x32 ]

theorem ops0_sub : ∀ op ∈ (ops0 : List (HloOp τ sig (Elt F))), op.bufs ⊆ Pipeline.ucRefs τ sig :=
  host_sub ⟨StableHlo.nullary_bufs_sub .., StableHlo.nullary_bufs_sub .., StableHlo.unary_bufs_sub .., StableHlo.nullary_bufs_sub .., StableHlo.unary_bufs_sub .., StableHlo.binary_bufs_sub .., StableHlo.ternary_bufs_sub .., StableHlo.unary_bufs_sub .., StableHlo.binary_bufs_sub .., StableHlo.reshape_bufs_sub .., StableHlo.reshape_bufs_sub ..⟩
theorem ops0_fresh : ∀ op ∈ (ops0 : List (HloOp τ sig (Elt F))), op.fresh = ∅ :=
  List.forall_iff_forall_mem.mp (show (ops0 : List (HloOp τ sig (Elt F))).Forall fun op => op.fresh = ∅ from ⟨rfl, rfl, rfl, rfl, rfl, rfl, rfl, rfl, rfl, rfl, rfl⟩)

theorem ops1_sub : ∀ op ∈ (ops1 : List (HloOp τ sig (Elt F))), op.bufs ⊆ Pipeline.ucRefs τ sig :=
  host_sub ⟨StableHlo.reshape_bufs_sub .., StableHlo.reshape_bufs_sub ..⟩
theorem ops1_fresh : ∀ op ∈ (ops1 : List (HloOp τ sig (Elt F))), op.fresh = ∅ :=
  List.forall_iff_forall_mem.mp (show (ops1 : List (HloOp τ sig (Elt F))).Forall fun op => op.fresh = ∅ from ⟨rfl, rfl⟩)

theorem ops2_sub : ∀ op ∈ (ops2 : List (HloOp τ sig (Elt F))), op.bufs ⊆ Pipeline.ucRefs τ sig :=
  host_sub ⟨StableHlo.reshape_bufs_sub .., StableHlo.unary_bufs_sub .., StableHlo.reshape_bufs_sub .., StableHlo.reshape_bufs_sub .., StableHlo.reshape_bufs_sub .., StableHlo.reshape_bufs_sub .., StableHlo.reshape_bufs_sub ..⟩
theorem ops2_fresh : ∀ op ∈ (ops2 : List (HloOp τ sig (Elt F))), op.fresh = ∅ :=
  List.forall_iff_forall_mem.mp (show (ops2 : List (HloOp τ sig (Elt F))).Forall fun op => op.fresh = ∅ from ⟨rfl, rfl, rfl, rfl, rfl, rfl, rfl⟩)

theorem ops3_sub : ∀ op ∈ (ops3 : List (HloOp τ sig (Elt F))), op.bufs ⊆ Pipeline.ucRefs τ sig :=
  host_sub ⟨StableHlo.reshape_bufs_sub .., StableHlo.reshape_bufs_sub ..⟩
theorem ops3_fresh : ∀ op ∈ (ops3 : List (HloOp τ sig (Elt F))), op.fresh = ∅ :=
  List.forall_iff_forall_mem.mp (show (ops3 : List (HloOp τ sig (Elt F))).Forall fun op => op.fresh = ∅ from ⟨rfl, rfl⟩)

/-- A call of a region, from the whole program. -/
abbrev callR (p : Fin 2) : Prog (TpuEff nD τ sig (Elt F) (SparseCore.Sig (ΛP (F := F)) 1) .tc) PUnit :=
  Prog.lift (.customCall (SparseCore.inner (Pipeline.entry p)) ())

set_option maxRecDepth 8192 in
set_option maxHeartbeats 1000000 in
theorem main_eq (d : Dev nD) : main (F := F) d = (StableHlo.seq ops0 >>= fun _ => (K (F := F)).run d 0 >>= fun _ => StableHlo.seq ops1 >>= fun _ => callR 0 >>= fun _ =>
    StableHlo.seq ops2 >>= fun _ => callR 1 >>= fun _ => StableHlo.seq ops3 >>= fun _ => pure ⟨⟩) := rfl

/-! ## What each buffer holds along @main -/

variable (m : (ℓ : Loc nD τ sig) → Buf (Elt F) ℓ) (ρ : Dev nD → PrngReg)

abbrev val0 (d : Dev nD) : Valuation τ sig (Elt F) := fun b => m (d, b)
/-- At the gather. -/
def val1 (d : Dev nD) : Valuation τ sig (Elt F) := StableHlo.after ops0 (val0 m d)
abbrev ixs (d : Dev nD) : Buf (Elt F) (iLoc d) := val1 m d (Proc.devRef .tc main_v6)
abbrev tab (d : Dev nD) : Buf (Elt F) (tLoc d) := val1 m d (Proc.devRef .tc main_v7)
abbrev old (d : Dev nD) : Buf (Elt F) (oLoc d) := val1 m d (Proc.devRef .tc main_v8)

/-- After the gather, which left `f`. -/
def val2 (d : Dev nD) (f : Buf (Elt F) (oLoc d)) : Valuation τ sig (Elt F) := Function.update (val1 m d) (Proc.devRef .tc main_v8) f
/-- At the first TensorCore kernel. -/
def val3 (d : Dev nD) (f : Buf (Elt F) (oLoc d)) : Valuation τ sig (Elt F) := StableHlo.after ops1 (val2 m d f)
/-- After it. -/
def val4 (d : Dev nD) (f : Buf (Elt F) (oLoc d)) : Valuation τ sig (Elt F) := Pipeline.afterRegion (dat1 (val3 m d f) d) (val3 m d f)
/-- At the second. -/
def val5 (d : Dev nD) (f : Buf (Elt F) (oLoc d)) : Valuation τ sig (Elt F) := StableHlo.after ops2 (val4 m d f)
/-- After it. -/
def val6 (d : Dev nD) (f : Buf (Elt F) (oLoc d)) : Valuation τ sig (Elt F) := Pipeline.afterRegion (dat2 (val5 m d f) d) (val5 m d f)
/-- At the end. -/
def val7 (d : Dev nD) (f : Buf (Elt F) (oLoc d)) : Valuation τ sig (Elt F) := StableHlo.after ops3 (val6 m d f)

abbrev r6 : DevRef τ sig := Proc.devRef .tc main_v6
abbrev r7 : DevRef τ sig := Proc.devRef .tc main_v7
abbrev r8 : DevRef τ sig := Proc.devRef .tc main_v8

/-- The gather's three arrays, out of everything held. -/
theorem held_three (d : Dev nD) (V₁ : Valuation τ sig (Elt F)) :
    (StableHlo.held (T d) (Pipeline.ucRefs τ sig) V₁ : sProp 𝕄)
      = iprop((((iLoc d ↦{fullShare} V₁ r6) ∗ (tLoc d ↦{fullShare} V₁ r7) ∗ (oLoc d ↦{fullShare} V₁ r8)))
        ∗ StableHlo.held (T d) (Pipeline.ucRefs τ sig \ {r6, r7, r8}) V₁) := by
  rw [StableHlo.held_sub_split (T d) (show ({r6, r7, r8} : Finset (DevRef τ sig)) ⊆ Pipeline.ucRefs τ sig by decide) V₁]
  congr 1
  unfold StableHlo.held
  rw [SparseCore.bigSep_insert' (by decide), SparseCore.bigSep_insert' (by decide), bigSep_singleton]

theorem held_back (d : Dev nD) (f : Buf (Elt F) (oLoc d)) :
    iprop(((iLoc d ↦{fullShare} ixs m d) ∗ (tLoc d ↦{fullShare} tab m d) ∗ (oLoc d ↦{fullShare} f))
      ∗ StableHlo.held (T d) (Pipeline.ucRefs τ sig \ {r6, r7, r8}) (val1 m d)) ⊢ (StableHlo.held (T d) (Pipeline.ucRefs τ sig) (val2 m d f) : sProp 𝕄) := by
  rw [held_three d (val2 m d f)]
  have e6 : val2 m d f r6 = ixs m d := Function.update_of_ne (by decide) _ _
  have e7 : val2 m d f r7 = tab m d := Function.update_of_ne (by decide) _ _
  have e8 : val2 m d f r8 = f := Function.update_self _ _ _
  rw [e6, e7, e8, StableHlo.held_congr (T d) (V := val2 m d f) (V' := val1 m d) (fun b hb => Function.update_of_ne (fun h => by
    rw [h] at hb; exact (Finset.mem_sdiff.mp hb).2 (by decide)) _ _)]

/-- The ghost state of the two regions' staging cells. -/
abbrev regG (d : Dev nD) : sProp 𝕄 :=
  iprop((Pipeline.cellsGhost (Pipeline.pin (pcfgs (F := F)) adm) EP 0 d ∗ Pipeline.cellsGhost (Pipeline.pin (pcfgs (F := F)) adm) EP 1 d)
    ∗ (Pipeline.toksInit (Pipeline.pin (pcfgs (F := F)) adm) EP 0 d ∗ Pipeline.toksInit (Pipeline.pin (pcfgs (F := F)) adm) EP 1 d))

/-- What @main ends with. -/
abbrev FIN (d : Dev nD) : sProp 𝕄 :=
  iprop(∃ f, ⌜Gathered (ixs m d) (tab m d) f⌝ ∗ StableHlo.held (T d) (Pipeline.ucRefs τ sig) (val7 m d f))

/-- Once the gather has run, the TensorCore owes nothing and may have waited for anything. -/
theorem tc_open (d : Dev nD) :
    ((K (F := F)).tcSt EH d 1 : sProp 𝕄) ⊢ iprop((∃ Wd, owes (T d) 0 Wd) ∗ ((∃ Wd, owes (T d) 0 Wd) -∗ (K (F := F)).tcSt EH d 1)) := by
  unfold SparseCore.Cfg.tcSt
  rw [(K (F := F)).Otc_end d (Nat.le_refl 1)]
  iintro ⟨⟨%W, -, HO⟩, HR⟩
  isplitl [HO]; · iexists W; iexact HO
  iintro ⟨%W', HO⟩
  isplitr [HR]; swap; · iexact HR
  iexists W'
  isplitr; swap; · iexact HO
  ipureintro
  intro p _
  match p with
  | (g, none) => exact Nat.zero_le _
  | (g, some q) => exact ((K (F := F)).lev_some_le _ q).trans (by have := q.isLt; show 8 * q.val + 7 ≤ 8 * 1; omega)

theorem lift_call (p : Fin 2) :
    SparseCore.liftProg (Q := 1) (Prog.op (TpuEff.customCall (Pipeline.entry p) ()) (fun x => Prog.ret x) : Prog (TpuEff nD τ sig (Elt F) (ΛP (F := F)) .tc) PUnit) = callR p := rfl

/-- A region's call inside the whole program. -/
theorem call0_wp (d : Dev nD) (V₁ : Valuation τ sig (Elt F)) (Q : PUnit → sProp 𝕄) :
    iprop(((boundary (T d) ∗ StableHlo.held (T d) (Pipeline.ucRefs τ sig) (Pipeline.afterRegion (dat1 V₁ d) V₁) ∗ (∃ Wd, owes (T d) 0 Wd) ∗ (∃ r, prngReg d r)) -∗ Q ⟨⟩)
      ∗ boundary (T d) ∗ StableHlo.held (T d) (Pipeline.ucRefs τ sig) V₁ ∗ (∃ Wd, owes (T d) 0 Wd) ∗ (∃ r, prngReg d r)
      ∗ levAts (K (F := F)).L (K (F := F)).lev
      ∗ Pipeline.cellsGhost (Pipeline.pin (pcfgs (F := F)) adm) EP 0 d ∗ Pipeline.toksInit (Pipeline.pin (pcfgs (F := F)) adm) EP 0 d)
    ⊢ wp frame (wpE ((K (F := F)).defs (D (F := F))) 𝒱 (T d) none) Set.univ (callR 0) Q := by
  rw [← lift_call 0]
  refine ent_trans ?_ ((K (F := F)).wp_liftProg (D (F := F)) 𝒱 (T d) Set.univ none _ Q)
  refine ent_trans ?_ (region1_wp V₁ d (fun x => .ret x) Q)
  iintro ⟨Hk, H⟩
  isplitl [Hk]
  · iintro H
    rw [wp_ret]
    imodintro
    iapply Hk; iexact H
  iexact H

theorem call1_wp (d : Dev nD) (V₁ : Valuation τ sig (Elt F)) (Q : PUnit → sProp 𝕄) :
    iprop(((boundary (T d) ∗ StableHlo.held (T d) (Pipeline.ucRefs τ sig) (Pipeline.afterRegion (dat2 V₁ d) V₁) ∗ (∃ Wd, owes (T d) 0 Wd) ∗ (∃ r, prngReg d r)) -∗ Q ⟨⟩)
      ∗ boundary (T d) ∗ StableHlo.held (T d) (Pipeline.ucRefs τ sig) V₁ ∗ (∃ Wd, owes (T d) 0 Wd) ∗ (∃ r, prngReg d r)
      ∗ levAts (K (F := F)).L (K (F := F)).lev
      ∗ Pipeline.cellsGhost (Pipeline.pin (pcfgs (F := F)) adm) EP 1 d ∗ Pipeline.toksInit (Pipeline.pin (pcfgs (F := F)) adm) EP 1 d)
    ⊢ wp frame (wpE ((K (F := F)).defs (D (F := F))) 𝒱 (T d) none) Set.univ (callR 1) Q := by
  rw [← lift_call 1]
  refine ent_trans ?_ ((K (F := F)).wp_liftProg (D (F := F)) 𝒱 (T d) Set.univ none _ Q)
  refine ent_trans ?_ (region2_wp V₁ d (fun x => .ret x) Q)
  iintro ⟨Hk, H⟩
  isplitl [Hk]
  · iintro H
    rw [wp_ret]
    imodintro
    iapply Hk; iexact H
  iexact H

/-- @main on one TensorCore. -/
theorem hmain (κ : GSem nD τ sig → ℕ) (d : Dev nD) :
    iprop((K (F := F)).ctx EH (P (ixs m) (tab m) (old m)) κ ∗ (K (F := F)).tcSt EH d 0 ∗ (K (F := F)).tcRes m ρ d ∗ regG d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((T d : Thread nD τ).loc b)) : sProp 𝕄) = StableHlo.held (T d) (Pipeline.ucRefs τ sig) (val0 m d)
    from Pipeline.unscopedBufs_held d (val0 m d)]
  iintro ⟨#Hctx, Hst, ⟨Hb, Hh, Hts, Hr⟩, ⟨⟨Hg0, Hg1⟩, Ht0, Ht1⟩⟩
  ihave #Hlev := (SparseCore.Cfg.ctx_levAts (K := K (F := F)) κ) $$ Hctx
  iapply (StableHlo.wp_seq 𝒱 none Set.univ d (Pipeline.ucRefs τ sig) _ ops0 ops0_sub ops0_fresh (val0 m d)) $$ [Hb Hh]
  · isplitl [Hb]; · iexact Hb
    iexact Hh
  iintro ⟨Hb, Hh⟩
  ihave Hh := (show (StableHlo.held (T d) (Pipeline.ucRefs τ sig) (StableHlo.after ops0 (val0 m d)) : sProp 𝕄)
      ⊢ iprop(((iLoc d ↦{fullShare} ixs m d) ∗ (tLoc d ↦{fullShare} tab m d) ∗ (oLoc d ↦{fullShare} old m d))
        ∗ StableHlo.held (T d) (Pipeline.ucRefs τ sig \ {r6, r7, r8}) (val1 m d)) from Entails.of_eq (held_three d (val1 m d))) $$ Hh
  icases Hh with ⟨H3, Hh⟩
  ihave H3 := (deal (ixs m) (tab m) (old m) d) $$ H3
  icases H3 with ⟨Hgo, Hrest⟩
  rw [wp_bind]
  iapply ((K (F := F)).wp_run (D (F := F)) 𝒱 (EH := EH) (P := P (ixs m) (tab m) (old m)) κ d 0) $$ [Hst Hgo Hrest Hh Hb Hts Hr Hg0 Hg1 Ht0 Ht1]
  isplitr; · iexact Hctx
  isplitl [Hst]; · iexact Hst
  isplitl [Hgo]; · iexact Hgo
  iintro ⟨Hst, Hdn⟩
  ihave H3 := (collect (ixs m) (tab m) (old m) d) $$ [Hdn Hrest]
  · isplitl [Hdn]; · iexact Hdn
    iexact Hrest
  icases H3 with ⟨Hi, Ht, ⟨%f, %hf, Ho⟩⟩
  ihave Hh := (held_back m d f) $$ [Hi Ht Ho Hh]
  · isplitr [Hh]
    · isplitl [Hi]; · iexact Hi
      isplitl [Ht]; · iexact Ht
      iexact Ho
    iexact Hh
  ihave Hst := (show ((K (F := F)).tcSt EH d ((0 : Fin 1).val + 1) : sProp 𝕄) ⊢ _ from tc_open d) $$ Hst
  icases Hst with ⟨HO, Hst⟩
  iapply (StableHlo.wp_seq 𝒱 none Set.univ d (Pipeline.ucRefs τ sig) _ ops1 ops1_sub ops1_fresh (val2 m d f)) $$ [Hb Hh]
  · isplitl [Hb]; · iexact Hb
    iexact Hh
  iintro ⟨Hb, Hh⟩
  rw [wp_bind]
  iapply (call0_wp d (val3 m d f) _)
  isplitr [Hb Hh HO Hr Hg0 Ht0]
  · iintro ⟨Hb, Hh, HO, Hr⟩
    iapply (StableHlo.wp_seq 𝒱 none Set.univ d (Pipeline.ucRefs τ sig) _ ops2 ops2_sub ops2_fresh (val4 m d f)) $$ [Hb Hh]
    · isplitl [Hb]; · iexact Hb
      iexact Hh
    iintro ⟨Hb, Hh⟩
    rw [wp_bind]
    iapply (call1_wp d (val5 m d f) _)
    isplitr [Hb Hh HO Hr Hg1 Ht1]
    · iintro ⟨Hb, Hh, HO, Hr⟩
      iapply (StableHlo.wp_seq 𝒱 none Set.univ d (Pipeline.ucRefs τ sig) _ ops3 ops3_sub ops3_fresh (val6 m d f)) $$ [Hb Hh]
      · isplitl [Hb]; · iexact Hb
        iexact Hh
      iintro ⟨Hb, Hh⟩
      rw [wp_pure]
      imodintro
      isplitl [Hst HO]; · iapply Hst; iexact HO
      isplitl [Hh]
      · iexists f
        isplitr; · ipureintro; exact hf
        iexact Hh
      isplitl [Hb]; · iexact Hb
      iexact Hts
    isplitl [Hb]; · iexact Hb
    isplitl [Hh]; · iexact Hh
    isplitl [HO]; · iexact HO
    isplitl [Hr]; · iexact Hr
    isplitr; · iexact Hlev
    isplitl [Hg1]; · iexact Hg1
    iexact Ht1
  isplitl [Hb]; · iexact Hb
  isplitl [Hh]; · iexact Hh
  isplitl [HO]; · iexact HO
  isplitl [Hr]; · iexists _; iexact Hr
  isplitr; · iexact Hlev
  isplitl [Hg0]; · iexact Hg0
  iexact Ht0

/-! ## The launch's ghost state, and the run -/

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

theorem fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem regG_all : iprop((bigSep Finset.univ fun d : Dev nD => bigSep Finset.univ fun p : Fin 2 => Pipeline.cellsGhost (Pipeline.pin (pcfgs (F := F)) adm) EP p d)
      ∗ (bigSep Finset.univ fun d : Dev nD => bigSep Finset.univ fun p : Fin 2 => Pipeline.toksInit (Pipeline.pin (pcfgs (F := F)) adm) EP p d))
    ⊢ (bigSep Finset.univ fun d : Dev nD => regG (F := F) d : sProp 𝕄) := by
  rw [← bigSep_sep']
  exact Entails.of_eq (bigSep_congr fun d _ => by rw [fin2, fin2])

theorem none_all {I : Type} (s : Finset I) : (iprop(emp) : sProp 𝕄) ⊢ bigSep s fun _ => iprop(emp) := Entails.of_eq (bigSep_emp_const s).symm

theorem hu₀ : (ownU (u₀ (F := F)) : sProp 𝕄)
    ⊢ |={Set.univ}=> iprop(BI.own (EH (initOf (K (F := F)).hsCells (K (F := F)).hsToks)) ∗ (bigSep Finset.univ fun d : Dev nD => regG (F := F) d)
        ∗ bigSep Finset.univ fun thr : Thread nD τ => bigSep Finset.univ fun q : Fin 1 => (P (ixs m) (tab m) (old m)).x q thr) := by
  unfold u₀
  iintro Hu
  ihave H := (ownU_pair _ _) $$ Hu
  icases H with ⟨HH, HR⟩
  ihave H := (own_pair_emb embR _ _) $$ HR
  icases H with ⟨HP, -⟩
  ihave HP := (show (BI.own (((Emb.inl : Emb UP (UP × Counters)).trans embR) (initOf (Pipeline.cells (Pipeline.pin (pcfgs (F := F)) adm) cellOf_inj) (Pipeline.launchToks (Pipeline.pin (pcfgs (F := F)) adm) cellOf_inj))) : sProp 𝕄)
      ⊢ BI.own (EP (initOf (Pipeline.cells (Pipeline.pin (pcfgs (F := F)) adm) cellOf_inj) (Pipeline.launchToks (Pipeline.pin (pcfgs (F := F)) adm) cellOf_inj))) from BI.Entails.refl _) $$ HP
  imod (Pipeline.fund_ghost (Pipeline.pin (pcfgs (F := F)) adm) EP cellOf_inj) $$ HP with ⟨Hg, Ht⟩
  imodintro
  isplitl [HH]; · iexact HH
  isplitl [Hg Ht]
  · iapply regG_all
    isplitl [Hg]; · iexact Hg
    iexact Ht
  rw [show (bigSep Finset.univ fun thr : Thread nD τ => bigSep Finset.univ fun q : Fin 1 => (P (F := F) (ixs m) (tab m) (old m)).x q thr) = bigSep Finset.univ fun _ => iprop(emp) from
    bigSep_congr fun _ _ => bigSep_univ_of_subsingleton (0 : Fin 1)]
  iapply none_all
  iempintro

/-- What the run leaves on device `d`. -/
def fq (d : Dev nD) (s' : Phys nD τ sig (Elt F)) : Prop :=
  ∃ f, Gathered (ixs m d) (tab m d) f ∧ ∀ b ∈ Pipeline.ucRefs τ sig, s'.mem.mem (d, b) = val7 m d f b

theorem hfin (d : Dev nD) (s' : Phys nD τ sig (Elt F)) : iprop(FIN m d ∗ SI s') ⊢ (⌜fq m d s'⌝ : sProp 𝕄) := by
  iintro ⟨⟨%f, %hf, Hh⟩, HSI⟩
  ihave Hh := (show (StableHlo.held (T d) (Pipeline.ucRefs τ sig) (val7 m d f) : sProp 𝕄)
      ⊢ bigSep (Pipeline.ucRefs τ sig) fun b => ((d, b) : Loc nD τ sig) ↦{fullShare} val7 m d f b from BI.Entails.refl _) $$ Hh
  ihave H := (pointsTo_read_all (Pipeline.ucRefs τ sig) (fun b => ((d, b) : Loc nD τ sig)) (val7 m d f) s' fullShare) $$ [Hh HSI]
  · isplitl [Hh]; · iexact Hh
    iexact HSI
  icases H with ⟨%h, -⟩
  ipureintro
  exact ⟨f, hf, h⟩

def QC : PUnit × MemSt nD τ sig (Elt F) → Prop := fun r =>
  (∀ d : Dev nD, ∃ f, Gathered (ixs m d) (tab m d) f ∧ ∀ b ∈ Pipeline.ucRefs τ sig, r.2.mem (d, b) = val7 m d f b) ∧ r.2.sem = fun _ => 0

theorem run_main [∀ e, Nonempty (Elt F e)] (hix : ∀ d y, (ixs m d y : BitVec 32).toNat < 400000) :
    θ_run (defs (F := F)) (threads (F := F)) ⟨m, fun _ => 0, ρ⟩ (QC m) :=
  SparseCore.Cfg.θ_run_sc_quiescent (K := K (F := F)) (D := D (F := F)) (𝒱 := 𝒱) (EH := EH) (P := P (ixs m) (tab m) (old m)) (A := ∅) facts v₀
    (fun q hq => match q with | 0 => nomatch hq)
    (fun q _ => match q with | 0 => tileObl (ixs m) (tab m) (old m) hix)
    (fun q _ => match q with | 0 => SparseCore.Cfg.VecSplit.of_plain (vecSplit (ixs m) (tab m) (old m)))
    m ρ main (fun d => regG d) (FIN m) (u₀ (F := F)) (sep_elim_left.trans (hu₀ m)) (hmain m ρ) (fq m) (hfin m) (QC m) (fun _ h hz => ⟨h, hz⟩)

end Cert.KernelIdeal.Tile

end
-- ==== Proof.Ideal.Host.lean ====
/- The host's reordering of the word indices, read at an index. -/
module

public import proofs.«01_k».proof.Proof.Ideal.Main
public import Idealize.ShloMosaic.Lib.ValueIdxCoords

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open ValueIdx

/-- The kept-axis dimension numbers of the reordering of a sentence's words. -/
abbrev reord := gather_S64x50x32_S32x1_S64x50x32_01_2_n_n_2_1_64501

/-- The reordering read at an index: the operand's last coordinate is the start index of that column. -/
theorem gather_at {α : Type} (x : S64x50x32.Idx → α) (idx : IVec S32x1 32) (b : Fin 64) (w : Fin 50) (j : Fin 32) :
    Host.gather reord x idx (ix3 b w j) = x (ix3 b w ⟨min (idx (ix2 j 0)).toInt.toNat 31, by omega⟩) := by
  unfold Host.gather
  congr 1
  funext a
  refine Fin.ext ?_
  show reord.start (ix3 b w j) idx a + reord.batchCoord (ix3 b w j) a + reord.offCoord (ix3 b w j) a = _
  rw [GatherDims.batchCoord_eq_zero _ _ _ (by exact List.not_mem_nil)]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · unfold GatherDims.start
    rw [dif_neg (by decide)]
    exact Nat.zero_add _
  · unfold GatherDims.start
    rw [dif_neg (by decide)]
    exact Nat.zero_add _
  · rw [GatherDims.offCoord_eq_zero _ _ _ (fun h => ((GatherDims.mem_sKept _ _).mp h).1 (List.mem_singleton.mpr rfl))]
    unfold GatherDims.start
    rw [dif_pos (show (2 : Fin 3) ∈ reord.startIndexMap from List.mem_singleton.mpr rfl)]
    have hsi : reord.siIdx (ix3 b w j) ⟨List.idxOf (2 : Fin 3) reord.startIndexMap,
        List.idxOf_lt_length_iff.2 (List.mem_singleton.mpr rfl)⟩ = ix2 j 0 := by
      funext c; refine Fin.ext ?_
      match c with
      | ⟨0, _⟩ => rfl
      | ⟨1, _⟩ => rfl
    rw [hsi]
    rfl

/-- The sentence a lane half of a row holds. -/
def sent (j : Fin 32) : Fin 32 := ⟨16 * (j.val % 2) + j.val / 2, by omega⟩

theorem lit0_at (j : Fin 32) : min (lit0 j).toInt.toNat 31 = (sent j).val := by
  revert j; decide

/-- The list of indices the gather reads: word by word, the batch's sentences in their lane order. -/
theorem ixs_at (m : (ℓ : Loc nD τ sig) → Buf (Elt F) ℓ) (d : Dev nD) (b : Fin 64) (w : Fin 50) (j : Fin 32) :
    ixs m d (ix1 ⟨(b.val * 50 + w.val) * 32 + j.val, by omega⟩) = m (d, Proc.devRef .tc main_arg0) (ix3 b (sent j) w) := by
  have e : ixs m d = fun i => shapeCast S102400 (Host.gather reord (transpose S64x50x32 [0, 2, 1] (m (d, Proc.devRef .tc main_arg0)) transposes_S64x32x50_S64x50x32_0_2_1)
      (broadcastInDim S32x1 ![0] bcast_S32_S32x1_0 (select (constantI S32 1 0#1) (addi (fun i => lit0 (S32.rowMajor i)) (broadcastInDim S32 ![] bcast_S_S32 (constantI S_ 32 32#32))) (fun i => lit0 (S32.rowMajor i))))) shapeCasts_S64x50x32_S102400 i := rfl
  rw [e]
  show Host.gather _ _ _ (Shape.reshapeEquiv _ _) = _
  rw [Shape.reshapeEquiv_eq_of_rowMajor (y := ix3 b w j) _ (by
    rw [Shape.rowMajor_val_one, Shape.rowMajor_val_three]; rfl), gather_at]
  have hk : min (((broadcastInDim S32x1 ![0] bcast_S32_S32x1_0 (select (constantI S32 1 0#1) (addi (fun i => lit0 (S32.rowMajor i)) (broadcastInDim S32 ![] bcast_S_S32 (constantI S_ 32 32#32))) (fun i => lit0 (S32.rowMajor i))) : IVec S32x1 32) (ix2 j 0)).toInt.toNat) 31 = (sent j).val := by
    rw [← lit0_at j]
    show min ((lit0 (S32.rowMajor _)).toInt.toNat) 31 = _
    have hr : ∀ (y : S32.Idx), (y 0 : Fin 32) = j → S32.rowMajor y = j := fun y hy => Fin.ext ((Shape.rowMajor_val_one y).trans (congrArg Fin.val hy))
    rw [hr _ rfl]
  unfold transpose
  refine congrArg _ (funext fun a => ?_)
  match a with
  | ⟨0, _⟩ => rfl
  | ⟨1, _⟩ => exact Fin.ext hk
  | ⟨2, _⟩ => rfl

theorem ixs_mem (m : (ℓ : Loc nD τ sig) → Buf (Elt F) ℓ) (d : Dev nD) (y : S102400.Idx) : ∃ x, ixs m d y = m (d, Proc.devRef .tc main_arg0) x := by
  have h := (y 0).isLt
  have h' : (y 0).val < 102400 := h
  refine ⟨_, Eq.trans (congrArg (ixs m d) (funext fun a => ?_)) (ixs_at m d ⟨(y 0).val / 1600, by omega⟩ ⟨(y 0).val / 32 % 50, by omega⟩ ⟨(y 0).val % 32, by omega⟩)⟩
  obtain rfl : a = 0 := Subsingleton.elim _ _
  refine Fin.ext ?_
  show (y 0).val = ((y 0).val / 1600 * 50 + (y 0).val / 32 % 50) * 32 + (y 0).val % 32
  omega

end Cert.KernelIdeal.Tile

end
-- ==== Proof.Ideal.Frame.lean ====
/- The arguments end as they were. -/
module

public import proofs.«01_k».proof.Proof.Ideal.Host
public import Idealize.ShloMosaic.Lib.WordCmp
public import Idealize.ShloMosaic.Lib.ReduceAll
public import proofs.«01_k».proof.Proof.Gen.Pre_ids_in_range

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open ValueIdx

/-- A word index the precondition admits lies in the table. -/
theorem word_lt (v : BitVec 32) (h : IntOp.andi (IntOp.cmpi .sge v 0#32) (IntOp.cmpi .slt v 400000#32) = 1#1) : v.toNat < 400000 := by
  rw [show (400000#32 : BitVec 32) = BitVec.ofNat 32 400000 from rfl, WordCmp.andi_sge_zero_slt_ofNat (by decide)] at h
  by_contra hc
  rw [decide_eq_false hc] at h
  exact absurd h (by decide)

/-- The precondition, read at one word index. -/
theorem pre_at {a0 : IVec S64x32x50 32} {a1 : FVec F S400000x50 .f32} {a2 : FVec F S50x50 .f32} {a3 a4 : FVec F S50 .f32} {a5 : FVec F S50x50 .f32} {a6 a7 : FVec F S50 .f32} {a8 : FVec F S50x5 .f32} {a9 : FVec F S5 .f32}
    (h : Cert.Pre_ids_in_range.fn (F := F) a0 a1 a2 a3 a4 a5 a6 a7 a8 a9 = fun _ => 1#1) (x : S64x32x50.Idx) : (a0 x).toNat < 400000 := by
  have e := congrFun h ix0
  haveI : Subsingleton (Cert.Pre_ids_in_range.S_).Idx := ⟨fun a b => funext fun i => i.elim0⟩
  have hand : ∀ p q : BitVec 1, IntOp.andi p q = 1#1 → p = 1#1 ∧ q = 1#1 := by decide
  obtain ⟨h1, h2⟩ := hand _ _ e
  have e1 := Host.reduce_andi_all _ _ _ _ _ h1 x
  have e2 := Host.reduce_andi_all _ _ _ _ _ h2 x
  refine word_lt _ ?_
  exact (congrArg₂ IntOp.andi e1 e2).trans (by decide)

variable (m : (ℓ : Loc nD τ sig) → Buf (Elt F) ℓ)

/-- Every listed index lies in the table when every word index does. -/
theorem ixs_lt (hx : ∀ (d : Dev nD) (x : S64x32x50.Idx), (m (d, Proc.devRef .tc main_arg0) x : BitVec 32).toNat < 400000) (d : Dev nD) (y : S102400.Idx) : (ixs m d y : BitVec 32).toNat < 400000 := by
  obtain ⟨x, e⟩ := ixs_mem m d y
  rw [e]
  exact hx d x

theorem keeps0 (d : Dev nD) (f : Buf (Elt F) (oLoc d)) : val7 m d f (Proc.devRef .tc main_arg0) = m (d, Proc.devRef .tc main_arg0) := by
  refine Eq.trans (b := val6 m d f (Proc.devRef .tc main_arg0)) rfl (Eq.trans (Pipeline.afterRegion_keeps _ _ winFacts2.arr_inj (fun _ => rfl) _ (by decide)) ?_)
  refine Eq.trans (b := val4 m d f (Proc.devRef .tc main_arg0)) rfl (Eq.trans (Pipeline.afterRegion_keeps _ _ winFacts1.arr_inj (fun _ => rfl) _ (by decide)) ?_)
  refine Eq.trans (b := val2 m d f (Proc.devRef .tc main_arg0)) rfl ?_
  exact (Function.update_of_ne (by decide) _ _).trans rfl
theorem keeps1 (d : Dev nD) (f : Buf (Elt F) (oLoc d)) : val7 m d f (Proc.devRef .tc main_arg1) = m (d, Proc.devRef .tc main_arg1) := by
  refine Eq.trans (b := val6 m d f (Proc.devRef .tc main_arg1)) rfl (Eq.trans (Pipeline.afterRegion_keeps _ _ winFacts2.arr_inj (fun _ => rfl) _ (by decide)) ?_)
  refine Eq.trans (b := val4 m d f (Proc.devRef .tc main_arg1)) rfl (Eq.trans (Pipeline.afterRegion_keeps _ _ winFacts1.arr_inj (fun _ => rfl) _ (by decide)) ?_)
  refine Eq.trans (b := val2 m d f (Proc.devRef .tc main_arg1)) rfl ?_
  exact (Function.update_of_ne (by decide) _ _).trans rfl
theorem keeps2 (d : Dev nD) (f : Buf (Elt F) (oLoc d)) : val7 m d f (Proc.devRef .tc main_arg2) = m (d, Proc.devRef .tc main_arg2) := by
  refine Eq.trans (b := val6 m d f (Proc.devRef .tc main_arg2)) rfl (Eq.trans (Pipeline.afterRegion_keeps _ _ winFacts2.arr_inj (fun _ => rfl) _ (by decide)) ?_)
  refine Eq.trans (b := val4 m d f (Proc.devRef .tc main_arg2)) rfl (Eq.trans (Pipeline.afterRegion_keeps _ _ winFacts1.arr_inj (fun _ => rfl) _ (by decide)) ?_)
  refine Eq.trans (b := val2 m d f (Proc.devRef .tc main_arg2)) rfl ?_
  exact (Function.update_of_ne (by decide) _ _).trans rfl
theorem keeps3 (d : Dev nD) (f : Buf (Elt F) (oLoc d)) : val7 m d f (Proc.devRef .tc main_arg3) = m (d, Proc.devRef .tc main_arg3) := by
  refine Eq.trans (b := val6 m d f (Proc.devRef .tc main_arg3)) rfl (Eq.trans (Pipeline.afterRegion_keeps _ _ winFacts2.arr_inj (fun _ => rfl) _ (by decide)) ?_)
  refine Eq.trans (b := val4 m d f (Proc.devRef .tc main_arg3)) rfl (Eq.trans (Pipeline.afterRegion_keeps _ _ winFacts1.arr_inj (fun _ => rfl) _ (by decide)) ?_)
  refine Eq.trans (b := val2 m d f (Proc.devRef .tc main_arg3)) rfl ?_
  exact (Function.update_of_ne (by decide) _ _).trans rfl
theorem keeps4 (d : Dev nD) (f : Buf (Elt F) (oLoc d)) : val7 m d f (Proc.devRef .tc main_arg4) = m (d, Proc.devRef .tc main_arg4) := by
  refine Eq.trans (b := val6 m d f (Proc.devRef .tc main_arg4)) rfl (Eq.trans (Pipeline.afterRegion_keeps _ _ winFacts2.arr_inj (fun _ => rfl) _ (by decide)) ?_)
  refine Eq.trans (b := val4 m d f (Proc.devRef .tc main_arg4)) rfl (Eq.trans (Pipeline.afterRegion_keeps _ _ winFacts1.arr_inj (fun _ => rfl) _ (by decide)) ?_)
  refine Eq.trans (b := val2 m d f (Proc.devRef .tc main_arg4)) rfl ?_
  exact (Function.update_of_ne (by decide) _ _).trans rfl
theorem keeps5 (d : Dev nD) (f : Buf (Elt F) (oLoc d)) : val7 m d f (Proc.devRef .tc main_arg5) = m (d, Proc.devRef .tc main_arg5) := by
  refine Eq.trans (b := val6 m d f (Proc.devRef .tc main_arg5)) rfl (Eq.trans (Pipeline.afterRegion_keeps _ _ winFacts2.arr_inj (fun _ => rfl) _ (by decide)) ?_)
  refine Eq.trans (b := val4 m d f (Proc.devRef .tc main_arg5)) rfl (Eq.trans (Pipeline.afterRegion_keeps _ _ winFacts1.arr_inj (fun _ => rfl) _ (by decide)) ?_)
  refine Eq.trans (b := val2 m d f (Proc.devRef .tc main_arg5)) rfl ?_
  exact (Function.update_of_ne (by decide) _ _).trans rfl
theorem keeps6 (d : Dev nD) (f : Buf (Elt F) (oLoc d)) : val7 m d f (Proc.devRef .tc main_arg6) = m (d, Proc.devRef .tc main_arg6) := by
  refine Eq.trans (b := val6 m d f (Proc.devRef .tc main_arg6)) rfl (Eq.trans (Pipeline.afterRegion_keeps _ _ winFacts2.arr_inj (fun _ => rfl) _ (by decide)) ?_)
  refine Eq.trans (b := val4 m d f (Proc.devRef .tc main_arg6)) rfl (Eq.trans (Pipeline.afterRegion_keeps _ _ winFacts1.arr_inj (fun _ => rfl) _ (by decide)) ?_)
  refine Eq.trans (b := val2 m d f (Proc.devRef .tc main_arg6)) rfl ?_
  exact (Function.update_of_ne (by decide) _ _).trans rfl
theorem keeps7 (d : Dev nD) (f : Buf (Elt F) (oLoc d)) : val7 m d f (Proc.devRef .tc main_arg7) = m (d, Proc.devRef .tc main_arg7) := by
  refine Eq.trans (b := val6 m d f (Proc.devRef .tc main_arg7)) rfl (Eq.trans (Pipeline.afterRegion_keeps _ _ winFacts2.arr_inj (fun _ => rfl) _ (by decide)) ?_)
  refine Eq.trans (b := val4 m d f (Proc.devRef .tc main_arg7)) rfl (Eq.trans (Pipeline.afterRegion_keeps _ _ winFacts1.arr_inj (fun _ => rfl) _ (by decide)) ?_)
  refine Eq.trans (b := val2 m d f (Proc.devRef .tc main_arg7)) rfl ?_
  exact (Function.update_of_ne (by decide) _ _).trans rfl
theorem keeps8 (d : Dev nD) (f : Buf (Elt F) (oLoc d)) : val7 m d f (Proc.devRef .tc main_arg8) = m (d, Proc.devRef .tc main_arg8) := by
  refine Eq.trans (b := val6 m d f (Proc.devRef .tc main_arg8)) rfl (Eq.trans (Pipeline.afterRegion_keeps _ _ winFacts2.arr_inj (fun _ => rfl) _ (by decide)) ?_)
  refine Eq.trans (b := val4 m d f (Proc.devRef .tc main_arg8)) rfl (Eq.trans (Pipeline.afterRegion_keeps _ _ winFacts1.arr_inj (fun _ => rfl) _ (by decide)) ?_)
  refine Eq.trans (b := val2 m d f (Proc.devRef .tc main_arg8)) rfl ?_
  exact (Function.update_of_ne (by decide) _ _).trans rfl
theorem keeps9 (d : Dev nD) (f : Buf (Elt F) (oLoc d)) : val7 m d f (Proc.devRef .tc main_arg9) = m (d, Proc.devRef .tc main_arg9) := by
  refine Eq.trans (b := val6 m d f (Proc.devRef .tc main_arg9)) rfl (Eq.trans (Pipeline.afterRegion_keeps _ _ winFacts2.arr_inj (fun _ => rfl) _ (by decide)) ?_)
  refine Eq.trans (b := val4 m d f (Proc.devRef .tc main_arg9)) rfl (Eq.trans (Pipeline.afterRegion_keeps _ _ winFacts1.arr_inj (fun _ => rfl) _ (by decide)) ?_)
  refine Eq.trans (b := val2 m d f (Proc.devRef .tc main_arg9)) rfl ?_
  exact (Function.update_of_ne (by decide) _ _).trans rfl

/-- The program's run leaves its arguments and its semaphores as they were. -/
theorem run_frame [∀ e, Nonempty (Elt F e)] (ρ : Dev nD → PrngReg)
    (hx : ∀ (d : Dev nD) (x : S64x32x50.Idx), (m (d, Proc.devRef .tc main_arg0) x : BitVec 32).toNat < 400000) :
    θ_run (defs (F := F)) (threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run _ _ _).mono (fun r h => ⟨fun c => by
    obtain ⟨f, hf, hv⟩ := h.1 c
    exact ⟨(hv _ (show Proc.devRef .tc main_arg0 ∈ Pipeline.ucRefs τ sig by decide)).trans (keeps0 m c f), (hv _ (show Proc.devRef .tc main_arg1 ∈ Pipeline.ucRefs τ sig by decide)).trans (keeps1 m c f), (hv _ (show Proc.devRef .tc main_arg2 ∈ Pipeline.ucRefs τ sig by decide)).trans (keeps2 m c f), (hv _ (show Proc.devRef .tc main_arg3 ∈ Pipeline.ucRefs τ sig by decide)).trans (keeps3 m c f), (hv _ (show Proc.devRef .tc main_arg4 ∈ Pipeline.ucRefs τ sig by decide)).trans (keeps4 m c f), (hv _ (show Proc.devRef .tc main_arg5 ∈ Pipeline.ucRefs τ sig by decide)).trans (keeps5 m c f), (hv _ (show Proc.devRef .tc main_arg6 ∈ Pipeline.ucRefs τ sig by decide)).trans (keeps6 m c f), (hv _ (show Proc.devRef .tc main_arg7 ∈ Pipeline.ucRefs τ sig by decide)).trans (keeps7 m c f), (hv _ (show Proc.devRef .tc main_arg8 ∈ Pipeline.ucRefs τ sig by decide)).trans (keeps8 m c f), (hv _ (show Proc.devRef .tc main_arg9 ∈ Pipeline.ucRefs τ sig by decide)).trans (keeps9 m c f)⟩, h.2⟩) (run_main m ρ (ixs_lt m hx))

end Cert.KernelIdeal.Tile

end
-- ==== Proof.Frames.lean ====
/- The three programs run, leave their arguments unchanged and end with every semaphore at zero. -/
module

public import proofs.«01_k».proof.Defs
public import proofs.«01_k».proof.Proof.Ideal.Frame
public import proofs.«01_k».proof.Proof.Bits.Frame
public import proofs.«01_k».proof.Proof.Gen.ReferenceIdeal.Run
public import proofs.«01_k».proof.Proof.Gen.Pre_ids_in_range
public import Idealize.ShloMosaic.Adequacy
public import Idealize.ShloMosaic.Init

@[expose] public section

noncomputable section

namespace Cert.Proof

open Idealize.ShloMosaic Idealize.SL.Sem

/-- The kernel on the machine's words. -/
theorem frame_kernel : Cert.quiescent_Kernel := fun m ρ hpre =>
  Cert.Kernel.Tile.run_frame (F := Bits) m ρ fun d x => Cert.Kernel.Tile.pre_at (hpre d) x

/-- The kernel at the ideal instance. -/
theorem frame_ideal : Cert.quiescent_KernelIdeal := fun m ρ hpre =>
  Cert.KernelIdeal.Tile.run_frame (F := Ideal) m ρ fun d x => Cert.KernelIdeal.Tile.pre_at (hpre d) x

/-- The reference. -/
theorem frame_reference : Cert.quiescent_ReferenceIdeal := fun m ρ _ =>
  (θ_run _ _ _).mono (fun r h => ⟨fun c => (h c).2.2.2, Idealize.ShloMosaic.sem_eq_zero_of_no_sems (by decide) r.2⟩)
    (Cert.ReferenceIdeal.Value.run m ρ)

end Cert.Proof

end
-- ==== Proof.Value.Math.lean ====
/- What the program computes of its arrays, in plain extended reals. -/
module

public import Idealize.ShloMosaic.PureOps.Ideal
public import Idealize.ShloMosaic.PureOps.Ideal.Laws

@[expose] public section

noncomputable section

namespace Cert.Plain

open Idealize.ShloMosaic

/-- One vector's score: a hidden layer with `tanh`, and its product with a context vector. -/
def score (e : Fin 50 → EReal) (w : Fin 50 → Fin 50 → EReal) (b u : Fin 50 → EReal) : EReal :=
  ∑ h, Ideal.tanh ((∑ k, e k * w k h) + b h) * u h

/-- The largest of finitely many. -/
def top {n : ℕ} (s : Fin n → EReal) : EReal := Finset.univ.fold max ⊥ s

/-- The weights of a softmax. -/
def softmax {n : ℕ} (s : Fin n → EReal) (i : Fin n) : EReal :=
  Ideal.div (Ideal.exp (s i - top s)) (∑ j, Ideal.exp (s j - top s))

/-- A weighted sum of vectors. -/
def mix {n : ℕ} (a : Fin n → EReal) (e : Fin n → Fin 50 → EReal) (k : Fin 50) : EReal := ∑ i, a i * e i k

/-- A linear layer into five classes. -/
def classes (v : Fin 50 → EReal) (w : Fin 50 → Fin 5 → EReal) (b : Fin 5 → EReal) (c : Fin 5) : EReal := (∑ k, v k * w k c) + b c

theorem neg_inf : Ideal.ofBits .f32 0xFF800000#32 = ⊥ := by
  show Ideal.ieee 8 23 0xFF800000#32 = ⊥
  unfold Ideal.ieee
  simp only []
  rw [if_pos (by decide), if_pos (by decide), if_pos (by decide)]

theorem top_bot {n : ℕ} (s : Fin n → EReal) : max ⊥ (Finset.univ.fold max ⊥ s) = top s := bot_sup_eq _

end Cert.Plain

end
-- ==== Proof.Value.Ref.lean ====
/- The reference's results, stage by stage, read at an index. -/
module

public import proofs.«01_k».proof.Proof.Gen.ReferenceIdeal.Run
public import proofs.«01_k».proof.Proof.Value.Math
public import Idealize.ShloMosaic.Lib.Pointwise
public import Idealize.ShloMosaic.Lib.ReduceAll
public import Idealize.ShloMosaic.Lib.WordCmp

@[expose] public section

noncomputable section

namespace Cert.ReferenceIdeal.Stage

open Cert.ReferenceIdeal Cert.ReferenceIdeal.Gen Idealize.ShloMosaic
open Cert.Plain

/-- The word indices as the lookup starts from them. -/
def wrapped (a0 : IVec S64x32x50 32) : IVec S64x32x50x1 32 :=
  broadcastInDim S64x32x50x1 ![0, 1, 2] bcast_S64x32x50_S64x32x50x1_0_1_2 (select (cmpi .slt a0 (broadcastInDim S64x32x50 ![] bcast_S_S64x32x50 (constantI S_ 32 0#32))) (addi a0 (broadcastInDim S64x32x50 ![] bcast_S_S64x32x50 (constantI S_ 32 400000#32))) a0)

/-- Which of them name a row. -/
def named (a0 : IVec S64x32x50 32) : IVec S64x32x50 1 :=
  Host.reduce IntOp.andi (andi (cmpi .sge (wrapped a0) (broadcastInDim S64x32x50x1 ![] bcast_S_S64x32x50x1 (constantI S_ 32 0#32))) (cmpi .sle (wrapped a0) (broadcastInDim S64x32x50x1 ![0, 1, 2, 3] bcast_S1x1x1x1_S64x32x50x1_0_1_2_3 (broadcastInDim S1x1x1x1 ![3] bcast_S1_S1x1x1x1_3 (constantI S1 32 399999#32))))) (constantI S_ 1 1#1) reducesTo_S64x32x50x1_S64x32x50_d3 h_S_

/-- The word vectors. -/
def words (a0 : IVec S64x32x50 32) (a1 : FVec Ideal S400000x50 .f32) : FVec Ideal S64x32x50x50 .f32 :=
  select (broadcastInDim S64x32x50x50 ![0, 1, 2] bcast_S64x32x50_S64x32x50x50_0_1_2 (named a0)) (Host.gather gather_S400000x50_S64x32x50x1_S64x32x50x50_3_0_n_n_0_3_150 a1 (wrapped a0)) (broadcastInDim S64x32x50x50 ![] bcast_S_S64x32x50x50 (constant S_ .f32 0x7FC00000#32))

/-- The words' scores. -/
def wscores (e : FVec Ideal S64x32x50x50 .f32) (w : FVec Ideal S50x50 .f32) (b u : FVec Ideal S50 .f32) : FVec Ideal S64x32x50 .f32 :=
  Host.dotGeneral dot_S64x32x50x50_S50_S64x32x50_3_0_012_n_n_n none (Host.tanh (addf (Host.dotGeneral dot_S64x32x50x50_S50x50_S64x32x50x50_3_0_012_1_n_n none e w) (broadcastInDim S64x32x50x50 ![0, 1, 2, 3] bcast_S1x1x1x50_S64x32x50x50_0_1_2_3 (broadcastInDim S1x1x1x50 ![3] bcast_S50_S1x1x1x50_3 b)))) u

/-- The exponentials of the words' softmax. -/
def wexp (s : FVec Ideal S64x32x50 .f32) : FVec Ideal S64x32x50 .f32 :=
  Host.exp (subf s (broadcastInDim S64x32x50 ![0, 1, 2] bcast_S64x32x1_S64x32x50_0_1_2 (broadcastInDim S64x32x1 ![0, 1] bcast_S64x32_S64x32x1_0_1 (maximumf (broadcastInDim S64x32 ![] bcast_S_S64x32 (constant S_ .f32 0xFF800000#32)) (Host.reduce FloatOps.maximumf s (constant S_ .f32 0xFF800000#32) reducesTo_S64x32x50_S64x32_d2 h_S_)))))

/-- The words' weights. -/
def wattn (s : FVec Ideal S64x32x50 .f32) : FVec Ideal S64x32x50 .f32 :=
  Host.divf (wexp s) (broadcastInDim S64x32x50 ![0, 1, 2] bcast_S64x32x1_S64x32x50_0_1_2 (broadcastInDim S64x32x1 ![0, 1] bcast_S64x32_S64x32x1_0_1 (Host.reduceAdd (wexp s) (constant S_ .f32 0x00000000#32) reducesTo_S64x32x50_S64x32_d2 h_S_)))

/-- The sentence vectors. -/
def sents (a : FVec Ideal S64x32x50 .f32) (e : FVec Ideal S64x32x50x50 .f32) : FVec Ideal S64x32x50 .f32 :=
  Host.dotGeneral dot_S64x32x50_S64x32x50x50_S64x32x50_2_2_n_3_01_01 none a e

/-- The sentences' scores. -/
def sscores (v : FVec Ideal S64x32x50 .f32) (w : FVec Ideal S50x50 .f32) (b u : FVec Ideal S50 .f32) : FVec Ideal S64x32 .f32 :=
  Host.dotGeneral dot_S64x32x50_S50_S64x32_2_0_01_n_n_n none (Host.tanh (addf (Host.dotGeneral dot_S64x32x50_S50x50_S64x32x50_2_0_01_1_n_n none v w) (broadcastInDim S64x32x50 ![0, 1, 2] bcast_S1x1x50_S64x32x50_0_1_2 (broadcastInDim S1x1x50 ![2] bcast_S50_S1x1x50_2 b)))) u

/-- The exponentials of the sentences' softmax. -/
def sexp (s : FVec Ideal S64x32 .f32) : FVec Ideal S64x32 .f32 :=
  Host.exp (subf s (broadcastInDim S64x32 ![0, 1] bcast_S64x1_S64x32_0_1 (broadcastInDim S64x1 ![0] bcast_S64_S64x1_0 (maximumf (broadcastInDim S64 ![] bcast_S_S64 (constant S_ .f32 0xFF800000#32)) (Host.reduce FloatOps.maximumf s (constant S_ .f32 0xFF800000#32) reducesTo_S64x32_S64_d1 h_S_)))))

/-- The sentences' weights. -/
def sattn (s : FVec Ideal S64x32 .f32) : FVec Ideal S64x32 .f32 :=
  Host.divf (sexp s) (broadcastInDim S64x32 ![0, 1] bcast_S64x1_S64x32_0_1 (broadcastInDim S64x1 ![0] bcast_S64_S64x1_0 (Host.reduceAdd (sexp s) (constant S_ .f32 0x00000000#32) reducesTo_S64x32_S64_d1 h_S_)))

/-- The classes' scores. -/
def outs (a : FVec Ideal S64x32 .f32) (v : FVec Ideal S64x32x50 .f32) (w : FVec Ideal S50x5 .f32) (b : FVec Ideal S5 .f32) : FVec Ideal S64x5 .f32 :=
  addf (Host.dotGeneral dot_S64x50_S50x5_S64x5_1_0_0_1_n_n none (Host.dotGeneral dot_S64x32_S64x32x50_S64x50_1_1_n_2_0_0 none a v) w) (broadcastInDim S64x5 ![0, 1] bcast_S1x5_S64x5_0_1 (broadcastInDim S1x5 ![1] bcast_S5_S1x5_1 b))

section Arrays

variable (m : (ℓ : Loc nD τ sig) → Buf (Elt Ideal) ℓ) (c : Dev nD)

abbrev a0 : IVec S64x32x50 32 := m ((c.tc : Thread nD τ).loc main_arg0)
abbrev a1 : FVec Ideal S400000x50 .f32 := m ((c.tc : Thread nD τ).loc main_arg1)
abbrev a2 : FVec Ideal S50x50 .f32 := m ((c.tc : Thread nD τ).loc main_arg2)
abbrev a3 : FVec Ideal S50 .f32 := m ((c.tc : Thread nD τ).loc main_arg3)
abbrev a4 : FVec Ideal S50 .f32 := m ((c.tc : Thread nD τ).loc main_arg4)
abbrev a5 : FVec Ideal S50x50 .f32 := m ((c.tc : Thread nD τ).loc main_arg5)
abbrev a6 : FVec Ideal S50 .f32 := m ((c.tc : Thread nD τ).loc main_arg6)
abbrev a7 : FVec Ideal S50 .f32 := m ((c.tc : Thread nD τ).loc main_arg7)
abbrev a8 : FVec Ideal S50x5 .f32 := m ((c.tc : Thread nD τ).loc main_arg8)
abbrev a9 : FVec Ideal S5 .f32 := m ((c.tc : Thread nD τ).loc main_arg9)

/-- The word vectors of the run. -/
abbrev Wd : FVec Ideal S64x32x50x50 .f32 := words (a0 m c) (a1 m c)
/-- Its words' weights. -/
abbrev Wa : FVec Ideal S64x32x50 .f32 := wattn (wscores (Wd m c) (a2 m c) (a3 m c) (a4 m c))
/-- Its sentence vectors. -/
abbrev Sv : FVec Ideal S64x32x50 .f32 := sents (Wa m c) (Wd m c)
/-- Its sentences' weights. -/
abbrev Sa : FVec Ideal S64x32 .f32 := sattn (sscores (Sv m c) (a5 m c) (a6 m c) (a7 m c))

set_option maxRecDepth 8192 in
theorem res1 : Value.res_main_v17 (F := Ideal) m c = Wa m c := rfl
set_option maxRecDepth 8192 in
theorem res2 : Value.res_main_v35 (F := Ideal) m c = Sa m c := rfl
set_option maxRecDepth 8192 in
theorem res0 : Value.res_main_v40 (F := Ideal) m c = outs (Sa m c) (Sv m c) (a8 m c) (a9 m c) := rfl

end Arrays

theorem wscores_at (e : FVec Ideal S64x32x50x50 .f32) (w : FVec Ideal S50x50 .f32) (b u : FVec Ideal S50 .f32) (d : Fin 64) (s : Fin 32) (i : Fin 50) :
    wscores e w b u (ix3 d s i) = score (fun k => e (ix4 d s i k)) (fun k h => w (ix2 k h)) (fun h => b (ix1 h)) (fun h => u (ix1 h)) := by
  pointwise [wscores, score]

theorem wattn_at (s : FVec Ideal S64x32x50 .f32) (d : Fin 64) (r : Fin 32) (i : Fin 50) :
    wattn s (ix3 d r i) = softmax (fun j => s (ix3 d r j)) i := by
  pointwise [wattn, wexp, softmax, neg_inf, top_bot]

theorem sents_at (a : FVec Ideal S64x32x50 .f32) (e : FVec Ideal S64x32x50x50 .f32) (d : Fin 64) (s : Fin 32) (k : Fin 50) :
    sents a e (ix3 d s k) = mix (fun i => a (ix3 d s i)) (fun i k => e (ix4 d s i k)) k := by
  pointwise [sents, mix]

theorem sscores_at (v : FVec Ideal S64x32x50 .f32) (w : FVec Ideal S50x50 .f32) (b u : FVec Ideal S50 .f32) (d : Fin 64) (s : Fin 32) :
    sscores v w b u (ix2 d s) = score (fun k => v (ix3 d s k)) (fun k h => w (ix2 k h)) (fun h => b (ix1 h)) (fun h => u (ix1 h)) := by
  pointwise [sscores, score]

theorem sattn_at (s : FVec Ideal S64x32 .f32) (d : Fin 64) (r : Fin 32) :
    sattn s (ix2 d r) = softmax (fun j => s (ix2 d j)) r := by
  pointwise [sattn, sexp, softmax, neg_inf, top_bot]

theorem outs_at (a : FVec Ideal S64x32 .f32) (v : FVec Ideal S64x32x50 .f32) (w : FVec Ideal S50x5 .f32) (b : FVec Ideal S5 .f32) (d : Fin 64) (k : Fin 5) :
    outs a v w b (ix2 d k) = classes (mix (fun s => a (ix2 d s)) (fun s k => v (ix3 d s k))) (fun k c => w (ix2 k c)) (fun c => b (ix1 c)) k := by
  pointwise [outs, classes, mix]

/-- The lookup's dimension numbers. -/
abbrev rows := gather_S400000x50_S64x32x50x1_S64x32x50x50_3_0_n_n_0_3_150

/-- The lookup read at an index: the named row's entry. -/
theorem gather_at (x : FVec Ideal S400000x50 .f32) (idx : IVec S64x32x50x1 32) (d : Fin 64) (s : Fin 32) (i k : Fin 50) :
    Host.gather rows x idx (ix4 d s i k) = x (ix2 ⟨min (idx (ix4 d s i 0)).toInt.toNat 399999, by omega⟩ k) := by
  unfold Host.gather
  congr 1
  funext a
  refine Fin.ext ?_
  show rows.start (ix4 d s i k) idx a + rows.batchCoord (ix4 d s i k) a + rows.offCoord (ix4 d s i k) a = _
  rw [GatherDims.batchCoord_eq_zero _ _ _ (by exact List.not_mem_nil)]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ rows.startIndexMap from List.mem_singleton.mpr rfl)]
    have hsi : rows.siIdx (ix4 d s i k) ⟨List.idxOf (0 : Fin 2) rows.startIndexMap,
        List.idxOf_lt_length_iff.2 (List.mem_singleton.mpr rfl)⟩ = ix4 d s i 0 := by
      funext c; refine Fin.ext ?_
      match c with
      | ⟨0, _⟩ => rfl
      | ⟨1, _⟩ => rfl
      | ⟨2, _⟩ => rfl
      | ⟨3, _⟩ => rfl
    rw [hsi]
    rfl
  · unfold GatherDims.start
    rw [dif_neg (by decide)]
    exact Nat.zero_add _

/-- An index that names a row is not wrapped. -/
theorem wrapped_at (a0 : IVec S64x32x50 32) (h : ∀ x, (a0 x).toNat < 400000) (d : Fin 64) (s : Fin 32) (i : Fin 50) (j : Fin 1) :
    wrapped a0 (ix4 d s i j) = a0 (ix3 d s i) := by
  have e : wrapped a0 (ix4 d s i j) = Scalar.select (IntOp.cmpi .slt (a0 (ix3 d s i)) 0#32) (IntOp.addi (a0 (ix3 d s i)) 400000#32) (a0 (ix3 d s i)) := by
    pointwise [wrapped]
  have hs := h (ix3 d s i)
  rw [e, WordCmp.cmpi_slt_zero]
  refine WordCmp.select_of_eq_zero ?_ _ _
  rw [WordCmp.ofBool_decide_eq_zero_iff]
  omega

/-- The lookup reads the row that the index names, when it names one. -/
theorem words_at (a0 : IVec S64x32x50 32) (a1 : FVec Ideal S400000x50 .f32) (h : ∀ x, (a0 x).toNat < 400000) (d : Fin 64) (s : Fin 32) (i k : Fin 50) :
    words a0 a1 (ix4 d s i k) = a1 (ix2 ⟨(a0 (ix3 d s i)).toNat, h _⟩ k) := by
  have hn : ∀ y, named a0 y = 1#1 := fun y => by
    refine Host.reduce_andi_one _ _ _ _ _ rfl fun x => ?_
    obtain ⟨p, q, r, t, rfl⟩ : ∃ p q r t, x = ix4 p q r t := ⟨x 0, x 1, x 2, x 3, eq_ix4 x⟩
    show IntOp.andi (IntOp.cmpi .sge (wrapped a0 (ix4 p q r t)) 0#32) (IntOp.cmpi .sle (wrapped a0 (ix4 p q r t)) 399999#32) = 1#1
    have hs := h (ix3 p q r)
    rw [wrapped_at a0 h, WordCmp.cmpi_sge_zero, WordCmp.cmpi_sle_of_lt (by omega) (by decide), WordCmp.andi_ofBool, WordCmp.ofBool_eq_one_iff, Bool.and_eq_true, decide_eq_true_eq, decide_eq_true_eq]
    exact ⟨by omega, by show _ ≤ 399999; omega⟩
  have hs := h (ix3 d s i)
  unfold words
  rw [WordCmp.select_at]
  refine (WordCmp.select_of_eq_one (hn _) _ _).trans ((gather_at a1 (wrapped a0) d s i k).trans ?_)
  congr 2
  refine Fin.ext ?_
  show min (wrapped a0 (ix4 d s i 0)).toInt.toNat 399999 = (a0 (ix3 d s i)).toNat
  rw [wrapped_at a0 h, WordCmp.toInt_eq_toNat_of_lt_half (by omega)]
  omega

end Cert.ReferenceIdeal.Stage

end
-- ==== Proof.Value.Pay.lean ====
/- What the two kernels store, read at an index. -/
module

public import proofs.«01_k».proof.Proof.Ideal.Bodies
public import proofs.«01_k».proof.Proof.Value.Math
public import Idealize.ShloMosaic.Lib.Pointwise

@[expose] public section

noncomputable section

namespace Cert.KernelIdeal.Tile

open Cert.KernelIdeal Cert.KernelIdeal.Gen Idealize.ShloMosaic
open Cert.Plain

theorem at10_at (x0 : Vec Ideal S1x32x50 .f32) (s : Fin 32) (i : Fin 50) :
    at10 (F := Ideal) x0 (ix2 s i) = softmax (fun j => x0 (ix3 0 s j)) i := by
  pointwise [at10, k2_pay4, softmax, top, neg_inf]

theorem wa_at (x0 : Vec Ideal S1x32x50 .f32) (s : Fin 32) (i : Fin 50) :
    k2_pay5 (F := Ideal) x0 (ix3 0 s i) = softmax (fun j => x0 (ix3 0 s j)) i := by
  rw [← at10_at]
  pointwise [k2_pay5, at10]

theorem em15_at (x1 : Vec Ideal S1x800x128 .f32) (r : Fin 800) (l : Fin 128) :
    em15 (F := Ideal) x1 (ix2 r l) = x1 (ix3 0 r l) := by
  pointwise [em15, k2_pay6]

theorem hu_at (x0 : Vec Ideal S1x32x50 .f32) (x1 : Vec Ideal S1x800x128 .f32) (x2 : Vec Ideal S50x50 .f32) (x3 : Vec Ideal S1x50 .f32) (s : Fin 32) (h : Fin 50) :
    huOf (F := Ideal) x0 x1 x2 x3 (ix2 s h) = Ideal.tanh ((∑ k, svOf (F := Ideal) x0 x1 (ix2 s k) * x2 (ix2 k h)) + x3 (ix2 0 h)) := by
  pointwise [huOf, k2_pay85, svOf]

theorem sa1_at (hu : FVec Ideal S32x50 .f32) (u : FVec Ideal S1x50 .f32) (s : Fin 32) :
    k2_pay1 (F := Ideal) hu u (ix2 s 0) = softmax (fun j => ∑ h, hu (ix2 j h) * u (ix2 0 h)) s := by
  pointwise [k2_pay1, softmax, top, neg_inf]
  have hc : (Finset.univ : Finset (Fin 32 × Fin 1)).fold max ⊥ (fun x => ∑ h, hu (ix2 x.1 h) * u (ix2 0 h))
      = Finset.univ.fold max ⊥ (fun j : Fin 32 => ∑ h, hu (ix2 j h) * u (ix2 0 h)) := by
    have e : (Finset.univ : Finset (Fin 32 × Fin 1)) = Finset.univ.map (Equiv.prodUnique (Fin 32) (Fin 1)).symm.toEmbedding := by
      rw [Finset.map_univ_equiv]
    rw [e, Finset.fold_map]
    rfl
  simp only [Fin.sum_univ_one, Finset.univ_unique, Finset.sum_singleton]
  rw [← hc]

theorem sa2_at (hu : FVec Ideal S32x50 .f32) (u : FVec Ideal S1x50 .f32) (s : Fin 32) :
    k2_pay2 (F := Ideal) hu u (ix3 0 s 0) = k2_pay1 (F := Ideal) hu u (ix2 s 0) := by
  pointwise [k2_pay2]

theorem u_at (u : FVec Ideal S1x50 .f32) (h : Fin 50) : k2_pay86 (F := Ideal) u (ix2 0 h) = u (ix2 0 h) := by
  pointwise [k2_pay86]

theorem cl3_at (sv hu : FVec Ideal S32x50 .f32) (u : FVec Ideal S1x50 .f32) (w : Vec Ideal S50x5 .f32) (b : Vec Ideal S1x5 .f32) (c : Fin 5) :
    k2_pay3 (F := Ideal) sv hu u w b (ix3 0 0 c) = (∑ k, (∑ s, sv (ix2 s k) * k2_pay1 (F := Ideal) hu u (ix2 s 0)) * w (ix2 k c)) + b (ix2 0 c) := by
  pointwise [k2_pay3]

theorem ws_at (x : Vec Ideal S3200x128 .f32) (w : Vec Ideal S50x50 .f32) (b u : Vec Ideal S1x50 .f32) (r : Fin 3200) (h : Fin 2) :
    k1_pay1 (F := Ideal) x w b u (ix2 r h) = score (fun k => x (ix2 r ⟨64 * h.val + k.val, by omega⟩)) (fun k h => w (ix2 k h)) (fun h => b (ix2 0 h)) (fun h => u (ix2 0 h)) := by
  obtain rfl | rfl : h = 0 ∨ h = 1 := by omega
  · pointwise [k1_pay1, score]
  · pointwise [k1_pay1, score]

end Cert.KernelIdeal.Tile

end
-- ==== Proof.Value.Sums.lean ====
/- The weighted sums of the gathered words, read at an index. -/
module

public import proofs.«01_k».proof.Proof.Ideal.Bodies
public import proofs.«01_k».proof.Proof.Value.Math
public import Idealize.ShloMosaic.Lib.Pointwise

@[expose] public section

noncomputable section

namespace Cert.KernelIdeal.Tile

open Cert.KernelIdeal Cert.KernelIdeal.Gen Idealize.ShloMosaic
open Cert.Plain

theorem sum50 (f : Fin 50 → EReal) : ∑ w, f w = f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 + f 31 + f 32 + f 33 + f 34 + f 35 + f 36 + f 37 + f 38 + f 39 + f 40 + f 41 + f 42 + f 43 + f 44 + f 45 + f 46 + f 47 + f 48 + f 49 := by
  rw [Finset.sum_fin_eq_sum_range]
  simp only [Finset.sum_range_succ, Finset.sum_range_zero, zero_add]
  rfl

theorem sv_lo (x0 : Vec Ideal S1x32x50 .f32) (x1 : Vec Ideal S1x800x128 .f32) (r : Fin 16) (k : Fin 50) :
    svOf (F := Ideal) x0 x1 (ix2 ⟨r.val, by omega⟩ k)
      = ∑ w : Fin 50, x1 (ix3 0 ⟨16 * w.val + r.val, by omega⟩ ⟨k.val, by omega⟩) * at10 (F := Ideal) x0 (ix2 ⟨r.val, by omega⟩ w) := by
  rw [sum50]
  pointwise [svOf, d34, d39, d40, d44, d94, d100, d104, d155, d160, d161, d162, d164, d215, d221, d222, d224, d276, d281, d282, d283, d284, d336, d342, d343, d344, d397, d402, d403, d404, d457, d463, d464, d518, d523, d524, k2_pay84, at10, em15, k2_pay6, k2_pay7, k2_pay8, k2_pay9, k2_pay10, k2_pay11, k2_pay12, k2_pay13, k2_pay14, k2_pay15, k2_pay16, k2_pay17, k2_pay18, k2_pay19, k2_pay20, k2_pay21, k2_pay22, k2_pay23, k2_pay24, k2_pay25, k2_pay26, k2_pay27, k2_pay28, k2_pay29, k2_pay30, k2_pay31, k2_pay32, k2_pay33, k2_pay34, k2_pay35, k2_pay36, k2_pay37, k2_pay38, k2_pay39, k2_pay40, k2_pay41, k2_pay42, k2_pay43, k2_pay44, k2_pay45, k2_pay46, k2_pay47, k2_pay48, k2_pay49, k2_pay50, k2_pay51, k2_pay52, k2_pay53, k2_pay54, k2_pay55, k2_pay56, k2_pay57, k2_pay58, k2_pay59, k2_pay60, k2_pay61, k2_pay62, k2_pay63, k2_pay64, k2_pay65, k2_pay66, k2_pay67, k2_pay68, k2_pay69, k2_pay70, k2_pay71, k2_pay72, k2_pay73, k2_pay74, k2_pay75, k2_pay76, k2_pay77, k2_pay78, k2_pay79, k2_pay80, k2_pay81, k2_pay82, k2_pay83]

theorem sv_hi (x0 : Vec Ideal S1x32x50 .f32) (x1 : Vec Ideal S1x800x128 .f32) (r : Fin 16) (k : Fin 50) :
    svOf (F := Ideal) x0 x1 (ix2 ⟨16 + r.val, by omega⟩ k)
      = ∑ w : Fin 50, x1 (ix3 0 ⟨16 * w.val + r.val, by omega⟩ ⟨64 + k.val, by omega⟩) * at10 (F := Ideal) x0 (ix2 ⟨16 + r.val, by omega⟩ w) := by
  rw [sum50]
  pointwise [svOf, d34, d39, d40, d44, d94, d100, d104, d155, d160, d161, d162, d164, d215, d221, d222, d224, d276, d281, d282, d283, d284, d336, d342, d343, d344, d397, d402, d403, d404, d457, d463, d464, d518, d523, d524, k2_pay84, at10, em15, k2_pay6, k2_pay7, k2_pay8, k2_pay9, k2_pay10, k2_pay11, k2_pay12, k2_pay13, k2_pay14, k2_pay15, k2_pay16, k2_pay17, k2_pay18, k2_pay19, k2_pay20, k2_pay21, k2_pay22, k2_pay23, k2_pay24, k2_pay25, k2_pay26, k2_pay27, k2_pay28, k2_pay29, k2_pay30, k2_pay31, k2_pay32, k2_pay33, k2_pay34, k2_pay35, k2_pay36, k2_pay37, k2_pay38, k2_pay39, k2_pay40, k2_pay41, k2_pay42, k2_pay43, k2_pay44, k2_pay45, k2_pay46, k2_pay47, k2_pay48, k2_pay49, k2_pay50, k2_pay51, k2_pay52, k2_pay53, k2_pay54, k2_pay55, k2_pay56, k2_pay57, k2_pay58, k2_pay59, k2_pay60, k2_pay61, k2_pay62, k2_pay63, k2_pay64, k2_pay65, k2_pay66, k2_pay67, k2_pay68, k2_pay69, k2_pay70, k2_pay71, k2_pay72, k2_pay73, k2_pay74, k2_pay75, k2_pay76, k2_pay77, k2_pay78, k2_pay79, k2_pay80, k2_pay81, k2_pay82, k2_pay83]

end Cert.KernelIdeal.Tile

end
-- ==== Proof.Value.Arr.lean ====
/- The two kernels' result arrays after their regions, read at an index. -/
module

public import proofs.«01_k».proof.Proof.Ideal.Regions
public import proofs.«01_k».proof.Proof.Value.Pay
public import proofs.«01_k».proof.Proof.Value.Sums
public import Idealize.ShloMosaic.Lib.Pipeline.ValueKit

@[expose] public section

set_option maxRecDepth 16384

noncomputable section

namespace Cert.KernelIdeal.Tile

open Cert.KernelIdeal Cert.KernelIdeal.Gen Idealize.ShloMosaic
open Cert.Plain

/-! Where each block lies in its array. -/

theorem place1_0 : ∀ t : Fin grid1.N, win1_0.index t = ![t.val, 0] := by decide +kernel
theorem place1_1 : ∀ t : Fin grid1.N, win1_1.index t = ![0, 0] := by decide +kernel
theorem place1_2 : ∀ t : Fin grid1.N, win1_2.index t = ![0, 0] := by decide +kernel
theorem place1_3 : ∀ t : Fin grid1.N, win1_3.index t = ![0, 0] := by decide +kernel
theorem place1_4 : ∀ t : Fin grid1.N, win1_4.index t = ![t.val, 0] := by decide +kernel
theorem place2_0 : ∀ t : Fin grid2.N, win2_0.index t = ![t.val, 0, 0] := by decide +kernel
theorem place2_1 : ∀ t : Fin grid2.N, win2_1.index t = ![t.val, 0, 0] := by decide +kernel
theorem place2_2 : ∀ t : Fin grid2.N, win2_2.index t = ![0, 0] := by decide +kernel
theorem place2_3 : ∀ t : Fin grid2.N, win2_3.index t = ![0, 0] := by decide +kernel
theorem place2_4 : ∀ t : Fin grid2.N, win2_4.index t = ![0, 0] := by decide +kernel
theorem place2_5 : ∀ t : Fin grid2.N, win2_5.index t = ![0, 0] := by decide +kernel
theorem place2_6 : ∀ t : Fin grid2.N, win2_6.index t = ![0, 0] := by decide +kernel
theorem place2_7 : ∀ t : Fin grid2.N, win2_7.index t = ![t.val, 0, 0] := by decide +kernel
theorem place2_8 : ∀ t : Fin grid2.N, win2_8.index t = ![t.val, 0, 0] := by decide +kernel
theorem place2_9 : ∀ t : Fin grid2.N, win2_9.index t = ![t.val, 0, 0] := by decide +kernel

section Blocks

variable (V₁ : Valuation τ sig (Elt Ideal))

theorem lt1 (t : Fin cfg1.N) : t.val < 16 := t.isLt
theorem lt2 (t : Fin cfg2.N) : t.val < 64 := t.isLt

/-! What the blocks hold. -/

theorem bk1_0 (t : Fin cfg1.N) (r : Fin 3200) (l : Fin 128) :
    (bk1 V₁ 0 t : Vec Ideal S3200x128 .f32) (ix2 r l) = (V₁ (Proc.devRef .tc main_v8) : FVec Ideal S51200x128 .f32) (ix2 ⟨t.val * 3200 + r.val, by have := lt1 t; omega⟩ l) := by
  show V₁ (Proc.devRef .tc main_v8) (((cfg1.win 0).blk t).view.emb (ix2 r l)) = _
  congr 1
  funext a
  refine Fin.ext ?_
  match a with
  | ⟨0, _⟩ => blk_simp [place1_0]
  | ⟨1, _⟩ => blk_simp [place1_0]

theorem bk1_1 (t : Fin cfg1.N) (k h : Fin 50) :
    (bk1 V₁ 1 t : Vec Ideal S50x50 .f32) (ix2 k h) = (V₁ (Proc.devRef .tc main_arg2) : FVec Ideal S50x50 .f32) (ix2 k h) := by
  show V₁ (Proc.devRef .tc main_arg2) (((cfg1.win 1).blk t).view.emb (ix2 k h)) = _
  congr 1
  funext a
  refine Fin.ext ?_
  match a with
  | ⟨0, _⟩ => blk_simp [place1_1]
  | ⟨1, _⟩ => blk_simp [place1_1]

theorem bk1_2 (t : Fin cfg1.N) (h : Fin 50) :
    (bk1 V₁ 2 t : Vec Ideal S1x50 .f32) (ix2 0 h) = (V₁ (Proc.devRef .tc main_v9) : FVec Ideal S1x50 .f32) (ix2 0 h) := by
  show V₁ (Proc.devRef .tc main_v9) (((cfg1.win 2).blk t).view.emb (ix2 0 h)) = _
  congr 1
  funext a
  refine Fin.ext ?_
  match a with
  | ⟨0, _⟩ => blk_simp [place1_2]
  | ⟨1, _⟩ => blk_simp [place1_2]

theorem bk1_3 (t : Fin cfg1.N) (h : Fin 50) :
    (bk1 V₁ 3 t : Vec Ideal S1x50 .f32) (ix2 0 h) = (V₁ (Proc.devRef .tc main_v10) : FVec Ideal S1x50 .f32) (ix2 0 h) := by
  show V₁ (Proc.devRef .tc main_v10) (((cfg1.win 3).blk t).view.emb (ix2 0 h)) = _
  congr 1
  funext a
  refine Fin.ext ?_
  match a with
  | ⟨0, _⟩ => blk_simp [place1_3]
  | ⟨1, _⟩ => blk_simp [place1_3]

theorem bk2_0 (t : Fin cfg2.N) (r : Fin 800) (l : Fin 128) :
    (bk2 V₁ 0 t : Vec Ideal S1x800x128 .f32) (ix3 0 r l) = (V₁ (Proc.devRef .tc main_v15) : FVec Ideal S64x800x128 .f32) (ix3 ⟨t.val, lt2 t⟩ r l) := by
  show V₁ (Proc.devRef .tc main_v15) (((cfg2.win 0).blk t).view.emb (ix3 0 r l)) = _
  congr 1
  funext a
  refine Fin.ext ?_
  match a with
  | ⟨0, _⟩ => blk_simp [place2_0]; rfl
  | ⟨1, _⟩ => blk_simp [place2_0]
  | ⟨2, _⟩ => blk_simp [place2_0]

theorem bk2_1 (t : Fin cfg2.N) (r : Fin 32) (l : Fin 50) :
    (bk2 V₁ 1 t : Vec Ideal S1x32x50 .f32) (ix3 0 r l) = (V₁ (Proc.devRef .tc main_v14) : FVec Ideal S64x32x50 .f32) (ix3 ⟨t.val, lt2 t⟩ r l) := by
  show V₁ (Proc.devRef .tc main_v14) (((cfg2.win 1).blk t).view.emb (ix3 0 r l)) = _
  congr 1
  funext a
  refine Fin.ext ?_
  match a with
  | ⟨0, _⟩ => blk_simp [place2_1]; rfl
  | ⟨1, _⟩ => blk_simp [place2_1]
  | ⟨2, _⟩ => blk_simp [place2_1]

theorem bk2_2 (t : Fin cfg2.N) (k h : Fin 50) :
    (bk2 V₁ 2 t : Vec Ideal S50x50 .f32) (ix2 k h) = (V₁ (Proc.devRef .tc main_arg5) : FVec Ideal S50x50 .f32) (ix2 k h) := by
  show V₁ (Proc.devRef .tc main_arg5) (((cfg2.win 2).blk t).view.emb (ix2 k h)) = _
  congr 1
  funext a
  refine Fin.ext ?_
  match a with
  | ⟨0, _⟩ => blk_simp [place2_2]
  | ⟨1, _⟩ => blk_simp [place2_2]

theorem bk2_3 (t : Fin cfg2.N) (h : Fin 50) :
    (bk2 V₁ 3 t : Vec Ideal S1x50 .f32) (ix2 0 h) = (V₁ (Proc.devRef .tc main_v16) : FVec Ideal S1x50 .f32) (ix2 0 h) := by
  show V₁ (Proc.devRef .tc main_v16) (((cfg2.win 3).blk t).view.emb (ix2 0 h)) = _
  congr 1
  funext a
  refine Fin.ext ?_
  match a with
  | ⟨0, _⟩ => blk_simp [place2_3]
  | ⟨1, _⟩ => blk_simp [place2_3]

theorem bk2_4 (t : Fin cfg2.N) (h : Fin 50) :
    (bk2 V₁ 4 t : Vec Ideal S1x50 .f32) (ix2 0 h) = (V₁ (Proc.devRef .tc main_v17) : FVec Ideal S1x50 .f32) (ix2 0 h) := by
  show V₁ (Proc.devRef .tc main_v17) (((cfg2.win 4).blk t).view.emb (ix2 0 h)) = _
  congr 1
  funext a
  refine Fin.ext ?_
  match a with
  | ⟨0, _⟩ => blk_simp [place2_4]
  | ⟨1, _⟩ => blk_simp [place2_4]

theorem bk2_5 (t : Fin cfg2.N) (k : Fin 50) (h : Fin 5) :
    (bk2 V₁ 5 t : Vec Ideal S50x5 .f32) (ix2 k h) = (V₁ (Proc.devRef .tc main_arg8) : FVec Ideal S50x5 .f32) (ix2 k h) := by
  show V₁ (Proc.devRef .tc main_arg8) (((cfg2.win 5).blk t).view.emb (ix2 k h)) = _
  congr 1
  funext a
  refine Fin.ext ?_
  match a with
  | ⟨0, _⟩ => blk_simp [place2_5]
  | ⟨1, _⟩ => blk_simp [place2_5]

theorem bk2_6 (t : Fin cfg2.N) (h : Fin 5) :
    (bk2 V₁ 6 t : Vec Ideal S1x5 .f32) (ix2 0 h) = (V₁ (Proc.devRef .tc main_v18) : FVec Ideal S1x5 .f32) (ix2 0 h) := by
  show V₁ (Proc.devRef .tc main_v18) (((cfg2.win 6).blk t).view.emb (ix2 0 h)) = _
  congr 1
  funext a
  refine Fin.ext ?_
  match a with
  | ⟨0, _⟩ => blk_simp [place2_6]
  | ⟨1, _⟩ => blk_simp [place2_6]

end Blocks

/-! The arrays. -/

/-- The scores of the gathered rows' two halves. -/
theorem arr1 (V₁ : Valuation τ sig (Elt Ideal)) (d : Dev nD) :
    (dat1 (F := Ideal) V₁ d).arrAt 4 cfg1.N = (fun i => score (fun k => (V₁ (Proc.devRef .tc main_v8) : FVec Ideal S51200x128 .f32) (ix2 (i 0) ⟨64 * (i 1).val + k.val, by have : (i 1).val < 2 := (i 1).isLt; omega⟩))
      (fun k h => (V₁ (Proc.devRef .tc main_arg2) : FVec Ideal S50x50 .f32) (ix2 k h)) (fun h => (V₁ (Proc.devRef .tc main_v9) : FVec Ideal S1x50 .f32) (ix2 0 h))
      (fun h => (V₁ (Proc.devRef .tc main_v10) : FVec Ideal S1x50 .f32) (ix2 0 h)) : FVec Ideal S51200x2 .f32) := by
  refine (dat1 (F := Ideal) V₁ d).arrAt_eq_of_covers 4 _ (by decide +kernel) fun t hf y => ?_
  obtain ⟨r, h, rfl⟩ : ∃ (r : Fin 3200) (h : Fin 2), y = ix2 r h := ⟨y 0, y 1, eq_ix2 y⟩
  have e : ((cfg1.win 4).blk t).view.emb (ix2 r h) = (ix2 (⟨t.val * 3200 + r.val, by have := lt1 t; omega⟩ : Fin 51200) h : S51200x2.Idx) := by
    funext a
    refine Fin.ext ?_
    match a with
    | ⟨0, _⟩ => blk_simp [place1_4]
    | ⟨1, _⟩ => blk_simp [place1_4]
  rw [e]
  refine (ws_at (bk1 V₁ 0 t) (bk1 V₁ 1 t) (bk1 V₁ 2 t) (bk1 V₁ 3 t) r h).trans ?_
  simp only [bk1_0, bk1_1, bk1_2, bk1_3]
  rfl

/-- The words' weights. -/
theorem arr2a (V₁ : Valuation τ sig (Elt Ideal)) (d : Dev nD) :
    (dat2 (F := Ideal) V₁ d).arrAt 7 cfg2.N = (fun i => softmax (fun j => (V₁ (Proc.devRef .tc main_v14) : FVec Ideal S64x32x50 .f32) (ix3 (i 0) (i 1) j)) (i 2) : FVec Ideal S64x32x50 .f32) := by
  refine (dat2 (F := Ideal) V₁ d).arrAt_eq_of_covers 7 _ (by decide +kernel) fun t hf y => ?_
  obtain ⟨z, s, k, rfl⟩ : ∃ (z : Fin 1) (s : Fin 32) (k : Fin 50), y = ix3 z s k := ⟨y 0, y 1, y 2, eq_ix3 y⟩
  obtain rfl : z = 0 := Subsingleton.elim _ _
  have e : ((cfg2.win 7).blk t).view.emb (ix3 0 s k) = (ix3 (⟨t.val, lt2 t⟩ : Fin 64) s k : S64x32x50.Idx) := by
    funext a
    refine Fin.ext ?_
    match a with
    | ⟨0, _⟩ => blk_simp [place2_7]; rfl
    | ⟨1, _⟩ => blk_simp [place2_7]
    | ⟨2, _⟩ => blk_simp [place2_7]
  rw [e]
  refine (wa_at (bk2 V₁ 1 t) s k).trans ?_
  simp only [bk2_1]
  rfl

/-- A sentence's vector, from the rows gathered for its document and its words' scores. -/
def sentVec (em : FVec Ideal S64x800x128 .f32) (sc : FVec Ideal S64x32x50 .f32) (d : Fin 64) (s : Fin 32) (k : Fin 50) : EReal :=
  mix (softmax fun j => sc (ix3 d s j)) (fun w k => em (ix3 d ⟨16 * w.val + s.val % 16, by omega⟩ ⟨64 * (s.val / 16) + k.val, by omega⟩)) k

theorem sv_at (V₁ : Valuation τ sig (Elt Ideal)) (t : Fin cfg2.N) (s : Fin 32) (k : Fin 50) :
    svOf (F := Ideal) (bk2 V₁ 1 t) (bk2 V₁ 0 t) (ix2 s k) = sentVec (V₁ (Proc.devRef .tc main_v15)) (V₁ (Proc.devRef .tc main_v14)) ⟨t.val, lt2 t⟩ s k := by
  unfold sentVec mix
  by_cases h : s.val < 16
  · refine (sv_lo (bk2 V₁ 1 t) (bk2 V₁ 0 t) ⟨s.val, h⟩ k).trans (Finset.sum_congr rfl fun w _ => ?_)
    rw [mul_comm, at10_at, bk2_0]
    simp only [bk2_1]
    congr 3
    · refine Fin.ext ?_
      show 16 * w.val + s.val = 16 * w.val + s.val % 16
      omega
    · refine Fin.ext ?_
      show k.val = 64 * (s.val / 16) + k.val
      omega
  · have hs : s = ⟨16 + (s.val - 16), by omega⟩ := Fin.ext (by show s.val = 16 + (s.val - 16); omega)
    refine (congrArg (fun q => svOf (F := Ideal) (bk2 V₁ 1 t) (bk2 V₁ 0 t) (ix2 q k)) hs).trans ?_
    refine (sv_hi (bk2 V₁ 1 t) (bk2 V₁ 0 t) ⟨s.val - 16, by omega⟩ k).trans (Finset.sum_congr rfl fun w _ => ?_)
    rw [mul_comm, at10_at, bk2_0]
    simp only [bk2_1]
    rw [← hs]
    congr 3
    · refine Fin.ext ?_
      show 16 * w.val + (s.val - 16) = 16 * w.val + s.val % 16
      omega
    · refine Fin.ext ?_
      show 64 + k.val = 64 * (s.val / 16) + k.val
      omega

/-- A sentence's weight, from its document's sentence vectors. -/
def sentWt (V₁ : Valuation τ sig (Elt Ideal)) (d : Fin 64) (s : Fin 32) : EReal :=
  softmax (fun j => score (sentVec (V₁ (Proc.devRef .tc main_v15)) (V₁ (Proc.devRef .tc main_v14)) d j) (fun k h => (V₁ (Proc.devRef .tc main_arg5) : FVec Ideal S50x50 .f32) (ix2 k h))
    (fun h => (V₁ (Proc.devRef .tc main_v16) : FVec Ideal S1x50 .f32) (ix2 0 h)) (fun h => (V₁ (Proc.devRef .tc main_v17) : FVec Ideal S1x50 .f32) (ix2 0 h))) s

theorem sw_at (V₁ : Valuation τ sig (Elt Ideal)) (t : Fin cfg2.N) (s : Fin 32) :
    k2_pay1 (F := Ideal) (huOf (bk2 V₁ 1 t) (bk2 V₁ 0 t) (bk2 V₁ 2 t) (bk2 V₁ 3 t)) (k2_pay86 (bk2 V₁ 4 t)) (ix2 s 0) = sentWt V₁ ⟨t.val, lt2 t⟩ s := by
  rw [sa1_at]
  unfold sentWt
  congr 1
  funext j
  unfold score
  refine Finset.sum_congr rfl fun h _ => ?_
  rw [hu_at, u_at, bk2_4, bk2_3]
  simp only [bk2_2, sv_at]

/-- The sentences' weights. -/
theorem arr2b (V₁ : Valuation τ sig (Elt Ideal)) (d : Dev nD) :
    (dat2 (F := Ideal) V₁ d).arrAt 8 cfg2.N = (fun i => sentWt V₁ (i 0) (i 1) : FVec Ideal S64x32x1 .f32) := by
  refine (dat2 (F := Ideal) V₁ d).arrAt_eq_of_covers 8 _ (by decide +kernel) fun t hf y => ?_
  obtain ⟨z, s, k, rfl⟩ : ∃ (z : Fin 1) (s : Fin 32) (k : Fin 1), y = ix3 z s k := ⟨y 0, y 1, y 2, eq_ix3 y⟩
  obtain rfl : z = 0 := Subsingleton.elim _ _
  obtain rfl : k = 0 := Subsingleton.elim _ _
  have e : ((cfg2.win 8).blk t).view.emb (ix3 0 s 0) = (ix3 (⟨t.val, lt2 t⟩ : Fin 64) s 0 : S64x32x1.Idx) := by
    funext a
    refine Fin.ext ?_
    match a with
    | ⟨0, _⟩ => blk_simp [place2_8]; rfl
    | ⟨1, _⟩ => blk_simp [place2_8]
    | ⟨2, _⟩ => blk_simp [place2_8]
  rw [e]
  exact (sa2_at _ _ s).trans (sw_at V₁ t s)

/-- The classes' scores. -/
theorem arr2c (V₁ : Valuation τ sig (Elt Ideal)) (d : Dev nD) :
    (dat2 (F := Ideal) V₁ d).arrAt 9 cfg2.N = (fun i => classes (mix (sentWt V₁ (i 0)) (sentVec (V₁ (Proc.devRef .tc main_v15)) (V₁ (Proc.devRef .tc main_v14)) (i 0)))
      (fun k c => (V₁ (Proc.devRef .tc main_arg8) : FVec Ideal S50x5 .f32) (ix2 k c)) (fun c => (V₁ (Proc.devRef .tc main_v18) : FVec Ideal S1x5 .f32) (ix2 0 c)) (i 2) : FVec Ideal S64x1x5 .f32) := by
  refine (dat2 (F := Ideal) V₁ d).arrAt_eq_of_covers 9 _ (by decide +kernel) fun t hf y => ?_
  obtain ⟨z, z', c, rfl⟩ : ∃ (z : Fin 1) (z' : Fin 1) (c : Fin 5), y = ix3 z z' c := ⟨y 0, y 1, y 2, eq_ix3 y⟩
  obtain rfl : z = 0 := Subsingleton.elim _ _
  obtain rfl : z' = 0 := Subsingleton.elim _ _
  have e : ((cfg2.win 9).blk t).view.emb (ix3 0 0 c) = (ix3 (⟨t.val, lt2 t⟩ : Fin 64) 0 c : S64x1x5.Idx) := by
    funext a
    refine Fin.ext ?_
    match a with
    | ⟨0, _⟩ => blk_simp [place2_9]; rfl
    | ⟨1, _⟩ => blk_simp [place2_9]
    | ⟨2, _⟩ => blk_simp [place2_9]
  rw [e]
  refine (cl3_at _ _ _ _ _ c).trans ?_
  unfold classes mix
  rw [bk2_6]
  simp only [bk2_5, sv_at, sw_at, mul_comm (sentVec _ _ _ _ _)]
  rfl

end Cert.KernelIdeal.Tile

end
-- ==== Proof.Value.Mem.lean ====
/- What the run leaves in the result arrays, as a function of the arguments. -/
module

public import proofs.«01_k».proof.Proof.Ideal.Frame
public import proofs.«01_k».proof.Proof.Value.Arr
public import Idealize.ShloMosaic.Lib.Pointwise.IndexBridge
public import Idealize.ShloMosaic.Lib.ValueIdxCoords

@[expose] public section

set_option maxRecDepth 16384

noncomputable section

namespace Cert.KernelIdeal.Tile

open Cert.KernelIdeal Cert.KernelIdeal.Gen Idealize.ShloMosaic
open Cert.Plain

/-! Equal parts give equal wholes. -/

theorem score_congr {e e' : Fin 50 → EReal} {w w' : Fin 50 → Fin 50 → EReal} {b b' u u' : Fin 50 → EReal}
    (he : ∀ k, e k = e' k) (hw : ∀ k h, w k h = w' k h) (hb : ∀ h, b h = b' h) (hu : ∀ h, u h = u' h) : score e w b u = score e' w' b' u' := by
  rw [show e = e' from funext he, show w = w' from funext fun k => funext (hw k), show b = b' from funext hb, show u = u' from funext hu]
theorem softmax_congr {n : ℕ} {s s' : Fin n → EReal} (h : ∀ i, s i = s' i) (i : Fin n) : softmax s i = softmax s' i := by
  rw [show s = s' from funext h]
theorem mix_congr {n : ℕ} {a a' : Fin n → EReal} {e e' : Fin n → Fin 50 → EReal} (ha : ∀ i, a i = a' i) (he : ∀ i k, e i k = e' i k) (k : Fin 50) : mix a e k = mix a' e' k := by
  rw [show a = a' from funext ha, show e = e' from funext fun k => funext (he k)]
theorem classes_congr {v v' : Fin 50 → EReal} {w w' : Fin 50 → Fin 5 → EReal} {b b' : Fin 5 → EReal}
    (hv : ∀ k, v k = v' k) (hw : ∀ k c, w k c = w' k c) (hb : ∀ c, b c = b' c) (c : Fin 5) : classes v w b c = classes v' w' b' c := by
  rw [show v = v' from funext hv, show w = w' from funext fun k => funext (hw k), show b = b' from funext hb]

variable (m : (ℓ : Loc nD τ sig) → Buf (Elt Ideal) ℓ) (d : Dev nD) (f : Buf (Elt Ideal) (oLoc d))

/-! The arguments. -/

abbrev A0 : IVec S64x32x50 32 := m (d, Proc.devRef .tc main_arg0)
abbrev A1 : FVec Ideal S400000x50 .f32 := m (d, Proc.devRef .tc main_arg1)
abbrev A2 : FVec Ideal S50x50 .f32 := m (d, Proc.devRef .tc main_arg2)
abbrev A3 : FVec Ideal S50 .f32 := m (d, Proc.devRef .tc main_arg3)
abbrev A4 : FVec Ideal S50 .f32 := m (d, Proc.devRef .tc main_arg4)
abbrev A5 : FVec Ideal S50x50 .f32 := m (d, Proc.devRef .tc main_arg5)
abbrev A6 : FVec Ideal S50 .f32 := m (d, Proc.devRef .tc main_arg6)
abbrev A7 : FVec Ideal S50 .f32 := m (d, Proc.devRef .tc main_arg7)
abbrev A8 : FVec Ideal S50x5 .f32 := m (d, Proc.devRef .tc main_arg8)
abbrev A9 : FVec Ideal S5 .f32 := m (d, Proc.devRef .tc main_arg9)

/-- A word's vector. -/
def E (hx : ∀ x, (A0 m d x).toNat < 400000) (b : Fin 64) (s : Fin 32) (w k : Fin 50) : EReal := A1 m d (ix2 ⟨(A0 m d (ix3 b s w)).toNat, hx _⟩ k)

/-- The gathered rows hold the words' vectors. -/
theorem gathered_at (hx : ∀ x, (A0 m d x).toNat < 400000) (hf : Gathered (F := Ideal) (ixs m d) (tab m d) f) (b : Fin 64) (s : Fin 32) (w k : Fin 50) :
    (f : FVec Ideal S51200x128 .f32) (ix2 ⟨(b.val * 50 + w.val) * 16 + s.val % 16, by omega⟩ ⟨64 * (s.val / 16) + k.val, by omega⟩) = E m d hx b s w k := by
  have hi := ixs_at m d b w ⟨2 * (s.val % 16) + s.val / 16, by omega⟩
  have hs : sent ⟨2 * (s.val % 16) + s.val / 16, by omega⟩ = s := Fin.ext (by unfold sent; show 16 * ((2 * (s.val % 16) + s.val / 16) % 2) + (2 * (s.val % 16) + s.val / 16) / 2 = s.val; omega)
  rw [hs] at hi
  have hl := hx (ix3 b s w)
  have hm : m (d, Proc.devRef .tc main_arg0) (ValueIdx.ix3 b s w) = A0 m d (ix3 b s w) := congrArg (A0 m d) (ix3_eq_valueIdx b s w).symm
  rw [hm] at hi
  have hn : 50 * (A0 m d (ix3 b s w)).toNat + k.val < 20000000 := by omega
  have h := hf (ix2 ⟨(b.val * 50 + w.val) * 16 + s.val % 16, by omega⟩ ⟨64 * (s.val / 16) + k.val, by omega⟩) (ValueIdx.ix1 ⟨(b.val * 50 + w.val) * 32 + (2 * (s.val % 16) + s.val / 16), by omega⟩)
    (by
      show (b.val * 50 + w.val) * 32 + (2 * (s.val % 16) + s.val / 16) = 2 * ((b.val * 50 + w.val) * 16 + s.val % 16) + (64 * (s.val / 16) + k.val) / 64
      omega)
    (by
      show (64 * (s.val / 16) + k.val) % 64 < 50
      omega)
    (ix2 ⟨(50 * (A0 m d (ix3 b s w)).toNat + k.val) / 16, by omega⟩ ⟨(50 * (A0 m d (ix3 b s w)).toNat + k.val) % 16, by omega⟩)
    (by
      show 16 * ((50 * (A0 m d (ix3 b s w)).toNat + k.val) / 16) + (50 * (A0 m d (ix3 b s w)).toNat + k.val) % 16 = 50 * (ixs m d (ValueIdx.ix1 ⟨(b.val * 50 + w.val) * 32 + (2 * (s.val % 16) + s.val / 16), _⟩)).toNat + (64 * (s.val / 16) + k.val) % 64
      rw [hi]
      omega)
  refine h.trans ?_
  have ht : tab m d = fun i => shapeCast S1250000x16 (A1 m d) shapeCasts_S400000x50_S1250000x16 i := rfl
  rw [ht]
  show A1 m d (Shape.reshapeEquiv _ _) = _
  rw [Shape.reshapeEquiv_eq_of_rowMajor (y := ix2 ⟨(A0 m d (ix3 b s w)).toNat, hl⟩ k) _ (by
    rw [Shape.rowMajor_val_two, Shape.rowMajor_val_two]
    show (A0 m d (ix3 b s w)).toNat * 50 + k.val = (50 * (A0 m d (ix3 b s w)).toNat + k.val) / 16 * 16 + (50 * (A0 m d (ix3 b s w)).toNat + k.val) % 16
    omega)]
  rfl

/-! The first kernel's operands. -/

theorem v3_a2 : (val3 m d f (Proc.devRef .tc main_arg2) : FVec Ideal S50x50 .f32) = A2 m d := by
  refine Eq.trans (b := val2 m d f (Proc.devRef .tc main_arg2)) rfl ?_
  exact (Function.update_of_ne (by decide) _ _).trans rfl
theorem v3_rows : val3 m d f (Proc.devRef .tc main_v8) = f := by
  refine Eq.trans (b := val2 m d f (Proc.devRef .tc main_v8)) rfl ?_
  exact Function.update_self _ _ _
theorem v3_v9 (h : Fin 50) : (val3 m d f (Proc.devRef .tc main_v9) : FVec Ideal S1x50 .f32) (ix2 0 h) = A3 m d (ix1 h) := by
  have e : (val3 m d f (Proc.devRef .tc main_v9) : FVec Ideal S1x50 .f32) = shapeCast S1x50 (val2 m d f (Proc.devRef .tc main_arg3) : FVec Ideal S50 .f32) shapeCasts_S50_S1x50 := rfl
  have e' : (val2 m d f (Proc.devRef .tc main_arg3) : FVec Ideal S50 .f32) = A3 m d := by
    exact (Function.update_of_ne (by decide) _ _).trans rfl
  rw [e, e']
  pointwise
theorem v3_v10 (h : Fin 50) : (val3 m d f (Proc.devRef .tc main_v10) : FVec Ideal S1x50 .f32) (ix2 0 h) = A4 m d (ix1 h) := by
  have e : (val3 m d f (Proc.devRef .tc main_v10) : FVec Ideal S1x50 .f32) = shapeCast S1x50 (val2 m d f (Proc.devRef .tc main_arg4) : FVec Ideal S50 .f32) shapeCasts_S50_S1x50 := rfl
  have e' : (val2 m d f (Proc.devRef .tc main_arg4) : FVec Ideal S50 .f32) = A4 m d := by
    exact (Function.update_of_ne (by decide) _ _).trans rfl
  rw [e, e']
  pointwise

/-! The second kernel's operands. -/

theorem v5_a5 : (val5 m d f (Proc.devRef .tc main_arg5) : FVec Ideal S50x50 .f32) = A5 m d := by
  refine Eq.trans (b := val4 m d f (Proc.devRef .tc main_arg5)) rfl (Eq.trans (Pipeline.afterRegion_keeps _ _ winFacts1.arr_inj (fun _ => rfl) _ (by decide)) ?_)
  refine Eq.trans (b := val2 m d f (Proc.devRef .tc main_arg5)) rfl ?_
  exact (Function.update_of_ne (by decide) _ _).trans rfl
theorem v5_a8 : (val5 m d f (Proc.devRef .tc main_arg8) : FVec Ideal S50x5 .f32) = A8 m d := by
  refine Eq.trans (b := val4 m d f (Proc.devRef .tc main_arg8)) rfl (Eq.trans (Pipeline.afterRegion_keeps _ _ winFacts1.arr_inj (fun _ => rfl) _ (by decide)) ?_)
  refine Eq.trans (b := val2 m d f (Proc.devRef .tc main_arg8)) rfl ?_
  exact (Function.update_of_ne (by decide) _ _).trans rfl
theorem v5_v16 (h : Fin 50) : (val5 m d f (Proc.devRef .tc main_v16) : FVec Ideal S1x50 .f32) (ix2 0 h) = A6 m d (ix1 h) := by
  have e : (val5 m d f (Proc.devRef .tc main_v16) : FVec Ideal S1x50 .f32) = shapeCast S1x50 (val4 m d f (Proc.devRef .tc main_arg6) : FVec Ideal S50 .f32) shapeCasts_S50_S1x50 := rfl
  have e' : (val4 m d f (Proc.devRef .tc main_arg6) : FVec Ideal S50 .f32) = A6 m d := by
    refine Eq.trans (b := val4 m d f (Proc.devRef .tc main_arg6)) rfl (Eq.trans (Pipeline.afterRegion_keeps _ _ winFacts1.arr_inj (fun _ => rfl) _ (by decide)) ?_)
    refine Eq.trans (b := val2 m d f (Proc.devRef .tc main_arg6)) rfl ?_
    exact (Function.update_of_ne (by decide) _ _).trans rfl
  rw [e, e']
  pointwise
theorem v5_v17 (h : Fin 50) : (val5 m d f (Proc.devRef .tc main_v17) : FVec Ideal S1x50 .f32) (ix2 0 h) = A7 m d (ix1 h) := by
  have e : (val5 m d f (Proc.devRef .tc main_v17) : FVec Ideal S1x50 .f32) = shapeCast S1x50 (val4 m d f (Proc.devRef .tc main_arg7) : FVec Ideal S50 .f32) shapeCasts_S50_S1x50 := rfl
  have e' : (val4 m d f (Proc.devRef .tc main_arg7) : FVec Ideal S50 .f32) = A7 m d := by
    refine Eq.trans (b := val4 m d f (Proc.devRef .tc main_arg7)) rfl (Eq.trans (Pipeline.afterRegion_keeps _ _ winFacts1.arr_inj (fun _ => rfl) _ (by decide)) ?_)
    refine Eq.trans (b := val2 m d f (Proc.devRef .tc main_arg7)) rfl ?_
    exact (Function.update_of_ne (by decide) _ _).trans rfl
  rw [e, e']
  pointwise
theorem v5_v18 (h : Fin 5) : (val5 m d f (Proc.devRef .tc main_v18) : FVec Ideal S1x5 .f32) (ix2 0 h) = A9 m d (ix1 h) := by
  have e : (val5 m d f (Proc.devRef .tc main_v18) : FVec Ideal S1x5 .f32) = shapeCast S1x5 (val4 m d f (Proc.devRef .tc main_arg9) : FVec Ideal S5 .f32) shapeCasts_S5_S1x5 := rfl
  have e' : (val4 m d f (Proc.devRef .tc main_arg9) : FVec Ideal S5 .f32) = A9 m d := by
    refine Eq.trans (b := val4 m d f (Proc.devRef .tc main_arg9)) rfl (Eq.trans (Pipeline.afterRegion_keeps _ _ winFacts1.arr_inj (fun _ => rfl) _ (by decide)) ?_)
    refine Eq.trans (b := val2 m d f (Proc.devRef .tc main_arg9)) rfl ?_
    exact (Function.update_of_ne (by decide) _ _).trans rfl
  rw [e, e']
  pointwise

/-- Its rows: the gathered ones, a document's together. -/
theorem v5_rows (b : Fin 64) (r : Fin 800) (l : Fin 128) :
    (val5 m d f (Proc.devRef .tc main_v15) : FVec Ideal S64x800x128 .f32) (ix3 b r l) = (f : FVec Ideal S51200x128 .f32) (ix2 ⟨b.val * 800 + r.val, by omega⟩ l) := by
  have e : (val5 m d f (Proc.devRef .tc main_v15) : FVec Ideal S64x800x128 .f32) = shapeCast S64x800x128 (val4 m d f (Proc.devRef .tc main_v8) : FVec Ideal S51200x128 .f32) shapeCasts_S51200x128_S64x800x128 := rfl
  have e' : (val4 m d f (Proc.devRef .tc main_v8) : FVec Ideal S51200x128 .f32) = f :=
    Eq.trans (Pipeline.afterRegion_keeps _ _ winFacts1.arr_inj (fun _ => rfl) _ (by decide)) (v3_rows m d f)
  rw [e, e']
  show (f : FVec Ideal S51200x128 .f32) (Shape.reshapeEquiv _ _) = _
  rw [Shape.reshapeEquiv_eq_of_rowMajor (y := ix2 ⟨b.val * 800 + r.val, by omega⟩ l) _ (by
    rw [Shape.rowMajor_val_two, Shape.rowMajor_val_three]; rfl)]

/-- Its scores: the first kernel's, sentence by sentence. -/
theorem v5_scores (b : Fin 64) (s : Fin 32) (w : Fin 50) :
    (val5 m d f (Proc.devRef .tc main_v14) : FVec Ideal S64x32x50 .f32) (ix3 b s w)
      = (val4 m d f (Proc.devRef .tc main_v11) : FVec Ideal S51200x2 .f32) (ix2 ⟨(b.val * 50 + w.val) * 16 + s.val % 16, by omega⟩ ⟨s.val / 16, by omega⟩) := by
  have e : (val5 m d f (Proc.devRef .tc main_v14) : FVec Ideal S64x32x50 .f32) = shapeCast S64x32x50 (transpose S64x2x16x50 [0, 3, 2, 1] (shapeCast S64x50x16x2 (val4 m d f (Proc.devRef .tc main_v11) : FVec Ideal S51200x2 .f32) shapeCasts_S51200x2_S64x50x16x2) transposes_S64x50x16x2_S64x2x16x50_0_3_2_1) shapeCasts_S64x2x16x50_S64x32x50 := rfl
  rw [e]
  show transpose _ _ _ _ (Shape.reshapeEquiv _ _) = _
  rw [Shape.reshapeEquiv_eq_of_rowMajor (y := (ix4 b (⟨s.val / 16, by omega⟩ : Fin 2) (⟨s.val % 16, by omega⟩ : Fin 16) w : S64x2x16x50.Idx)) _ (by
    rw [Shape.rowMajor_val_four, Shape.rowMajor_val_three]
    show ((b.val * 2 + s.val / 16) * 16 + s.val % 16) * 50 + w.val = (b.val * 32 + s.val) * 50 + w.val
    omega)]
  have ht : ∀ x : FVec Ideal S64x50x16x2 .f32, transpose S64x2x16x50 [0, 3, 2, 1] x transposes_S64x50x16x2_S64x2x16x50_0_3_2_1 (ix4 b (⟨s.val / 16, by omega⟩ : Fin 2) (⟨s.val % 16, by omega⟩ : Fin 16) w)
      = x (ix4 b w (⟨s.val % 16, by omega⟩ : Fin 16) (⟨s.val / 16, by omega⟩ : Fin 2)) := fun x => by pointwise
  rw [ht]
  show (val4 m d f (Proc.devRef .tc main_v11) : FVec Ideal S51200x2 .f32) (Shape.reshapeEquiv _ _) = _
  rw [Shape.reshapeEquiv_eq_of_rowMajor (y := (ix2 (⟨(b.val * 50 + w.val) * 16 + s.val % 16, by omega⟩ : Fin 51200) (⟨s.val / 16, by omega⟩ : Fin 2) : S51200x2.Idx)) _ (by
    rw [Shape.rowMajor_val_two, Shape.rowMajor_val_four]; rfl)]

section Meaning

variable (hx : ∀ x, (A0 m d x).toNat < 400000)

/-- A word's score, of the arguments. -/
def sc (b : Fin 64) (s : Fin 32) (w : Fin 50) : EReal := score (E m d hx b s w) (fun k h => A2 m d (ix2 k h)) (fun h => A3 m d (ix1 h)) (fun h => A4 m d (ix1 h))
/-- A word's weight. -/
def wt (b : Fin 64) (s : Fin 32) : Fin 50 → EReal := softmax (sc m d hx b s)
/-- A sentence's vector. -/
def sv (b : Fin 64) (s : Fin 32) : Fin 50 → EReal := mix (wt m d hx b s) (E m d hx b s)
/-- A sentence's weight. -/
def sw (b : Fin 64) : Fin 32 → EReal := softmax fun s => score (sv m d hx b s) (fun k h => A5 m d (ix2 k h)) (fun h => A6 m d (ix1 h)) (fun h => A7 m d (ix1 h))
/-- A class's score. -/
def cl (b : Fin 64) : Fin 5 → EReal := classes (mix (sw m d hx b) (sv m d hx b)) (fun k c => A8 m d (ix2 k c)) (fun c => A9 m d (ix1 c))

variable (hf : Gathered (F := Ideal) (ixs m d) (tab m d) f)

include hf in
theorem scores_eq (b : Fin 64) (s : Fin 32) (w : Fin 50) :
    (val5 m d f (Proc.devRef .tc main_v14) : FVec Ideal S64x32x50 .f32) (ix3 b s w) = sc m d hx b s w := by
  rw [v5_scores]
  have e : (val4 m d f (Proc.devRef .tc main_v11) : FVec Ideal S51200x2 .f32) = (dat1 (val3 m d f) d).arrAt 4 cfg1.N :=
    Pipeline.afterRegion_arr (dat1 (val3 m d f) d) (val3 m d f) winFacts1.arr_inj 4
  rw [e, arr1]
  refine score_congr (fun k => ?_) (fun k h => congrFun (v3_a2 m d f) (ix2 k h)) (v3_v9 m d f) (v3_v10 m d f)
  exact (congrFun (v3_rows m d f) _).trans (gathered_at m d f hx hf b s w k)

include hf in
theorem vec_eq (b : Fin 64) (s : Fin 32) (k : Fin 50) :
    sentVec (val5 m d f (Proc.devRef .tc main_v15)) (val5 m d f (Proc.devRef .tc main_v14)) b s k = sv m d hx b s k := by
  refine mix_congr (fun i => softmax_congr (fun j => scores_eq m d f hx hf b s j) i) (fun w k => ?_) k
  rw [v5_rows]
  refine Eq.trans (congrArg (fun r : Fin 51200 => (f : FVec Ideal S51200x128 .f32) (ix2 r ⟨64 * (s.val / 16) + k.val, by omega⟩)) (Fin.ext ?_)) (gathered_at m d f hx hf b s w k)
  show b.val * 800 + (16 * w.val + s.val % 16) = (b.val * 50 + w.val) * 16 + s.val % 16
  omega

include hf in
theorem wt_eq (b : Fin 64) (s : Fin 32) : sentWt (val5 m d f) b s = sw m d hx b s :=
  softmax_congr (fun j => score_congr (fun k => vec_eq m d f hx hf b j k) (fun k h => congrFun (v5_a5 m d f) (ix2 k h)) (v5_v16 m d f) (v5_v17 m d f)) s

include hf in
/-- The words' weights, as the run leaves them. -/
theorem out1 (b : Fin 64) (s : Fin 32) (w : Fin 50) :
    (val7 m d f (Proc.devRef .tc main_v19_0) : FVec Ideal S64x32x50 .f32) (ix3 b s w) = wt m d hx b s w := by
  have e : (val7 m d f (Proc.devRef .tc main_v19_0) : FVec Ideal S64x32x50 .f32) = (dat2 (val5 m d f) d).arrAt 7 cfg2.N :=
    Eq.trans (b := val6 m d f (Proc.devRef .tc main_v19_0)) rfl (Pipeline.afterRegion_arr (dat2 (val5 m d f) d) (val5 m d f) winFacts2.arr_inj 7)
  rw [e, arr2a]
  exact softmax_congr (fun j => scores_eq m d f hx hf b s j) w

include hf in
/-- The sentences' weights. -/
theorem out2 (b : Fin 64) (s : Fin 32) :
    (val7 m d f (Proc.devRef .tc main_v21) : FVec Ideal S64x32 .f32) (ix2 b s) = sw m d hx b s := by
  have e : (val6 m d f (Proc.devRef .tc main_v19_1) : FVec Ideal S64x32x1 .f32) = (dat2 (val5 m d f) d).arrAt 8 cfg2.N :=
    Pipeline.afterRegion_arr (dat2 (val5 m d f) d) (val5 m d f) winFacts2.arr_inj 8
  have e' : (val7 m d f (Proc.devRef .tc main_v21) : FVec Ideal S64x32 .f32) = shapeCast S64x32 (val6 m d f (Proc.devRef .tc main_v19_1) : FVec Ideal S64x32x1 .f32) shapeCasts_S64x32x1_S64x32 := rfl
  have r : ∀ x : FVec Ideal S64x32x1 .f32, shapeCast S64x32 x shapeCasts_S64x32x1_S64x32 (ix2 b s) = x (ix3 b s 0) := fun x => by pointwise
  rw [e', r, e, arr2b]
  exact wt_eq m d f hx hf b s

include hf in
/-- The classes' scores. -/
theorem out0 (b : Fin 64) (c : Fin 5) :
    (val7 m d f (Proc.devRef .tc main_v20) : FVec Ideal S64x5 .f32) (ix2 b c) = cl m d hx b c := by
  have e : (val6 m d f (Proc.devRef .tc main_v19_2) : FVec Ideal S64x1x5 .f32) = (dat2 (val5 m d f) d).arrAt 9 cfg2.N :=
    Pipeline.afterRegion_arr (dat2 (val5 m d f) d) (val5 m d f) winFacts2.arr_inj 9
  have e' : (val7 m d f (Proc.devRef .tc main_v20) : FVec Ideal S64x5 .f32) = shapeCast S64x5 (val6 m d f (Proc.devRef .tc main_v19_2) : FVec Ideal S64x1x5 .f32) shapeCasts_S64x1x5_S64x5 := rfl
  have r : ∀ x : FVec Ideal S64x1x5 .f32, shapeCast S64x5 x shapeCasts_S64x1x5_S64x5 (ix2 b c) = x (ix3 b 0 c) := fun x => by pointwise
  rw [e', r, e, arr2c]
  exact classes_congr (fun k => mix_congr (fun s => wt_eq m d f hx hf b s) (fun s k => vec_eq m d f hx hf b s k) k) (fun k c => congrFun (v5_a8 m d f) (ix2 k c)) (v5_v18 m d f) c

end Meaning

end Cert.KernelIdeal.Tile

end
-- ==== Proof.Value.Algebra.lean ====
/- The kernel and the reference end with the same three results. -/
module

public import proofs.«01_k».proof.Defs
public import proofs.«01_k».proof.Proof.Value.Ref
public import proofs.«01_k».proof.Proof.Value.Mem
public import Idealize.ShloMosaic.Adequacy
public import Idealize.ShloMosaic.Init

@[expose] public section

noncomputable section

namespace Cert.Proof

open Idealize.ShloMosaic Idealize.SL.Sem
open Cert.Plain Cert.KernelIdeal.Tile Cert.ReferenceIdeal.Stage

section Same

variable (m : (ℓ : Loc Cert.KernelIdeal.nD Cert.KernelIdeal.τ Cert.KernelIdeal.sig) → Buf (Elt Ideal) ℓ) (d : Dev Cert.KernelIdeal.nD)
  (hx : ∀ x, (A0 m d x).toNat < 400000)

/-! The reference's stages, read at an index, on the kernel's arguments. -/

theorem ref_wt (b : Fin 64) (s : Fin 32) (w : Fin 50) :
    wattn (wscores (words (A0 m d) (A1 m d)) (A2 m d) (A3 m d) (A4 m d)) (ix3 b s w) = wt m d hx b s w := by
  rw [wattn_at]
  refine softmax_congr (fun j => ?_) w
  rw [wscores_at]
  exact score_congr (fun k => words_at (A0 m d) (A1 m d) hx b s j k) (fun _ _ => rfl) (fun _ => rfl) (fun _ => rfl)

theorem ref_sv (b : Fin 64) (s : Fin 32) (k : Fin 50) :
    sents (wattn (wscores (words (A0 m d) (A1 m d)) (A2 m d) (A3 m d) (A4 m d))) (words (A0 m d) (A1 m d)) (ix3 b s k) = sv m d hx b s k := by
  rw [sents_at]
  exact mix_congr (fun w => ref_wt m d hx b s w) (fun w k => words_at (A0 m d) (A1 m d) hx b s w k) k

theorem ref_sw (b : Fin 64) (s : Fin 32) :
    sattn (sscores (sents (wattn (wscores (words (A0 m d) (A1 m d)) (A2 m d) (A3 m d) (A4 m d))) (words (A0 m d) (A1 m d))) (A5 m d) (A6 m d) (A7 m d)) (ix2 b s) = sw m d hx b s := by
  rw [sattn_at]
  refine softmax_congr (fun j => ?_) s
  rw [sscores_at]
  exact score_congr (fun k => ref_sv m d hx b j k) (fun _ _ => rfl) (fun _ => rfl) (fun _ => rfl)

variable (m' : (ℓ : Loc Cert.ReferenceIdeal.nD Cert.ReferenceIdeal.τ Cert.ReferenceIdeal.sig) → Buf (Elt Ideal) ℓ)

/-- The two memories hold the same arguments. -/
def Agree : Prop :=
  a0 m' d = A0 m d ∧ a1 m' d = A1 m d ∧ a2 m' d = A2 m d ∧ a3 m' d = A3 m d ∧ a4 m' d = A4 m d
    ∧ a5 m' d = A5 m d ∧ a6 m' d = A6 m d ∧ a7 m' d = A7 m d ∧ a8 m' d = A8 m d ∧ a9 m' d = A9 m d

variable {m d m'} (h : Agree m d m')

include h in
theorem ref1 (b : Fin 64) (s : Fin 32) (w : Fin 50) : Cert.ReferenceIdeal.Value.res_main_v17 (F := Ideal) m' d (ix3 b s w) = wt m d hx b s w := by
  obtain ⟨h0, h1, h2, h3, h4, -⟩ := h
  rw [res1, Wa, Wd, h0, h1, h2, h3, h4]
  exact ref_wt m d hx b s w

include h in
theorem ref2 (b : Fin 64) (s : Fin 32) : Cert.ReferenceIdeal.Value.res_main_v35 (F := Ideal) m' d (ix2 b s) = sw m d hx b s := by
  obtain ⟨h0, h1, h2, h3, h4, h5, h6, h7, -⟩ := h
  rw [res2, Sa, Sv, Wa, Wd, h0, h1, h2, h3, h4, h5, h6, h7]
  exact ref_sw m d hx b s

include h in
theorem ref0 (b : Fin 64) (c : Fin 5) : Cert.ReferenceIdeal.Value.res_main_v40 (F := Ideal) m' d (ix2 b c) = cl m d hx b c := by
  obtain ⟨h0, h1, h2, h3, h4, h5, h6, h7, h8, h9⟩ := h
  rw [res0, Sa, Sv, Wa, Wd, h0, h1, h2, h3, h4, h5, h6, h7, h8, h9, outs_at]
  exact classes_congr (fun k => mix_congr (fun s => ref_sw m d hx b s) (fun s k => ref_sv m d hx b s k) k) (fun _ _ => rfl) (fun _ => rfl) c

end Same

/-- The two programs' results agree. -/
theorem algebraic : Cert.algebraic_KernelIdeal_ReferenceIdeal := fun m g m' g' hpre hag => by
  have hx : ∀ (d : Dev Cert.KernelIdeal.nD) (x : Cert.KernelIdeal.S64x32x50.Idx), (A0 m d x).toNat < 400000 := fun d x => Cert.KernelIdeal.Tile.pre_at (hpre d) x
  have ha : ∀ d, Agree m d m' := fun d => hag d
  refine ⟨fun d => (fun i => cl m d (hx d) (i 0) (i 1) : FVec Ideal Cert.KernelIdeal.S64x5 .f32), fun d => (fun i => wt m d (hx d) (i 0) (i 1) (i 2) : FVec Ideal Cert.KernelIdeal.S64x32x50 .f32),
    fun d => (fun i => sw m d (hx d) (i 0) (i 1) : FVec Ideal Cert.KernelIdeal.S64x32 .f32), ?_, ?_⟩
  · refine (θ_run _ _ _).mono (fun r h d => ?_) (Cert.KernelIdeal.Tile.run_main (F := Ideal) m g (ixs_lt m hx))
    obtain ⟨f, hf, hv⟩ := h.1 d
    refine ⟨?_, ?_, ?_, ?_, ?_, ?_, ?_, ?_, ?_, ?_, ?_, ?_, ?_⟩
    · refine (hv _ (show Proc.devRef .tc Cert.KernelIdeal.main_v20 ∈ Pipeline.ucRefs Cert.KernelIdeal.τ Cert.KernelIdeal.sig by decide)).trans (funext fun i => ?_)
      obtain ⟨b, c, rfl⟩ : ∃ (b : Fin 64) (c : Fin 5), i = ix2 b c := ⟨i 0, i 1, eq_ix2 i⟩
      exact out0 m d f (hx d) hf b c
    · refine (hv _ (show Proc.devRef .tc Cert.KernelIdeal.main_v19_0 ∈ Pipeline.ucRefs Cert.KernelIdeal.τ Cert.KernelIdeal.sig by decide)).trans (funext fun i => ?_)
      obtain ⟨b, s, w, rfl⟩ : ∃ (b : Fin 64) (s : Fin 32) (w : Fin 50), i = ix3 b s w := ⟨i 0, i 1, i 2, eq_ix3 i⟩
      exact out1 m d f (hx d) hf b s w
    · refine (hv _ (show Proc.devRef .tc Cert.KernelIdeal.main_v21 ∈ Pipeline.ucRefs Cert.KernelIdeal.τ Cert.KernelIdeal.sig by decide)).trans (funext fun i => ?_)
      obtain ⟨b, s, rfl⟩ : ∃ (b : Fin 64) (s : Fin 32), i = ix2 b s := ⟨i 0, i 1, eq_ix2 i⟩
      exact out2 m d f (hx d) hf b s
    · exact (hv _ (show Proc.devRef .tc Cert.KernelIdeal.main_arg0 ∈ Pipeline.ucRefs Cert.KernelIdeal.τ Cert.KernelIdeal.sig by decide)).trans (keeps0 m d f)
    · exact (hv _ (show Proc.devRef .tc Cert.KernelIdeal.main_arg1 ∈ Pipeline.ucRefs Cert.KernelIdeal.τ Cert.KernelIdeal.sig by decide)).trans (keeps1 m d f)
    · exact (hv _ (show Proc.devRef .tc Cert.KernelIdeal.main_arg2 ∈ Pipeline.ucRefs Cert.KernelIdeal.τ Cert.KernelIdeal.sig by decide)).trans (keeps2 m d f)
    · exact (hv _ (show Proc.devRef .tc Cert.KernelIdeal.main_arg3 ∈ Pipeline.ucRefs Cert.KernelIdeal.τ Cert.KernelIdeal.sig by decide)).trans (keeps3 m d f)
    · exact (hv _ (show Proc.devRef .tc Cert.KernelIdeal.main_arg4 ∈ Pipeline.ucRefs Cert.KernelIdeal.τ Cert.KernelIdeal.sig by decide)).trans (keeps4 m d f)
    · exact (hv _ (show Proc.devRef .tc Cert.KernelIdeal.main_arg5 ∈ Pipeline.ucRefs Cert.KernelIdeal.τ Cert.KernelIdeal.sig by decide)).trans (keeps5 m d f)
    · exact (hv _ (show Proc.devRef .tc Cert.KernelIdeal.main_arg6 ∈ Pipeline.ucRefs Cert.KernelIdeal.τ Cert.KernelIdeal.sig by decide)).trans (keeps6 m d f)
    · exact (hv _ (show Proc.devRef .tc Cert.KernelIdeal.main_arg7 ∈ Pipeline.ucRefs Cert.KernelIdeal.τ Cert.KernelIdeal.sig by decide)).trans (keeps7 m d f)
    · exact (hv _ (show Proc.devRef .tc Cert.KernelIdeal.main_arg8 ∈ Pipeline.ucRefs Cert.KernelIdeal.τ Cert.KernelIdeal.sig by decide)).trans (keeps8 m d f)
    · exact (hv _ (show Proc.devRef .tc Cert.KernelIdeal.main_arg9 ∈ Pipeline.ucRefs Cert.KernelIdeal.τ Cert.KernelIdeal.sig by decide)).trans (keeps9 m d f)
  · refine (θ_run _ _ _).mono (fun r h d => ?_) (Cert.ReferenceIdeal.Value.run m' g')
    refine ⟨(h d).1.trans (funext fun i => ?_), (h d).2.1.trans (funext fun i => ?_), (h d).2.2.1.trans (funext fun i => ?_), (h d).2.2.2⟩
    · obtain ⟨b, c, rfl⟩ : ∃ (b : Fin 64) (c : Fin 5), i = ix2 b c := ⟨i 0, i 1, eq_ix2 i⟩
      exact ref0 (hx d) (ha d) b c
    · obtain ⟨b, s, w, rfl⟩ : ∃ (b : Fin 64) (s : Fin 32) (w : Fin 50), i = ix3 b s w := ⟨i 0, i 1, i 2, eq_ix3 i⟩
      exact ref1 (hx d) (ha d) b s w
    · obtain ⟨b, s, rfl⟩ : ∃ (b : Fin 64) (s : Fin 32), i = ix2 b s := ⟨i 0, i 1, eq_ix2 i⟩
      exact ref2 (hx d) (ha d) b s

end Cert.Proof

end
-- ==== Proof.lean ====
module

public import proofs.«01_k».proof.Defs
public import proofs.«01_k».proof.Proof.Frames
public import proofs.«01_k».proof.Proof.Value.Algebra
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_ids_in_range
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_ids_in_range.Gen.facts,
  Cert.Proof.frame_kernel, Cert.Proof.frame_ideal, Cert.Proof.frame_reference, trivial, Cert.Proof.algebraic⟩

end Cert.Proof

end
